-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "inv_qk" .f32 0x3C2AAAAB#32 ((96⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v133)) (v1 : (c : Dev Cert.Kernel4Ideal.nD) → Buf (Elt Ideal) ((c.tc : Thread Cert.Kernel4Ideal.nD Cert.Kernel4Ideal.τ).loc Cert.Kernel4Ideal.main_v146)) (v2 : (c : Dev Cert.Kernel4Ideal.nD) → Buf (Elt Ideal) ((c.tc : Thread Cert.Kernel4Ideal.nD Cert.Kernel4Ideal.τ).loc Cert.Kernel4Ideal.main_v148)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v133) = v0 c
          ∧ r.2.mem ((c.tc : Thread Cert.Kernel4Ideal.nD Cert.Kernel4Ideal.τ).loc Cert.Kernel4Ideal.main_v146) = v1 c
          ∧ r.2.mem ((c.tc : Thread Cert.Kernel4Ideal.nD Cert.Kernel4Ideal.τ).loc Cert.Kernel4Ideal.main_v148) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v132) = v0 c
          ∧ r.2.mem ((c.tc : Thread Cert.Reference4Ideal.nD Cert.Reference4Ideal.τ).loc Cert.Reference4Ideal.main_v227) = v1 c
          ∧ r.2.mem ((c.tc : Thread Cert.Reference4Ideal.nD Cert.Reference4Ideal.τ).loc Cert.Reference4Ideal.main_v228) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x16x96 : Shape := ⟨4, ![8, 4096, 16, 96]⟩
abbrev S8x4352x16x96 : Shape := ⟨4, ![8, 4352, 16, 96]⟩
abbrev S8x4352x16x64 : Shape := ⟨4, ![8, 4352, 16, 64]⟩
abbrev S_ : Shape := ⟨0, ![]⟩

class Facts : Prop where
  bcast_S_S8x4096x16x96 : S_.BroadcastsInDim S8x4096x16x96 (![] : Fin 0 → Fin S8x4096x16x96.rank)
  reducesTo_S8x4096x16x96_S_d0_1_2_3 : S8x4096x16x96.ReducesTo [0, 1, 2, 3] S_
  h_S_ : 0 < S_.numel
  bcast_S_S8x4352x16x96 : S_.BroadcastsInDim S8x4352x16x96 (![] : Fin 0 → Fin S8x4352x16x96.rank)
  reducesTo_S8x4352x16x96_S_d0_1_2_3 : S8x4352x16x96.ReducesTo [0, 1, 2, 3] S_

variable [Facts]

def fn {F : FTy → Type} [FloatOps F] (main_arg0 : FVec F S8x4096x16x96 .f32) (main_arg1 : FVec F S8x4352x16x96 .f32) (main_arg2 : FVec F S8x4352x16x64 .f32) : IVec S_ 1 :=
  let main_v0 : FVec F S8x4096x16x96 .f32 := Host.absf main_arg0
  let main_cst : FVec F S_ .f32 := constant S_ .f32 0x7F800000#32
  let main_v1 : FVec F S8x4096x16x96 .f32 := broadcastInDim S8x4096x16x96 ![] bcast_S_S8x4096x16x96 main_cst
  let main_v2 : IVec S8x4096x16x96 1 := cmpf .olt main_v0 main_v1
  let main_c : IVec S_ 1 := constantI S_ 1 1#1
  let main_v3 : IVec S_ 1 := (fun x v => Host.reduce IntOp.andi x v reducesTo_S8x4096x16x96_S_d0_1_2_3 h_S_) main_v2 main_c
  let main_v4 : FVec F S8x4352x16x96 .f32 := Host.absf main_arg1
  let main_cst_0 : FVec F S_ .f32 := constant S_ .f32 0x7F800000#32
  let main_v5 : FVec F S8x4352x16x96 .f32 := broadcastInDim S8x4352x16x96 ![] bcast_S_S8x4352x16x96 main_cst_0
  let main_v6 : IVec S8x4352x16x96 1 := cmpf .olt main_v4 main_v5
  let main_c_1 : IVec S_ 1 := constantI S_ 1 1#1
  let main_v7 : IVec S_ 1 := (fun x v => Host.reduce IntOp.andi x v reducesTo_S8x4352x16x96_S_d0_1_2_3 h_S_) main_v6 main_c_1
  let main_v8 : IVec S_ 1 := andi main_v3 main_v7
  main_v8
-- ==== Kernel.lean ====
abbrev S8x4096x16x96 : Shape := ⟨4, ![8, 4096, 16, 96]⟩
abbrev S8x4352x16x96 : Shape := ⟨4, ![8, 4352, 16, 96]⟩
abbrev S8x4352x16x64 : Shape := ⟨4, ![8, 4352, 16, 64]⟩
abbrev S128 : Shape := ⟨1, ![128]⟩
abbrev S_ : Shape := ⟨0, ![]⟩
abbrev S8x4096x16x1 : Shape := ⟨4, ![8, 4096, 16, 1]⟩
abbrev S8x4096x16x97 : Shape := ⟨4, ![8, 4096, 16, 97]⟩
abbrev S128x1 : Shape := ⟨2, ![128, 1]⟩
abbrev S1 : Shape := ⟨1, ![1]⟩
abbrev S1x1 : Shape := ⟨2, ![1, 1]⟩
abbrev S8x4096x16x128 : Shape := ⟨4, ![8, 4096, 16, 128]⟩
abbrev S8x4096x2048 : Shape := ⟨3, ![8, 4096, 2048]⟩
abbrev S8x2048x4096 : Shape := ⟨3, ![8, 2048, 4096]⟩
abbrev S8x4352x16x1 : Shape := ⟨4, ![8, 4352, 16, 1]⟩
abbrev S8x4352x16x97 : Shape := ⟨4, ![8, 4352, 16, 97]⟩
abbrev S8x4352x16x128 : Shape := ⟨4, ![8, 4352, 16, 128]⟩
abbrev S8x4352x2048 : Shape := ⟨3, ![8, 4352, 2048]⟩
abbrev S8x16x64x4352 : Shape := ⟨4, ![8, 16, 64, 4352]⟩
abbrev S8x4096x1024 : Shape := ⟨3, ![8, 4096, 1024]⟩
abbrev S1x256x2048 : Shape := ⟨3, ![1, 256, 2048]⟩
abbrev S1x4352x256 : Shape := ⟨3, ![1, 4352, 256]⟩
abbrev S1x2x64x4352 : Shape := ⟨4, ![1, 2, 64, 4352]⟩
abbrev S1x2048x128 : Shape := ⟨3, ![1, 2048, 128]⟩
abbrev S128x256 : Shape := ⟨2, ![128, 256]⟩
abbrev S1x128x256 : Shape := ⟨3, ![1, 128, 256]⟩
abbrev S128x512 : Shape := ⟨2, ![128, 512]⟩
abbrev S256x512 : Shape := ⟨2, ![256, 512]⟩
abbrev S1x512 : Shape := ⟨2, ![1, 512]⟩
abbrev S64x256 : Shape := ⟨2, ![64, 256]⟩
abbrev S1x1024x256 : Shape := ⟨3, ![1, 1024, 256]⟩
abbrev S1024x256 : Shape := ⟨2, ![1024, 256]⟩
abbrev S1024x512 : Shape := ⟨2, ![1024, 512]⟩
abbrev S512 : Shape := ⟨1, ![512]⟩
abbrev S1x1x64x1024 : Shape := ⟨4, ![1, 1, 64, 1024]⟩
abbrev S64x1024 : Shape := ⟨2, ![64, 1024]⟩
abbrev S1x256x256 : Shape := ⟨3, ![1, 256, 256]⟩
abbrev S256x256 : Shape := ⟨2, ![256, 256]⟩
abbrev S1x1x64x256 : Shape := ⟨4, ![1, 1, 64, 256]⟩
abbrev S1x256 : Shape := ⟨2, ![1, 256]⟩
abbrev S256x128 : Shape := ⟨2, ![256, 128]⟩
abbrev S1x256x128 : Shape := ⟨3, ![1, 256, 128]⟩

abbrev nBuf : Space → Nat
  | .hbm => 73
  | .vmem => 8
  | .smem => 0
  | _ => 0

abbrev bufTy : (tb : Table) → Fin (tcTables nBuf tb) → BufTy
  | .hbm, ⟨0, _⟩ => ⟨S8x4096x16x96, .f32⟩
  | .hbm, ⟨1, _⟩ => ⟨S8x4352x16x96, .f32⟩
  | .hbm, ⟨2, _⟩ => ⟨S8x4352x16x64, .f32⟩
  | .hbm, ⟨3, _⟩ => ⟨S128, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x4096x16x96, .f32⟩
  | .hbm, ⟨12, _⟩ => ⟨S8x4096x16x96, .f32⟩
  | .hbm, ⟨13, _⟩ => ⟨S_, .f32⟩
  | .hbm, ⟨14, _⟩ => ⟨S8x4096x16x1, .f32⟩
  | .hbm, ⟨15, _⟩ => ⟨S8x4096x16x97, .f32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S1, .i32⟩
  | .hbm, ⟨25, _⟩ => ⟨S_, .i32⟩
  | .hbm, ⟨26, _⟩ => ⟨S128x1, .i32⟩
  | .hbm, ⟨27, _⟩ => ⟨S128x1, .i1⟩
  | .hbm, ⟨28, _⟩ => ⟨S1x1, .i32⟩
  | .hbm, ⟨29, _⟩ => ⟨S128x1, .i32⟩
  | .hbm, ⟨30, _⟩ => ⟨S128x1, .i1⟩
  | .hbm, ⟨31, _⟩ => ⟨S128x1, .i1⟩
  | .hbm, ⟨32, _⟩ => ⟨S_, .i1⟩
  | .hbm, ⟨33, _⟩ => ⟨S128, .i1⟩
  | .hbm, ⟨34, _⟩ => ⟨S8x4096x16x128, .f32⟩
  | .hbm, ⟨35, _⟩ => ⟨S8x4096x16x128, .i1⟩
  | .hbm, ⟨36, _⟩ => ⟨S_, .f32⟩
  | .hbm, ⟨37, _⟩ => ⟨S8x4096x16x128, .f32⟩
  | .hbm, ⟨38, _⟩ => ⟨S8x4096x16x128, .f32⟩
  | .hbm, ⟨39, _⟩ => ⟨S8x4096x2048, .f32⟩
  | .hbm, ⟨40, _⟩ => ⟨S8x2048x4096, .f32⟩
  | .hbm, ⟨41, _⟩ => ⟨S8x2048x4096, .bf16⟩
  | .hbm, ⟨42, _⟩ => ⟨S_, .f32⟩
  | .hbm, ⟨43, _⟩ => ⟨S8x4352x16x1, .f32⟩
  | .hbm, ⟨44, _⟩ => ⟨S8x4352x16x97, .f32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S128x1, .i32⟩
  | .hbm, ⟨53, _⟩ => ⟨S1, .i32⟩
  | .hbm, ⟨54, _⟩ => ⟨S_, .i32⟩
  | .hbm, ⟨55, _⟩ => ⟨S128x1, .i32⟩
  | .hbm, ⟨56, _⟩ => ⟨S128x1, .i1⟩
  | .hbm, ⟨57, _⟩ => ⟨S1x1, .i32⟩
  | .hbm, ⟨58, _⟩ => ⟨S128x1, .i32⟩
  | .hbm, ⟨59, _⟩ => ⟨S128x1, .i1⟩
  | .hbm, ⟨60, _⟩ => ⟨S128x1, .i1⟩
  | .hbm, ⟨61, _⟩ => ⟨S_, .i1⟩
  | .hbm, ⟨62, _⟩ => ⟨S128, .i1⟩
  | .hbm, ⟨63, _⟩ => ⟨S8x4352x16x128, .f32⟩
  | .hbm, ⟨64, _⟩ => ⟨S8x4352x16x128, .i1⟩
  | .hbm, ⟨65, _⟩ => ⟨S_, .f32⟩
  | .hbm, ⟨66, _⟩ => ⟨S8x4352x16x128, .f32⟩
  | .hbm, ⟨67, _⟩ => ⟨S8x4352x16x128, .f32⟩
  | .hbm, ⟨68, _⟩ => ⟨S8x4352x2048, .f32⟩
  | .hbm, ⟨69, _⟩ => ⟨S8x4352x2048, .bf16⟩
  | .hbm, ⟨70, _⟩ => ⟨S8x16x64x4352, .f32⟩
  | .hbm, ⟨71, _⟩ => ⟨S8x16x64x4352, .bf16⟩
  | .hbm, ⟨72, _⟩ => ⟨S8x4096x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x2x64x4352, .bf16⟩
  | .local _ .vmem, ⟨5, _⟩ => ⟨S1x2x64x4352, .bf16⟩
  | .local _ .vmem, ⟨6, _⟩ => ⟨S1x2048x128, .bf16⟩
  | .local _ .vmem, ⟨7, _⟩ => ⟨S1x2048x128, .bf16⟩
  | _, _ => ⟨S8x4096x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_3 : Ref sig .tc := ⟨.hbm, 42, rfl⟩
abbrev main_v12 : Ref sig .tc := ⟨.hbm, 43, rfl⟩
abbrev main_v13 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x64x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x16x96 : Shape := ⟨4, ![8, 4096, 16, 96]⟩
abbrev S8x4352x16x96 : Shape := ⟨4, ![8, 4352, 16, 96]⟩
abbrev S8x4352x16x64 : Shape := ⟨4, ![8, 4352, 16, 64]⟩
abbrev S8x16x4096x4352 : Shape := ⟨4, ![8, 16, 4096, 4352]⟩
abbrev S_ : Shape := ⟨0, ![]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x4096x16x64 : Shape := ⟨4, ![8, 4096, 16, 64]⟩
abbrev S8x4096x1024 : Shape := ⟨3, ![8, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x16x96, .f32⟩
  | .hbm, ⟨1, _⟩ => ⟨S8x4352x16x96, .f32⟩
  | .hbm, ⟨2, _⟩ => ⟨S8x4352x16x64, .f32⟩
  | .hbm, ⟨3, _⟩ => ⟨S8x16x4096x4352, .f32⟩
  | .hbm, ⟨4, _⟩ => ⟨S_, .f32⟩
  | .hbm, ⟨5, _⟩ => ⟨S_, .f32⟩
  | .hbm, ⟨6, _⟩ => ⟨S8x16x4096x4352, .f32⟩
  | .hbm, ⟨7, _⟩ => ⟨S8x16x4096x4352, .f32⟩
  | .hbm, ⟨8, _⟩ => ⟨S_, .f32⟩
  | .hbm, ⟨9, _⟩ => ⟨S8x16x4096, .f32⟩
  | .hbm, ⟨10, _⟩ => ⟨S_, .f32⟩
  | .hbm, ⟨11, _⟩ => ⟨S8x16x4096, .f32⟩
  | .hbm, ⟨12, _⟩ => ⟨S8x16x4096, .f32⟩
  | .hbm, ⟨13, _⟩ => ⟨S8x16x4096x1, .f32⟩
  | .hbm, ⟨14, _⟩ => ⟨S8x16x4096x4352, .f32⟩
  | .hbm, ⟨15, _⟩ => ⟨S8x16x4096x4352, .f32⟩
  | .hbm, ⟨16, _⟩ => ⟨S8x16x4096x4352, .f32⟩
  | .hbm, ⟨17, _⟩ => ⟨S_, .f32⟩
  | .hbm, ⟨18, _⟩ => ⟨S8x16x4096, .f32⟩
  | .hbm, ⟨19, _⟩ => ⟨S8x16x4096x1, .f32⟩
  | .hbm, ⟨20, _⟩ => ⟨S8x16x4096x4352, .f32⟩
  | .hbm, ⟨21, _⟩ => ⟨S8x16x4096x4352, .f32⟩
  | .hbm, ⟨22, _⟩ => ⟨S8x16x64x4096, .f32⟩
  | .hbm, ⟨23, _⟩ => ⟨S8x4096x16x64, .f32⟩
  | .hbm, ⟨24, _⟩ => ⟨S8x4096x1024, .f32⟩
  | .hbm, ⟨25, _⟩ => ⟨S8x4096x1024, .bf16⟩
  | _, _ => ⟨S8x4096x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x1024 : Shape := ⟨2, ![1024, 1024]⟩
abbrev S2x1024x5632 : Shape := ⟨3, ![2, 1024, 5632]⟩
abbrev S2x2816x1024 : Shape := ⟨3, ![2, 2816, 1024]⟩
abbrev S8x4352x1024 : Shape := ⟨3, ![8, 4352, 1024]⟩
abbrev S8x1x6144 : Shape := ⟨3, ![8, 1, 6144]⟩
abbrev S1x1x6144 : Shape := ⟨3, ![1, 1, 6144]⟩
abbrev S1x8x1x6144 : Shape := ⟨4, ![1, 8, 1, 6144]⟩
abbrev S2x8x1x6144 : Shape := ⟨4, ![2, 8, 1, 6144]⟩
abbrev S1x1024 : Shape := ⟨2, ![1, 1024]⟩
abbrev S1x256x1024 : Shape := ⟨3, ![1, 256, 1024]⟩
abbrev S1x1x1x6144 : Shape := ⟨4, ![1, 1, 1, 6144]⟩
abbrev S1x1024x5632 : Shape := ⟨3, ![1, 1024, 5632]⟩
abbrev S1x2816x1024 : Shape := ⟨3, ![1, 2816, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 21
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4096x1024, .bf16⟩
  | .hbm, ⟨3, _⟩ => ⟨S8x6144, .f32⟩
  | .hbm, ⟨4, _⟩ => ⟨S1x6144, .f32⟩
  | .hbm, ⟨5, _⟩ => ⟨S1024, .f32⟩
  | .hbm, ⟨6, _⟩ => ⟨S1024x1024, .f32⟩
  | .hbm, ⟨7, _⟩ => ⟨S2x1024x5632, .f32⟩
  | .hbm, ⟨8, _⟩ => ⟨S2x2816x1024, .f32⟩
  | .hbm, ⟨9, _⟩ => ⟨S8x4352x1024, .f32⟩
  | .hbm, ⟨10, _⟩ => ⟨S8x1x6144, .f32⟩
  | .hbm, ⟨11, _⟩ => ⟨S1x1x6144, .f32⟩
  | .hbm, ⟨12, _⟩ => ⟨S8x1x6144, .f32⟩
  | .hbm, ⟨13, _⟩ => ⟨S1x8x1x6144, .f32⟩
  | .hbm, ⟨14, _⟩ => ⟨S1x8x1x6144, .f32⟩
  | .hbm, ⟨15, _⟩ => ⟨S2x8x1x6144, .f32⟩
  | .hbm, ⟨16, _⟩ => ⟨S1x1024, .f32⟩
  | .hbm, ⟨17, _⟩ => ⟨S1024x1024, .bf16⟩
  | .hbm, ⟨18, _⟩ => ⟨S2x1024x5632, .bf16⟩
  | .hbm, ⟨19, _⟩ => ⟨S2x2816x1024, .bf16⟩
  | .hbm, ⟨20, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x1x1x6144, .f32⟩
  | .local _ .vmem, ⟨5, _⟩ => ⟨S1x1x1x6144, .f32⟩
  | .local _ .vmem, ⟨6, _⟩ => ⟨S1x1024, .f32⟩
  | .local _ .vmem, ⟨7, _⟩ => ⟨S1024x1024, .bf16⟩
  | .local _ .vmem, ⟨8, _⟩ => ⟨S1x1024x5632, .bf16⟩
  | .local _ .vmem, ⟨9, _⟩ => ⟨S1x2816x1024, .bf16⟩
  | .local _ .vmem, ⟨10, _⟩ => ⟨S1x256x1024, .f32⟩
  | .local _ .vmem, ⟨11, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x1024 : Shape := ⟨2, ![1024, 1024]⟩
abbrev S2x1024x5632 : Shape := ⟨3, ![2, 1024, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4096x1024, .bf16⟩
  | .hbm, ⟨3, _⟩ => ⟨S8x6144, .f32⟩
  | .hbm, ⟨4, _⟩ => ⟨S1x6144, .f32⟩
  | .hbm, ⟨5, _⟩ => ⟨S1024, .f32⟩
  | .hbm, ⟨6, _⟩ => ⟨S1024x1024, .f32⟩
  | .hbm, ⟨7, _⟩ => ⟨S2x1024x5632, .f32⟩
  | .hbm, ⟨8, _⟩ => ⟨S2x2816x1024, .f32⟩
  | .hbm, ⟨9, _⟩ => ⟨S8x4096x1024, .f32⟩
  | .hbm, ⟨10, _⟩ => ⟨S8x4096x1024, .f32⟩
  | .hbm, ⟨11, _⟩ => ⟨S1x1024x5632, .f32⟩
  | .hbm, ⟨12, _⟩ => ⟨S1024x5632, .f32⟩
  | .hbm, ⟨13, _⟩ => ⟨S1x2816x1024, .f32⟩
  | .hbm, ⟨14, _⟩ => ⟨S2816x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x1x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S8x1x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x4096x1024, .f32⟩
  | .hbm, ⟨47, _⟩ => ⟨S8x4096x1024, .f32⟩
  | .hbm, ⟨48, _⟩ => ⟨S8x1x1024, .f32⟩
  | .hbm, ⟨49, _⟩ => ⟨S8x4096x1024, .f32⟩
  | .hbm, ⟨50, _⟩ => ⟨S8x4096x1024, .f32⟩
  | .hbm, ⟨51, _⟩ => ⟨S8x4096x5632, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x1024 : Shape := ⟨3, ![8, 256, 1024]⟩
abbrev S8x4352x1024 : Shape := ⟨3, ![8, 4352, 1024]⟩
abbrev S8x6144 : Shape := ⟨2, ![8, 6144]⟩
abbrev S1x6144 : Shape := ⟨2, ![1, 6144]⟩
abbrev S1024 : Shape := ⟨1, ![1024]⟩
abbrev S1024x2048 : Shape := ⟨2, ![1024, 2048]⟩
abbrev S1024x1024 : Shape := ⟨2, ![1024, 1024]⟩
abbrev S2x1024x5632 : Shape := ⟨3, ![2, 1024, 5632]⟩
abbrev S2x2816x1024 : Shape := ⟨3, ![2, 2816, 1024]⟩
abbrev S8x1x6144 : Shape := ⟨3, ![8, 1, 6144]⟩
abbrev S1x1x6144 : Shape := ⟨3, ![1, 1, 6144]⟩
abbrev S1x8x1x6144 : Shape := ⟨4, ![1, 8, 1, 6144]⟩
abbrev S2x8x1x6144 : Shape := ⟨4, ![2, 8, 1, 6144]⟩
abbrev S1x1024 : Shape := ⟨2, ![1, 1024]⟩
abbrev S1x256x1024 : Shape := ⟨3, ![1, 256, 1024]⟩
abbrev S1x1x1x6144 : Shape := ⟨4, ![1, 1, 1, 6144]⟩
abbrev S1x1024x5632 : Shape := ⟨3, ![1, 1024, 5632]⟩
abbrev S1x2816x1024 : Shape := ⟨3, ![1, 2816, 1024]⟩
abbrev S256x1024 : Shape := ⟨2, ![256, 1024]⟩
abbrev S256x2048 : Shape := ⟨2, ![256, 2048]⟩
abbrev S1x1x1x1024 : Shape := ⟨4, ![1, 1, 1, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 22
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4352x1024, .bf16⟩
  | .hbm, ⟨3, _⟩ => ⟨S8x6144, .f32⟩
  | .hbm, ⟨4, _⟩ => ⟨S1x6144, .f32⟩
  | .hbm, ⟨5, _⟩ => ⟨S1024, .f32⟩
  | .hbm, ⟨6, _⟩ => ⟨S1024x2048, .f32⟩
  | .hbm, ⟨7, _⟩ => ⟨S1024x1024, .f32⟩
  | .hbm, ⟨8, _⟩ => ⟨S2x1024x5632, .f32⟩
  | .hbm, ⟨9, _⟩ => ⟨S2x2816x1024, .f32⟩
  | .hbm, ⟨10, _⟩ => ⟨S8x1x6144, .f32⟩
  | .hbm, ⟨11, _⟩ => ⟨S1x1x6144, .f32⟩
  | .hbm, ⟨12, _⟩ => ⟨S8x1x6144, .f32⟩
  | .hbm, ⟨13, _⟩ => ⟨S1x8x1x6144, .f32⟩
  | .hbm, ⟨14, _⟩ => ⟨S1x8x1x6144, .f32⟩
  | .hbm, ⟨15, _⟩ => ⟨S2x8x1x6144, .f32⟩
  | .hbm, ⟨16, _⟩ => ⟨S1x1024, .f32⟩
  | .hbm, ⟨17, _⟩ => ⟨S1024x2048, .bf16⟩
  | .hbm, ⟨18, _⟩ => ⟨S1024x1024, .bf16⟩
  | .hbm, ⟨19, _⟩ => ⟨S2x1024x5632, .bf16⟩
  | .hbm, ⟨20, _⟩ => ⟨S2x2816x1024, .bf16⟩
  | .hbm, ⟨21, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x1x1x6144, .f32⟩
  | .local _ .vmem, ⟨7, _⟩ => ⟨S1x1x1x6144, .f32⟩
  | .local _ .vmem, ⟨8, _⟩ => ⟨S1x1024, .f32⟩
  | .local _ .vmem, ⟨9, _⟩ => ⟨S1024x2048, .bf16⟩
  | .local _ .vmem, ⟨10, _⟩ => ⟨S1024x1024, .bf16⟩
  | .local _ .vmem, ⟨11, _⟩ => ⟨S1x1024x5632, .bf16⟩
  | .local _ .vmem, ⟨12, _⟩ => ⟨S1x2816x1024, .bf16⟩
  | .local _ .vmem, ⟨13, _⟩ => ⟨S1x256x1024, .f32⟩
  | .local _ .vmem, ⟨14, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![v1.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4096x1024 : Shape := ⟨3, ![8, 4096, 1024]⟩
abbrev S8x256x1024 : Shape := ⟨3, ![8, 256, 1024]⟩
abbrev S8x4352x1024 : Shape := ⟨3, ![8, 4352, 1024]⟩
abbrev S8x6144 : Shape := ⟨2, ![8, 6144]⟩
abbrev S1x6144 : Shape := ⟨2, ![1, 6144]⟩
abbrev S1024 : Shape := ⟨1, ![1024]⟩
abbrev S1024x2048 : Shape := ⟨2, ![1024, 2048]⟩
abbrev S1024x1024 : Shape := ⟨2, ![1024, 1024]⟩
abbrev S2x1024x5632 : Shape := ⟨3, ![2, 1024, 5632]⟩
abbrev S2x2816x1024 : Shape := ⟨3, ![2, 2816, 1024]⟩
abbrev S8x256x2048 : Shape := ⟨3, ![8, 256, 2048]⟩
abbrev S_ : Shape := ⟨0, ![]⟩
abbrev S8x4096x2048 : Shape := ⟨3, ![8, 4096, 2048]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024 : Shape := ⟨2, ![1, 1024]⟩
abbrev S1x1x1024 : Shape := ⟨3, ![1, 1, 1024]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩
abbrev S8x1024 : Shape := ⟨2, ![8, 1024]⟩
abbrev S8x1x1024 : Shape := ⟨3, ![8, 1, 1024]⟩
abbrev S8x4096 : Shape := ⟨2, ![8, 4096]⟩
abbrev S8x4096x1 : Shape := ⟨3, ![8, 4096, 1]⟩
abbrev S8x4096x5632 : Shape := ⟨3, ![8, 4096, 5632]⟩
abbrev S8x4096x2816 : Shape := ⟨3, ![8, 4096, 2816]⟩

abbrev nBuf : Space → Nat
  | .hbm => 155
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x4352x1024, .bf16⟩
  | 3 => ⟨S8x6144, .f32⟩
  | 4 => ⟨S1x6144, .f32⟩
  | 5 => ⟨S1024, .f32⟩
  | 6 => ⟨S1024x2048, .f32⟩
  | 7 => ⟨S1024x1024, .f32⟩
  | 8 => ⟨S2x1024x5632, .f32⟩
  | 9 => ⟨S2x2816x1024, .f32⟩
  | 10 => ⟨S8x256x1024, .bf16⟩
  | 11 => ⟨S8x256x1024, .f32⟩
  | 12 => ⟨S8x256x2048, .f32⟩
  | 13 => ⟨S8x256x1024, .f32⟩
  | 14 => ⟨S8x256x1024, .f32⟩
  | 15 => ⟨S8x256x1024, .f32⟩
  | 16 => ⟨S8x256x1024, .f32⟩
  | 17 => ⟨S_, .f32⟩
  | 18 => ⟨S8x256x1024, .f32⟩
  | 19 => ⟨S8x256x1024, .f32⟩
  | 20 => ⟨S_, .f32⟩
  | 21 => ⟨S8x256x1024, .f32⟩
  | 22 => ⟨S8x256x1024, .f32⟩
  | 23 => ⟨S8x256x1024, .f32⟩
  | 24 => ⟨S8x256x1024, .f32⟩
  | 25 => ⟨S8x4096x1024, .bf16⟩
  | 26 => ⟨S8x4096x1024, .f32⟩
  | 27 => ⟨S8x4096x2048, .f32⟩
  | 28 => ⟨S8x4096x1024, .f32⟩
  | 29 => ⟨S8x4096x1024, .f32⟩
  | 30 => ⟨S8x4096x1024, .f32⟩
  | 31 => ⟨S8x4096x1024, .f32⟩
  | 32 => ⟨S_, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S8x4096x1024, .f32⟩
  | 39 => ⟨S8x4096x1024, .f32⟩
  | 40 => ⟨S1x1024x5632, .f32⟩
  | 41 => ⟨S1024x5632, .f32⟩
  | 42 => ⟨S1x2816x1024, .f32⟩
  | 43 => ⟨S2816x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1x1024, .f32⟩
  | 51 => ⟨S8x256x1024, .f32⟩
  | 52 => ⟨S8x256x1024, .f32⟩
  | 53 => ⟨S8x256x1024, .f32⟩
  | 54 => ⟨S1x1x1024, .f32⟩
  | 55 => ⟨S8x256x1024, .f32⟩
  | 56 => ⟨S_, .f32⟩
  | 57 => ⟨S8x256, .f32⟩
  | 58 => ⟨S8x256x1, .f32⟩
  | 59 => ⟨S_, .f32⟩
  | 60 => ⟨S8x256x1, .f32⟩
  | 61 => ⟨S8x256x1, .f32⟩
  | 62 => ⟨S_, .f32⟩
  | 63 => ⟨S8x256x1, .f32⟩
  | 64 => ⟨S8x256x1, .f32⟩
  | 65 => ⟨S8x256x1, .f32⟩
  | 66 => ⟨S8x256x1024, .f32⟩
  | 67 => ⟨S8x256x1024, .f32⟩
  | 68 => ⟨S1x1x1024, .f32⟩
  | 69 => ⟨S8x256x1024, .f32⟩
  | 70 => ⟨S8x256x1024, .f32⟩
  | 71 => ⟨S1x1x1024, .f32⟩
  | 72 => ⟨S_, .f32⟩
  | 73 => ⟨S1x1x1024, .f32⟩
  | 74 => ⟨S1x1x1024, .f32⟩
  | 75 => ⟨S8x256x1024, .f32⟩
  | 76 => ⟨S8x256x1024, .f32⟩
  | 77 => ⟨S1x1x1024, .f32⟩
  | 78 => ⟨S8x256x1024, .f32⟩
  | 79 => ⟨S8x256x1024, .f32⟩
  | 80 => ⟨S8x256x5632, .f32⟩
  | 81 => ⟨S8x256x2816, .f32⟩
  | 82 => ⟨S8x256x2816, .f32⟩
  | 83 => ⟨S8x256x2816, .f32⟩
  | 84 => ⟨S8x256x2816, .f32⟩
  | 85 => ⟨S_, .f32⟩
  | 86 => ⟨S8x256x2816, .f32⟩
  | 87 => ⟨S8x256x2816, .f32⟩
  | 88 => ⟨S_, .f32⟩
  | 89 => ⟨S8x256x2816, .f32⟩
  | 90 => ⟨S8x256x2816, .f32⟩
  | 91 => ⟨S8x256x2816, .f32⟩
  | 92 => ⟨S8x256x2816, .f32⟩
  | 93 => ⟨S8x256x1024, .f32⟩
  | 94 => ⟨S8x256x1024, .f32⟩
  | 95 => ⟨S8x256x1024, .f32⟩
  | 96 => ⟨S8x256x1024, .f32⟩
  | 97 => ⟨S1x1024x5632, .f32⟩
  | 98 => ⟨S1024x5632, .f32⟩
  | 99 => ⟨S1x2816x1024, .f32⟩
  | 100 => ⟨S2816x1024, .f32⟩
  | 101 => ⟨S8x1024, .f32⟩
  | 102 => ⟨S8x1024, .f32⟩
  | 103 => ⟨S8x1024, .f32⟩
  | 104 => ⟨S8x1024, .f32⟩
  | 105 => ⟨S8x1024, .f32⟩
  | 106 => ⟨S8x1024, .f32⟩
  | 107 => ⟨S8x1x1024, .f32⟩
  | 108 => ⟨S8x4096x1024, .f32⟩
  | 109 => ⟨S8x4096x1024, .f32⟩
  | 110 => ⟨S8x4096x1024, .f32⟩
  | 111 => ⟨S8x1x1024, .f32⟩
  | 112 => ⟨S8x4096x1024, .f32⟩
  | 113 => ⟨S_, .f32⟩
  | 114 => ⟨S8x4096, .f32⟩
  | 115 => ⟨S8x4096x1, .f32⟩
  | 116 => ⟨S_, .f32⟩
  | 117 => ⟨S8x4096x1, .f32⟩
  | 118 => ⟨S8x4096x1, .f32⟩
  | 119 => ⟨S_, .f32⟩
  | 120 => ⟨S8x4096x1, .f32⟩
  | 121 => ⟨S8x4096x1, .f32⟩
  | 122 => ⟨S8x4096x1, .f32⟩
  | 123 => ⟨S8x4096x1024, .f32⟩
  | 124 => ⟨S8x4096x1024, .f32⟩
  | 125 => ⟨S1x1x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x1x1024, .f32⟩
  | 1 => ⟨S_, .f32⟩
  | 2 => ⟨S8x1x1024, .f32⟩
  | 3 => ⟨S8x1x1024, .f32⟩
  | 4 => ⟨S8x4096x1024, .f32⟩
  | 5 => ⟨S8x4096x1024, .f32⟩
  | 6 => ⟨S8x1x1024, .f32⟩
  | 7 => ⟨S8x4096x1024, .f32⟩
  | 8 => ⟨S8x4096x1024, .f32⟩
  | 9 => ⟨S8x4096x5632, .f32⟩
  | 10 => ⟨S8x4096x2816, .f32⟩
  | 11 => ⟨S8x4096x2816, .f32⟩
  | 12 => ⟨S8x4096x2816, .f32⟩
  | 13 => ⟨S8x4096x2816, .f32⟩
  | 14 => ⟨S_, .f32⟩
  | 15 => ⟨S8x4096x2816, .f32⟩
  | 16 => ⟨S8x4096x2816, .f32⟩
  | 17 => ⟨S_, .f32⟩
  | 18 => ⟨S8x4096x2816, .f32⟩
  | 19 => ⟨S8x4096x2816, .f32⟩
  | 20 => ⟨S8x4096x2816, .f32⟩
  | 21 => ⟨S8x4096x2816, .f32⟩
  | 22 => ⟨S8x4096x1024, .f32⟩
  | 23 => ⟨S8x4096x1024, .f32⟩
  | 24 => ⟨S8x4096x1024, .f32⟩
  | 25 => ⟨S8x4096x1024, .f32⟩
  | 26 => ⟨S8x4352x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_7 : Ref sig .tc := ⟨.hbm, 113, rfl⟩
abbrev main_v87 : Ref sig .tc := ⟨.hbm, 114, rfl⟩
abbrev main_v88 : Ref sig .tc := ⟨.hbm, 115, rfl⟩
abbrev main_cst_8 : Ref sig .tc := ⟨.hbm, 116, rfl⟩
abbrev main_v89 : Ref sig .tc := ⟨.hbm, 117, rfl⟩
abbrev main_v90 : Ref sig .tc := ⟨.hbm, 118, rfl⟩
abbrev main_cst_9 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_10 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_call1_v0 : Ref sig .tc := ⟨.hbm, 140, rfl⟩
abbrev main_call1_v1 : Ref sig .tc := ⟨.hbm, 141, rfl⟩
abbrev main_call1_cst : Ref sig .tc := ⟨.hbm, 142, rfl⟩
abbrev main_call1_v2 : Ref sig .tc := ⟨.hbm, 143, rfl⟩
abbrev main_call1_v3 : Ref sig .tc := ⟨.hbm, 144, rfl⟩
abbrev main_call1_cst_0 : Ref sig .tc := ⟨.hbm, 145, rfl⟩
abbrev main_call1_v4 : Ref sig .tc := ⟨.hbm, 146, rfl⟩
abbrev main_call1_v5 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x800 : Shape := ⟨2, ![1024, 800]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S96 : Shape := ⟨1, ![96]⟩
abbrev S128 : Shape := ⟨1, ![128]⟩
abbrev S1024x768 : Shape := ⟨2, ![1024, 768]⟩
abbrev S1024x32 : Shape := ⟨2, ![1024, 32]⟩
abbrev S_ : Shape := ⟨0, ![]⟩
abbrev S1024x1 : Shape := ⟨2, ![1024, 1]⟩
abbrev S1024x33 : Shape := ⟨2, ![1024, 33]⟩
abbrev S128x1 : Shape := ⟨2, ![128, 1]⟩
abbrev S1 : Shape := ⟨1, ![1]⟩
abbrev S1x1 : Shape := ⟨2, ![1, 1]⟩
abbrev S1024x128 : Shape := ⟨2, ![1024, 128]⟩
abbrev S1024x896 : Shape := ⟨2, ![1024, 896]⟩
abbrev S512x16x96 : Shape := ⟨3, ![512, 16, 96]⟩
abbrev S512x16x1 : Shape := ⟨3, ![512, 16, 1]⟩
abbrev S512x16x97 : Shape := ⟨3, ![512, 16, 97]⟩
abbrev S512x16x128 : Shape := ⟨3, ![512, 16, 128]⟩
abbrev S512x2048 : Shape := ⟨2, ![512, 2048]⟩
abbrev S2048x512 : Shape := ⟨2, ![2048, 512]⟩
abbrev S256x16x128 : Shape := ⟨3, ![256, 16, 128]⟩
abbrev S256x16x64 : Shape := ⟨3, ![256, 16, 64]⟩
abbrev S256x16x1 : Shape := ⟨3, ![256, 16, 1]⟩
abbrev S256x16x65 : Shape := ⟨3, ![256, 16, 65]⟩
abbrev S256x1024 : Shape := ⟨2, ![256, 1024]⟩
abbrev S1024x256 : Shape := ⟨2, ![1024, 256]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x2x8 : Shape := ⟨3, ![4096, 2, 8]⟩
abbrev S4096x16 : Shape := ⟨2, ![4096, 16]⟩
abbrev S4096x48 : Shape := ⟨2, ![4096, 48]⟩
abbrev S4096x128 : Shape := ⟨2, ![4096, 128]⟩
abbrev S256x128 : Shape := ⟨2, ![256, 128]⟩
abbrev S4352x128 : Shape := ⟨2, ![4352, 128]⟩
abbrev S97 : Shape := ⟨1, ![97]⟩
abbrev S1x128 : Shape := ⟨2, ![1, 128]⟩
abbrev S4096x96 : Shape := ⟨2, ![4096, 96]⟩
abbrev S96x4096 : Shape := ⟨2, ![96, 4096]⟩
abbrev S8x4352x1024 : Shape := ⟨3, ![8, 4352, 1024]⟩
abbrev S8x1x6144 : Shape := ⟨3, ![8, 1, 6144]⟩
abbrev S1x1x6144 : Shape := ⟨3, ![1, 1, 6144]⟩
abbrev S1x8x1x6144 : Shape := ⟨4, ![1, 8, 1, 6144]⟩
abbrev S2x8x1x6144 : Shape := ⟨4, ![2, 8, 1, 6144]⟩
abbrev S1x1024 : Shape := ⟨2, ![1, 1024]⟩
abbrev S1x512 : Shape := ⟨2, ![1, 512]⟩
abbrev S1x256 : Shape := ⟨2, ![1, 256]⟩
abbrev S8x2048x4096 : Shape := ⟨3, ![8, 2048, 4096]⟩
abbrev S8x4352x2048 : Shape := ⟨3, ![8, 4352, 2048]⟩
abbrev S8x16x64x4352 : Shape := ⟨4, ![8, 16, 64, 4352]⟩
abbrev S1x256x1024 : Shape := ⟨3, ![1, 256, 1024]⟩
abbrev S1x1x1x6144 : Shape := ⟨4, ![1, 1, 1, 6144]⟩
abbrev S96x256 : Shape := ⟨2, ![96, 256]⟩
abbrev S1x2048x256 : Shape := ⟨3, ![1, 2048, 256]⟩
abbrev S1x256x2048 : Shape := ⟨3, ![1, 256, 2048]⟩
abbrev S1x16x64x256 : Shape := ⟨4, ![1, 16, 64, 256]⟩
abbrev S1x1x1x1024 : Shape := ⟨4, ![1, 1, 1, 1024]⟩
abbrev S256x1 : Shape := ⟨2, ![256, 1]⟩
abbrev S256x896 : Shape := ⟨2, ![256, 896]⟩
abbrev S256x512 : Shape := ⟨2, ![256, 512]⟩
abbrev S256x256 : Shape := ⟨2, ![256, 256]⟩
abbrev S2048x256 : Shape := ⟨2, ![2048, 256]⟩
abbrev S32x256 : Shape := ⟨2, ![32, 256]⟩
abbrev S16x256 : Shape := ⟨2, ![16, 256]⟩
abbrev S48x256 : Shape := ⟨2, ![48, 256]⟩
abbrev S128x256 : Shape := ⟨2, ![128, 256]⟩
abbrev S1x128x256 : Shape := ⟨3, ![1, 128, 256]⟩
abbrev S1x256x128 : Shape := ⟨3, ![1, 256, 128]⟩
abbrev S16x64x256 : Shape := ⟨3, ![16, 64, 256]⟩
abbrev S8x4096x2048 : Shape := ⟨3, ![8, 4096, 2048]⟩
abbrev S8x4096x16x128 : Shape := ⟨4, ![8, 4096, 16, 128]⟩
abbrev S8x4096x16x16 : Shape := ⟨4, ![8, 4096, 16, 16]⟩
abbrev S8x4096x16x2x8 : Shape := ⟨5, ![8, 4096, 16, 2, 8]⟩
abbrev S8x4096x16x2x1x8 : Shape := ⟨6, ![8, 4096, 16, 2, 1, 8]⟩
abbrev S8x4096x16x2x2x8 : Shape := ⟨6, ![8, 4096, 16, 2, 2, 8]⟩
abbrev S8x4096x16x32 : Shape := ⟨4, ![8, 4096, 16, 32]⟩
abbrev S8x4096x16x48 : Shape := ⟨4, ![8, 4096, 16, 48]⟩
abbrev S8x4096x16x96 : Shape := ⟨4, ![8, 4096, 16, 96]⟩
abbrev S8x4352x16x128 : Shape := ⟨4, ![8, 4352, 16, 128]⟩
abbrev S8x4352x16x16 : Shape := ⟨4, ![8, 4352, 16, 16]⟩
abbrev S8x4352x16x2x8 : Shape := ⟨5, ![8, 4352, 16, 2, 8]⟩
abbrev S8x4352x16x2x1x8 : Shape := ⟨6, ![8, 4352, 16, 2, 1, 8]⟩
abbrev S8x4352x16x2x2x8 : Shape := ⟨6, ![8, 4352, 16, 2, 2, 8]⟩
abbrev S8x4352x16x32 : Shape := ⟨4, ![8, 4352, 16, 32]⟩
abbrev S8x4352x16x48 : Shape := ⟨4, ![8, 4352, 16, 48]⟩
abbrev S8x4352x16x96 : Shape := ⟨4, ![8, 4352, 16, 96]⟩
abbrev S8x4352x16x64 : Shape := ⟨4, ![8, 4352, 16, 64]⟩

abbrev nBuf : Space → Nat
  | .hbm => 297
  | .vmem => 25
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S1x6144, .f32⟩
  | 4 => ⟨S1024, .f32⟩
  | 5 => ⟨S1024x800, .f32⟩
  | 6 => ⟨S512, .f32⟩
  | 7 => ⟨S256, .f32⟩
  | 8 => ⟨S512x1536, .f32⟩
  | 9 => ⟨S256x2048, .f32⟩
  | 10 => ⟨S96, .f32⟩
  | 11 => ⟨S96, .f32⟩
  | 12 => ⟨S128, .i32⟩
  | 13 => ⟨S128, .i32⟩
  | 14 => ⟨S128, .i32⟩
  | 15 => ⟨S1024x768, .f32⟩
  | 16 => ⟨S1024x32, .f32⟩
  | 17 => ⟨S_, .f32⟩
  | 18 => ⟨S1024x1, .f32⟩
  | 19 => ⟨S1024x33, .f32⟩
  | 20 => ⟨S_, .i32⟩
  | 21 => ⟨S128, .i32⟩
  | 22 => ⟨S128, .i1⟩
  | 23 => ⟨S_, .i32⟩
  | 24 => ⟨S128, .i32⟩
  | 25 => ⟨S128, .i32⟩
  | 26 => ⟨S128, .i32⟩
  | 27 => ⟨S128x1, .i32⟩
  | 28 => ⟨S1, .i32⟩
  | 29 => ⟨S_, .i32⟩
  | 30 => ⟨S128x1, .i32⟩
  | 31 => ⟨S128x1, .i1⟩
  | 32 => ⟨S1x1, .i32⟩
  | 33 => ⟨S128x1, .i32⟩
  | 34 => ⟨S128x1, .i1⟩
  | 35 => ⟨S128x1, .i1⟩
  | 36 => ⟨S_, .i1⟩
  | 37 => ⟨S128, .i1⟩
  | 38 => ⟨S1024x128, .f32⟩
  | 39 => ⟨S1024x128, .i1⟩
  | 40 => ⟨S_, .f32⟩
  | 41 => ⟨S1024x128, .f32⟩
  | 42 => ⟨S1024x128, .f32⟩
  | 43 => ⟨S1024x896, .f32⟩
  | 44 => ⟨S512x16x96, .f32⟩
  | 45 => ⟨S_, .f32⟩
  | 46 => ⟨S512x16x1, .f32⟩
  | 47 => ⟨S512x16x97, .f32⟩
  | 48 => ⟨S_, .i32⟩
  | 49 => ⟨S128, .i32⟩
  | 50 => ⟨S128, .i1⟩
  | 51 => ⟨S_, .i32⟩
  | 52 => ⟨S128, .i32⟩
  | 53 => ⟨S128, .i32⟩
  | 54 => ⟨S128, .i32⟩
  | 55 => ⟨S128x1, .i32⟩
  | 56 => ⟨S1, .i32⟩
  | 57 => ⟨S_, .i32⟩
  | 58 => ⟨S128x1, .i32⟩
  | 59 => ⟨S128x1, .i1⟩
  | 60 => ⟨S1x1, .i32⟩
  | 61 => ⟨S128x1, .i32⟩
  | 62 => ⟨S128x1, .i1⟩
  | 63 => ⟨S128x1, .i1⟩
  | 64 => ⟨S_, .i1⟩
  | 65 => ⟨S128, .i1⟩
  | 66 => ⟨S512x16x128, .f32⟩
  | 67 => ⟨S512x16x128, .i1⟩
  | 68 => ⟨S_, .f32⟩
  | 69 => ⟨S512x16x128, .f32⟩
  | 70 => ⟨S512x16x128, .f32⟩
  | 71 => ⟨S512x2048, .f32⟩
  | 72 => ⟨S2048x512, .f32⟩
  | 73 => ⟨S256x16x128, .f32⟩
  | 74 => ⟨S256x16x64, .f32⟩
  | 75 => ⟨S_, .f32⟩
  | 76 => ⟨S256x16x1, .f32⟩
  | 77 => ⟨S256x16x65, .f32⟩
  | 78 => ⟨S_, .i32⟩
  | 79 => ⟨S128, .i32⟩
  | 80 => ⟨S128, .i1⟩
  | 81 => ⟨S_, .i32⟩
  | 82 => ⟨S128, .i32⟩
  | 83 => ⟨S128, .i32⟩
  | 84 => ⟨S128, .i32⟩
  | 85 => ⟨S128x1, .i32⟩
  | 86 => ⟨S1, .i32⟩
  | 87 => ⟨S_, .i32⟩
  | 88 => ⟨S128x1, .i32⟩
  | 89 => ⟨S128x1, .i1⟩
  | 90 => ⟨S1x1, .i32⟩
  | 91 => ⟨S128x1, .i32⟩
  | 92 => ⟨S128x1, .i1⟩
  | 93 => ⟨S128x1, .i1⟩
  | 94 => ⟨S_, .i1⟩
  | 95 => ⟨S128, .i1⟩
  | 96 => ⟨S256x16x128, .f32⟩
  | 97 => ⟨S256x16x128, .i1⟩
  | 98 => ⟨S_, .f32⟩
  | 99 => ⟨S256x16x128, .f32⟩
  | 100 => ⟨S256x16x128, .f32⟩
  | 101 => ⟨S256x2048, .f32⟩
  | 102 => ⟨S256x16x64, .f32⟩
  | 103 => ⟨S256x1024, .f32⟩
  | 104 => ⟨S1024x256, .f32⟩
  | 105 => ⟨S64, .f32⟩
  | 106 => ⟨S64x64, .f32⟩
  | 107 => ⟨S4096, .f32⟩
  | 108 => ⟨S64, .f32⟩
  | 109 => ⟨S1x64, .f32⟩
  | 110 => ⟨S64x64, .f32⟩
  | 111 => ⟨S4096, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S8, .f32⟩
  | 120 => ⟨S_, .f32⟩
  | 121 => ⟨S8, .f32⟩
  | 122 => ⟨S8, .f32⟩
  | 123 => ⟨S_, .f32⟩
  | 124 => ⟨S8, .f32⟩
  | 125 => ⟨S8, .f32⟩
  | 126 => ⟨S4096x1, .f32⟩
  | 127 => ⟨S1x8, .f32⟩
  | _ => ⟨S8x4096x1024, .f32⟩

abbrev hbmTy0_1 (i : Nat) : BufTy := match i % 128 with
  | 0 => ⟨S4096x8, .f32⟩
  | 1 => ⟨S4096x8, .f32⟩
  | 2 => ⟨S4096x8, .f32⟩
  | 3 => ⟨S4096x1, .f32⟩
  | 4 => ⟨S1x8, .f32⟩
  | 5 => ⟨S4096x8, .f32⟩
  | 6 => ⟨S4096x8, .f32⟩
  | 7 => ⟨S4096x8, .f32⟩
  | 8 => ⟨S4096x1x8, .f32⟩
  | 9 => ⟨S4096x1x8, .f32⟩
  | 10 => ⟨S4096x2x8, .f32⟩
  | 11 => ⟨S4096x16, .f32⟩
  | 12 => ⟨S4096x16, .f32⟩
  | 13 => ⟨S4096x16, .f32⟩
  | 14 => ⟨S_, .f32⟩
  | 15 => ⟨S4096x48, .f32⟩
  | 16 => ⟨S4096x128, .f32⟩
  | 17 => ⟨S_, .f32⟩
  | 18 => ⟨S4096x48, .f32⟩
  | 19 => ⟨S4096x48, .f32⟩
  | 20 => ⟨S4096x16, .f32⟩
  | 21 => ⟨S_, .f32⟩
  | 22 => ⟨S4096x48, .f32⟩
  | 23 => ⟨S4096x48, .f32⟩
  | 24 => ⟨S4096x128, .f32⟩
  | 25 => ⟨S_, .f32⟩
  | 26 => ⟨S256x128, .f32⟩
  | 27 => ⟨S4352x128, .f32⟩
  | 28 => ⟨S_, .f32⟩
  | 29 => ⟨S256x128, .f32⟩
  | 30 => ⟨S4352x128, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1, .f32⟩
  | 40 => ⟨S97, .f32⟩
  | 41 => ⟨S_, .i32⟩
  | 42 => ⟨S128, .i32⟩
  | 43 => ⟨S128, .i1⟩
  | 44 => ⟨S_, .i32⟩
  | 45 => ⟨S128, .i32⟩
  | 46 => ⟨S128, .i32⟩
  | 47 => ⟨S128, .i32⟩
  | 48 => ⟨S128x1, .i32⟩
  | 49 => ⟨S1, .i32⟩
  | 50 => ⟨S_, .i32⟩
  | 51 => ⟨S128x1, .i32⟩
  | 52 => ⟨S128x1, .i1⟩
  | 53 => ⟨S1x1, .i32⟩
  | 54 => ⟨S128x1, .i32⟩
  | 55 => ⟨S128x1, .i1⟩
  | 56 => ⟨S128x1, .i1⟩
  | 57 => ⟨S_, .i1⟩
  | 58 => ⟨S128, .i1⟩
  | 59 => ⟨S128, .f32⟩
  | 60 => ⟨S_, .f32⟩
  | 61 => ⟨S128, .f32⟩
  | 62 => ⟨S128, .f32⟩
  | 63 => ⟨S_, .f32⟩
  | 64 => ⟨S1, .f32⟩
  | 65 => ⟨S97, .f32⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S1, .i32⟩
  | 75 => ⟨S_, .i32⟩
  | 76 => ⟨S128x1, .i32⟩
  | 77 => ⟨S128x1, .i1⟩
  | 78 => ⟨S1x1, .i32⟩
  | 79 => ⟨S128x1, .i32⟩
  | 80 => ⟨S128x1, .i1⟩
  | 81 => ⟨S128x1, .i1⟩
  | 82 => ⟨S_, .i1⟩
  | 83 => ⟨S128, .i1⟩
  | 84 => ⟨S128, .f32⟩
  | 85 => ⟨S_, .f32⟩
  | 86 => ⟨S128, .f32⟩
  | 87 => ⟨S128, .f32⟩
  | 88 => ⟨S128, .f32⟩
  | 89 => ⟨S128, .f32⟩
  | 90 => ⟨S4096x128, .f32⟩
  | 91 => ⟨S1x128, .f32⟩
  | 92 => ⟨S4096x128, .f32⟩
  | 93 => ⟨S4096x128, .f32⟩
  | 94 => ⟨S4096x96, .f32⟩
  | 95 => ⟨S96x4096, .f32⟩
  | 96 => ⟨S64, .f32⟩
  | 97 => ⟨S64, .f32⟩
  | 98 => ⟨S128, .f32⟩
  | 99 => ⟨S128, .f32⟩
  | 100 => ⟨S128, .f32⟩
  | 101 => ⟨S4096x128, .f32⟩
  | 102 => ⟨S1x128, .f32⟩
  | 103 => ⟨S4096x128, .f32⟩
  | 104 => ⟨S4096x128, .f32⟩
  | 105 => ⟨S4096x96, .f32⟩
  | 106 => ⟨S96x4096, .f32⟩
  | 107 => ⟨S1x128, .f32⟩
  | 108 => ⟨S4352x128, .f32⟩
  | 109 => ⟨S4352x128, .f32⟩
  | 110 => ⟨S64, .f32⟩
  | 111 => ⟨S64, .f32⟩
  | 112 => ⟨S128, .f32⟩
  | 113 => ⟨S1x128, .f32⟩
  | 114 => ⟨S4352x128, .f32⟩
  | 115 => ⟨S4352x128, .f32⟩
  | 116 => ⟨S8x4352x1024, .f32⟩
  | 117 => ⟨S8x1x6144, .f32⟩
  | 118 => ⟨S1x1x6144, .f32⟩
  | 119 => ⟨S8x1x6144, .f32⟩
  | 120 => ⟨S1x8x1x6144, .f32⟩
  | 121 => ⟨S1x8x1x6144, .f32⟩
  | 122 => ⟨S2x8x1x6144, .f32⟩
  | 123 => ⟨S1x1024, .f32⟩
  | 124 => ⟨S1024x896, .bf16⟩
  | 125 => ⟨S1x512, .f32⟩
  | 126 => ⟨S1x256, .f32⟩
  | 127 => ⟨S2048x512, .bf16⟩
  | _ => ⟨S8x4096x1024, .f32⟩

abbrev hbmTy0_2 (i : Nat) : BufTy := match i % 128 with
  | 0 => ⟨S256x2048, .bf16⟩
  | 1 => ⟨S1024x256, .bf16⟩
  | 2 => ⟨S8x2048x4096, .bf16⟩
  | 3 => ⟨S8x4352x2048, .bf16⟩
  | 4 => ⟨S8x16x64x4352, .bf16⟩
  | 5 => ⟨S8x4096x2048, .bf16⟩
  | 6 => ⟨S8x4096x2048, .f32⟩
  | 7 => ⟨S8x4096x16x128, .f32⟩
  | 8 => ⟨S8x4096x16x16, .f32⟩
  | 9 => ⟨S8x4096x16x2x8, .f32⟩
  | 10 => ⟨S8x4096x16x16, .f32⟩
  | 11 => ⟨S8x4096x16x2x8, .f32⟩
  | 12 => ⟨S8x4096x16x2x1x8, .f32⟩
  | 13 => ⟨S8x4096x16x2x1x8, .f32⟩
  | 14 => ⟨S8x4096x16x2x2x8, .f32⟩
  | 15 => ⟨S8x4096x16x32, .f32⟩
  | 16 => ⟨S8x4096x16x48, .f32⟩
  | 17 => ⟨S8x4096x16x16, .f32⟩
  | 18 => ⟨S8x4096x16x96, .f32⟩
  | 19 => ⟨S_, .f32⟩
  | 20 => ⟨S_, .f32⟩
  | 21 => ⟨S_, .f32⟩
  | 22 => ⟨S_, .f32⟩
  | 23 => ⟨S_, .f32⟩
  | 24 => ⟨S8x4096x16x96, .f32⟩
  | 25 => ⟨S8x4096x16x96, .f32⟩
  | 26 => ⟨S8x4352x2048, .f32⟩
  | 27 => ⟨S8x4352x16x128, .f32⟩
  | 28 => ⟨S8x4352x16x16, .f32⟩
  | 29 => ⟨S8x4352x16x2x8, .f32⟩
  | 30 => ⟨S8x4352x16x16, .f32⟩
  | 31 => ⟨S8x4352x16x2x8, .f32⟩
  | 32 => ⟨S8x4352x16x2x1x8, .f32⟩
  | 33 => ⟨S8x4352x16x2x1x8, .f32⟩
  | 34 => ⟨S8x4352x16x2x2x8, .f32⟩
  | 35 => ⟨S8x4352x16x32, .f32⟩
  | 36 => ⟨S8x4352x16x48, .f32⟩
  | 37 => ⟨S8x4352x16x16, .f32⟩
  | 38 => ⟨S8x4352x16x96, .f32⟩
  | 39 => ⟨S8x4352x16x64, .bf16⟩
  | 40 => ⟨S8x4352x16x64, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1x6144, .f32⟩
  | .local _ .vmem, ⟨3, _⟩ => ⟨S1x1x1x6144, .f32⟩
  | .local _ .vmem, ⟨4, _⟩ => ⟨S1x1024, .f32⟩
  | .local _ .vmem, ⟨5, _⟩ => ⟨S1024x896, .bf16⟩
  | .local _ .vmem, ⟨6, _⟩ => ⟨S1x512, .f32⟩
  | .local _ .vmem, ⟨7, _⟩ => ⟨S1x256, .f32⟩
  | .local _ .vmem, ⟨8, _⟩ => ⟨S2048x512, .bf16⟩
  | .local _ .vmem, ⟨9, _⟩ => ⟨S256x2048, .bf16⟩
  | .local _ .vmem, ⟨10, _⟩ => ⟨S1024x256, .bf16⟩
  | .local _ .vmem, ⟨11, _⟩ => ⟨S96x256, .f32⟩
  | .local _ .vmem, ⟨12, _⟩ => ⟨S96x256, .f32⟩
  | .local _ .vmem, ⟨13, _⟩ => ⟨S96x256, .f32⟩
  | .local _ .vmem, ⟨14, _⟩ => ⟨S96x256, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S1x2048x256, .bf16⟩
  | .local _ .vmem, ⟨20, _⟩ => ⟨S1x2048x256, .bf16⟩
  | .local _ .vmem, ⟨21, _⟩ => ⟨S1x256x2048, .bf16⟩
  | .local _ .vmem, ⟨22, _⟩ => ⟨S1x256x2048, .bf16⟩
  | .local _ .vmem, ⟨23, _⟩ => ⟨S1x16x64x256, .bf16⟩
  | .local _ .vmem, ⟨24, _⟩ => ⟨S1x16x64x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_2 : Ref sig .tc := ⟨.hbm, 45, rfl⟩
abbrev main_v7 : Ref sig .tc := ⟨.hbm, 46, rfl⟩
abbrev main_v8 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_cst_3 : Ref sig .tc := ⟨.hbm, 75, rfl⟩
abbrev main_v14 : Ref sig .tc := ⟨.hbm, 76, rfl⟩
abbrev main_v15 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_cst_4 : Ref sig .tc := ⟨.hbm, 113, rfl⟩
abbrev main_v29 : Ref sig .tc := ⟨.hbm, 114, rfl⟩
abbrev main_v30 : Ref sig .tc := ⟨.hbm, 115, rfl⟩
abbrev main_cst_5 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_cst_6 : Ref sig .tc := ⟨.hbm, 120, rfl⟩
abbrev main_v34 : Ref sig .tc := ⟨.hbm, 121, rfl⟩
abbrev main_v35 : Ref sig .tc := ⟨.hbm, 122, rfl⟩
abbrev main_cst_7 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_cst_8 : Ref sig .tc := ⟨.hbm, 142, rfl⟩
abbrev main_v54 : Ref sig .tc := ⟨.hbm, 143, rfl⟩
abbrev main_v55 : Ref sig .tc := ⟨.hbm, 144, rfl⟩
abbrev main_cst_9 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_cst_10 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_cst_11 : Ref sig .tc := ⟨.hbm, 153, rfl⟩
abbrev main_v62 : Ref sig .tc := ⟨.hbm, 154, rfl⟩
abbrev main_v63 : Ref sig .tc := ⟨.hbm, 155, rfl⟩
abbrev main_cst_12 : Ref sig .tc := ⟨.hbm, 156, rfl⟩
abbrev main_v64 : Ref sig .tc := ⟨.hbm, 157, rfl⟩
abbrev main_v65 : Ref sig .tc := ⟨.hbm, 158, rfl⟩
abbrev main_cst_13 : Ref sig .tc := ⟨.hbm, 159, rfl⟩
abbrev main_v66 : Ref sig .tc := ⟨.hbm, 160, rfl⟩
abbrev main_cst_14 : Ref sig .tc := ⟨.hbm, 161, rfl⟩
abbrev main_v67 : Ref sig .tc := ⟨.hbm, 162, rfl⟩
abbrev main_v68 : Ref sig .tc := ⟨.hbm, 163, rfl⟩
abbrev main_cst_15 : Ref sig .tc := ⟨.hbm, 164, rfl⟩
abbrev main_v69 : Ref sig .tc := ⟨.hbm, 165, rfl⟩
abbrev main_cst_16 : Ref sig .tc := ⟨.hbm, 166, rfl⟩
abbrev main_v70 : Ref sig .tc := ⟨.hbm, 167, rfl⟩
abbrev main_v71 : Ref sig .tc := ⟨.hbm, 168, rfl⟩
abbrev main_call3_c : Ref sig .tc := ⟨.hbm, 169, rfl⟩
abbrev main_call3_v0 : Ref sig .tc := ⟨.hbm, 170, rfl⟩
abbrev main_call3_v1 : Ref sig .tc := ⟨.hbm, 171, rfl⟩
abbrev main_call3_c_0 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_c_1 : Ref sig .tc := ⟨.hbm, 177, rfl⟩
abbrev main_call3_c_2 : Ref sig .tc := ⟨.hbm, 178, rfl⟩
abbrev main_call3_v6 : Ref sig .tc := ⟨.hbm, 179, rfl⟩
abbrev main_call3_v7 : Ref sig .tc := ⟨.hbm, 180, rfl⟩
abbrev main_call3_v8 : Ref sig .tc := ⟨.hbm, 181, rfl⟩
abbrev main_call3_v9 : Ref sig .tc := ⟨.hbm, 182, rfl⟩
abbrev main_call3_v10 : Ref sig .tc := ⟨.hbm, 183, rfl⟩
abbrev main_call3_v11 : Ref sig .tc := ⟨.hbm, 184, rfl⟩
abbrev main_call3_c_3 : Ref sig .tc := ⟨.hbm, 185, rfl⟩
abbrev main_call3_v12 : Ref sig .tc := ⟨.hbm, 186, rfl⟩
abbrev main_call3_v13 : Ref sig .tc := ⟨.hbm, 187, rfl⟩
abbrev main_call3_cst : Ref sig .tc := ⟨.hbm, 188, rfl⟩
abbrev main_call3_v14 : Ref sig .tc := ⟨.hbm, 189, rfl⟩
abbrev main_v72 : Ref sig .tc := ⟨.hbm, 190, rfl⟩
abbrev main_cst_17 : Ref sig .tc := ⟨.hbm, 191, rfl⟩
abbrev main_v73 : Ref sig .tc := ⟨.hbm, 192, rfl⟩
abbrev main_v74 : Ref sig .tc := ⟨.hbm, 193, rfl⟩
abbrev main_call4_c : Ref sig .tc := ⟨.hbm, 194, rfl⟩
abbrev main_call4_v0 : Ref sig .tc := ⟨.hbm, 195, rfl⟩
abbrev main_call4_v1 : Ref sig .tc := ⟨.hbm, 196, rfl⟩
abbrev main_call4_c_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_call4_v5 : Ref sig .tc := ⟨.hbm, 201, rfl⟩
abbrev main_call4_c_1 : Ref sig .tc := ⟨.hbm, 202, rfl⟩
abbrev main_call4_c_2 : Ref sig .tc := ⟨.hbm, 203, rfl⟩
abbrev main_call4_v6 : Ref sig .tc := ⟨.hbm, 204, rfl⟩
abbrev main_call4_v7 : Ref sig .tc := ⟨.hbm, 205, rfl⟩
abbrev main_call4_v8 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_c_3 : Ref sig .tc := ⟨.hbm, 210, rfl⟩
abbrev main_call4_v12 : Ref sig .tc := ⟨.hbm, 211, rfl⟩
abbrev main_call4_v13 : Ref sig .tc := ⟨.hbm, 212, rfl⟩
abbrev main_call4_cst : Ref sig .tc := ⟨.hbm, 213, rfl⟩
abbrev main_call4_v14 : Ref sig .tc := ⟨.hbm, 214, rfl⟩
abbrev main_v75 : Ref sig .tc := ⟨.hbm, 215, rfl⟩
abbrev main_v76 : Ref sig .tc := ⟨.hbm, 216, rfl⟩
abbrev main_v77 : Ref sig .tc := ⟨.hbm, 217, rfl⟩
abbrev main_v78 : Ref sig .tc := ⟨.hbm, 218, rfl⟩
abbrev main_v79 : Ref sig .tc := ⟨.hbm, 219, rfl⟩
abbrev main_v80 : Ref sig .tc := ⟨.hbm, 220, rfl⟩
abbrev main_v81 : Ref sig .tc := ⟨.hbm, 221, rfl⟩
abbrev main_v82 : Ref sig .tc := ⟨.hbm, 222, rfl⟩
abbrev main_v83 : Ref sig .tc := ⟨.hbm, 223, rfl⟩
abbrev main_call5_v0 : Ref sig .tc := ⟨.hbm, 224, rfl⟩
abbrev main_call5_v1 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev main_v90 : Ref sig .tc := ⟨.hbm, 232, rfl⟩
abbrev main_v91 : Ref sig .tc := ⟨.hbm, 233, rfl⟩
abbrev main_v92 : Ref sig .tc := ⟨.hbm, 234, rfl⟩
abbrev main_v93 : Ref sig .tc := ⟨.hbm, 235, rfl⟩
abbrev main_v94 : Ref sig .tc := ⟨.hbm, 236, rfl⟩
abbrev main_v95 : Ref sig .tc := ⟨.hbm, 237, rfl⟩
abbrev main_call6_v0 : Ref sig .tc := ⟨.hbm, 238, rfl⟩
abbrev main_call6_v1 : Ref sig .tc := ⟨.hbm, 239, rfl⟩
abbrev main_v96 : Ref sig .tc := ⟨.hbm, 240, rfl⟩
abbrev main_v97 : Ref sig .tc := ⟨.hbm, 241, rfl⟩
abbrev main_v98 : Ref sig .tc := ⟨.hbm, 242, rfl⟩
abbrev main_v99 : Ref sig .tc := ⟨.hbm, 243, rfl⟩
abbrev main_v100 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_v112 : Ref sig .tc := ⟨.hbm, 256, rfl⟩
abbrev main_v113 : Ref sig .tc := ⟨.hbm, 257, rfl⟩
abbrev main_v114_0 : Ref sig .tc := ⟨.hbm, 258, rfl⟩
abbrev main_v114_1 : Ref sig .tc := ⟨.hbm, 259, rfl⟩
abbrev main_v114_2 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_v119 : Ref sig .tc := ⟨.hbm, 265, rfl⟩
abbrev main_v120 : Ref sig .tc := ⟨.hbm, 266, rfl⟩
abbrev main_v121 : Ref sig .tc := ⟨.hbm, 267, rfl⟩
abbrev main_v122 : Ref sig .tc := ⟨.hbm, 268, rfl⟩
abbrev main_v123 : Ref sig .tc := ⟨.hbm, 269, rfl⟩
abbrev main_v124 : Ref sig .tc := ⟨.hbm, 270, rfl⟩
abbrev main_v125 : Ref sig .tc := ⟨.hbm, 271, rfl⟩
abbrev main_v126 : Ref sig .tc := ⟨.hbm, 272, rfl⟩
abbrev main_v127 : Ref sig .tc := ⟨.hbm, 273, rfl⟩
abbrev main_v128 : Ref sig .tc := ⟨.hbm, 274, rfl⟩
abbrev main_cst_18 : Ref sig .tc := ⟨.hbm, 275, rfl⟩
abbrev main_v129 : Ref sig .tc := ⟨.hbm, 276, rfl⟩
abbrev main_cst_19 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![v1.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S96x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S96x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel4Ideal.lean ====
variable {F : FTy → Type} [FloatOps F] [Named F]
def κ : String → Option EReal := fun
  | "inv_qk" => some ((96⁻¹ : ℝ) : EReal)
  | _ => none
-- ==== Reference4Ideal.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x800 : Shape := ⟨2, ![1024, 800]⟩
abbrev S512 : Shape := ⟨1, ![512]⟩
abbrev S256 : Shape := ⟨1, ![256]⟩
abbrev S512x1536 : Shape := ⟨2, ![512, 1536]⟩
abbrev S256x2048 : Shape := ⟨2, ![256, 2048]⟩
abbrev S96 : Shape := ⟨1, ![96]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x800 : Shape := ⟨3, ![8, 4096, 800]⟩
abbrev S1x1024 : Shape := ⟨2, ![1, 1024]⟩
abbrev S8x256 : Shape := ⟨2, ![8, 256]⟩
abbrev S8x256x1 : Shape := ⟨3, ![8, 256, 1]⟩
abbrev S8x256x800 : Shape := ⟨3, ![8, 256, 800]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x2x8 : Shape := ⟨3, ![4096, 2, 8]⟩
abbrev S8x4096x512 : Shape := ⟨3, ![8, 4096, 512]⟩
abbrev S1x1x512 : Shape := ⟨3, ![1, 1, 512]⟩
abbrev S8x4096x1536 : Shape := ⟨3, ![8, 4096, 1536]⟩
abbrev S8x4096x16x96 : Shape := ⟨4, ![8, 4096, 16, 96]⟩
abbrev S8x4096x16 : Shape := ⟨3, ![8, 4096, 16]⟩
abbrev S8x4096x16x1 : Shape := ⟨4, ![8, 4096, 16, 1]⟩
abbrev S1x1x1x96 : Shape := ⟨4, ![1, 1, 1, 96]⟩
abbrev S8x4096x16x64 : Shape := ⟨4, ![8, 4096, 16, 64]⟩
abbrev S8x4096x16x32 : Shape := ⟨4, ![8, 4096, 16, 32]⟩
abbrev S8x4096x16x2x2x8 : Shape := ⟨6, ![8, 4096, 16, 2, 2, 8]⟩
abbrev S8x4096x16x2x1x8 : Shape := ⟨6, ![8, 4096, 16, 2, 1, 8]⟩
abbrev S8x4096x16x2x8 : Shape := ⟨5, ![8, 4096, 16, 2, 8]⟩
abbrev S1x4096x1x2x8 : Shape := ⟨5, ![1, 4096, 1, 2, 8]⟩
abbrev S8x4096x256 : Shape := ⟨3, ![8, 4096, 256]⟩
abbrev S8x4096x32 : Shape := ⟨3, ![8, 4096, 32]⟩
abbrev S1x1x256 : Shape := ⟨3, ![1, 1, 256]⟩
abbrev S8x4096x2048 : Shape := ⟨3, ![8, 4096, 2048]⟩
abbrev S8x4096x16x128 : Shape := ⟨4, ![8, 4096, 16, 128]⟩
abbrev S8x4096x1x32 : Shape := ⟨4, ![8, 4096, 1, 32]⟩
abbrev S8x256x256 : Shape := ⟨3, ![8, 256, 256]⟩
abbrev S8x256x32 : Shape := ⟨3, ![8, 256, 32]⟩
abbrev S8x256x2048 : Shape := ⟨3, ![8, 256, 2048]⟩
abbrev S8x256x16x128 : Shape := ⟨4, ![8, 256, 16, 128]⟩
abbrev S8x256x16x64 : Shape := ⟨4, ![8, 256, 16, 64]⟩
abbrev S8x256x1x32 : Shape := ⟨4, ![8, 256, 1, 32]⟩
abbrev S8x256x16x32 : Shape := ⟨4, ![8, 256, 16, 32]⟩
abbrev S8x256x16x96 : Shape := ⟨4, ![8, 256, 16, 96]⟩
abbrev S8x256x16 : Shape := ⟨3, ![8, 256, 16]⟩
abbrev S8x256x16x1 : Shape := ⟨4, ![8, 256, 16, 1]⟩
abbrev S8x4352x16x96 : Shape := ⟨4, ![8, 4352, 16, 96]⟩
abbrev S8x4352x16x64 : Shape := ⟨4, ![8, 4352, 16, 64]⟩

abbrev nBuf : Space → Nat
  | .hbm => 271
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S1x6144, .f32⟩
  | 4 => ⟨S1024, .f32⟩
  | 5 => ⟨S1024x800, .f32⟩
  | 6 => ⟨S512, .f32⟩
  | 7 => ⟨S256, .f32⟩
  | 8 => ⟨S512x1536, .f32⟩
  | 9 => ⟨S256x2048, .f32⟩
  | 10 => ⟨S96, .f32⟩
  | 11 => ⟨S96, .f32⟩
  | 12 => ⟨S8x1024, .f32⟩
  | 13 => ⟨S8x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x1x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x1x1024, .f32⟩
  | 37 => ⟨S8x4096x1024, .f32⟩
  | 38 => ⟨S8x4096x1024, .f32⟩
  | 39 => ⟨S8x4096x800, .f32⟩
  | 40 => ⟨S1x1024, .f32⟩
  | 41 => ⟨S1x1024, .f32⟩
  | 42 => ⟨S8x256x1024, .f32⟩
  | 43 => ⟨S_, .f32⟩
  | 44 => ⟨S8x256, .f32⟩
  | 45 => ⟨S8x256x1, .f32⟩
  | 46 => ⟨S_, .f32⟩
  | 47 => ⟨S8x256x1, .f32⟩
  | 48 => ⟨S8x256x1, .f32⟩
  | 49 => ⟨S_, .f32⟩
  | 50 => ⟨S8x256x1, .f32⟩
  | 51 => ⟨S8x256x1, .f32⟩
  | 52 => ⟨S8x256x1, .f32⟩
  | 53 => ⟨S8x256x1024, .f32⟩
  | 54 => ⟨S8x256x1024, .f32⟩
  | 55 => ⟨S1x1x1024, .f32⟩
  | 56 => ⟨S8x256x1024, .f32⟩
  | 57 => ⟨S8x256x1024, .f32⟩
  | 58 => ⟨S1x1x1024, .f32⟩
  | 59 => ⟨S_, .f32⟩
  | 60 => ⟨S1x1x1024, .f32⟩
  | 61 => ⟨S1x1x1024, .f32⟩
  | 62 => ⟨S8x256x1024, .f32⟩
  | 63 => ⟨S8x256x1024, .f32⟩
  | 64 => ⟨S1x1x1024, .f32⟩
  | 65 => ⟨S8x256x1024, .f32⟩
  | 66 => ⟨S8x256x1024, .f32⟩
  | 67 => ⟨S8x256x800, .f32⟩
  | 68 => ⟨S64, .f32⟩
  | 69 => ⟨S64x64, .f32⟩
  | 70 => ⟨S4096, .f32⟩
  | 71 => ⟨S64, .f32⟩
  | 72 => ⟨S1x64, .f32⟩
  | 73 => ⟨S64x64, .f32⟩
  | 74 => ⟨S4096, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S4096x1, .f32⟩
  | 90 => ⟨S1x8, .f32⟩
  | 91 => ⟨S4096x8, .f32⟩
  | 92 => ⟨S4096x8, .f32⟩
  | 93 => ⟨S4096x8, .f32⟩
  | 94 => ⟨S4096x1, .f32⟩
  | 95 => ⟨S1x8, .f32⟩
  | 96 => ⟨S4096x8, .f32⟩
  | 97 => ⟨S4096x8, .f32⟩
  | 98 => ⟨S4096x8, .f32⟩
  | 99 => ⟨S4096x1x8, .f32⟩
  | 100 => ⟨S4096x1x8, .f32⟩
  | 101 => ⟨S4096x2x8, .f32⟩
  | 102 => ⟨S4096x2x8, .f32⟩
  | 103 => ⟨S4096x2x8, .f32⟩
  | 104 => ⟨S8x4096x512, .f32⟩
  | 105 => ⟨S8x4096x512, .f32⟩
  | 106 => ⟨S_, .f32⟩
  | 107 => ⟨S8x4096, .f32⟩
  | 108 => ⟨S8x4096x1, .f32⟩
  | 109 => ⟨S_, .f32⟩
  | 110 => ⟨S8x4096x1, .f32⟩
  | 111 => ⟨S8x4096x1, .f32⟩
  | 112 => ⟨S_, .f32⟩
  | 113 => ⟨S8x4096x1, .f32⟩
  | 114 => ⟨S8x4096x1, .f32⟩
  | 115 => ⟨S8x4096x1, .f32⟩
  | 116 => ⟨S8x4096x512, .f32⟩
  | 117 => ⟨S8x4096x512, .f32⟩
  | 118 => ⟨S1x1x512, .f32⟩
  | 119 => ⟨S8x4096x512, .f32⟩
  | 120 => ⟨S8x4096x512, .f32⟩
  | 121 => ⟨S8x4096x1536, .f32⟩
  | 122 => ⟨S8x4096x16x96, .f32⟩
  | 123 => ⟨S8x4096x16x96, .f32⟩
  | 124 => ⟨S_, .f32⟩
  | 125 => ⟨S8x4096x16, .f32⟩
  | 126 => ⟨S8x4096x16x1, .f32⟩
  | 127 => ⟨S_, .f32⟩
  | _ => ⟨S8x4096x1024, .f32⟩

abbrev hbmTy0_1 (i : Nat) : BufTy := match i % 128 with
  | 0 => ⟨S8x4096x16x1, .f32⟩
  | 1 => ⟨S8x4096x16x1, .f32⟩
  | 2 => ⟨S_, .f32⟩
  | 3 => ⟨S8x4096x16x1, .f32⟩
  | 4 => ⟨S8x4096x16x1, .f32⟩
  | 5 => ⟨S8x4096x16x1, .f32⟩
  | 6 => ⟨S8x4096x16x96, .f32⟩
  | 7 => ⟨S8x4096x16x96, .f32⟩
  | 8 => ⟨S1x1x1x96, .f32⟩
  | 9 => ⟨S8x4096x16x96, .f32⟩
  | 10 => ⟨S8x4096x16x96, .f32⟩
  | 11 => ⟨S8x4096x16x64, .f32⟩
  | 12 => ⟨S8x4096x16x32, .f32⟩
  | 13 => ⟨S8x4096x16x2x2x8, .f32⟩
  | 14 => ⟨S8x4096x16x2x1x8, .f32⟩
  | 15 => ⟨S8x4096x16x2x8, .f32⟩
  | 16 => ⟨S8x4096x16x2x1x8, .f32⟩
  | 17 => ⟨S8x4096x16x2x8, .f32⟩
  | 18 => ⟨S1x4096x1x2x8, .f32⟩
  | 19 => ⟨S1x4096x1x2x8, .f32⟩
  | 20 => ⟨S8x4096x16x2x8, .f32⟩
  | 21 => ⟨S8x4096x16x2x8, .f32⟩
  | 22 => ⟨S8x4096x16x2x8, .f32⟩
  | 23 => ⟨S8x4096x16x2x8, .f32⟩
  | 24 => ⟨S8x4096x16x2x8, .f32⟩
  | 25 => ⟨S8x4096x16x2x8, .f32⟩
  | 26 => ⟨S8x4096x16x2x8, .f32⟩
  | 27 => ⟨S8x4096x16x2x8, .f32⟩
  | 28 => ⟨S8x4096x16x2x8, .f32⟩
  | 29 => ⟨S8x4096x16x2x8, .f32⟩
  | 30 => ⟨S8x4096x16x2x1x8, .f32⟩
  | 31 => ⟨S8x4096x16x2x1x8, .f32⟩
  | 32 => ⟨S8x4096x16x2x2x8, .f32⟩
  | 33 => ⟨S8x4096x16x32, .f32⟩
  | 34 => ⟨S8x4096x16x96, .f32⟩
  | 35 => ⟨S8x4096x256, .f32⟩
  | 36 => ⟨S8x4096x32, .f32⟩
  | 37 => ⟨S8x4096x256, .f32⟩
  | 38 => ⟨S_, .f32⟩
  | 39 => ⟨S8x4096, .f32⟩
  | 40 => ⟨S8x4096x1, .f32⟩
  | 41 => ⟨S_, .f32⟩
  | 42 => ⟨S8x4096x1, .f32⟩
  | 43 => ⟨S8x4096x1, .f32⟩
  | 44 => ⟨S_, .f32⟩
  | 45 => ⟨S8x4096x1, .f32⟩
  | 46 => ⟨S8x4096x1, .f32⟩
  | 47 => ⟨S8x4096x1, .f32⟩
  | 48 => ⟨S8x4096x256, .f32⟩
  | 49 => ⟨S8x4096x256, .f32⟩
  | 50 => ⟨S1x1x256, .f32⟩
  | 51 => ⟨S8x4096x256, .f32⟩
  | 52 => ⟨S8x4096x256, .f32⟩
  | 53 => ⟨S8x4096x2048, .f32⟩
  | 54 => ⟨S8x4096x16x128, .f32⟩
  | 55 => ⟨S8x4096x16x64, .f32⟩
  | 56 => ⟨S8x4096x16x64, .f32⟩
  | 57 => ⟨S8x4096x1x32, .f32⟩
  | 58 => ⟨S8x4096x16x32, .f32⟩
  | 59 => ⟨S8x4096x16x96, .f32⟩
  | 60 => ⟨S8x4096x16x96, .f32⟩
  | 61 => ⟨S_, .f32⟩
  | 62 => ⟨S8x4096x16, .f32⟩
  | 63 => ⟨S8x4096x16x1, .f32⟩
  | 64 => ⟨S_, .f32⟩
  | 65 => ⟨S8x4096x16x1, .f32⟩
  | 66 => ⟨S8x4096x16x1, .f32⟩
  | 67 => ⟨S_, .f32⟩
  | 68 => ⟨S8x4096x16x1, .f32⟩
  | 69 => ⟨S8x4096x16x1, .f32⟩
  | 70 => ⟨S8x4096x16x1, .f32⟩
  | 71 => ⟨S8x4096x16x96, .f32⟩
  | 72 => ⟨S8x4096x16x96, .f32⟩
  | 73 => ⟨S1x1x1x96, .f32⟩
  | 74 => ⟨S8x4096x16x96, .f32⟩
  | 75 => ⟨S8x4096x16x96, .f32⟩
  | 76 => ⟨S8x256x256, .f32⟩
  | 77 => ⟨S8x256x32, .f32⟩
  | 78 => ⟨S8x256x256, .f32⟩
  | 79 => ⟨S_, .f32⟩
  | 80 => ⟨S8x256, .f32⟩
  | 81 => ⟨S8x256x1, .f32⟩
  | 82 => ⟨S_, .f32⟩
  | 83 => ⟨S8x256x1, .f32⟩
  | 84 => ⟨S8x256x1, .f32⟩
  | 85 => ⟨S_, .f32⟩
  | 86 => ⟨S8x256x1, .f32⟩
  | 87 => ⟨S8x256x1, .f32⟩
  | 88 => ⟨S8x256x1, .f32⟩
  | 89 => ⟨S8x256x256, .f32⟩
  | 90 => ⟨S8x256x256, .f32⟩
  | 91 => ⟨S1x1x256, .f32⟩
  | 92 => ⟨S8x256x256, .f32⟩
  | 93 => ⟨S8x256x256, .f32⟩
  | 94 => ⟨S8x256x2048, .f32⟩
  | 95 => ⟨S8x256x16x128, .f32⟩
  | 96 => ⟨S8x256x16x64, .f32⟩
  | 97 => ⟨S8x256x16x64, .f32⟩
  | 98 => ⟨S8x256x1x32, .f32⟩
  | 99 => ⟨S8x256x16x32, .f32⟩
  | 100 => ⟨S8x256x16x96, .f32⟩
  | 101 => ⟨S8x256x16x96, .f32⟩
  | 102 => ⟨S_, .f32⟩
  | 103 => ⟨S8x256x16, .f32⟩
  | 104 => ⟨S8x256x16x1, .f32⟩
  | 105 => ⟨S_, .f32⟩
  | 106 => ⟨S8x256x16x1, .f32⟩
  | 107 => ⟨S8x256x16x1, .f32⟩
  | 108 => ⟨S_, .f32⟩
  | 109 => ⟨S8x256x16x1, .f32⟩
  | 110 => ⟨S8x256x16x1, .f32⟩
  | 111 => ⟨S8x256x16x1, .f32⟩
  | 112 => ⟨S8x256x16x96, .f32⟩
  | 113 => ⟨S8x256x16x96, .f32⟩
  | 114 => ⟨S1x1x1x96, .f32⟩
  | 115 => ⟨S8x256x16x96, .f32⟩
  | 116 => ⟨S8x256x16x96, .f32⟩
  | 117 => ⟨S8x4096x16x64, .f32⟩
  | 118 => ⟨S8x4096x16x32, .f32⟩
  | 119 => ⟨S8x4096x16x2x2x8, .f32⟩
  | 120 => ⟨S8x4096x16x2x1x8, .f32⟩
  | 121 => ⟨S8x4096x16x2x8, .f32⟩
  | 122 => ⟨S8x4096x16x2x1x8, .f32⟩
  | 123 => ⟨S8x4096x16x2x8, .f32⟩
  | 124 => ⟨S1x4096x1x2x8, .f32⟩
  | 125 => ⟨S1x4096x1x2x8, .f32⟩
  | 126 => ⟨S8x4096x16x2x8, .f32⟩
  | 127 => ⟨S8x4096x16x2x8, .f32⟩
  | _ => ⟨S8x4096x1024, .f32⟩

abbrev hbmTy0_2 (i : Nat) : BufTy := match i % 128 with
  | 0 => ⟨S8x4096x16x2x8, .f32⟩
  | 1 => ⟨S8x4096x16x2x8, .f32⟩
  | 2 => ⟨S8x4096x16x2x8, .f32⟩
  | 3 => ⟨S8x4096x16x2x8, .f32⟩
  | 4 => ⟨S8x4096x16x2x8, .f32⟩
  | 5 => ⟨S8x4096x16x2x8, .f32⟩
  | 6 => ⟨S8x4096x16x2x8, .f32⟩
  | 7 => ⟨S8x4096x16x2x8, .f32⟩
  | 8 => ⟨S8x4096x16x2x1x8, .f32⟩
  | 9 => ⟨S8x4096x16x2x1x8, .f32⟩
  | 10 => ⟨S8x4096x16x2x2x8, .f32⟩
  | 11 => ⟨S8x4096x16x32, .f32⟩
  | 12 => ⟨S8x4096x16x96, .f32⟩
  | 13 => ⟨S8x4352x16x96, .f32⟩
  | 14 => ⟨S8x4352x16x64, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_v83 : Ref sig .tc := ⟨.hbm, 108, rfl⟩
abbrev main_cst_12 : Ref sig .tc := ⟨.hbm, 109, rfl⟩
abbrev main_v84 : Ref sig .tc := ⟨.hbm, 110, rfl⟩
abbrev main_v85 : Ref sig .tc := ⟨.hbm, 111, rfl⟩
abbrev main_cst_13 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_14 : Ref sig .tc := ⟨.hbm, 124, rfl⟩
abbrev main_v97 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_cst_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_17 : Ref sig .tc := ⟨.hbm, 166, rfl⟩
abbrev main_v136 : Ref sig .tc := ⟨.hbm, 167, rfl⟩
abbrev main_v137 : Ref sig .tc := ⟨.hbm, 168, rfl⟩
abbrev main_cst_18 : Ref sig .tc := ⟨.hbm, 169, rfl⟩
abbrev main_v138 : Ref sig .tc := ⟨.hbm, 170, rfl⟩
abbrev main_v139 : Ref sig .tc := ⟨.hbm, 171, rfl⟩
abbrev main_cst_19 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_20 : Ref sig .tc := ⟨.hbm, 189, rfl⟩
abbrev main_v156 : Ref sig .tc := ⟨.hbm, 190, rfl⟩
abbrev main_v157 : Ref sig .tc := ⟨.hbm, 191, rfl⟩
abbrev main_cst_21 : Ref sig .tc := ⟨.hbm, 192, rfl⟩
abbrev main_v158 : Ref sig .tc := ⟨.hbm, 193, rfl⟩
abbrev main_v159 : Ref sig .tc := ⟨.hbm, 194, rfl⟩
abbrev main_cst_22 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_23 : Ref sig .tc := ⟨.hbm, 207, rfl⟩
abbrev main_v171 : Ref sig .tc := ⟨.hbm, 208, rfl⟩
abbrev main_v172 : Ref sig .tc := ⟨.hbm, 209, rfl⟩
abbrev main_cst_24 : Ref sig .tc := ⟨.hbm, 210, rfl⟩
abbrev main_v173 : Ref sig .tc := ⟨.hbm, 211, rfl⟩
abbrev main_v174 : Ref sig .tc := ⟨.hbm, 212, rfl⟩
abbrev main_cst_25 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_cst_26 : Ref sig .tc := ⟨.hbm, 230, rfl⟩
abbrev main_v191 : Ref sig .tc := ⟨.hbm, 231, rfl⟩
abbrev main_v192 : Ref sig .tc := ⟨.hbm, 232, rfl⟩
abbrev main_cst_27 : Ref sig .tc := ⟨.hbm, 233, rfl⟩
abbrev main_v193 : Ref sig .tc := ⟨.hbm, 234, rfl⟩
abbrev main_v194 : Ref sig .tc := ⟨.hbm, 235, rfl⟩
abbrev main_cst_28 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩

abbrev nD : Nat := 1
abbrev τ : Topo := Topo.v7x

variable {F : FTy → Type} [FloatOps F]
-- ==== Proof.Attn.Sub.lean ====
module

public import proofs.«01_k».proof.Proof.Gen.KernelIdeal.Frame

@[expose] public section

noncomputable section

namespace Cert.KernelIdeal.Attn

open Cert.KernelIdeal Cert.KernelIdeal.Gen Idealize.ShloMosaic Idealize.ShloMosaic.TcCoe

variable {F : FTy → Type} [FloatOps F]

/-! The attention body's work on 256 queries of two heads, written once.  The body repeats it for its eight groups of
queries; `out_eq` says that each of its eight stores is this text at the group's own loads. -/

/-- The two heads' query columns on the diagonal of one right factor: head 0's slots meet columns 0 to 255, head 1's
columns 256 to 511, and the other two corners are zero. -/
def diag (q0 q1 : Vec F S1x128x256 .bf16) : FVec F S256x512 .bf16 :=
  concatenate S256x512 0
    [⟨S128x512, concatenate S128x512 1
        [⟨S128x256, shapeCast S128x256 q0 shapeCasts_S1x128x256_S128x256⟩,
         ⟨S128x256, broadcast S128x256 (Scalar.ofBits .bf16 0x0000#16)⟩] concatenates_S128x256_S128x256_S128x512_d1⟩,
     ⟨S128x512, concatenate S128x512 1
        [⟨S128x256, broadcast S128x256 (Scalar.ofBits .bf16 0x0000#16)⟩,
         ⟨S128x256, shapeCast S128x256 q1 shapeCasts_S1x128x256_S128x256⟩] concatenates_S128x256_S128x256_S128x512_d1⟩]
    concatenates_S128x512_S128x512_S256x512_d0

/-- The weights of 1024 keys: two to the power of the scores. -/
def wide (k : Vec F S1x1024x256 .bf16) (q : FVec F S256x512 .bf16) : FVec F S1024x512 .f32 :=
  exp2 (matmul dot_S1024x256_S256x512_S1024x512_1_0_0_1_n_n none
    (shapeCast S1024x256 k shapeCasts_S1x1024x256_S1024x256) q (constant S1024x512 .f32 0x00000000#32))

/-- The weights of the last 256 keys. -/
def last (k : Vec F S1x256x256 .bf16) (q : FVec F S256x512 .bf16) : FVec F S256x512 .f32 :=
  exp2 (matmul dot_S256x256_S256x512_S256x512_1_0_0_1_n_n none
    (shapeCast S256x256 k shapeCasts_S1x256x256_S256x256) q (constant S256x512 .f32 0x00000000#32))

/-- The sum of the weights over 1024 keys, one per query and head. -/
def wideSum (p : FVec F S1024x512 .f32) : FVec F S1x512 .f32 :=
  shapeCast S1x512 (multiReduction .add [0] S512 p 0x00000000#32 reduces_S1024x512_S512 (.inl rfl) rfl) shapeCasts_S512_S1x512

/-- The sum of the weights over the last 256 keys. -/
def lastSum (p : FVec F S256x512 .f32) : FVec F S1x512 .f32 :=
  shapeCast S1x512 (multiReduction .add [0] S512 p 0x00000000#32 reduces_S256x512_S512 (.inl rfl) rfl) shapeCasts_S512_S1x512

/-- Head 0's values of 1024 keys, weighted and summed. -/
def wideAcc0 (p : FVec F S1024x512 .f32) (v : Vec F S1x1x64x1024 .bf16) : FVec F S64x256 .f32 :=
  matmul dot_S64x1024_S1024x256_S64x256_1_0_0_1_n_n none (shapeCast S64x1024 v shapeCasts_S1x1x64x1024_S64x1024)
    (extractStridedSlice S1024x256 ![0, 0] (truncf .bf16 p bitsLt_bf16_f32) slices_S1024x512_o0_0_S1024x256)
    (constant S64x256 .f32 0x00000000#32)

/-- Head 1's values of 1024 keys, weighted and summed. -/
def wideAcc1 (p : FVec F S1024x512 .f32) (v : Vec F S1x1x64x1024 .bf16) : FVec F S64x256 .f32 :=
  matmul dot_S64x1024_S1024x256_S64x256_1_0_0_1_n_n none (shapeCast S64x1024 v shapeCasts_S1x1x64x1024_S64x1024)
    (extractStridedSlice S1024x256 ![0, 256] (truncf .bf16 p bitsLt_bf16_f32) slices_S1024x512_o0_256_S1024x256)
    (constant S64x256 .f32 0x00000000#32)

/-- Head 0's values of the last 256 keys, weighted and summed. -/
def lastAcc0 (p : FVec F S256x512 .f32) (v : Vec F S1x1x64x256 .bf16) : FVec F S64x256 .f32 :=
  matmul dot_S64x256_S256x256_S64x256_1_0_0_1_n_n none (shapeCast S64x256 v shapeCasts_S1x1x64x256_S64x256)
    (extractStridedSlice S256x256 ![0, 0] (truncf .bf16 p bitsLt_bf16_f32) slices_S256x512_o0_0_S256x256)
    (constant S64x256 .f32 0x00000000#32)

/-- Head 1's values of the last 256 keys, weighted and summed. -/
def lastAcc1 (p : FVec F S256x512 .f32) (v : Vec F S1x1x64x256 .bf16) : FVec F S64x256 .f32 :=
  matmul dot_S64x256_S256x256_S64x256_1_0_0_1_n_n none (shapeCast S64x256 v shapeCasts_S1x1x64x256_S64x256)
    (extractStridedSlice S256x256 ![0, 256] (truncf .bf16 p bitsLt_bf16_f32) slices_S256x512_o0_256_S256x256)
    (constant S64x256 .f32 0x00000000#32)

/-- The normalisers of all keys, chunk after chunk. -/
def total (q : FVec F S256x512 .bf16) (x1 : Vec F S1x4352x256 .bf16) : FVec F S1x512 .f32 :=
  addf (addf (addf (addf (addf (broadcast S1x512 (Scalar.ofBits .f32 0x00000000#32))
    (wideSum (wide (View.ld x1 r0_2) q))) (wideSum (wide (View.ld x1 r0_3) q))) (wideSum (wide (View.ld x1 r0_6) q)))
    (wideSum (wide (View.ld x1 r0_9) q))) (lastSum (last (View.ld x1 r0_12) q))

/-- Head 0's weighted values of all keys, chunk after chunk. -/
def acc0 (q : FVec F S256x512 .bf16) (x1 : Vec F S1x4352x256 .bf16) (x2 : Vec F S1x2x64x4352 .bf16) : FVec F S64x256 .f32 :=
  addf (addf (addf (addf (addf (broadcast S64x256 (Scalar.ofBits .f32 0x00000000#32))
    (wideAcc0 (wide (View.ld x1 r0_2) q) (View.ld x2 r0_4))) (wideAcc0 (wide (View.ld x1 r0_3) q) (View.ld x2 r0_7)))
    (wideAcc0 (wide (View.ld x1 r0_6) q) (View.ld x2 r0_10))) (wideAcc0 (wide (View.ld x1 r0_9) q) (View.ld x2 r0_13)))
    (lastAcc0 (last (View.ld x1 r0_12) q) (View.ld x2 r0_15))

/-- Head 1's weighted values of all keys, chunk after chunk. -/
def acc1 (q : FVec F S256x512 .bf16) (x1 : Vec F S1x4352x256 .bf16) (x2 : Vec F S1x2x64x4352 .bf16) : FVec F S64x256 .f32 :=
  addf (addf (addf (addf (addf (broadcast S64x256 (Scalar.ofBits .f32 0x00000000#32))
    (wideAcc1 (wide (View.ld x1 r0_2) q) (View.ld x2 r0_5))) (wideAcc1 (wide (View.ld x1 r0_3) q) (View.ld x2 r0_8)))
    (wideAcc1 (wide (View.ld x1 r0_6) q) (View.ld x2 r0_11))) (wideAcc1 (wide (View.ld x1 r0_9) q) (View.ld x2 r0_14)))
    (lastAcc1 (last (View.ld x1 r0_12) q) (View.ld x2 r0_16))

/-- The weighted values times the reciprocals of the normalisers, laid out a query to a row. -/
def finish (l : FVec F S1x512 .f32) (a0 a1 : FVec F S64x256 .f32) : FVec F S1x256x128 .bf16 :=
  shapeCast S1x256x128 (truncf .bf16 (transpose S256x128 [1, 0]
    (concatenate S128x256 0
      [⟨S64x256, mulf a0 (broadcastTo S64x256 (extractStridedSlice S1x256 ![0, 0]
          (divf (broadcast S1x512 (Scalar.ofBits .f32 0x3F800000#32)) l) slices_S1x512_o0_0_S1x256) broadcasts_S1x256_S64x256)⟩,
       ⟨S64x256, mulf a1 (broadcastTo S64x256 (extractStridedSlice S1x256 ![0, 256]
          (divf (broadcast S1x512 (Scalar.ofBits .f32 0x3F800000#32)) l) slices_S1x512_o0_256_S1x256) broadcasts_S1x256_S64x256)⟩]
      concatenates_S64x256_S64x256_S128x256_d0) transposes_S128x256_p1_0_S256x128) bitsLt_bf16_f32) shapeCasts_S256x128_S1x256x128

/-- The attention of 256 queries of two heads. -/
def group (q0 q1 : Vec F S1x128x256 .bf16) (x1 : Vec F S1x4352x256 .bf16) (x2 : Vec F S1x2x64x4352 .bf16) :
    FVec F S1x256x128 .bf16 :=
  finish (total (diag q0 q1) x1) (acc0 (diag q0 q1) x1 x2) (acc1 (diag q0 q1) x1 x2)

/-- The body's stores: eight groups of 256 queries, each the one text at its own loads. -/
theorem out_eq (x0 : Vec F S1x256x2048 .bf16) (x1 : Vec F S1x4352x256 .bf16) (x2 : Vec F S1x2x64x4352 .bf16) :
    out0_3 x0 x1 x2 = View.canon
      [⟨r0_38, group (View.ld x0 r0_36) (View.ld x0 r0_37) x1 x2⟩,
       ⟨r0_35, group (View.ld x0 r0_33) (View.ld x0 r0_34) x1 x2⟩,
       ⟨r0_32, group (View.ld x0 r0_30) (View.ld x0 r0_31) x1 x2⟩,
       ⟨r0_29, group (View.ld x0 r0_27) (View.ld x0 r0_28) x1 x2⟩,
       ⟨r0_26, group (View.ld x0 r0_24) (View.ld x0 r0_25) x1 x2⟩,
       ⟨r0_23, group (View.ld x0 r0_21) (View.ld x0 r0_22) x1 x2⟩,
       ⟨r0_20, group (View.ld x0 r0_18) (View.ld x0 r0_19) x1 x2⟩,
       ⟨r0_17, group (View.ld x0 r0_0) (View.ld x0 r0_1) x1 x2⟩] := by
  rfl

end Cert.KernelIdeal.Attn

end
-- ==== Proof.Attn.Values.lean ====
module

public import proofs.«01_k».proof.Proof.Attn.Sub
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

/-- A query's weight for key `j`, over the 128 slots that start at slot `o`. -/
def weight (o : ℕ) (ho : o ≤ 128) (q : Vec Ideal S1x128x256 .bf16) (x1 : Vec Ideal S1x4352x256 .bf16) (r : Fin 256)
    (j : Fin 4352) : EReal :=
  Ideal.exp2 (∑ l : Fin 128, x1 (ix3 0 j ⟨o + l.val, by omega⟩) * q (ix3 0 l r))

/-- In the first 256 columns the product with the diagonal factor is head 0's score alone. -/
theorem wide_low (k : Vec Ideal S1x1024x256 .bf16) (q0 q1 : Vec Ideal S1x128x256 .bf16) (j : Fin 1024) (n : Fin 512)
    (hn : n.val < 256) :
    wide k (diag q0 q1) (ix2 j n)
      = Ideal.exp2 (∑ l : Fin 128, k (ix3 0 j ⟨0 + l.val, by omega⟩) * q0 (ix3 0 l ⟨n.val, hn⟩)) := by
  pointwise [wide, diag]
  simp [hn]
  rfl

/-- In the other 256 columns it is head 1's score alone. -/
theorem wide_high (k : Vec Ideal S1x1024x256 .bf16) (q0 q1 : Vec Ideal S1x128x256 .bf16) (j : Fin 1024) (n : Fin 512)
    (hn : ¬ n.val < 256) :
    wide k (diag q0 q1) (ix2 j n)
      = Ideal.exp2 (∑ l : Fin 128, k (ix3 0 j ⟨128 + l.val, by omega⟩) * q1 (ix3 0 l ⟨n.val - 256, by omega⟩)) := by
  pointwise [wide, diag]
  simp [hn]
  rfl

/-- The same for the last 256 keys. -/
theorem last_low (k : Vec Ideal S1x256x256 .bf16) (q0 q1 : Vec Ideal S1x128x256 .bf16) (j : Fin 256) (n : Fin 512)
    (hn : n.val < 256) :
    last k (diag q0 q1) (ix2 j n)
      = Ideal.exp2 (∑ l : Fin 128, k (ix3 0 j ⟨0 + l.val, by omega⟩) * q0 (ix3 0 l ⟨n.val, hn⟩)) := by
  pointwise [last, diag]
  simp [hn]
  rfl

/-- The same for the last 256 keys. -/
theorem last_high (k : Vec Ideal S1x256x256 .bf16) (q0 q1 : Vec Ideal S1x128x256 .bf16) (j : Fin 256) (n : Fin 512)
    (hn : ¬ n.val < 256) :
    last k (diag q0 q1) (ix2 j n)
      = Ideal.exp2 (∑ l : Fin 128, k (ix3 0 j ⟨128 + l.val, by omega⟩) * q1 (ix3 0 l ⟨n.val - 256, by omega⟩)) := by
  pointwise [last, diag]
  simp [hn]
  rfl

/-- A sum over all keys is the sum over the five chunks of keys. -/
theorem sum_chunks (f : Fin 4352 → EReal) :
    ∑ j, f j = ((((∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩)
      + ∑ j : Fin 256, f ⟨4096 + j.val, by omega⟩ := by
  rw [Fin.sum_univ_two_halves 4096 256 rfl f, Fin.sum_univ_two_halves 3072 1024 rfl,
    Fin.sum_univ_two_halves 2048 1024 rfl, Fin.sum_univ_two_halves 1024 1024 rfl]

/-- The normalisers of head 0's queries. -/
theorem total_low (q0 q1 : Vec Ideal S1x128x256 .bf16) (x1 : Vec Ideal S1x4352x256 .bf16) (n : Fin 512) (hn : n.val < 256) :
    total (diag q0 q1) x1 (ix2 0 n) = ∑ j, weight 0 (by omega) q0 x1 ⟨n.val, hn⟩ j := by
  rw [sum_chunks]
  pointwise [total, wideSum, lastSum]
  simp only [wide_low _ _ _ _ _ hn, last_low _ _ _ _ _ hn, weight]
  pointwise

/-- The normalisers of head 1's queries. -/
theorem total_high (q0 q1 : Vec Ideal S1x128x256 .bf16) (x1 : Vec Ideal S1x4352x256 .bf16) (n : Fin 512) (hn : ¬ n.val < 256) :
    total (diag q0 q1) x1 (ix2 0 n) = ∑ j, weight 128 (by omega) q1 x1 ⟨n.val - 256, by omega⟩ j := by
  rw [sum_chunks]
  pointwise [total, wideSum, lastSum]
  simp only [wide_high _ _ _ _ _ hn, last_high _ _ _ _ _ hn, weight]
  pointwise

/-- Head 0's weighted values. -/
theorem acc0_apply (q0 q1 : Vec Ideal S1x128x256 .bf16) (x1 : Vec Ideal S1x4352x256 .bf16) (x2 : Vec Ideal S1x2x64x4352 .bf16)
    (d : Fin 64) (r : Fin 256) :
    acc0 (diag q0 q1) x1 x2 (ix2 d r) = ∑ j, x2 (ix4 0 0 d j) * weight 0 (by omega) q0 x1 r j := by
  rw [sum_chunks]
  pointwise [acc0, wideAcc0, lastAcc0]
  have h (n : ℕ) (hh : n < 256) (h' : n < 512) : (⟨n, h'⟩ : Fin 512).val < 256 := hh
  simp only [wide_low _ _ _ _ ⟨r.val, by omega⟩ r.isLt, last_low _ _ _ _ ⟨r.val, by omega⟩ r.isLt, weight]
  pointwise

/-- Head 1's weighted values. -/
theorem acc1_apply (q0 q1 : Vec Ideal S1x128x256 .bf16) (x1 : Vec Ideal S1x4352x256 .bf16) (x2 : Vec Ideal S1x2x64x4352 .bf16)
    (d : Fin 64) (r : Fin 256) :
    acc1 (diag q0 q1) x1 x2 (ix2 d r) = ∑ j, x2 (ix4 0 1 d j) * weight 128 (by omega) q1 x1 r j := by
  rw [sum_chunks]
  pointwise [acc1, wideAcc1, lastAcc1]
  have h : ¬ (256 + r.val) < 256 := by omega
  simp only [wide_high _ _ _ _ ⟨256 + r.val, by omega⟩ h, last_high _ _ _ _ ⟨256 + r.val, by omega⟩ h, weight]
  pointwise

/-- Head 0's part of a group's result. -/
theorem group_low (q0 q1 : Vec Ideal S1x128x256 .bf16) (x1 : Vec Ideal S1x4352x256 .bf16) (x2 : Vec Ideal S1x2x64x4352 .bf16)
    (r : Fin 256) (c : Fin 128) (hc : c.val < 64) :
    group q0 q1 x1 x2 (ix3 0 r c)
      = (∑ j, x2 (ix4 0 0 ⟨c.val, hc⟩ j) * weight 0 (by omega) q0 x1 r j)
        * Ideal.div 1 (∑ j, weight 0 (by omega) q0 x1 r j) := by
  pointwise [group, finish]
  rw [dif_pos hc, acc0_apply, total_low _ _ _ ⟨r.val, by omega⟩ r.isLt]

/-- Head 1's part of a group's result. -/
theorem group_high (q0 q1 : Vec Ideal S1x128x256 .bf16) (x1 : Vec Ideal S1x4352x256 .bf16) (x2 : Vec Ideal S1x2x64x4352 .bf16)
    (r : Fin 256) (c : Fin 128) (hc : ¬ c.val < 64) :
    group q0 q1 x1 x2 (ix3 0 r c)
      = (∑ j, x2 (ix4 0 1 ⟨c.val - 64, by omega⟩ j) * weight 128 (by omega) q1 x1 r j)
        * Ideal.div 1 (∑ j, weight 128 (by omega) q1 x1 r j) := by
  have h : ¬ (256 + r.val) < 256 := by omega
  pointwise [group, finish]
  rw [dif_neg hc, acc1_apply, total_high _ _ _ ⟨256 + r.val, by omega⟩ h]
  simp

end Cert.KernelIdeal.Attn

end
-- ==== Proof.Attn.Block.lean ====
module

public import proofs.«01_k».proof.Proof.Attn.Values
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe

/-- The weight of key `j` for query `r` in head `h` of a block of two heads. -/
def blockWeight (x0 : Vec Ideal S1x256x2048 .bf16) (x1 : Vec Ideal S1x4352x256 .bf16) (h : Fin 2) (r : Fin 2048)
    (j : Fin 4352) : EReal :=
  Ideal.exp2 (∑ l : Fin 128, x1 (ix3 0 j ⟨128 * h.val + l.val, by omega⟩) * x0 (ix3 0 ⟨128 * h.val + l.val, by omega⟩ r))

/-- The block's result at query `r` and lane `c`: head `c / 64`, value dimension `c % 64`. -/
def blockOut (x0 : Vec Ideal S1x256x2048 .bf16) (x1 : Vec Ideal S1x4352x256 .bf16) (x2 : Vec Ideal S1x2x64x4352 .bf16)
    (r : Fin 2048) (c : Fin 128) : EReal :=
  (∑ j, x2 (ix4 0 ⟨c.val / 64, by omega⟩ ⟨c.val % 64, by omega⟩ j) * blockWeight x0 x1 ⟨c.val / 64, by omega⟩ r j)
    * Ideal.div 1 (∑ j, blockWeight x0 x1 ⟨c.val / 64, by omega⟩ r j)

/-- A group of 256 queries that starts at query `o` writes that part of the block's result. -/
theorem group_eq (x0 : Vec Ideal S1x256x2048 .bf16) (x1 : Vec Ideal S1x4352x256 .bf16) (x2 : Vec Ideal S1x2x64x4352 .bf16)
    (o : ℕ) (ho : o + 256 ≤ 2048) (q0 q1 : Vec Ideal S1x128x256 .bf16)
    (h0 : ∀ (l : Fin 128) (r : Fin 256), q0 (ix3 0 l r) = x0 (ix3 0 ⟨l.val, by omega⟩ ⟨o + r.val, by omega⟩))
    (h1 : ∀ (l : Fin 128) (r : Fin 256), q1 (ix3 0 l r) = x0 (ix3 0 ⟨128 + l.val, by omega⟩ ⟨o + r.val, by omega⟩))
    (r : Fin 256) (c : Fin 128) (r' : Fin 2048) (hr : r'.val = o + r.val) :
    group q0 q1 x1 x2 (ix3 0 r c) = blockOut x0 x1 x2 r' c := by
  have er : r' = ⟨o + r.val, by omega⟩ := Fin.ext hr
  rw [er]
  unfold blockOut
  by_cases hc : c.val < 64
  · have e : (⟨c.val / 64, by omega⟩ : Fin 2) = 0 := Fin.ext (by simp; omega)
    have e' : (⟨c.val % 64, by omega⟩ : Fin 64) = ⟨c.val, hc⟩ := Fin.ext (by simp; omega)
    have w : ∀ j, weight 0 (by omega) q0 x1 r j = blockWeight x0 x1 0 ⟨o + r.val, by omega⟩ j := fun j => by
      simp [weight, blockWeight, h0]
    rw [group_low q0 q1 x1 x2 r c hc, e, e']
    simp only [w]
  · have e : (⟨c.val / 64, by omega⟩ : Fin 2) = 1 := Fin.ext (by simp; omega)
    have e' : (⟨c.val % 64, by omega⟩ : Fin 64) = ⟨c.val - 64, by omega⟩ := Fin.ext (by simp; omega)
    have w : ∀ j, weight 128 (by omega) q1 x1 r j = blockWeight x0 x1 1 ⟨o + r.val, by omega⟩ j := fun j => by
      simp [weight, blockWeight, h1]
    rw [group_high q0 q1 x1 x2 r c hc, e, e']
    simp only [w]

/-- What the body leaves in the output block: the attention of the block's 2048 queries of two heads. -/
theorem out_apply (x0 : Vec Ideal S1x256x2048 .bf16) (x1 : Vec Ideal S1x4352x256 .bf16) (x2 : Vec Ideal S1x2x64x4352 .bf16)
    (r : Fin 2048) (c : Fin 128) :
    out0_3 x0 x1 x2 (ix3 0 r c) = blockOut x0 x1 x2 r c := by
  rw [out_eq]
  canon_tiles y h
  all_goals
    idx_vars y
    obtain rfl : y2 = c := Fin.ext h2.symm
    obtain rfl : y0 = 0 := Fin.ext (by omega)
  · exact group_eq _ x1 _ 1792 (by omega) _ _ (fun l r => by pointwise) (fun l r => by pointwise) _ _ _ h1
  · exact group_eq _ x1 _ 1536 (by omega) _ _ (fun l r => by pointwise) (fun l r => by pointwise) _ _ _ h1
  · exact group_eq _ x1 _ 1280 (by omega) _ _ (fun l r => by pointwise) (fun l r => by pointwise) _ _ _ h1
  · exact group_eq _ x1 _ 1024 (by omega) _ _ (fun l r => by pointwise) (fun l r => by pointwise) _ _ _ h1
  · exact group_eq _ x1 _ 768 (by omega) _ _ (fun l r => by pointwise) (fun l r => by pointwise) _ _ _ h1
  · exact group_eq _ x1 _ 512 (by omega) _ _ (fun l r => by pointwise) (fun l r => by pointwise) _ _ _ h1
  · exact group_eq _ x1 _ 256 (by omega) _ _ (fun l r => by pointwise) (fun l r => by pointwise) _ _ _ h1
  · exact group_eq _ x1 _ 0 (by omega) _ _ (fun l r => by pointwise) (fun l r => by pointwise) _ _ _ (by omega)

end Cert.KernelIdeal.Attn

end
-- ==== Proof.Attn.Array.lean ====
module

public import proofs.«01_k».proof.Proof.Attn.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe

/-- The weight of key `j` for query `q` of head `h` of batch `b`, from the prepared queries and keys. -/
def arrWeight (qt : Vec Ideal S8x2048x4096 .bf16) (ks : Vec Ideal S8x4352x2048 .bf16) (b : Fin 8) (h : Fin 16) (q : Fin 4096)
    (j : Fin 4352) : EReal :=
  Ideal.exp2 (∑ l : Fin 128, ks (ix3 b j ⟨128 * h.val + l.val, by omega⟩) * qt (ix3 b ⟨128 * h.val + l.val, by omega⟩ q))

/-- The result at query `q` and lane `e`: head `e / 64`, value dimension `e % 64`. -/
def arrOut (qt : Vec Ideal S8x2048x4096 .bf16) (ks : Vec Ideal S8x4352x2048 .bf16) (vt : Vec Ideal S8x16x64x4352 .bf16)
    (b : Fin 8) (q : Fin 4096) (e : Fin 1024) : EReal :=
  (∑ j, vt (ix4 b ⟨e.val / 64, by omega⟩ ⟨e.val % 64, by omega⟩ j) * arrWeight qt ks b ⟨e.val / 64, by omega⟩ q j)
    * Ideal.div 1 (∑ j, arrWeight qt ks b ⟨e.val / 64, by omega⟩ q j)

variable (m : (ℓ : Loc nD τ sig) → Buf (Elt Ideal) ℓ)

/-- Where the windows' blocks lie. -/
theorem idx : ∀ t : Fin grid0.N,
    win0_0.index t = ![(grid0.coords t 0).val, (grid0.coords t 1).val, (grid0.coords t 2).val]
    ∧ win0_1.index t = ![(grid0.coords t 0).val, 0, (grid0.coords t 1).val]
    ∧ win0_2.index t = ![(grid0.coords t 0).val, (grid0.coords t 1).val, 0, 0]
    ∧ win0_3.index t = ![(grid0.coords t 0).val, (grid0.coords t 2).val, (grid0.coords t 1).val] := by
  decide +kernel

/-- A query block read off the prepared queries. -/
theorem read0 (A : Vec Ideal S8x2048x4096 .bf16) (t : Fin cfg0.N) (l : Fin 256) (r : Fin 2048) (b : Fin 8) (l' : Fin 2048)
    (q : Fin 4096) (hb : b.val = (grid0.coords t 0).val) (hl : l'.val = (grid0.coords t 1).val * 256 + l.val)
    (hq : q.val = (grid0.coords t 2).val * 2048 + r.val) :
    (((cfg0.win 0).blk t).view.read (Elt Ideal) A : Vec Ideal S1x256x2048 .bf16) (ix3 0 l r) = A (ix3 b l' q) := by
  obtain ⟨e0, -, -, -⟩ := idx t
  blk_ext [e0]

/-- A key block read off the prepared keys. -/
theorem read1 (A : Vec Ideal S8x4352x2048 .bf16) (t : Fin cfg0.N) (j : Fin 4352) (l : Fin 256) (b : Fin 8) (l' : Fin 2048)
    (hb : b.val = (grid0.coords t 0).val) (hl : l'.val = (grid0.coords t 1).val * 256 + l.val) :
    (((cfg0.win 1).blk t).view.read (Elt Ideal) A : Vec Ideal S1x4352x256 .bf16) (ix3 0 j l) = A (ix3 b j l') := by
  obtain ⟨-, e1, -, -⟩ := idx t
  blk_ext [e1]

/-- A value block read off the prepared values. -/
theorem read2 (A : Vec Ideal S8x16x64x4352 .bf16) (t : Fin cfg0.N) (h : Fin 2) (d : Fin 64) (j : Fin 4352) (b : Fin 8)
    (h' : Fin 16) (hb : b.val = (grid0.coords t 0).val) (hh : h'.val = (grid0.coords t 1).val * 2 + h.val) :
    (((cfg0.win 2).blk t).view.read (Elt Ideal) A : Vec Ideal S1x2x64x4352 .bf16) (ix4 0 h d j) = A (ix4 b h' d j) := by
  obtain ⟨-, -, e2, -⟩ := idx t
  blk_ext [e2]

/-- A point's block of the result is that part of the whole result. -/
theorem block_eq (A0 : Vec Ideal S8x2048x4096 .bf16) (A1 : Vec Ideal S8x4352x2048 .bf16) (A2 : Vec Ideal S8x16x64x4352 .bf16)
    (x0 : Vec Ideal S1x256x2048 .bf16) (x1 : Vec Ideal S1x4352x256 .bf16) (x2 : Vec Ideal S1x2x64x4352 .bf16)
    (t : Fin cfg0.N) (h0 : x0 = ((cfg0.win 0).blk t).view.read (Elt Ideal) A0)
    (h1 : x1 = ((cfg0.win 1).blk t).view.read (Elt Ideal) A1) (h2 : x2 = ((cfg0.win 2).blk t).view.read (Elt Ideal) A2)
    (r : Fin 2048) (l : Fin 128) (b : Fin 8) (q : Fin 4096) (e : Fin 1024)
    (hb : b.val = (grid0.coords t 0).val) (hq : q.val = (grid0.coords t 2).val * 2048 + r.val)
    (he : e.val = (grid0.coords t 1).val * 128 + l.val) :
    out0_3 x0 x1 x2 (ix3 0 r l) = arrOut A0 A1 A2 b q e := by
  have hw : ∀ j, blockWeight x0 x1 ⟨l.val / 64, by omega⟩ r j = arrWeight A0 A1 b ⟨e.val / 64, by omega⟩ q j := by
    intro j
    unfold blockWeight arrWeight
    congr 1
    refine Finset.sum_congr rfl fun x _ => ?_
    rw [h0, h1, read1 A1 t j _ b ⟨128 * (e.val / 64) + x.val, by omega⟩ hb (by dsimp only; omega),
      read0 A0 t _ r b ⟨128 * (e.val / 64) + x.val, by omega⟩ q hb (by dsimp only; omega) hq]
  have hv : ∀ j, x2 (ix4 0 ⟨l.val / 64, by omega⟩ ⟨l.val % 64, by omega⟩ j)
      = A2 (ix4 b ⟨e.val / 64, by omega⟩ ⟨e.val % 64, by omega⟩ j) := by
    intro j
    have : (⟨l.val % 64, by omega⟩ : Fin 64) = ⟨e.val % 64, by omega⟩ := Fin.ext (by dsimp only; omega)
    rw [this, h2]
    exact read2 A2 t _ _ j b _ hb (by dsimp only; omega)
  rw [out_apply]
  unfold blockOut arrOut
  simp only [hw, hv]

/-- The result array after the run. -/
theorem arr_eq (c : Dev nD) (A0 : Vec Ideal S8x2048x4096 .bf16) (A1 : Vec Ideal S8x4352x2048 .bf16)
    (A2 : Vec Ideal S8x16x64x4352 .bf16) (h0 : V m c (Pipeline.arrRef spec0 0) = A0)
    (h1 : V m c (Pipeline.arrRef spec0 1) = A1) (h2 : V m c (Pipeline.arrRef spec0 2) = A2) :
    (dats m 0 c).arrAt 3 cfg0.N = fun i : S8x4096x1024.Idx => arrOut A0 A1 A2 (i 0) (i 1) (i 2) := by
  refine (dats m 0 c).arrAt_eq_of_covers 3 _ (by decide +kernel) fun t hf y => ?_
  obtain ⟨-, -, -, e3⟩ := idx t
  blk_simp
  rw [after0_3]
  have hy : y = ix3 (0 : Fin 1) (y 1) (y 2) := by
    funext a
    match a with
    | ⟨0, _⟩ => exact Fin.ext (by have := (y 0).isLt; change (y 0).val < 1 at this; change (y 0).val = 0; omega)
    | ⟨1, _⟩ => rfl
    | ⟨2, _⟩ => rfl
  rw [hy]
  refine block_eq A0 A1 A2 _ _ _ t ?_ ?_ ?_ _ _ _ _ _ ?_ ?_ ?_
  · rw [← h0]; rfl
  · rw [← h1]; rfl
  · rw [← h2]; rfl
  all_goals
    blk_simp [e3]
  simp

end Cert.KernelIdeal.Attn

end
-- ==== Proof.Attn.Host.lean ====
module

public import proofs.«01_k».proof.Proof.Attn.Array
public import Idealize.ShloMosaic.Lib.Tactic.CleanTypes
public import Idealize.ShloMosaic.Lib.StableHlo.RunRead

@[expose] public section

set_option maxRecDepth 16384

noncomputable section

namespace Cert.KernelIdeal.Attn

open Cert.KernelIdeal Cert.KernelIdeal.Gen Idealize.ShloMosaic Idealize.ShloMosaic.TcCoe

/-- The scale of the queries: one over `√96 · log 2`. -/
def qScale : FVec Ideal S_ .f32 :=
  Host.divf (constant S_ .f32 0x3F800000#32)
    (mulf (Host.sqrt (constant S_ .f32 0x42C00000#32)) (Host.log (constant S_ .f32 0x40000000#32)))

/-- The scaled queries with one more column, of zeros. -/
def qPad (x : FVec Ideal S8x4096x16x96 .f32) : FVec Ideal S8x4096x16x97 .f32 :=
  concatenate S8x4096x16x97 3
    [⟨S8x4096x16x96, mulf x (broadcastInDim S8x4096x16x96 ![] bcast_S_S8x4096x16x96 qScale)⟩,
     ⟨S8x4096x16x1, broadcastInDim S8x4096x16x1 ![] bcast_S_S8x4096x16x1 (constant (F := Ideal) S_ .f32 0x00000000#32)⟩]
    concatenates_S8x4096x16x96_S8x4096x16x1_S8x4096x16x97_d3

/-- The keys with one more column, of zeros. -/
def kPad (x : FVec Ideal S8x4352x16x96 .f32) : FVec Ideal S8x4352x16x97 .f32 :=
  concatenate S8x4352x16x97 3
    [⟨S8x4352x16x96, x⟩,
     ⟨S8x4352x16x1, broadcastInDim S8x4352x16x1 ![] bcast_S_S8x4352x16x1 (constant (F := Ideal) S_ .f32 0x00000000#32)⟩]
    concatenates_S8x4352x16x96_S8x4352x16x1_S8x4352x16x97_d3

/-- The table of columns, negative entries counted from the end. -/
def slotTable : IVec S128 32 :=
  select (cmpi .slt (fun i => lit0 (S128.rowMajor i)) (broadcastInDim S128 ![] bcast_S_S128 (constantI S_ 32 0#32)))
    (addi (fun i => lit0 (S128.rowMajor i)) (broadcastInDim S128 ![] bcast_S_S128 (constantI S_ 32 97#32)))
    (fun i => lit0 (S128.rowMajor i))

/-- The table as a column of start indices. -/
def slotStarts : IVec S128x1 32 := broadcastInDim S128x1 ![0] bcast_S128_S128x1_0 slotTable

/-- Which entries of the table name a column. -/
def slotMask : IVec S128 1 :=
  Host.reduce IntOp.andi
    (andi (cmpi .sge slotStarts (broadcastInDim S128x1 ![] bcast_S_S128x1 (constantI S_ 32 0#32)))
      (cmpi .sle slotStarts (broadcastInDim S128x1 ![0, 1] bcast_S1x1_S128x1_0_1
        (broadcastInDim S1x1 ![1] bcast_S1_S1x1_1 (constantI S1 32 96#32)))))
    (constantI S_ 1 1#1) reducesTo_S128x1_S128_d1 h_S_

/-- The queries laid out in slots of 128, transposed. -/
def qPrep (x : FVec Ideal S8x4096x16x96 .f32) : FVec Ideal S8x2048x4096 .bf16 :=
  truncf .bf16 (transpose S8x2048x4096 [0, 2, 1]
    (shapeCast S8x4096x2048
      (select (broadcastInDim S8x4096x16x128 ![3] bcast_S128_S8x4096x16x128_3 slotMask)
        (Host.gather gather_S8x4096x16x97_S128x1_S8x4096x16x128_012_3_n_n_3_1_84096161 (qPad x) slotStarts)
        (broadcastInDim S8x4096x16x128 ![] bcast_S_S8x4096x16x128 (constant (F := Ideal) S_ .f32 0x7FC00000#32)))
      shapeCasts_S8x4096x16x128_S8x4096x2048)
    transposes_S8x4096x2048_S8x2048x4096_0_2_1) bitsLt_bf16_f32

/-- The keys laid out in slots of 128. -/
def kPrep (x : FVec Ideal S8x4352x16x96 .f32) : FVec Ideal S8x4352x2048 .bf16 :=
  truncf .bf16
    (shapeCast S8x4352x2048
      (select (broadcastInDim S8x4352x16x128 ![3] bcast_S128_S8x4352x16x128_3 slotMask)
        (Host.gather gather_S8x4352x16x97_S128x1_S8x4352x16x128_012_3_n_n_3_1_84352161 (kPad x) slotStarts)
        (broadcastInDim S8x4352x16x128 ![] bcast_S_S8x4352x16x128 (constant (F := Ideal) S_ .f32 0x7FC00000#32)))
      shapeCasts_S8x4352x16x128_S8x4352x2048)
    bitsLt_bf16_f32

/-- The values with the tokens last. -/
def vPrep (x : FVec Ideal S8x4352x16x64 .f32) : FVec Ideal S8x16x64x4352 .bf16 :=
  truncf .bf16 (transpose S8x16x64x4352 [0, 2, 3, 1] x transposes_S8x4352x16x64_S8x16x64x4352_0_2_3_1) bitsLt_bf16_f32

variable (m : (ℓ : Loc nD τ sig) → Buf (Elt Ideal) ℓ)

/-- The values the kernel reads are the argument's, tokens last. -/
theorem entry_v (c : Dev nD) :
    (V m c (Pipeline.arrRef spec0 2) : Vec Ideal S8x16x64x4352 .bf16) = vPrep (m ((c : Thread nD τ).loc main_arg2)) := by
  rfl

/-- The queries the kernel reads are the argument's, scaled and laid out in slots. -/
theorem entry_q (c : Dev nD) :
    (V m c (Pipeline.arrRef spec0 0) : Vec Ideal S8x2048x4096 .bf16) = qPrep (m ((c : Thread nD τ).loc main_arg0)) := by
  show V m c main_v11 = _
  unfold V
  simp only [hostOps0, hostOps0_1, hostOps0_2, hostOps0_3, hostOps0_4, List.flatten_cons, List.flatten_nil,
    List.append_nil, List.cons_append, List.nil_append]
  after_results_simp
  after_results_loop
  simp only [StableHlo.TRef.ofBuf_toBuf, StableHlo.TRef.toBuf, StableHlo.TRef.ofBuf, cast_eq, cast_cast]
  rfl

/-- The keys the kernel reads are the argument's laid out in slots. -/
theorem entry_k (c : Dev nD) :
    (V m c (Pipeline.arrRef spec0 1) : Vec Ideal S8x4352x2048 .bf16) = kPrep (m ((c : Thread nD τ).loc main_arg1)) := by
  show V m c main_v16 = _
  unfold V
  simp only [hostOps0, hostOps0_1, hostOps0_2, hostOps0_3, hostOps0_4, List.flatten_cons, List.flatten_nil,
    List.append_nil, List.cons_append, List.nil_append]
  after_results_simp
  after_results_loop
  simp only [StableHlo.TRef.ofBuf_toBuf, StableHlo.TRef.toBuf, StableHlo.TRef.ofBuf, cast_eq, cast_cast]
  rfl

end Cert.KernelIdeal.Attn

end
-- ==== Proof.Attn.Finite.lean ====
module

public import proofs.«01_k».proof.Proof.Gen.Pre_finite
public import Idealize.ShloMosaic.Lib.ReduceAll
public import Idealize.ShloMosaic.Lib.Pointwise

@[expose] public section

noncomputable section

namespace Cert.Pre_finite

open Idealize.ShloMosaic

/-- The literal infinity. -/
theorem ofBits_top : Ideal.ofBits .f32 0x7F800000#32 = ⊤ := by
  simp [Ideal.ofBits, Ideal.ieee]

/-- An extended real whose absolute value is below infinity is a real. -/
theorem real_of_abs {x : EReal} (h : Ideal.cmp .olt (max x (-x)) ⊤ = 1#1) : ∃ r : ℝ, x = r := by
  have hlt : max x (-x) < ⊤ := by
    by_contra hc
    have : Ideal.cmp .olt (max x (-x)) ⊤ = 0#1 := by
      simp [Ideal.cmp, hc]
    rw [this] at h
    exact absurd h (by decide)
  induction x with
  | bot => simp at hlt
  | top => simp at hlt
  | coe r => exact ⟨r, rfl⟩

/-- Under the precondition the queries and the keys are arrays of reals. -/
theorem reals (q : FVec Ideal S8x4096x16x96 .f32) (k : FVec Ideal S8x4352x16x96 .f32) (v : FVec Ideal S8x4352x16x64 .f32)
    [Facts] (h : fn (F := Ideal) q k v = fun _ => 1#1) :
    (∃ q' : S8x4096x16x96.Idx → ℝ, ∀ i, q i = (q' i : EReal)) ∧ ∃ k' : S8x4352x16x96.Idx → ℝ, ∀ i, k i = (k' i : EReal) := by
  have h0 := congrFun h ix0
  dsimp only [fn] at h0
  obtain ⟨hq, hk⟩ := IntOp.andi_eq_one.1 h0
  have : Subsingleton S_.Idx := ⟨fun a b => funext fun i => i.elim0⟩
  have eq := fun i => Host.reduce_andi_all _ _ _ _ _ hq i
  have ek := fun i => Host.reduce_andi_all _ _ _ _ _ hk i
  constructor
  · refine Classical.skolem.mp fun i => real_of_abs (x := q i) ?_
    have := eq i
    rw [← ofBits_top]
    exact this
  · refine Classical.skolem.mp fun i => real_of_abs (x := k i) ?_
    have := ek i
    rw [← ofBits_top]
    exact this

end Cert.Pre_finite

end
-- ==== Proof.Attn.Slots.lean ====
module

public import proofs.«01_k».proof.Proof.Attn.Host

@[expose] public section

set_option maxRecDepth 16384

noncomputable section

namespace Cert.KernelIdeal.Attn

open Cert.KernelIdeal Cert.KernelIdeal.Gen Idealize.ShloMosaic Idealize.ShloMosaic.TcCoe

/-- Entry `l` of the table of columns. -/
theorem slotTable_apply (l : Fin 128) : slotTable (ix1 l) = lit0 l := by
  unfold slotTable
  pointwise
  revert l
  decide +kernel

/-- Every entry of the table names a column. -/
theorem slotMask_apply (l : Fin 128) : slotMask (ix1 l) = 1#1 := by
  unfold slotMask slotStarts
  pointwise
  rw [slotTable_apply]
  have h : IntOp.andi (IntOp.cmpi CmpIPredicate.sge (lit0 l) 0#32) (IntOp.cmpi CmpIPredicate.sle (lit0 l) 96#32) = 1#1 := by
    revert l
    decide +kernel
  rw [h]
  decide +kernel

/-- The dimension numbers of a take along the last of four axes. -/
abbrev lastDims (B S H C n : Nat)
    (wf : GatherDims.WF ⟨4, ![B, S, H, C]⟩ ⟨2, ![n, 1]⟩ ⟨4, ![B, S, H, n]⟩ [0, 1, 2] [3] [] [3] [] 1 ![B, S, H, 1]) :
    GatherDims ⟨4, ![B, S, H, C]⟩ ⟨2, ![n, 1]⟩ ⟨4, ![B, S, H, n]⟩ where
  offsetDims := [0, 1, 2]
  collapsedSliceDims := [3]
  operandBatchingDims := []
  startIndicesBatchingDims := []
  startIndexMap := [3]
  indexVectorDim := 1
  sliceSizes := ![B, S, H, 1]
  wf := wf

/-- A take along the last of four axes, at an index. -/
theorem take_last {α : Type} {B S H C n : Nat} (hC : 0 < C)
    (wf : GatherDims.WF ⟨4, ![B, S, H, C]⟩ ⟨2, ![n, 1]⟩ ⟨4, ![B, S, H, n]⟩ [0, 1, 2] [3] [] [3] [] 1 ![B, S, H, 1])
    (x : (⟨4, ![B, S, H, C]⟩ : Shape).Idx → α) (idx : IVec ⟨2, ![n, 1]⟩ 32) (b : Fin B) (s : Fin S) (h : Fin H) (l : Fin n) :
    Host.gather (lastDims B S H C n wf) x idx (ix4 b s h l)
      = x (ix4 b s h ⟨min (idx (ix2 l 0)).toInt.toNat (C - 1), by omega⟩) := by
  unfold Host.gather
  refine congrArg x (funext fun a => Fin.ext ?_)
  show (lastDims B S H C n wf).start _ idx a + (lastDims B S H C n wf).batchCoord _ a
    + (lastDims B S H C n wf).offCoord _ a = _
  rw [GatherDims.batchCoord_eq_zero _ _ _ List.not_mem_nil, Nat.add_zero]
  unfold GatherDims.start GatherDims.offCoord
  match a with
  | ⟨0, hk⟩ =>
    rw [dif_neg (show (⟨0, hk⟩ : Fin 4) ∉ (lastDims B S H C n wf).startIndexMap from (by decide : (0 : Fin 4) ∉ [(3 : Fin 4)])),
      dif_pos (show (⟨0, hk⟩ : Fin 4) ∈ (lastDims B S H C n wf).sKept from (GatherDims.mem_sKept _ _).2
        ⟨(by decide : (0 : Fin 4) ∉ [(3 : Fin 4)]), List.not_mem_nil⟩), Nat.zero_add]
    rfl
  | ⟨1, hk⟩ =>
    rw [dif_neg (show (⟨1, hk⟩ : Fin 4) ∉ (lastDims B S H C n wf).startIndexMap from (by decide : (1 : Fin 4) ∉ [(3 : Fin 4)])),
      dif_pos (show (⟨1, hk⟩ : Fin 4) ∈ (lastDims B S H C n wf).sKept from (GatherDims.mem_sKept _ _).2
        ⟨(by decide : (1 : Fin 4) ∉ [(3 : Fin 4)]), List.not_mem_nil⟩), Nat.zero_add]
    rfl
  | ⟨2, hk⟩ =>
    rw [dif_neg (show (⟨2, hk⟩ : Fin 4) ∉ (lastDims B S H C n wf).startIndexMap from (by decide : (2 : Fin 4) ∉ [(3 : Fin 4)])),
      dif_pos (show (⟨2, hk⟩ : Fin 4) ∈ (lastDims B S H C n wf).sKept from (GatherDims.mem_sKept _ _).2
        ⟨(by decide : (2 : Fin 4) ∉ [(3 : Fin 4)]), List.not_mem_nil⟩), Nat.zero_add]
    rfl
  | ⟨3, hk⟩ =>
    rw [dif_pos (show (⟨3, hk⟩ : Fin 4) ∈ (lastDims B S H C n wf).startIndexMap from (by decide : (3 : Fin 4) ∈ [(3 : Fin 4)])),
      dif_neg (show (⟨3, hk⟩ : Fin 4) ∉ (lastDims B S H C n wf).sKept from fun h =>
        ((GatherDims.mem_sKept _ _).1 h).1 (by decide : (3 : Fin 4) ∈ [(3 : Fin 4)])), Nat.add_zero]
    have hsi : (lastDims B S H C n wf).siIdx (ix4 b s h l) ⟨List.idxOf (3 : Fin 4) [(3 : Fin 4)], (by decide : List.idxOf (3 : Fin 4) [(3 : Fin 4)] < 1)⟩ = ix2 l 0 := by
      funext b'
      match b' with
      | ⟨0, _⟩ => exact Fin.ext rfl
      | ⟨1, _⟩ => exact Fin.ext rfl
    show min (idx ((lastDims B S H C n wf).siIdx (ix4 b s h l) ⟨List.idxOf (3 : Fin 4) [(3 : Fin 4)], _⟩)).toInt.toNat (C - 1) = _
    rw [hsi]
    rfl

/-- The take of queries, at an index. -/
theorem take_q (x : FVec Ideal S8x4096x16x97 .f32) (idx : IVec S128x1 32) (b : Fin 8) (s : Fin 4096) (h : Fin 16) (l : Fin 128) :
    Host.gather gather_S8x4096x16x97_S128x1_S8x4096x16x128_012_3_n_n_3_1_84096161 x idx (ix4 b s h l)
      = x (ix4 b s h ⟨min (idx (ix2 l 0)).toInt.toNat 96, by omega⟩) := by
  have hd : gather_S8x4096x16x97_S128x1_S8x4096x16x128_012_3_n_n_3_1_84096161 =
      lastDims 8 4096 16 97 128 gather_S8x4096x16x97_S128x1_S8x4096x16x128_012_3_n_n_3_1_84096161_wf := rfl
  rw [hd]
  have h0 := take_last (B := 8) (S := 4096) (H := 16) (C := 97) (n := 128) (by decide)
    gather_S8x4096x16x97_S128x1_S8x4096x16x128_012_3_n_n_3_1_84096161_wf x idx b s h l
  exact h0

/-- The take of keys, at an index. -/
theorem take_k (x : FVec Ideal S8x4352x16x97 .f32) (idx : IVec S128x1 32) (b : Fin 8) (s : Fin 4352) (h : Fin 16) (l : Fin 128) :
    Host.gather gather_S8x4352x16x97_S128x1_S8x4352x16x128_012_3_n_n_3_1_84352161 x idx (ix4 b s h l)
      = x (ix4 b s h ⟨min (idx (ix2 l 0)).toInt.toNat 96, by omega⟩) := by
  have hd : gather_S8x4352x16x97_S128x1_S8x4352x16x128_012_3_n_n_3_1_84352161 =
      lastDims 8 4352 16 97 128 gather_S8x4352x16x97_S128x1_S8x4352x16x128_012_3_n_n_3_1_84352161_wf := rfl
  rw [hd]
  have h0 := take_last (B := 8) (S := 4352) (H := 16) (C := 97) (n := 128) (by decide)
    gather_S8x4352x16x97_S128x1_S8x4352x16x128_012_3_n_n_3_1_84352161_wf x idx b s h l
  exact h0

/-- The column that entry `l` of the table names. -/
def slotCol (l : Fin 128) : Fin 97 := ⟨min (lit0 l).toInt.toNat 96, by omega⟩

/-- The queries in slots, at an index. -/
theorem qPrep_apply (x : FVec Ideal S8x4096x16x96 .f32) (b : Fin 8) (h : Fin 16) (l : Fin 128) (s : Fin 4096) :
    qPrep x (ix3 b ⟨128 * h.val + l.val, by omega⟩ s) = qPad x (ix4 b s h (slotCol l)) := by
  unfold qPrep slotStarts
  pointwise
  rw [slotMask_apply]
  rw [take_q]
  refine congrArg (fun c => qPad x (ix4 b s h c)) (Fin.ext ?_)
  show min (broadcastInDim S128x1 ![0] bcast_S128_S128x1_0 slotTable (ix2 l 0)).toInt.toNat 96 = _
  pointwise
  rw [slotTable_apply]
  rfl

/-- The keys in slots, at an index. -/
theorem kPrep_apply (x : FVec Ideal S8x4352x16x96 .f32) (b : Fin 8) (h : Fin 16) (l : Fin 128) (s : Fin 4352) :
    kPrep x (ix3 b s ⟨128 * h.val + l.val, by omega⟩) = kPad x (ix4 b s h (slotCol l)) := by
  unfold kPrep slotStarts
  pointwise
  rw [slotMask_apply]
  rw [take_k]
  refine congrArg (fun c => kPad x (ix4 b s h c)) (Fin.ext ?_)
  show min (broadcastInDim S128x1 ![0] bcast_S128_S128x1_0 slotTable (ix2 l 0)).toInt.toNat 96 = _
  pointwise
  rw [slotTable_apply]
  rfl

/-- The values with the tokens last, at an index. -/
theorem vPrep_apply (x : FVec Ideal S8x4352x16x64 .f32) (b : Fin 8) (h : Fin 16) (d : Fin 64) (s : Fin 4352) :
    vPrep x (ix4 b h d s) = x (ix4 b s h d) := by
  unfold vPrep
  pointwise

/-- The literal 96. -/
theorem ofBits_96 : Ideal.ofBits .f32 0x42C00000#32 = ((96 : ℝ) : EReal) := by
  simp [Ideal.ofBits, Ideal.ieee, -EReal.coe_mul]; norm_num

/-- The literal 2. -/
theorem ofBits_2 : Ideal.ofBits .f32 0x40000000#32 = ((2 : ℝ) : EReal) := by
  simp [Ideal.ofBits, Ideal.ieee, -EReal.coe_mul]; norm_num

/-- The padded queries: scaled, and zero in the last column. -/
theorem qPad_apply (x : FVec Ideal S8x4096x16x96 .f32) (b : Fin 8) (h : Fin 16) (l : Fin 97) (s : Fin 4096) :
    qPad x (ix4 b s h l) = if hl : l.val < 96 then x (ix4 b s h ⟨l.val, hl⟩) * Ideal.div 1 (Ideal.sqrt ((96 : ℝ) : EReal) * Ideal.log ((2 : ℝ) : EReal)) else 0 := by
  unfold qPad qScale
  pointwise
  rw [ofBits_96, ofBits_2]

/-- The padded keys: zero in the last column. -/
theorem kPad_apply (x : FVec Ideal S8x4352x16x96 .f32) (b : Fin 8) (h : Fin 16) (l : Fin 97) (s : Fin 4352) :
    kPad x (ix4 b s h l) = if hl : l.val < 96 then x (ix4 b s h ⟨l.val, hl⟩) else 0 := by
  unfold kPad
  pointwise

/-- Each of the first 96 columns stands once in the table. -/
theorem slotCol_once (d : Fin 96) :
    (Finset.univ.filter fun l : Fin 128 => slotCol l = d.castSucc).card = 1 := by
  revert d
  decide +kernel

/-- A sum over a slot of a term that is zero on the padding column is the sum over the 96 columns. -/
theorem sum_slot (f : Fin 97 → EReal) (h0 : f (Fin.last 96) = 0) :
    ∑ l : Fin 128, f (slotCol l) = ∑ d : Fin 96, f d.castSucc := by
  rw [← Finset.sum_fiberwise Finset.univ slotCol fun l => f (slotCol l)]
  have h : ∀ c : Fin 97, ∑ l ∈ Finset.univ.filter (fun l : Fin 128 => slotCol l = c), f (slotCol l)
      = (Finset.univ.filter fun l : Fin 128 => slotCol l = c).card • f c := fun c =>
    (Finset.sum_congr rfl fun l hl => by rw [(Finset.mem_filter.mp hl).2]).trans (Finset.sum_const _)
  rw [Finset.sum_congr rfl fun c _ => h c, Fin.sum_univ_castSucc, h0, smul_zero, add_zero]
  exact Finset.sum_congr rfl fun d _ => by rw [slotCol_once, one_smul]

end Cert.KernelIdeal.Attn

end
-- ==== Proof.Attn.Softmax.lean ====
module

public import Idealize.ShloMosaic.PureOps.Ideal
public import Mathlib.Analysis.SpecialFunctions.Pow.Real

@[expose] public section

noncomputable section

/-! The mathematics of a softmax over extended reals: scores are real, values are any extended reals. -/

namespace Cert.Soft

open Idealize.ShloMosaic

/-- A sum of reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a nonnegative real moves into a sum of any extended reals. -/
theorem sum_mul {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A maximum over a nonempty range of reals is a real. -/
theorem fold_max_real {n : ℕ} (hn : 0 < n) (x : Fin n → ℝ) :
    ∃ M : ℝ, (Finset.univ : Finset (Fin n)).fold max (⊥ : EReal) (fun j => (x j : EReal)) = M := by
  have key : ∀ s : Finset (Fin n), s.fold max (⊥ : EReal) (fun j => (x j : EReal)) = ⊥ ∧ s = ∅ ∨
      ∃ M : ℝ, s.fold max (⊥ : EReal) (fun j => (x j : EReal)) = M := by
    classical
    intro s
    induction s using Finset.induction_on with
    | empty => exact Or.inl ⟨Finset.fold_empty, rfl⟩
    | insert a s ha ih =>
      right
      rw [Finset.fold_insert ha]
      rcases ih with ⟨h, -⟩ | ⟨M, h⟩
      · exact ⟨x a, by rw [h]; exact max_eq_left bot_le⟩
      · exact ⟨max (x a) M, by rw [h]; exact (EReal.coe_strictMono.monotone.map_max).symm⟩
  rcases key Finset.univ with ⟨-, h⟩ | h
  · exact absurd (h ▸ Finset.mem_univ (⟨0, hn⟩ : Fin n)) (Finset.notMem_empty _)
  · exact h

/-- Dividing once at the end and leaving out the shift by `M` gives the softmax's weighted sum. -/
theorem weighted {n : ℕ} (hn : 0 < n) (x : Fin n → ℝ) (M : ℝ) (v : Fin n → EReal) :
    (∑ j, v j * ((Real.exp (x j) : ℝ) : EReal)) * Ideal.div 1 (∑ j, ((Real.exp (x j) : ℝ) : EReal))
      = ∑ j, v j * Ideal.div (Ideal.exp ((x j : EReal) - (M : EReal))) (∑ i, Ideal.exp ((x i : EReal) - (M : EReal))) := by
  have hne : (Finset.univ : Finset (Fin n)).Nonempty := ⟨⟨0, hn⟩, Finset.mem_univ _⟩
  have hL : 0 < ∑ j, Real.exp (x j) := Finset.sum_pos (fun j _ => Real.exp_pos _) hne
  have hK : 0 < ∑ j, Real.exp (x j - M) := Finset.sum_pos (fun j _ => Real.exp_pos _) hne
  have he : ∀ j, Ideal.exp ((x j : EReal) - (M : EReal)) = ((Real.exp (x j - M) : ℝ) : EReal) := fun j => by
    rw [← EReal.coe_sub]; rfl
  simp only [he]
  rw [← coe_sum, ← coe_sum, Ideal.div_coe hL.ne', one_mul, sum_mul _ _ (by positivity)]
  refine Finset.sum_congr rfl fun j _ => ?_
  rw [Ideal.div_coe hK.ne', mul_assoc, ← EReal.coe_mul, ← EReal.coe_mul]
  congr 2
  have hs : ∑ i, Real.exp (x i - M) = (∑ i, Real.exp (x i)) * (Real.exp M)⁻¹ := by
    rw [Finset.sum_mul]
    exact Finset.sum_congr rfl fun i _ => by rw [Real.exp_sub, div_eq_mul_inv]
  rw [hs, Real.exp_sub]
  have := (Real.exp_pos M).ne'
  field_simp

/-- The base-two exponential of a score scaled by `1 / (√96 · log 2)` is the exponential of the score over `√96`. -/
theorem exp2_scaled (t : ℝ) :
    Ideal.exp2 ((t * (1 / (Real.sqrt 96 * Real.log 2)) : ℝ) : EReal) = ((Real.exp (t / Real.sqrt 96) : ℝ) : EReal) := by
  have h : Ideal.exp2 ((t * (1 / (Real.sqrt 96 * Real.log 2)) : ℝ) : EReal)
      = ((Real.rpow 2 (t * (1 / (Real.sqrt 96 * Real.log 2))) : ℝ) : EReal) := rfl
  rw [h]
  congr 1
  show (2 : ℝ) ^ (t * (1 / (Real.sqrt 96 * Real.log 2))) = _
  rw [Real.rpow_def_of_pos two_pos]
  congr 1
  have h2 : Real.log 2 ≠ 0 := (Real.log_pos one_lt_two).ne'
  have h9 : Real.sqrt 96 ≠ 0 := (Real.sqrt_pos.mpr (by norm_num)).ne'
  field_simp

/-- The kernel's scale of the queries is a real. -/
theorem scale_eq : Ideal.div 1 (Ideal.sqrt ((96 : ℝ) : EReal) * Ideal.log ((2 : ℝ) : EReal))
    = ((1 / (Real.sqrt 96 * Real.log 2) : ℝ) : EReal) := by
  have h2 : Real.log 2 ≠ 0 := (Real.log_pos one_lt_two).ne'
  have h9 : Real.sqrt 96 ≠ 0 := (Real.sqrt_pos.mpr (by norm_num)).ne'
  rw [Ideal.sqrt_coe, if_neg (by norm_num), Ideal.log_coe, if_neg (by norm_num), ← EReal.coe_mul,
    Ideal.div_coe (mul_ne_zero h9 h2), one_mul]

end Cert.Soft

end
-- ==== Proof.Attn.Reference.lean ====
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe

variable (q : FVec Ideal S8x4096x16x96 .f32) (k : FVec Ideal S8x4352x16x96 .f32) (v : FVec Ideal S8x4352x16x64 .f32)

/-- The reference's scores. -/
def score : FVec Ideal S8x16x4096x4352 .f32 :=
  Host.divf (Host.dotGeneral dot_S8x4096x16x96_S8x4352x16x96_S8x16x4096x4352_3_3_1_1_02_02 none q k)
    (broadcastInDim S8x16x4096x4352 ![] bcast_S_S8x16x4096x4352 (Host.sqrt (constant S_ .f32 0x42C00000#32)))

/-- The largest entry along the last axis. -/
def rowMax (S : FVec Ideal S8x16x4096x4352 .f32) : FVec Ideal S8x16x4096 .f32 :=
  maximumf (broadcastInDim S8x16x4096 ![] bcast_S_S8x16x4096 (constant S_ .f32 0xFF800000#32))
    (Host.reduce FloatOps.maximumf S (constant S_ .f32 0xFF800000#32) reducesTo_S8x16x4096x4352_S8x16x4096_d3 h_S_)

/-- The largest score of each query. -/
def top : FVec Ideal S8x16x4096 .f32 := rowMax (score q k)

/-- The exponentials of the scores less the largest. -/
def expo : FVec Ideal S8x16x4096x4352 .f32 :=
  Host.exp (subf (score q k)
    (broadcastInDim S8x16x4096x4352 ![0, 1, 2, 3] bcast_S8x16x4096x1_S8x16x4096x4352_0_1_2_3
      (broadcastInDim S8x16x4096x1 ![0, 1, 2] bcast_S8x16x4096_S8x16x4096x1_0_1_2 (top q k))))

/-- The weights of the values. -/
def soft : FVec Ideal S8x16x4096x4352 .f32 :=
  Host.divf (expo q k)
    (broadcastInDim S8x16x4096x4352 ![0, 1, 2, 3] bcast_S8x16x4096x1_S8x16x4096x4352_0_1_2_3
      (broadcastInDim S8x16x4096x1 ![0, 1, 2] bcast_S8x16x4096_S8x16x4096x1_0_1_2
        (Host.reduceAdd (expo q k) (constant S_ .f32 0x00000000#32) reducesTo_S8x16x4096x4352_S8x16x4096_d3 h_S_)))

/-- The reference's result. -/
def out : FVec Ideal S8x4096x1024 .bf16 :=
  truncf .bf16 (shapeCast S8x4096x1024 (transpose S8x4096x16x64 [0, 3, 1, 2]
    (Host.dotGeneral dot_S8x4352x16x64_S8x16x4096x4352_S8x16x64x4096_1_3_3_2_02_01 none v (soft q k))
    transposes_S8x16x64x4096_S8x4096x16x64_0_3_1_2) shapeCasts_S8x4096x16x64_S8x4096x1024) bitsLt_bf16_f32

/-- The literal 96. -/
theorem ofBits_96 : Ideal.ofBits .f32 0x42C00000#32 = ((96 : ℝ) : EReal) := by
  simp [Ideal.ofBits, Ideal.ieee, -EReal.coe_mul]; norm_num

/-- The literal minus infinity. -/
theorem ofBits_bot : Ideal.ofBits .f32 0xFF800000#32 = ⊥ := by
  simp [Ideal.ofBits, Ideal.ieee]

/-- A score: the product of a query and a key over `√96`. -/
theorem score_apply (b : Fin 8) (h : Fin 16) (s : Fin 4096) (j : Fin 4352) :
    score q k (ix4 b h s j) = Ideal.div (∑ d, q (ix4 b s h d) * k (ix4 b j h d)) (Ideal.sqrt ((96 : ℝ) : EReal)) := by
  unfold score
  pointwise
  rw [ofBits_96]

/-- The maximum along the last of four axes, at an index. -/
theorem reduceMax_last {B H S N : ℕ} {u : Shape} (x : FVec Ideal ⟨4, ![B, H, S, N]⟩ .f32) (init : FVec Ideal u .f32)
    (hr : (⟨4, ![B, H, S, N]⟩ : Shape).ReducesTo [3] ⟨3, ![B, H, S]⟩) (hu : 0 < u.numel) (b : Fin B) (h : Fin H) (s : Fin S) :
    Host.reduce FloatOps.maximumf x init hr hu (ix3 b h s)
      = Finset.univ.fold FloatOps.maximumf (init (Shape.Idx.first hu)) fun j => x (ix4 b h s j) := by
  rw [Host.reduce_eq_fold, Shape.ReducesTo.fold_fiber_r4_a3]
  rfl

/-- The maximum of a query's scores, from any initial value. -/
theorem rowFold_apply (S : FVec Ideal S8x16x4096x4352 .f32) (init : FVec Ideal S_ .f32) (b : Fin 8) (h : Fin 16) (s : Fin 4096) :
    Host.reduce FloatOps.maximumf S init reducesTo_S8x16x4096x4352_S8x16x4096_d3 h_S_ (ix3 b h s)
      = (Finset.univ : Finset (Fin 4352)).fold FloatOps.maximumf (init (Shape.Idx.first h_S_)) fun j => S (ix4 b h s j) :=
  reduceMax_last S init reducesTo_S8x16x4096x4352_S8x16x4096_d3 h_S_ b h s

/-- The maximum with minus infinity changes nothing. -/
theorem maxBot_apply (T : FVec Ideal S8x16x4096 .f32) (b : Fin 8) (h : Fin 16) (s : Fin 4096) :
    maximumf (broadcastInDim S8x16x4096 ![] bcast_S_S8x16x4096 (constant S_ .f32 0xFF800000#32)) T (ix3 b h s)
      = T (ix3 b h s) := by
  pointwise
  rw [ofBits_bot]
  exact max_eq_right bot_le

/-- The initial value of the maximum is minus infinity. -/
theorem first_bot : constant (F := Ideal) S_ .f32 0xFF800000#32 (Shape.Idx.first h_S_) = (⊥ : EReal) := ofBits_bot

/-- The largest entry along the last axis, at an index. -/
theorem rowMax_apply (S : FVec Ideal S8x16x4096x4352 .f32) (b : Fin 8) (h : Fin 16) (s : Fin 4096) :
    rowMax S (ix3 b h s) = (Finset.univ : Finset (Fin 4352)).fold FloatOps.maximumf (⊥ : EReal) fun j => S (ix4 b h s j) := by
  unfold rowMax
  rw [maxBot_apply, rowFold_apply, first_bot]

/-- A weight: the exponential over the sum of the exponentials. -/
theorem soft_apply (b : Fin 8) (h : Fin 16) (s : Fin 4096) (j : Fin 4352) :
    soft q k (ix4 b h s j) = Ideal.div (Ideal.exp (score q k (ix4 b h s j) - top q k (ix3 b h s)))
      (∑ x, Ideal.exp (score q k (ix4 b h s x) - top q k (ix3 b h s))) := by
  unfold soft expo
  pointwise

/-- A result entry: the weighted sum of the values. -/
theorem out_apply (b : Fin 8) (s : Fin 4096) (e : Fin 1024) :
    out q k v (ix3 b s e) = ∑ x, v (ix4 b x ⟨e.val / 64, by omega⟩ ⟨e.val % 64, by omega⟩)
      * soft q k (ix4 b ⟨e.val / 64, by omega⟩ s x) := by
  unfold out
  pointwise

/-- Every weakly fair execution of the reference leaves `out` of the arguments in its result and the arguments as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ReferenceIdeal.Attn

end
-- ==== Proof.Attn.Equation.lean ====
module

public import proofs.«01_k».proof.Proof.Attn.Slots
public import proofs.«01_k».proof.Proof.Attn.Softmax
public import proofs.«01_k».proof.Proof.Attn.Reference

@[expose] public section

noncomputable section

namespace Cert.Attn

open Cert.KernelIdeal Cert.KernelIdeal.Attn Idealize.ShloMosaic

variable (q : FVec Ideal S8x4096x16x96 .f32) (k : FVec Ideal S8x4352x16x96 .f32) (v : FVec Ideal S8x4352x16x64 .f32)
  (q' : S8x4096x16x96.Idx → ℝ) (k' : S8x4352x16x96.Idx → ℝ)

/-- The product of a query and a key, over the reals. -/
def dotReal (b : Fin 8) (h : Fin 16) (s : Fin 4096) (j : Fin 4352) : ℝ := ∑ d : Fin 96, q' (ix4 b s h d) * k' (ix4 b j h d)

/-- The reference's score is the real product over `√96`. -/
theorem score_real (hq : ∀ i, q i = (q' i : EReal)) (hk : ∀ i, k i = (k' i : EReal))
    (b : Fin 8) (h : Fin 16) (s : Fin 4096) (j : Fin 4352) :
    ReferenceIdeal.Attn.score q k (ix4 b h s j) = ((dotReal q' k' b h s j / Real.sqrt 96 : ℝ) : EReal) := by
  rw [ReferenceIdeal.Attn.score_apply]
  have h9 : Real.sqrt 96 ≠ 0 := (Real.sqrt_pos.mpr (by norm_num)).ne'
  have e : ∑ d : Fin 96, q (ix4 b s h d) * k (ix4 b j h d) = ((dotReal q' k' b h s j : ℝ) : EReal) := by
    unfold dotReal
    rw [Soft.coe_sum]
    exact Finset.sum_congr rfl fun d _ => by rw [hq, hk, EReal.coe_mul]
  refine (congrArg (Ideal.div · (Ideal.sqrt ((96 : ℝ) : EReal))) e).trans ?_
  rw [Ideal.sqrt_coe, if_neg (by norm_num), Ideal.div_coe h9, ← EReal.coe_mul, mul_one_div]

/-- The kernel's weight is the exponential of the reference's score. -/
theorem weight_real (hq : ∀ i, q i = (q' i : EReal)) (hk : ∀ i, k i = (k' i : EReal))
    (b : Fin 8) (h : Fin 16) (s : Fin 4096) (j : Fin 4352) :
    arrWeight (qPrep q) (kPrep k) b h s j = ((Real.exp (dotReal q' k' b h s j / Real.sqrt 96) : ℝ) : EReal) := by
  unfold arrWeight
  rw [← Soft.exp2_scaled]
  refine congrArg Ideal.exp2 ?_
  have e : ∀ l : Fin 128, kPrep k (ix3 b j ⟨128 * h.val + l.val, by omega⟩) * qPrep q (ix3 b ⟨128 * h.val + l.val, by omega⟩ s)
      = (fun c : Fin 97 => kPad k (ix4 b j h c) * qPad q (ix4 b s h c)) (slotCol l) := fun l => by
    rw [kPrep_apply, qPrep_apply]
  refine (Finset.sum_congr rfl fun l _ => e l).trans ?_
  refine (sum_slot (fun c : Fin 97 => kPad k (ix4 b j h c) * qPad q (ix4 b s h c)) ?_).trans ?_
  rotate_left
  · unfold dotReal
    rw [Finset.sum_mul, Soft.coe_sum]
    refine Finset.sum_congr rfl fun d _ => ?_
    show kPad k (ix4 b j h d.castSucc) * qPad q (ix4 b s h d.castSucc) = _
    rw [kPad_apply, qPad_apply, dif_pos (show d.castSucc.val < 96 from d.isLt), dif_pos (show d.castSucc.val < 96 from d.isLt),
      hk, hq, Soft.scale_eq, ← EReal.coe_mul, ← EReal.coe_mul]
    congr 1
    show k' (ix4 b j h d) * (q' (ix4 b s h d) * _) = q' (ix4 b s h d) * k' (ix4 b j h d) * _
    ring
  · show kPad k (ix4 b j h (Fin.last 96)) * _ = 0
    rw [kPad_apply, dif_neg (by simp), zero_mul]

/-- The kernel's result is the reference's when the queries and keys are real. -/
theorem out_eq (hq : ∀ i, q i = (q' i : EReal)) (hk : ∀ i, k i = (k' i : EReal))
    (b : Fin 8) (s : Fin 4096) (e : Fin 1024) :
    arrOut (qPrep q) (kPrep k) (vPrep v) b s e = ReferenceIdeal.Attn.out q k v (ix3 b s e) := by
  have hh : e.val / 64 < 16 := by omega
  obtain ⟨M, hM⟩ := Soft.fold_max_real (n := 4352) (by decide) fun j => dotReal q' k' b ⟨e.val / 64, hh⟩ s j / Real.sqrt 96
  have htop : ReferenceIdeal.Attn.top q k (ix3 b ⟨e.val / 64, hh⟩ s) = (M : EReal) := by
    rw [← hM]
    refine (ReferenceIdeal.Attn.rowMax_apply _ b _ s).trans ?_
    exact Finset.fold_congr fun j _ => score_real q k q' k' hq hk b _ s j
  rw [ReferenceIdeal.Attn.out_apply]
  unfold arrOut
  simp only [weight_real q k q' k' hq hk, vPrep_apply, ReferenceIdeal.Attn.soft_apply, score_real q k q' k' hq hk, htop]
  exact Soft.weighted (by decide) (fun j => dotReal q' k' b ⟨e.val / 64, hh⟩ s j / Real.sqrt 96) M _

end Cert.Attn

end
-- ==== Proof.Ffn.Row.lean ====
module

public import Idealize.ShloMosaic.Lib.Pointwise

@[expose] public section

noncomputable section

namespace Cert.Ffn

open Idealize.ShloMosaic

/-! One row's feed-forward network, over plain functions: what the two fused tails and their references all compute. -/

/-- The row, normalised by its root mean square, scaled by `g` and `1 + sc` and shifted by `sh`. -/
def normed (x g sh sc : Fin 1024 → EReal) (d : Fin 1024) : EReal :=
  x d * Ideal.rsqrt (Ideal.div (∑ e, x e * x e) (Ideal.ofBits .f32 0x44800000#32) + Ideal.ofBits .f32 0x358637BD#32)
    * g d * (1 + sc d) + sh d

/-- Hidden unit `n`: the gate's column is `n`, the value's column `2816 + n`. -/
def hidden (h : Fin 1024 → EReal) (w : Fin 1024 → Fin 5632 → EReal) (n : Fin 2816) : EReal :=
  (∑ d, h d * w d ⟨n.val, by omega⟩) * Ideal.logistic (∑ d, h d * w d ⟨n.val, by omega⟩)
    * ∑ d, h d * w d ⟨2816 + n.val, by omega⟩

/-- The row plus the gated network of the normalised row. -/
def row (x g sh sc gt : Fin 1024 → EReal) (w1 : Fin 1024 → Fin 5632 → EReal) (w2 : Fin 2816 → Fin 1024 → EReal)
    (e : Fin 1024) : EReal :=
  x e + gt e * ∑ n, hidden (normed x g sh sc) w1 n * w2 n e

/-- The gated linear unit of a row: the first half of the product times the logistic of the second. -/
def gluRow (a : Fin 1024 → EReal) (w : Fin 1024 → Fin 2048 → EReal) (k : Fin 1024) : EReal :=
  (∑ l, a l * w l ⟨k.val, by omega⟩) * Ideal.logistic (∑ l, a l * w l ⟨1024 + k.val, by omega⟩)

/-- A row of the stream `s`, after the gated projection of the gated linear unit of `a` and the feed-forward network;
`md` is the row of modulation. -/
def glued (s a : Fin 1024 → EReal) (md : Fin 6144 → EReal) (g : Fin 1024 → EReal) (wg : Fin 1024 → Fin 2048 → EReal)
    (wo : Fin 1024 → Fin 1024 → EReal) (w1 : Fin 1024 → Fin 5632 → EReal) (w2 : Fin 2816 → Fin 1024 → EReal)
    (e : Fin 1024) : EReal :=
  row (fun d => s d + md ⟨2048 + d.val, by omega⟩ * ∑ k, gluRow a wg k * wo k d) g (fun d => md ⟨3072 + d.val, by omega⟩)
    (fun d => md ⟨4096 + d.val, by omega⟩) (fun d => md ⟨5120 + d.val, by omega⟩) w1 w2 e

/-- The sum over the first `k` chunks of 256 hidden units. -/
def upto (f : Fin 2816 → EReal) (k : ℕ) (hk : k ≤ 11) : EReal :=
  ∑ n : Fin (256 * k), f ⟨n.val, by omega⟩

theorem upto_zero (f : Fin 2816 → EReal) : upto f 0 (by omega) = 0 := by
  unfold upto
  exact Finset.sum_eq_zero fun n _ => absurd n.isLt (by omega)

theorem upto_succ (f : Fin 2816 → EReal) (k : ℕ) (hk : k + 1 ≤ 11) :
    upto f (k + 1) hk = upto f k (by omega) + ∑ j : Fin 256, f ⟨256 * k + j.val, by omega⟩ := by
  unfold upto
  exact Fin.sum_univ_add (fun n : Fin (256 * k + 256) => f ⟨n.val, by omega⟩)

/-- A sum over the hidden units, chunk after chunk. -/
theorem sum_chunks (f : Fin 2816 → EReal) : ∑ n, f n = upto f 11 (by omega) := rfl

end Cert.Ffn

end
-- ==== Proof.Ffn.Text.lean ====
module

public import proofs.«01_k».proof.Proof.Ffn.Row
public import proofs.«01_k».proof.Proof.Gen.Kernel2Ideal.Frame

@[expose] public section

set_option maxRecDepth 16384

noncomputable section

namespace Cert.Kernel2Ideal.Tail

open Cert.Kernel2Ideal Cert.Kernel2Ideal.Gen Idealize.ShloMosaic Idealize.ShloMosaic.TcCoe

variable {F : FTy → Type} [FloatOps F]

/-! The feed-forward network on a block of 256 rows, written once: `mla_tail` ends with it and `s5_tail` does too. -/

/-- The modulated norm of the block. -/
def norm (x : FVec F S256x1024 .f32) (g : Vec F S1x1024 .f32) (sh sc : Vec F S1x1x1x1024 .f32) : FVec F S256x1024 .bf16 :=
  truncf .bf16 (addf (mulf (mulf
    (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
    (broadcastTo S256x1024 (shapeCast S1x1024 g shapeCasts_S1x1024_S1x1024) broadcasts_S1x1024_S256x1024))
    (broadcastTo S256x1024 (addf (broadcast S1x1024 (Scalar.ofBits .f32 0x3F800000#32))
      (shapeCast S1x1024 sc shapeCasts_S1x1x1x1024_S1x1024)) broadcasts_S1x1024_S256x1024))
    (broadcastTo S256x1024 (shapeCast S1x1024 sh shapeCasts_S1x1x1x1024_S1x1024) broadcasts_S1x1024_S256x1024))
    bitsLt_bf16_f32

/-- 256 columns of the first product. -/
def up (h : FVec F S256x1024 .bf16) (w : Vec F S1x1024x256 .bf16) : FVec F S256x256 .f32 :=
  matmul dot_S256x1024_S1024x256_S256x256_1_0_0_1_n_n none h
    (shapeCast S1024x256 w shapeCasts_S1x1024x256_S1024x256) (constant S256x256 .f32 0x00000000#32)

/-- 256 hidden units. -/
def units (h : FVec F S256x1024 .bf16) (wg wu : Vec F S1x1024x256 .bf16) : FVec F S256x256 .f32 :=
  mulf (mulf (up h wg) (logistic (up h wg))) (up h wu)

/-- What 256 hidden units add to the second product. -/
def chunk (h : FVec F S256x1024 .bf16) (wg wu : Vec F S1x1024x256 .bf16) (wd : Vec F S1x256x1024 .bf16) :
    FVec F S256x1024 .f32 :=
  matmul dot_S256x256_S256x1024_S256x1024_1_0_0_1_n_n none (truncf .bf16 (units h wg wu) bitsLt_bf16_f32)
    (shapeCast S256x1024 wd shapeCasts_S1x256x1024_S256x1024) (constant S256x1024 .f32 0x00000000#32)

/-- The second product, accumulated over the first four chunks. -/
def acc4 (h : FVec F S256x1024 .bf16) (w1 : Vec F S1x1024x5632 .bf16) (w2 : Vec F S1x2816x1024 .bf16) :
    FVec F S256x1024 .f32 :=
  addf (addf (addf (addf (broadcast S256x1024 (Scalar.ofBits .f32 0x00000000#32))
    (chunk h (View.ld w1 r0_6) (View.ld w1 r0_7) (View.ld w2 r0_10)))
    (chunk h (View.ld w1 r0_8) (View.ld w1 r0_9) (View.ld w2 r0_13)))
    (chunk h (View.ld w1 r0_11) (View.ld w1 r0_12) (View.ld w2 r0_16)))
    (chunk h (View.ld w1 r0_14) (View.ld w1 r0_15) (View.ld w2 r0_19))

/-- Over the first eight. -/
def acc8 (h : FVec F S256x1024 .bf16) (w1 : Vec F S1x1024x5632 .bf16) (w2 : Vec F S1x2816x1024 .bf16) :
    FVec F S256x1024 .f32 :=
  addf (addf (addf (addf (acc4 h w1 w2)
    (chunk h (View.ld w1 r0_17) (View.ld w1 r0_18) (View.ld w2 r0_22)))
    (chunk h (View.ld w1 r0_20) (View.ld w1 r0_21) (View.ld w2 r0_25)))
    (chunk h (View.ld w1 r0_23) (View.ld w1 r0_24) (View.ld w2 r0_28)))
    (chunk h (View.ld w1 r0_26) (View.ld w1 r0_27) (View.ld w2 r0_31))

/-- Over all eleven. -/
def acc11 (h : FVec F S256x1024 .bf16) (w1 : Vec F S1x1024x5632 .bf16) (w2 : Vec F S1x2816x1024 .bf16) :
    FVec F S256x1024 .f32 :=
  addf (addf (addf (acc8 h w1 w2)
    (chunk h (View.ld w1 r0_29) (View.ld w1 r0_30) (View.ld w2 r0_34)))
    (chunk h (View.ld w1 r0_32) (View.ld w1 r0_33) (View.ld w2 r0_37)))
    (chunk h (View.ld w1 r0_35) (View.ld w1 r0_36) (View.ld w2 r0_38))

/-- The block plus the gated network of its modulated norm; `mod` is the row of modulation, of which the last three
sixths are the shift, the scale and the gate. -/
def ffn (x : FVec F S256x1024 .f32) (mod : Vec F S1x1x1x6144 .f32) (g : Vec F S1x1024 .f32) (w1 : Vec F S1x1024x5632 .bf16)
    (w2 : Vec F S1x2816x1024 .bf16) : FVec F S1x256x1024 .f32 :=
  shapeCast S1x256x1024 (addf x (mulf
    (broadcastTo S256x1024 (shapeCast S1x1024 (View.ld mod r0_39) shapeCasts_S1x1x1x1024_S1x1024) broadcasts_S1x1024_S256x1024)
    (acc11 (norm x (View.ld g r0_3) (View.ld mod r0_4) (View.ld mod r0_5)) w1 w2))) shapeCasts_S256x1024_S1x256x1024

/-- The stream plus the gated projection of the attention. -/
def residual (x : Vec F S1x256x1024 .f32) (mod : Vec F S1x1x1x6144 .f32) (a : Vec F S1x256x1024 .bf16)
    (w : Vec F S1024x1024 .bf16) : FVec F S256x1024 .f32 :=
  addf (shapeCast S256x1024 (View.ld x r0_0) shapeCasts_S1x256x1024_S256x1024)
    (mulf (broadcastTo S256x1024 (shapeCast S1x1024 (View.ld mod r0_1) shapeCasts_S1x1x1x1024_S1x1024)
        broadcasts_S1x1024_S256x1024)
      (matmul dot_S256x1024_S1024x1024_S256x1024_1_0_0_1_n_n none
        (shapeCast S256x1024 (View.ld a r0_0) shapeCasts_S1x256x1024_S256x1024)
        (shapeCast S1024x1024 (View.ld w r0_2) shapeCasts_S1024x1024_S1024x1024) (constant S256x1024 .f32 0x00000000#32)))

/-- The body's store is this text. -/
theorem out_eq (x0 : Vec F S1x256x1024 .f32) (x1 : Vec F S1x256x1024 .bf16) (x2 : Vec F S1x1x1x6144 .f32)
    (x3 : Vec F S1x1024 .f32) (x4 : Vec F S1024x1024 .bf16) (x5 : Vec F S1x1024x5632 .bf16)
    (x6 : Vec F S1x2816x1024 .bf16) :
    out0_7 x0 x1 x2 x3 x4 x5 x6 = View.canon [⟨r0_0, ffn (residual x0 x2 x1 x4) x2 x3 x5 x6⟩] := by
  rfl

end Cert.Kernel2Ideal.Tail

end
-- ==== Proof.Ffn.Values.lean ====
module

public import proofs.«01_k».proof.Proof.Ffn.Text
public import Idealize.ShloMosaic.Lib.Pipeline.ValueKit

@[expose] public section

set_option maxRecDepth 16384

noncomputable section

namespace Cert.Kernel2Ideal.Tail

open Cert.Kernel2Ideal Cert.Kernel2Ideal.Gen Idealize.ShloMosaic Idealize.ShloMosaic.TcCoe

/-- The modulated norm at a row is the plain one of that row. -/
theorem norm_apply (x : FVec Ideal S256x1024 .f32) (g : Vec Ideal S1x1024 .f32) (sh sc : Vec Ideal S1x1x1x1024 .f32)
    (r : Fin 256) (d : Fin 1024) :
    norm x g sh sc (ix2 r d) = Ffn.normed (fun d => x (ix2 r d)) (fun d => g (ix2 0 d)) (fun d => sh (ix4 0 0 0 d))
      (fun d => sc (ix4 0 0 0 d)) d := by
  pointwise [norm]
  simp [Ffn.normed]

/-- A column of the first product. -/
theorem up_apply (h : FVec Ideal S256x1024 .bf16) (w : Vec Ideal S1x1024x256 .bf16) (r j : Fin 256) :
    up h w (ix2 r j) = ∑ d : Fin 1024, h (ix2 r d) * w (ix3 0 d j) := by
  pointwise [up]

/-- A hidden unit. -/
theorem units_apply (h : FVec Ideal S256x1024 .bf16) (wg wu : Vec Ideal S1x1024x256 .bf16) (r j : Fin 256) :
    units h wg wu (ix2 r j)
      = (∑ d : Fin 1024, h (ix2 r d) * wg (ix3 0 d j)) * Ideal.logistic (∑ d : Fin 1024, h (ix2 r d) * wg (ix3 0 d j))
        * ∑ d : Fin 1024, h (ix2 r d) * wu (ix3 0 d j) := by
  rw [← up_apply h wg, ← up_apply h wu]
  rfl

/-- A chunk's sum. -/
theorem chunk_apply (h : FVec Ideal S256x1024 .bf16) (wg wu : Vec Ideal S1x1024x256 .bf16) (wd : Vec Ideal S1x256x1024 .bf16)
    (r : Fin 256) (e : Fin 1024) :
    chunk h wg wu wd (ix2 r e) = ∑ j : Fin 256, units h wg wu (ix2 r j) * wd (ix3 0 j e) := by
  pointwise [chunk]

/-- The first weights of a block, as a plain function. -/
def plain1 (w1 : Vec Ideal S1x1024x5632 .bf16) (d : Fin 1024) (n : Fin 5632) : EReal := w1 (ix3 0 d n)

/-- The second weights of a block, as a plain function. -/
def plain2 (w2 : Vec Ideal S1x2816x1024 .bf16) (n : Fin 2816) (e : Fin 1024) : EReal := w2 (ix3 0 n e)

/-- What hidden unit `n` adds to the second product. -/
def term (h : FVec Ideal S256x1024 .bf16) (w1 : Vec Ideal S1x1024x5632 .bf16) (w2 : Vec Ideal S1x2816x1024 .bf16)
    (r : Fin 256) (e : Fin 1024) (n : Fin 2816) : EReal :=
  Ffn.hidden (fun d => h (ix2 r d)) (plain1 w1) n * plain2 w2 n e

/-- Adding a chunk that starts at hidden unit `256 * k` carries the sum from `k` chunks to `k + 1`. -/
theorem step (h : FVec Ideal S256x1024 .bf16) (w1 : Vec Ideal S1x1024x5632 .bf16) (w2 : Vec Ideal S1x2816x1024 .bf16)
    (wg wu : Vec Ideal S1x1024x256 .bf16) (wd : Vec Ideal S1x256x1024 .bf16) (k : ℕ) (hk : k + 1 ≤ 11)
    (hg : ∀ (d : Fin 1024) (j : Fin 256), wg (ix3 0 d j) = w1 (ix3 0 d ⟨256 * k + j.val, by omega⟩))
    (hu : ∀ (d : Fin 1024) (j : Fin 256), wu (ix3 0 d j) = w1 (ix3 0 d ⟨2816 + 256 * k + j.val, by omega⟩))
    (hd : ∀ (j : Fin 256) (e : Fin 1024), wd (ix3 0 j e) = w2 (ix3 0 ⟨256 * k + j.val, by omega⟩ e))
    (a : FVec Ideal S256x1024 .f32) (r : Fin 256) (e : Fin 1024)
    (ha : a (ix2 r e) = Ffn.upto (term h w1 w2 r e) k (by omega)) :
    addf a (chunk h wg wu wd) (ix2 r e) = Ffn.upto (term h w1 w2 r e) (k + 1) hk := by
  rw [Ffn.upto_succ, ← ha]
  refine congrArg (a (ix2 r e) + ·) ((chunk_apply h wg wu wd r e).trans (Finset.sum_congr rfl fun j _ => ?_))
  rw [units_apply]
  simp only [hg, hu, hd, term, Ffn.hidden, plain1, plain2, Nat.add_assoc]

theorem acc4_apply (h : FVec Ideal S256x1024 .bf16) (w1 : Vec Ideal S1x1024x5632 .bf16) (w2 : Vec Ideal S1x2816x1024 .bf16)
    (r : Fin 256) (e : Fin 1024) : acc4 h w1 w2 (ix2 r e) = Ffn.upto (term h w1 w2 r e) 4 (by omega) := by
  unfold acc4
  refine step h w1 w2 _ _ _ 3 (by omega) (fun d j => by pointwise) (fun d j => by pointwise) (fun j e => by pointwise) _ r e ?_
  refine step h w1 w2 _ _ _ 2 (by omega) (fun d j => by pointwise) (fun d j => by pointwise) (fun j e => by pointwise) _ r e ?_
  refine step h w1 w2 _ _ _ 1 (by omega) (fun d j => by pointwise) (fun d j => by pointwise) (fun j e => by pointwise) _ r e ?_
  refine step h w1 w2 _ _ _ 0 (by omega) (fun d j => by pointwise) (fun d j => by pointwise) (fun j e => by pointwise) _ r e ?_
  rw [Ffn.upto_zero]
  pointwise

theorem acc8_apply (h : FVec Ideal S256x1024 .bf16) (w1 : Vec Ideal S1x1024x5632 .bf16) (w2 : Vec Ideal S1x2816x1024 .bf16)
    (r : Fin 256) (e : Fin 1024) : acc8 h w1 w2 (ix2 r e) = Ffn.upto (term h w1 w2 r e) 8 (by omega) := by
  unfold acc8
  refine step h w1 w2 _ _ _ 7 (by omega) (fun d j => by pointwise) (fun d j => by pointwise) (fun j e => by pointwise) _ r e ?_
  refine step h w1 w2 _ _ _ 6 (by omega) (fun d j => by pointwise) (fun d j => by pointwise) (fun j e => by pointwise) _ r e ?_
  refine step h w1 w2 _ _ _ 5 (by omega) (fun d j => by pointwise) (fun d j => by pointwise) (fun j e => by pointwise) _ r e ?_
  refine step h w1 w2 _ _ _ 4 (by omega) (fun d j => by pointwise) (fun d j => by pointwise) (fun j e => by pointwise) _ r e ?_
  exact acc4_apply h w1 w2 r e

/-- The accumulated second product is the sum over all hidden units. -/
theorem acc11_apply (h : FVec Ideal S256x1024 .bf16) (w1 : Vec Ideal S1x1024x5632 .bf16)
    (w2 : Vec Ideal S1x2816x1024 .bf16) (r : Fin 256) (e : Fin 1024) :
    acc11 h w1 w2 (ix2 r e) = ∑ n, term h w1 w2 r e n := by
  rw [Ffn.sum_chunks]
  unfold acc11
  refine step h w1 w2 _ _ _ 10 (by omega) (fun d j => by pointwise) (fun d j => by pointwise) (fun j e => by pointwise) _ r e ?_
  refine step h w1 w2 _ _ _ 9 (by omega) (fun d j => by pointwise) (fun d j => by pointwise) (fun j e => by pointwise) _ r e ?_
  refine step h w1 w2 _ _ _ 8 (by omega) (fun d j => by pointwise) (fun d j => by pointwise) (fun j e => by pointwise) _ r e ?_
  exact acc8_apply h w1 w2 r e

/-- A sixth of the row of modulation. -/
def sixth (o : ℕ) (ho : o + 1024 ≤ 6144) (mod : Vec Ideal S1x1x1x6144 .f32) (d : Fin 1024) : EReal :=
  mod (ix4 0 0 0 ⟨o + d.val, by omega⟩)

/-- The network's block, row by row. -/
theorem ffn_apply (x : FVec Ideal S256x1024 .f32) (mod : Vec Ideal S1x1x1x6144 .f32) (g : Vec Ideal S1x1024 .f32)
    (w1 : Vec Ideal S1x1024x5632 .bf16) (w2 : Vec Ideal S1x2816x1024 .bf16) (r : Fin 256) (e : Fin 1024) :
    ffn x mod g w1 w2 (ix3 0 r e)
      = Ffn.row (fun d => x (ix2 r d)) (fun d => g (ix2 0 d)) (sixth 3072 (by omega) mod) (sixth 4096 (by omega) mod)
          (sixth 5120 (by omega) mod) (plain1 w1) (plain2 w2) e := by
  have hn : ∀ d, norm x (View.ld g r0_3) (View.ld mod r0_4) (View.ld mod r0_5) (ix2 r d)
      = Ffn.normed (fun d => x (ix2 r d)) (fun d => g (ix2 0 d)) (sixth 3072 (by omega) mod)
          (sixth 4096 (by omega) mod) d := by
    intro d
    rw [norm_apply]
    congr 1
    all_goals
      funext d
      first | unfold sixth | skip
      pointwise
  have ha := acc11_apply (norm x (View.ld g r0_3) (View.ld mod r0_4) (View.ld mod r0_5)) w1 w2 r e
  unfold term at ha
  simp only [hn] at ha
  unfold Ffn.row
  refine Eq.trans ?_ (congrArg (fun s => x (ix2 r e) + sixth 5120 (by omega) mod e * s) ha)
  unfold ffn sixth
  generalize acc11 (norm x (View.ld g r0_3) (View.ld mod r0_4) (View.ld mod r0_5)) w1 w2 = A
  pointwise

end Cert.Kernel2Ideal.Tail

end
-- ==== Proof.Mla.Array.lean ====
module

public import proofs.«01_k».proof.Proof.Ffn.Values
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Kernel2Ideal.Tail

open Cert.Kernel2Ideal Cert.Kernel2Ideal.Gen Idealize.ShloMosaic Idealize.ShloMosaic.TcCoe

/-- The stream after the attention's gated projection, at a row of a block. -/
def blockStream (x0 : Vec Ideal S1x256x1024 .f32) (x2 : Vec Ideal S1x1x1x6144 .f32) (x1 : Vec Ideal S1x256x1024 .bf16)
    (x4 : Vec Ideal S1024x1024 .bf16) (r : Fin 256) (d : Fin 1024) : EReal :=
  x0 (ix3 0 r d) + sixth 2048 (by omega) x2 d * ∑ k : Fin 1024, x1 (ix3 0 r k) * x4 (ix2 k d)

theorem residual_apply (x0 : Vec Ideal S1x256x1024 .f32) (x2 : Vec Ideal S1x1x1x6144 .f32)
    (x1 : Vec Ideal S1x256x1024 .bf16) (x4 : Vec Ideal S1024x1024 .bf16) (r : Fin 256) (d : Fin 1024) :
    residual x0 x2 x1 x4 (ix2 r d) = blockStream x0 x2 x1 x4 r d := by
  unfold blockStream sixth
  pointwise [residual]

/-- What the body leaves in the output block. -/
theorem out_apply (x0 : Vec Ideal S1x256x1024 .f32) (x1 : Vec Ideal S1x256x1024 .bf16) (x2 : Vec Ideal S1x1x1x6144 .f32)
    (x3 : Vec Ideal S1x1024 .f32) (x4 : Vec Ideal S1024x1024 .bf16) (x5 : Vec Ideal S1x1024x5632 .bf16)
    (x6 : Vec Ideal S1x2816x1024 .bf16) (r : Fin 256) (e : Fin 1024) :
    out0_7 x0 x1 x2 x3 x4 x5 x6 (ix3 0 r e)
      = Ffn.row (blockStream x0 x2 x1 x4 r) (fun d => x3 (ix2 0 d)) (sixth 3072 (by omega) x2) (sixth 4096 (by omega) x2)
          (sixth 5120 (by omega) x2) (plain1 x5) (plain2 x6) e := by
  rw [out_eq]
  canon_tiles y h
  idx_vars y
  obtain rfl : y0 = 0 := Fin.ext (by omega)
  obtain rfl : y1 = r := Fin.ext (by omega)
  obtain rfl : y2 = e := Fin.ext (by omega)
  refine (ffn_apply _ x2 x3 x5 x6 y1 y2).trans ?_
  simp only [residual_apply]

variable (m : (ℓ : Loc nD τ sig) → Buf (Elt Ideal) ℓ)

/-- Where the windows' blocks lie. -/
theorem idx : ∀ t : Fin grid0.N,
    win0_0.index t = ![(grid0.coords t 0).val, (grid0.coords t 1).val + 1, 0]
    ∧ win0_1.index t = ![(grid0.coords t 0).val, (grid0.coords t 1).val, 0]
    ∧ win0_2.index t = ![1, (grid0.coords t 0).val, 0, 0]
    ∧ win0_3.index t = ![0, 0]
    ∧ win0_4.index t = ![0, 0]
    ∧ win0_5.index t = ![1, 0, 0]
    ∧ win0_6.index t = ![1, 0, 0]
    ∧ win0_7.index t = ![(grid0.coords t 0).val, (grid0.coords t 1).val, 0] := by
  decide +kernel

theorem read0 (A : Vec Ideal S8x4352x1024 .f32) (t : Fin cfg0.N) (r : Fin 256) (d : Fin 1024) (b : Fin 8) (q : Fin 4352)
    (hb : b.val = (grid0.coords t 0).val) (hq : q.val = ((grid0.coords t 1).val + 1) * 256 + r.val) :
    (((cfg0.win 0).blk t).view.read (Elt Ideal) A : Vec Ideal S1x256x1024 .f32) (ix3 0 r d) = A (ix3 b q d) := by
  obtain ⟨e, -⟩ := idx t
  blk_ext [e]

theorem read1 (A : Vec Ideal S8x4096x1024 .bf16) (t : Fin cfg0.N) (r : Fin 256) (d : Fin 1024) (b : Fin 8) (q : Fin 4096)
    (hb : b.val = (grid0.coords t 0).val) (hq : q.val = (grid0.coords t 1).val * 256 + r.val) :
    (((cfg0.win 1).blk t).view.read (Elt Ideal) A : Vec Ideal S1x256x1024 .bf16) (ix3 0 r d) = A (ix3 b q d) := by
  obtain ⟨-, e, -⟩ := idx t
  blk_ext [e]

theorem read2 (A : Vec Ideal S2x8x1x6144 .f32) (t : Fin cfg0.N) (n : Fin 6144) (b : Fin 8)
    (hb : b.val = (grid0.coords t 0).val) :
    (((cfg0.win 2).blk t).view.read (Elt Ideal) A : Vec Ideal S1x1x1x6144 .f32) (ix4 0 0 0 n) = A (ix4 1 b 0 n) := by
  obtain ⟨-, -, e, -⟩ := idx t
  blk_ext [e]

theorem read3 (A : Vec Ideal S1x1024 .f32) (t : Fin cfg0.N) (d : Fin 1024) :
    (((cfg0.win 3).blk t).view.read (Elt Ideal) A : Vec Ideal S1x1024 .f32) (ix2 0 d) = A (ix2 0 d) := by
  obtain ⟨-, -, -, e, -⟩ := idx t
  blk_ext [e]

theorem read4 (A : Vec Ideal S1024x1024 .bf16) (t : Fin cfg0.N) (k d : Fin 1024) :
    (((cfg0.win 4).blk t).view.read (Elt Ideal) A : Vec Ideal S1024x1024 .bf16) (ix2 k d) = A (ix2 k d) := by
  obtain ⟨-, -, -, -, e, -⟩ := idx t
  blk_ext [e]

theorem read5 (A : Vec Ideal S2x1024x5632 .bf16) (t : Fin cfg0.N) (d : Fin 1024) (n : Fin 5632) :
    (((cfg0.win 5).blk t).view.read (Elt Ideal) A : Vec Ideal S1x1024x5632 .bf16) (ix3 0 d n) = A (ix3 1 d n) := by
  obtain ⟨-, -, -, -, -, e, -⟩ := idx t
  blk_ext [e]

theorem read6 (A : Vec Ideal S2x2816x1024 .bf16) (t : Fin cfg0.N) (n : Fin 2816) (d : Fin 1024) :
    (((cfg0.win 6).blk t).view.read (Elt Ideal) A : Vec Ideal S1x2816x1024 .bf16) (ix3 0 n d) = A (ix3 1 n d) := by
  obtain ⟨-, -, -, -, -, -, e, -⟩ := idx t
  blk_ext [e]

/-- The stream after the attention's gated projection, from the whole arrays. -/
def arrStream (A0 : Vec Ideal S8x4352x1024 .f32) (A1 : Vec Ideal S8x4096x1024 .bf16) (A2 : Vec Ideal S2x8x1x6144 .f32)
    (A4 : Vec Ideal S1024x1024 .bf16) (b : Fin 8) (q : Fin 4096) (d : Fin 1024) : EReal :=
  A0 (ix3 b ⟨256 + q.val, by omega⟩ d)
    + A2 (ix4 1 b 0 ⟨2048 + d.val, by omega⟩) * ∑ k : Fin 1024, A1 (ix3 b q k) * A4 (ix2 k d)

/-- The result from the whole arrays. -/
def arrOut (A0 : Vec Ideal S8x4352x1024 .f32) (A1 : Vec Ideal S8x4096x1024 .bf16) (A2 : Vec Ideal S2x8x1x6144 .f32)
    (A3 : Vec Ideal S1x1024 .f32) (A4 : Vec Ideal S1024x1024 .bf16) (A5 : Vec Ideal S2x1024x5632 .bf16)
    (A6 : Vec Ideal S2x2816x1024 .bf16) (b : Fin 8) (q : Fin 4096) (e : Fin 1024) : EReal :=
  Ffn.row (arrStream A0 A1 A2 A4 b q) (fun d => A3 (ix2 0 d)) (fun d => A2 (ix4 1 b 0 ⟨3072 + d.val, by omega⟩))
    (fun d => A2 (ix4 1 b 0 ⟨4096 + d.val, by omega⟩)) (fun d => A2 (ix4 1 b 0 ⟨5120 + d.val, by omega⟩))
    (fun d n => A5 (ix3 1 d n)) (fun n e => A6 (ix3 1 n e)) e

/-- A point's block of the result is that part of the whole result. -/
theorem block_eq (A0 : Vec Ideal S8x4352x1024 .f32) (A1 : Vec Ideal S8x4096x1024 .bf16) (A2 : Vec Ideal S2x8x1x6144 .f32)
    (A3 : Vec Ideal S1x1024 .f32) (A4 : Vec Ideal S1024x1024 .bf16) (A5 : Vec Ideal S2x1024x5632 .bf16)
    (A6 : Vec Ideal S2x2816x1024 .bf16)
    (x0 : Vec Ideal S1x256x1024 .f32) (x1 : Vec Ideal S1x256x1024 .bf16) (x2 : Vec Ideal S1x1x1x6144 .f32)
    (x3 : Vec Ideal S1x1024 .f32) (x4 : Vec Ideal S1024x1024 .bf16) (x5 : Vec Ideal S1x1024x5632 .bf16)
    (x6 : Vec Ideal S1x2816x1024 .bf16)
    (t : Fin cfg0.N) (h0 : x0 = ((cfg0.win 0).blk t).view.read (Elt Ideal) A0)
    (h1 : x1 = ((cfg0.win 1).blk t).view.read (Elt Ideal) A1) (h2 : x2 = ((cfg0.win 2).blk t).view.read (Elt Ideal) A2)
    (h3 : x3 = ((cfg0.win 3).blk t).view.read (Elt Ideal) A3) (h4 : x4 = ((cfg0.win 4).blk t).view.read (Elt Ideal) A4)
    (h5 : x5 = ((cfg0.win 5).blk t).view.read (Elt Ideal) A5) (h6 : x6 = ((cfg0.win 6).blk t).view.read (Elt Ideal) A6)
    (r : Fin 256) (l : Fin 1024) (b : Fin 8) (q : Fin 4096) (e : Fin 1024)
    (hb : b.val = (grid0.coords t 0).val) (hq : q.val = (grid0.coords t 1).val * 256 + r.val) (he : e.val = l.val) :
    out0_7 x0 x1 x2 x3 x4 x5 x6 (ix3 0 r l) = arrOut A0 A1 A2 A3 A4 A5 A6 b q e := by
  obtain rfl : e = l := Fin.ext he
  have hm : ∀ (o : ℕ) (ho : o + 1024 ≤ 6144), sixth o ho x2 = fun d => A2 (ix4 1 b 0 ⟨o + d.val, by omega⟩) := by
    intro o ho
    funext d
    unfold sixth
    rw [h2]
    exact read2 A2 t _ b hb
  have hs : blockStream x0 x2 x1 x4 r = arrStream A0 A1 A2 A4 b q := by
    funext d
    unfold blockStream arrStream
    rw [hm 2048 (by omega), h0, read0 A0 t r d b ⟨256 + q.val, by omega⟩ hb (by dsimp only; omega), h1, h4]
    congr 2
    refine Finset.sum_congr rfl fun k _ => ?_
    rw [read1 A1 t r k b q hb hq, read4 A4 t k d]
  have h3' : (fun d => x3 (ix2 0 d)) = fun d => A3 (ix2 0 d) := by
    funext d
    rw [h3]
    exact read3 A3 t d
  have h5' : plain1 x5 = fun d n => A5 (ix3 1 d n) := by
    funext d n
    unfold plain1
    rw [h5]
    exact read5 A5 t d n
  have h6' : plain2 x6 = fun n e => A6 (ix3 1 n e) := by
    funext n e
    unfold plain2
    rw [h6]
    exact read6 A6 t n e
  rw [out_apply, hs, h3', h5', h6', hm 3072 (by omega), hm 4096 (by omega), hm 5120 (by omega)]
  rfl

/-- The result array after the run. -/
theorem arr_eq (c : Dev nD) (A0 : Vec Ideal S8x4352x1024 .f32) (A1 : Vec Ideal S8x4096x1024 .bf16)
    (A2 : Vec Ideal S2x8x1x6144 .f32) (A3 : Vec Ideal S1x1024 .f32) (A4 : Vec Ideal S1024x1024 .bf16)
    (A5 : Vec Ideal S2x1024x5632 .bf16) (A6 : Vec Ideal S2x2816x1024 .bf16)
    (h0 : V m c (Pipeline.arrRef spec0 0) = A0) (h1 : V m c (Pipeline.arrRef spec0 1) = A1)
    (h2 : V m c (Pipeline.arrRef spec0 2) = A2) (h3 : V m c (Pipeline.arrRef spec0 3) = A3)
    (h4 : V m c (Pipeline.arrRef spec0 4) = A4) (h5 : V m c (Pipeline.arrRef spec0 5) = A5)
    (h6 : V m c (Pipeline.arrRef spec0 6) = A6) :
    (dats m 0 c).arrAt 7 cfg0.N = fun i : S8x4096x1024.Idx => arrOut A0 A1 A2 A3 A4 A5 A6 (i 0) (i 1) (i 2) := by
  refine (dats m 0 c).arrAt_eq_of_covers 7 _ (by decide +kernel) fun t hf y => ?_
  obtain ⟨-, -, -, -, -, -, -, e7⟩ := idx t
  blk_simp
  rw [after0_7]
  have hy : y = ix3 (0 : Fin 1) (y 1) (y 2) := by
    funext a
    match a with
    | ⟨0, _⟩ => exact Fin.ext (by have := (y 0).isLt; change (y 0).val < 1 at this; change (y 0).val = 0; omega)
    | ⟨1, _⟩ => rfl
    | ⟨2, _⟩ => rfl
  rw [hy]
  refine block_eq A0 A1 A2 A3 A4 A5 A6 _ _ _ _ _ _ _ t ?_ ?_ ?_ ?_ ?_ ?_ ?_ _ _ _ _ _ ?_ ?_ ?_
  · rw [← h0]; rfl
  · rw [← h1]; rfl
  · rw [← h2]; rfl
  · rw [← h3]; rfl
  · rw [← h4]; rfl
  · rw [← h5]; rfl
  · rw [← h6]; rfl
  all_goals
    blk_simp [e7]
  all_goals simp

end Cert.Kernel2Ideal.Tail

end
-- ==== Proof.Mla.Host.lean ====
module

public import proofs.«01_k».proof.Proof.Mla.Array
public import Idealize.ShloMosaic.Lib.Tactic.CleanTypes
public import Idealize.ShloMosaic.Lib.StableHlo.RunRead

@[expose] public section

set_option maxRecDepth 16384

noncomputable section

namespace Cert.Kernel2Ideal.Tail

open Cert.Kernel2Ideal Cert.Kernel2Ideal.Gen Idealize.ShloMosaic Idealize.ShloMosaic.TcCoe

/-- The two streams, the context first. -/
def streams (ctx : FVec Ideal S8x256x1024 .f32) (x : FVec Ideal S8x4096x1024 .f32) : FVec Ideal S8x4352x1024 .f32 :=
  concatenate S8x4352x1024 1 [⟨S8x256x1024, ctx⟩, ⟨S8x4096x1024, x⟩] concatenates_S8x256x1024_S8x4096x1024_S8x4352x1024_d1

/-- The two tables of modulation: the context's one row for all, and the latents' row of each batch. -/
def table (mod : FVec Ideal S8x6144 .f32) (modc : FVec Ideal S1x6144 .f32) : FVec Ideal S2x8x1x6144 .f32 :=
  concatenate S2x8x1x6144 0
    [⟨S1x8x1x6144, broadcastInDim S1x8x1x6144 ![1, 2, 3] bcast_S8x1x6144_S1x8x1x6144_1_2_3
      (broadcastInDim S8x1x6144 ![0, 1, 2] bcast_S1x1x6144_S8x1x6144_0_1_2
        (broadcastInDim S1x1x6144 ![0, 2] bcast_S1x6144_S1x1x6144_0_2 modc))⟩,
     ⟨S1x8x1x6144, broadcastInDim S1x8x1x6144 ![1, 2, 3] bcast_S8x1x6144_S1x8x1x6144_1_2_3
      (broadcastInDim S8x1x6144 ![0, 2] bcast_S8x6144_S8x1x6144_0_2 mod)⟩]
    concatenates_S1x8x1x6144_S1x8x1x6144_S2x8x1x6144_d0

theorem streams_latent (ctx : FVec Ideal S8x256x1024 .f32) (x : FVec Ideal S8x4096x1024 .f32) (b : Fin 8) (q : Fin 4096)
    (d : Fin 1024) : streams ctx x (ix3 b ⟨256 + q.val, by omega⟩ d) = x (ix3 b q d) := by
  pointwise [streams]

theorem table_latent (mod : FVec Ideal S8x6144 .f32) (modc : FVec Ideal S1x6144 .f32) (b : Fin 8) (n : Fin 6144) :
    table mod modc (ix4 1 b 0 n) = mod (ix2 b n) := by
  pointwise [table]

variable (m : (ℓ : Loc nD τ sig) → Buf (Elt Ideal) ℓ)

theorem entry0 (c : Dev nD) : (V m c (Pipeline.arrRef spec0 0) : Vec Ideal S8x4352x1024 .f32)
    = streams (m ((c : Thread nD τ).loc main_arg1)) (m ((c : Thread nD τ).loc main_arg0)) := by
  rfl

theorem entry1 (c : Dev nD) : (V m c (Pipeline.arrRef spec0 1) : Vec Ideal S8x4096x1024 .bf16)
    = m ((c : Thread nD τ).loc main_arg2) := by
  rfl

theorem entry2 (c : Dev nD) : (V m c (Pipeline.arrRef spec0 2) : Vec Ideal S2x8x1x6144 .f32)
    = table (m ((c : Thread nD τ).loc main_arg3)) (m ((c : Thread nD τ).loc main_arg4)) := by
  rfl

theorem entry3 (c : Dev nD) : (V m c (Pipeline.arrRef spec0 3) : Vec Ideal S1x1024 .f32)
    = broadcastInDim S1x1024 ![1] bcast_S1024_S1x1024_1 (m ((c : Thread nD τ).loc main_arg5)) := by
  rfl

theorem entry4 (c : Dev nD) : (V m c (Pipeline.arrRef spec0 4) : Vec Ideal S1024x1024 .bf16)
    = truncf (F := Ideal) .bf16 (m ((c : Thread nD τ).loc main_arg6)) bitsLt_bf16_f32 := by
  rfl

theorem entry5 (c : Dev nD) : (V m c (Pipeline.arrRef spec0 5) : Vec Ideal S2x1024x5632 .bf16)
    = truncf (F := Ideal) .bf16 (m ((c : Thread nD τ).loc main_arg7)) bitsLt_bf16_f32 := by
  rfl

theorem entry6 (c : Dev nD) : (V m c (Pipeline.arrRef spec0 6) : Vec Ideal S2x2816x1024 .bf16)
    = truncf (F := Ideal) .bf16 (m ((c : Thread nD τ).loc main_arg8)) bitsLt_bf16_f32 := by
  rfl

/-- The result from the arguments. -/
def argOut (x : FVec Ideal S8x4096x1024 .f32) (att : FVec Ideal S8x4096x1024 .bf16) (mod : FVec Ideal S8x6144 .f32)
    (g : FVec Ideal S1024 .f32) (wo : FVec Ideal S1024x1024 .f32) (w1 : FVec Ideal S2x1024x5632 .f32)
    (w2 : FVec Ideal S2x2816x1024 .f32) (b : Fin 8) (q : Fin 4096) (e : Fin 1024) : EReal :=
  Ffn.row (fun d => x (ix3 b q d) + mod (ix2 b ⟨2048 + d.val, by omega⟩) * ∑ k : Fin 1024, att (ix3 b q k) * wo (ix2 k d))
    (fun d => g (ix1 d)) (fun d => mod (ix2 b ⟨3072 + d.val, by omega⟩)) (fun d => mod (ix2 b ⟨4096 + d.val, by omega⟩))
    (fun d => mod (ix2 b ⟨5120 + d.val, by omega⟩)) (fun d n => w1 (ix3 1 d n)) (fun n e => w2 (ix3 1 n e)) e

/-- The two forms of the result agree. -/
theorem arr_arg (x : FVec Ideal S8x4096x1024 .f32) (ctx : FVec Ideal S8x256x1024 .f32) (att : FVec Ideal S8x4096x1024 .bf16)
    (mod : FVec Ideal S8x6144 .f32) (modc : FVec Ideal S1x6144 .f32) (g : FVec Ideal S1024 .f32)
    (wo : FVec Ideal S1024x1024 .f32) (w1 : FVec Ideal S2x1024x5632 .f32) (w2 : FVec Ideal S2x2816x1024 .f32) (b : Fin 8)
    (q : Fin 4096) (e : Fin 1024) :
    arrOut (streams ctx x) att (table mod modc) (broadcastInDim S1x1024 ![1] bcast_S1024_S1x1024_1 g)
        (truncf .bf16 wo bitsLt_bf16_f32) (truncf .bf16 w1 bitsLt_bf16_f32) (truncf .bf16 w2 bitsLt_bf16_f32) b q e
      = argOut x att mod g wo w1 w2 b q e := by
  have hg : ∀ d : Fin 1024, broadcastInDim S1x1024 ![1] bcast_S1024_S1x1024_1 g (ix2 0 d) = g (ix1 d) :=
    fun d => by pointwise
  unfold arrOut arrStream argOut
  simp only [streams_latent, table_latent, hg]
  rfl

/-- The array the kernel leaves, from the arguments. -/
theorem kernel_out (c : Dev nD) : (dats m 0 c).arrAt 7 cfg0.N = fun i : S8x4096x1024.Idx =>
    argOut (m ((c : Thread nD τ).loc main_arg0)) (m ((c : Thread nD τ).loc main_arg2)) (m ((c : Thread nD τ).loc main_arg3))
      (m ((c : Thread nD τ).loc main_arg5)) (m ((c : Thread nD τ).loc main_arg6)) (m ((c : Thread nD τ).loc main_arg7))
      (m ((c : Thread nD τ).loc main_arg8)) (i 0) (i 1) (i 2) := by
  refine (arr_eq m c _ _ _ _ _ _ _ (entry0 m c) (entry1 m c) (entry2 m c) (entry3 m c) (entry4 m c) (entry5 m c)
    (entry6 m c)).trans ?_
  funext i
  exact arr_arg _ _ _ _ _ _ _ _ _ (i 0) (i 1) (i 2)

end Cert.Kernel2Ideal.Tail

end
-- ==== Proof.Mla.Reference.lean ====
module

public import proofs.«01_k».proof.Proof.Ffn.Row
public import proofs.«01_k».proof.Proof.Gen.Reference2Ideal.Run
public import Idealize.ShloMosaic.Lib.Pointwise

@[expose] public section

set_option maxRecDepth 16384

noncomputable section

namespace Cert.Reference2Ideal.Tail

open Cert.Reference2Ideal Cert.Reference2Ideal.Gen Idealize.ShloMosaic Idealize.ShloMosaic.TcCoe

/-- A sixth of the modulation, the same for every token of a batch. -/
def wide (v : FVec Ideal S8x1024 .f32) : FVec Ideal S8x4096x1024 .f32 :=
  broadcastInDim S8x4096x1024 ![0, 1, 2] bcast_S8x1x1024_S8x4096x1024_0_1_2
    (broadcastInDim S8x1x1024 ![0, 2] bcast_S8x1024_S8x1x1024_0_2 v)

/-- The stream plus the gated `o`. -/
def stream (x o : FVec Ideal S8x4096x1024 .f32) (mod : FVec Ideal S8x6144 .f32) : FVec Ideal S8x4096x1024 .f32 :=
  addf x (mulf (wide (extractStridedSlice S8x1024 ![0, 2048] mod slices_S8x6144_S8x1024_0_2048)) o)

/-- The modulated norm. -/
def norm (x : FVec Ideal S8x4096x1024 .f32) (g : FVec Ideal S1024 .f32) (mod : FVec Ideal S8x6144 .f32) :
    FVec Ideal S8x4096x1024 .f32 :=
  addf (mulf (mulf (mulf x
    (broadcastInDim S8x4096x1024 ![0, 1, 2] bcast_S8x4096x1_S8x4096x1024_0_1_2
      (Host.rsqrt (addf (Host.divf (broadcastInDim S8x4096x1 ![0, 1] bcast_S8x4096_S8x4096x1_0_1
        (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g)))
    (broadcastInDim S8x4096x1024 ![0, 1, 2] bcast_S8x1x1024_S8x4096x1024_0_1_2
      (addf (broadcastInDim S8x1x1024 ![] bcast_S_S8x1x1024 (constant S_ .f32 0x3F800000#32))
        (broadcastInDim S8x1x1024 ![0, 2] bcast_S8x1024_S8x1x1024_0_2
          (extractStridedSlice S8x1024 ![0, 4096] mod slices_S8x6144_S8x1024_0_4096)))))
    (wide (extractStridedSlice S8x1024 ![0, 3072] mod slices_S8x6144_S8x1024_0_3072))

/-- The first product. -/
def up (h : FVec Ideal S8x4096x1024 .f32) (w : FVec Ideal S1024x5632 .f32) : FVec Ideal S8x4096x5632 .f32 :=
  Host.dotGeneral dot_S8x4096x1024_S1024x5632_S8x4096x5632_2_0_01_1_n_n none h w

/-- The hidden units from the first product. -/
def units (z : FVec Ideal S8x4096x5632 .f32) : FVec Ideal S8x4096x2816 .f32 :=
  mulf (mulf (extractStridedSlice S8x4096x2816 ![0, 0, 0] z slices_S8x4096x5632_S8x4096x2816_0_0_0)
      (Host.divf (broadcastInDim S8x4096x2816 ![] bcast_S_S8x4096x2816 (constant S_ .f32 0x3F800000#32))
        (addf (broadcastInDim S8x4096x2816 ![] bcast_S_S8x4096x2816 (constant S_ .f32 0x3F800000#32))
          (Host.exp (Host.negf (extractStridedSlice S8x4096x2816 ![0, 0, 0] z slices_S8x4096x5632_S8x4096x2816_0_0_0))))))
    (extractStridedSlice S8x4096x2816 ![0, 0, 2816] z slices_S8x4096x5632_S8x4096x2816_0_0_2816)

/-- The residual layer: `stream`, plus the gated network of its modulated norm. -/
def layer (x o : FVec Ideal S8x4096x1024 .f32) (mod : FVec Ideal S8x6144 .f32) (g : FVec Ideal S1024 .f32)
    (w1 : FVec Ideal S1024x5632 .f32) (w2 : FVec Ideal S2816x1024 .f32) : FVec Ideal S8x4096x1024 .f32 :=
  addf (stream x o mod) (mulf (wide (extractStridedSlice S8x1024 ![0, 5120] mod slices_S8x6144_S8x1024_0_5120))
    (Host.dotGeneral dot_S8x4096x2816_S2816x1024_S8x4096x1024_2_0_01_1_n_n none
      (units (up (norm (stream x o mod) g mod) w1)) w2))

theorem wide_apply (v : FVec Ideal S8x1024 .f32) (b : Fin 8) (q : Fin 4096) (d : Fin 1024) :
    wide v (ix3 b q d) = v (ix2 b d) := by
  pointwise [wide]

theorem stream_apply (x o : FVec Ideal S8x4096x1024 .f32) (mod : FVec Ideal S8x6144 .f32) (b : Fin 8) (q : Fin 4096)
    (d : Fin 1024) :
    stream x o mod (ix3 b q d) = x (ix3 b q d) + mod (ix2 b ⟨2048 + d.val, by omega⟩) * o (ix3 b q d) := by
  pointwise [stream, wide]

theorem norm_apply (x : FVec Ideal S8x4096x1024 .f32) (g : FVec Ideal S1024 .f32) (mod : FVec Ideal S8x6144 .f32)
    (b : Fin 8) (q : Fin 4096) (d : Fin 1024) :
    norm x g mod (ix3 b q d) = Ffn.normed (fun d => x (ix3 b q d)) (fun d => g (ix1 d))
      (fun d => mod (ix2 b ⟨3072 + d.val, by omega⟩)) (fun d => mod (ix2 b ⟨4096 + d.val, by omega⟩)) d := by
  unfold Ffn.normed
  pointwise [norm, wide]

theorem up_apply (h : FVec Ideal S8x4096x1024 .f32) (w : FVec Ideal S1024x5632 .f32) (b : Fin 8) (q : Fin 4096)
    (n : Fin 5632) : up h w (ix3 b q n) = ∑ d : Fin 1024, h (ix3 b q d) * w (ix2 d n) := by
  pointwise [up]

theorem units_apply (z : FVec Ideal S8x4096x5632 .f32) (b : Fin 8) (q : Fin 4096) (n : Fin 2816) :
    units z (ix3 b q n) = z (ix3 b q ⟨n.val, by omega⟩) * Ideal.logistic (z (ix3 b q ⟨n.val, by omega⟩))
      * z (ix3 b q ⟨2816 + n.val, by omega⟩) := by
  unfold Ideal.logistic
  pointwise [units]

/-- The layer, row by row. -/
theorem layer_apply (x o : FVec Ideal S8x4096x1024 .f32) (mod : FVec Ideal S8x6144 .f32) (g : FVec Ideal S1024 .f32)
    (w1 : FVec Ideal S1024x5632 .f32) (w2 : FVec Ideal S2816x1024 .f32) (b : Fin 8) (q : Fin 4096) (e : Fin 1024) :
    layer x o mod g w1 w2 (ix3 b q e)
      = Ffn.row (fun d => x (ix3 b q d) + mod (ix2 b ⟨2048 + d.val, by omega⟩) * o (ix3 b q d)) (fun d => g (ix1 d))
          (fun d => mod (ix2 b ⟨3072 + d.val, by omega⟩)) (fun d => mod (ix2 b ⟨4096 + d.val, by omega⟩))
          (fun d => mod (ix2 b ⟨5120 + d.val, by omega⟩)) (fun d n => w1 (ix2 d n)) (fun n e => w2 (ix2 n e)) e := by
  unfold layer Ffn.row Ffn.hidden
  simp only [← stream_apply, ← norm_apply, ← up_apply]
  generalize up (norm (stream x o mod) g mod) w1 = z
  simp only [← units_apply]
  generalize units z = u
  generalize stream x o mod = s
  pointwise [wide]

/-- The projection of the attention. -/
def project (att : FVec Ideal S8x4096x1024 .bf16) (wo : FVec Ideal S1024x1024 .f32) : FVec Ideal S8x4096x1024 .f32 :=
  Host.dotGeneral dot_S8x4096x1024_S1024x1024_S8x4096x1024_2_0_01_1_n_n none (extf .f32 att bitsLt_bf16_f32) wo

theorem project_apply (att : FVec Ideal S8x4096x1024 .bf16) (wo : FVec Ideal S1024x1024 .f32) (b : Fin 8) (q : Fin 4096)
    (d : Fin 1024) : project att wo (ix3 b q d) = ∑ k : Fin 1024, att (ix3 b q k) * wo (ix2 k d) := by
  pointwise [project]

/-- The second layer's first weights. -/
def first (w1 : FVec Ideal S2x1024x5632 .f32) : FVec Ideal S1024x5632 .f32 :=
  shapeCast S1024x5632 (extractStridedSlice S1x1024x5632 ![1, 0, 0] w1 slices_S2x1024x5632_S1x1024x5632_1_0_0)
    shapeCasts_S1x1024x5632_S1024x5632

/-- The second layer's second weights. -/
def second (w2 : FVec Ideal S2x2816x1024 .f32) : FVec Ideal S2816x1024 .f32 :=
  shapeCast S2816x1024 (extractStridedSlice S1x2816x1024 ![1, 0, 0] w2 slices_S2x2816x1024_S1x2816x1024_1_0_0)
    shapeCasts_S1x2816x1024_S2816x1024

theorem first_apply (w1 : FVec Ideal S2x1024x5632 .f32) (d : Fin 1024) (n : Fin 5632) :
    first w1 (ix2 d n) = w1 (ix3 1 d n) := by
  pointwise [first]

theorem second_apply (w2 : FVec Ideal S2x2816x1024 .f32) (n : Fin 2816) (e : Fin 1024) :
    second w2 (ix2 n e) = w2 (ix3 1 n e) := by
  pointwise [second]

variable (m : (ℓ : Loc nD τ sig) → Buf (Elt Ideal) ℓ)

/-- The reference's result is the layer at its arguments. -/
theorem res_eq (c : Dev nD) : Value.res_out0 m c
    = layer (m ((c.tc : Thread nD τ).loc main_arg0))
        (project (m ((c.tc : Thread nD τ).loc main_arg2)) (m ((c.tc : Thread nD τ).loc main_arg6)))
        (m ((c.tc : Thread nD τ).loc main_arg3)) (m ((c.tc : Thread nD τ).loc main_arg5))
        (first (m ((c.tc : Thread nD τ).loc main_arg7))) (second (m ((c.tc : Thread nD τ).loc main_arg8))) := by
  rfl

end Cert.Reference2Ideal.Tail

end
-- ==== Proof.Mla.Equation.lean ====
module

public import proofs.«01_k».proof.Proof.Mla.Host
public import proofs.«01_k».proof.Proof.Mla.Reference

@[expose] public section

noncomputable section

namespace Cert.Mla

open Idealize.ShloMosaic Cert.Kernel2Ideal

/-- The kernel's result and the reference's agree, entry by entry. -/
theorem out_eq (x : FVec Ideal S8x4096x1024 .f32) (att : FVec Ideal S8x4096x1024 .bf16) (mod : FVec Ideal S8x6144 .f32)
    (g : FVec Ideal S1024 .f32) (wo : FVec Ideal S1024x1024 .f32) (w1 : FVec Ideal S2x1024x5632 .f32)
    (w2 : FVec Ideal S2x2816x1024 .f32) (b : Fin 8) (q : Fin 4096) (e : Fin 1024) :
    Kernel2Ideal.Tail.argOut x att mod g wo w1 w2 b q e
      = Reference2Ideal.Tail.layer x (Reference2Ideal.Tail.project att wo) mod g (Reference2Ideal.Tail.first w1)
          (Reference2Ideal.Tail.second w2) (ix3 b q e) := by
  unfold Kernel2Ideal.Tail.argOut
  rw [Reference2Ideal.Tail.layer_apply]
  simp only [Reference2Ideal.Tail.project_apply, Reference2Ideal.Tail.first_apply, Reference2Ideal.Tail.second_apply]

/-- The array the kernel leaves is the reference's layer at the kernel's arguments. -/
theorem kernel_array (m : (ℓ : Loc nD τ sig) → Buf (Elt Ideal) ℓ) (c : Dev nD) :
    (Gen.dats m 0 c).arrAt 7 cfg0.N
      = Reference2Ideal.Tail.layer (m ((c.tc : Thread nD τ).loc main_arg0))
          (Reference2Ideal.Tail.project (m ((c.tc : Thread nD τ).loc main_arg2)) (m ((c.tc : Thread nD τ).loc main_arg6)))
          (m ((c.tc : Thread nD τ).loc main_arg3)) (m ((c.tc : Thread nD τ).loc main_arg5))
          (Reference2Ideal.Tail.first (m ((c.tc : Thread nD τ).loc main_arg7)))
          (Reference2Ideal.Tail.second (m ((c.tc : Thread nD τ).loc main_arg8))) := by
  refine (Tail.kernel_out m c).trans ?_
  funext i
  exact (out_eq _ _ _ _ _ _ _ (i 0) (i 1) (i 2)).trans (congrArg _ (eq_ix3 i).symm)

end Cert.Mla

end
-- ==== Proof.Glu.Block.lean ====
module

public import proofs.«01_k».proof.Proof.Ffn.Values
public import proofs.«01_k».proof.Proof.Gen.Kernel3Ideal.Frame
public import Idealize.ShloMosaic.Lib.Pipeline.ValueKit

@[expose] public section

set_option maxRecDepth 16384

noncomputable section

namespace Cert.Kernel3Ideal.Tail

open Cert.Kernel3Ideal Cert.Kernel3Ideal.Gen Idealize.ShloMosaic Idealize.ShloMosaic.TcCoe

section Text

variable {F : FTy → Type} [FloatOps F]

/-- The product the gated linear unit splits. -/
def wide (a : Vec F S1x256x1024 .bf16) (w : Vec F S1024x2048 .bf16) : FVec F S256x2048 .f32 :=
  matmul dot_S256x1024_S1024x2048_S256x2048_1_0_0_1_n_n none
    (shapeCast S256x1024 (View.ld a r0_0) shapeCasts_S1x256x1024_S256x1024)
    (shapeCast S1024x2048 (View.ld w r0_1) shapeCasts_S1024x2048_S1024x2048) (constant S256x2048 .f32 0x00000000#32)

/-- The gated linear unit: the first half times the logistic of the second. -/
def glu (z : FVec F S256x2048 .f32) : FVec F S256x1024 .f32 :=
  mulf (extractStridedSlice S256x1024 ![0, 0] z slices_S256x2048_o0_0_S256x1024)
    (logistic (extractStridedSlice S256x1024 ![0, 1024] z slices_S256x2048_o0_1024_S256x1024))

/-- The block of the stream the grid point works on: the context's at the first points, the latents' at the others. -/
def pick (i : grid0.Coords) (x ctx : Vec F S1x256x1024 .f32) : FVec F S256x1024 .f32 :=
  Scalar.select (Scalar.cmpi .slt (BitVec.ofNat 32 (i 1).val) 1#32)
    (shapeCast S256x1024 (View.ld ctx r0_0) shapeCasts_S1x256x1024_S256x1024)
    (shapeCast S256x1024 (View.ld x r0_0) shapeCasts_S1x256x1024_S256x1024)

/-- The stream plus the gated projection of the gated linear unit. -/
def residual (s : FVec F S256x1024 .f32) (mod : Vec F S1x1x1x6144 .f32) (u : FVec F S256x1024 .f32)
    (w : Vec F S1024x1024 .bf16) : FVec F S256x1024 .f32 :=
  addf s
    (mulf (broadcastTo S256x1024 (shapeCast S1x1024 (View.ld mod r0_2) shapeCasts_S1x1x1x1024_S1x1024)
        broadcasts_S1x1024_S256x1024)
      (matmul dot_S256x1024_S1024x1024_S256x1024_1_0_0_1_n_n none (truncf .bf16 u bitsLt_bf16_f32)
        (shapeCast S1024x1024 (View.ld w r0_3) shapeCasts_S1024x1024_S1024x1024) (constant S256x1024 .f32 0x00000000#32)))

/-- The body's store is this text; the network is the one `mla_tail` ends with. -/
theorem out_eq (i : grid0.Coords) (x0 x1 : Vec F S1x256x1024 .f32) (x2 : Vec F S1x256x1024 .bf16)
    (x3 : Vec F S1x1x1x6144 .f32) (x4 : Vec F S1x1024 .f32) (x5 : Vec F S1024x2048 .bf16) (x6 : Vec F S1024x1024 .bf16)
    (x7 : Vec F S1x1024x5632 .bf16) (x8 : Vec F S1x2816x1024 .bf16) :
    out0_9 i x0 x1 x2 x3 x4 x5 x6 x7 x8 = View.canon
      [⟨r0_0, Kernel2Ideal.Tail.ffn (residual (pick i x0 x1) x3 (glu (wide x2 x5)) x6) x3 x4 x7 x8⟩] := by
  rfl

end Text

theorem wide_apply (a : Vec Ideal S1x256x1024 .bf16) (w : Vec Ideal S1024x2048 .bf16) (r : Fin 256) (n : Fin 2048) :
    wide a w (ix2 r n) = ∑ l : Fin 1024, a (ix3 0 r l) * w (ix2 l n) := by
  pointwise [wide]

theorem glu_apply (a : Vec Ideal S1x256x1024 .bf16) (w : Vec Ideal S1024x2048 .bf16) (r : Fin 256) (k : Fin 1024) :
    glu (wide a w) (ix2 r k) = Ffn.gluRow (fun l => a (ix3 0 r l)) (fun l n => w (ix2 l n)) k := by
  unfold Ffn.gluRow
  rw [← wide_apply, ← wide_apply]
  generalize wide a w = z
  pointwise [glu]

theorem residual_apply (s : FVec Ideal S256x1024 .f32) (mod : Vec Ideal S1x1x1x6144 .f32) (u : FVec Ideal S256x1024 .f32)
    (w : Vec Ideal S1024x1024 .bf16) (r : Fin 256) (d : Fin 1024) :
    residual s mod u w (ix2 r d)
      = s (ix2 r d) + Kernel2Ideal.Tail.sixth 2048 (by omega) mod d * ∑ k : Fin 1024, u (ix2 r k) * w (ix2 k d) := by
  unfold Kernel2Ideal.Tail.sixth
  pointwise [residual]

theorem pick_context (i : grid0.Coords) (x ctx : Vec Ideal S1x256x1024 .f32) (hi : (i 1).val = 0) (r : Fin 256)
    (d : Fin 1024) : pick i x ctx (ix2 r d) = ctx (ix3 0 r d) := by
  unfold pick
  rw [hi]
  pointwise
  rfl

theorem pick_latent (i : grid0.Coords) (x ctx : Vec Ideal S1x256x1024 .f32) (hi : 1 ≤ (i 1).val) (r : Fin 256)
    (d : Fin 1024) : pick i x ctx (ix2 r d) = x (ix3 0 r d) := by
  have h : ∀ n : Fin 17, 1 ≤ n.val → Scalar.cmpi .slt (BitVec.ofNat 32 n.val) 1#32 = 0#1 := by decide
  unfold pick
  rw [h (i 1) hi]
  pointwise

/-- What the body leaves in the output block; `s` is the row of the stream the grid point works on. -/
theorem out_apply (i : grid0.Coords) (x0 x1 : Vec Ideal S1x256x1024 .f32) (x2 : Vec Ideal S1x256x1024 .bf16)
    (x3 : Vec Ideal S1x1x1x6144 .f32) (x4 : Vec Ideal S1x1024 .f32) (x5 : Vec Ideal S1024x2048 .bf16)
    (x6 : Vec Ideal S1024x1024 .bf16) (x7 : Vec Ideal S1x1024x5632 .bf16) (x8 : Vec Ideal S1x2816x1024 .bf16)
    (r : Fin 256) (e : Fin 1024) (s : Fin 1024 → EReal) (hs : ∀ d, pick i x0 x1 (ix2 r d) = s d) :
    out0_9 i x0 x1 x2 x3 x4 x5 x6 x7 x8 (ix3 0 r e)
      = Ffn.glued s (fun l => x2 (ix3 0 r l)) (fun n => x3 (ix4 0 0 0 n)) (fun d => x4 (ix2 0 d)) (fun l n => x5 (ix2 l n))
          (fun k d => x6 (ix2 k d)) (fun d n => x7 (ix3 0 d n)) (fun n e => x8 (ix3 0 n e)) e := by
  rw [out_eq]
  canon_tiles y h
  idx_vars y
  obtain rfl : y0 = 0 := Fin.ext (by omega)
  obtain rfl : y1 = r := Fin.ext (by omega)
  obtain rfl : y2 = e := Fin.ext (by omega)
  refine (Kernel2Ideal.Tail.ffn_apply _ x3 x4 x7 x8 y1 y2).trans ?_
  simp only [residual_apply, glu_apply, hs]
  rfl

end Cert.Kernel3Ideal.Tail

end
-- ==== Proof.Glu.Array.lean ====
module

public import proofs.«01_k».proof.Proof.Glu.Block
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Kernel3Ideal.Tail

open Cert.Kernel3Ideal Cert.Kernel3Ideal.Gen Idealize.ShloMosaic Idealize.ShloMosaic.TcCoe

/-- Where the windows' blocks lie: the latents' block is one behind the grid point, and the table of modulation is the
context's at the first point and the latents' at the others. -/
theorem idx : ∀ t : Fin grid0.N,
    win0_0.index t = ![(grid0.coords t 0).val, (grid0.coords t 1).val - 1, 0]
    ∧ win0_1.index t = ![(grid0.coords t 0).val, 0, 0]
    ∧ win0_2.index t = ![(grid0.coords t 0).val, (grid0.coords t 1).val, 0]
    ∧ win0_3.index t = ![min (grid0.coords t 1).val 1, (grid0.coords t 0).val, 0, 0]
    ∧ win0_4.index t = ![0, 0]
    ∧ win0_5.index t = ![0, 0]
    ∧ win0_6.index t = ![0, 0]
    ∧ win0_7.index t = ![0, 0, 0]
    ∧ win0_8.index t = ![0, 0, 0]
    ∧ win0_9.index t = ![(grid0.coords t 0).val, (grid0.coords t 1).val, 0] := by
  decide +kernel

theorem read0 (A : Vec Ideal S8x4096x1024 .f32) (t : Fin cfg0.N) (r : Fin 256) (d : Fin 1024) (b : Fin 8) (q : Fin 4096)
    (hb : b.val = (grid0.coords t 0).val) (hq : q.val = ((grid0.coords t 1).val - 1) * 256 + r.val) :
    (((cfg0.win 0).blk t).view.read (Elt Ideal) A : Vec Ideal S1x256x1024 .f32) (ix3 0 r d) = A (ix3 b q d) := by
  obtain ⟨e, -⟩ := idx t
  blk_ext [e]

theorem read1 (A : Vec Ideal S8x256x1024 .f32) (t : Fin cfg0.N) (r : Fin 256) (d : Fin 1024) (b : Fin 8)
    (hb : b.val = (grid0.coords t 0).val) :
    (((cfg0.win 1).blk t).view.read (Elt Ideal) A : Vec Ideal S1x256x1024 .f32) (ix3 0 r d) = A (ix3 b r d) := by
  obtain ⟨-, e, -⟩ := idx t
  blk_ext [e]

theorem read2 (A : Vec Ideal S8x4352x1024 .bf16) (t : Fin cfg0.N) (r : Fin 256) (d : Fin 1024) (b : Fin 8) (q : Fin 4352)
    (hb : b.val = (grid0.coords t 0).val) (hq : q.val = (grid0.coords t 1).val * 256 + r.val) :
    (((cfg0.win 2).blk t).view.read (Elt Ideal) A : Vec Ideal S1x256x1024 .bf16) (ix3 0 r d) = A (ix3 b q d) := by
  obtain ⟨-, -, e, -⟩ := idx t
  blk_ext [e]

theorem read3 (A : Vec Ideal S2x8x1x6144 .f32) (t : Fin cfg0.N) (n : Fin 6144) (p : Fin 2) (b : Fin 8)
    (hp : p.val = min (grid0.coords t 1).val 1) (hb : b.val = (grid0.coords t 0).val) :
    (((cfg0.win 3).blk t).view.read (Elt Ideal) A : Vec Ideal S1x1x1x6144 .f32) (ix4 0 0 0 n) = A (ix4 p b 0 n) := by
  obtain ⟨-, -, -, e, -⟩ := idx t
  blk_ext [e]

theorem read4 (A : Vec Ideal S1x1024 .f32) (t : Fin cfg0.N) (d : Fin 1024) :
    (((cfg0.win 4).blk t).view.read (Elt Ideal) A : Vec Ideal S1x1024 .f32) (ix2 0 d) = A (ix2 0 d) := by
  obtain ⟨-, -, -, -, e, -⟩ := idx t
  blk_ext [e]

theorem read5 (A : Vec Ideal S1024x2048 .bf16) (t : Fin cfg0.N) (k : Fin 1024) (d : Fin 2048) :
    (((cfg0.win 5).blk t).view.read (Elt Ideal) A : Vec Ideal S1024x2048 .bf16) (ix2 k d) = A (ix2 k d) := by
  obtain ⟨-, -, -, -, -, e, -⟩ := idx t
  blk_ext [e]

theorem read6 (A : Vec Ideal S1024x1024 .bf16) (t : Fin cfg0.N) (k d : Fin 1024) :
    (((cfg0.win 6).blk t).view.read (Elt Ideal) A : Vec Ideal S1024x1024 .bf16) (ix2 k d) = A (ix2 k d) := by
  obtain ⟨-, -, -, -, -, -, e, -⟩ := idx t
  blk_ext [e]

theorem read7 (A : Vec Ideal S2x1024x5632 .bf16) (t : Fin cfg0.N) (d : Fin 1024) (n : Fin 5632) :
    (((cfg0.win 7).blk t).view.read (Elt Ideal) A : Vec Ideal S1x1024x5632 .bf16) (ix3 0 d n) = A (ix3 0 d n) := by
  obtain ⟨-, -, -, -, -, -, -, e, -⟩ := idx t
  blk_ext [e]

theorem read8 (A : Vec Ideal S2x2816x1024 .bf16) (t : Fin cfg0.N) (n : Fin 2816) (d : Fin 1024) :
    (((cfg0.win 8).blk t).view.read (Elt Ideal) A : Vec Ideal S1x2816x1024 .bf16) (ix3 0 n d) = A (ix3 0 n d) := by
  obtain ⟨-, -, -, -, -, -, -, -, e, -⟩ := idx t
  blk_ext [e]

/-- The result from the whole arrays: the first 256 rows are the context's. -/
def arrOut (A0 : Vec Ideal S8x4096x1024 .f32) (A1 : Vec Ideal S8x256x1024 .f32) (A2 : Vec Ideal S8x4352x1024 .bf16)
    (A3 : Vec Ideal S2x8x1x6144 .f32) (A4 : Vec Ideal S1x1024 .f32) (A5 : Vec Ideal S1024x2048 .bf16)
    (A6 : Vec Ideal S1024x1024 .bf16) (A7 : Vec Ideal S2x1024x5632 .bf16) (A8 : Vec Ideal S2x2816x1024 .bf16) (b : Fin 8)
    (q : Fin 4352) (e : Fin 1024) : EReal :=
  if h : q.val < 256 then
    Ffn.glued (fun d => A1 (ix3 b ⟨q.val, h⟩ d)) (fun l => A2 (ix3 b q l)) (fun n => A3 (ix4 0 b 0 n)) (fun d => A4 (ix2 0 d))
      (fun l n => A5 (ix2 l n)) (fun k d => A6 (ix2 k d)) (fun d n => A7 (ix3 0 d n)) (fun n e => A8 (ix3 0 n e)) e
  else
    Ffn.glued (fun d => A0 (ix3 b ⟨q.val - 256, by omega⟩ d)) (fun l => A2 (ix3 b q l)) (fun n => A3 (ix4 1 b 0 n))
      (fun d => A4 (ix2 0 d)) (fun l n => A5 (ix2 l n)) (fun k d => A6 (ix2 k d)) (fun d n => A7 (ix3 0 d n))
      (fun n e => A8 (ix3 0 n e)) e

/-- A point's block of the result is that part of the whole result. -/
theorem block_eq (A0 : Vec Ideal S8x4096x1024 .f32) (A1 : Vec Ideal S8x256x1024 .f32) (A2 : Vec Ideal S8x4352x1024 .bf16)
    (A3 : Vec Ideal S2x8x1x6144 .f32) (A4 : Vec Ideal S1x1024 .f32) (A5 : Vec Ideal S1024x2048 .bf16)
    (A6 : Vec Ideal S1024x1024 .bf16) (A7 : Vec Ideal S2x1024x5632 .bf16) (A8 : Vec Ideal S2x2816x1024 .bf16)
    (x0 x1 : Vec Ideal S1x256x1024 .f32) (x2 : Vec Ideal S1x256x1024 .bf16)
    (x3 : Vec Ideal S1x1x1x6144 .f32) (x4 : Vec Ideal S1x1024 .f32) (x5 : Vec Ideal S1024x2048 .bf16)
    (x6 : Vec Ideal S1024x1024 .bf16) (x7 : Vec Ideal S1x1024x5632 .bf16) (x8 : Vec Ideal S1x2816x1024 .bf16)
    (t : Fin cfg0.N) (h0 : x0 = ((cfg0.win 0).blk t).view.read (Elt Ideal) A0)
    (h1 : x1 = ((cfg0.win 1).blk t).view.read (Elt Ideal) A1) (h2 : x2 = ((cfg0.win 2).blk t).view.read (Elt Ideal) A2)
    (h3 : x3 = ((cfg0.win 3).blk t).view.read (Elt Ideal) A3) (h4 : x4 = ((cfg0.win 4).blk t).view.read (Elt Ideal) A4)
    (h5 : x5 = ((cfg0.win 5).blk t).view.read (Elt Ideal) A5) (h6 : x6 = ((cfg0.win 6).blk t).view.read (Elt Ideal) A6)
    (h7 : x7 = ((cfg0.win 7).blk t).view.read (Elt Ideal) A7) (h8 : x8 = ((cfg0.win 8).blk t).view.read (Elt Ideal) A8)
    (r : Fin 256) (l : Fin 1024) (b : Fin 8) (q : Fin 4352) (e : Fin 1024)
    (hb : b.val = (grid0.coords t 0).val) (hq : q.val = (grid0.coords t 1).val * 256 + r.val) (he : e.val = l.val) :
    out0_9 (grid0.coords t) x0 x1 x2 x3 x4 x5 x6 x7 x8 (ix3 0 r l) = arrOut A0 A1 A2 A3 A4 A5 A6 A7 A8 b q e := by
  obtain rfl : e = l := Fin.ext he
  have e2 : (fun l => x2 (ix3 0 r l)) = fun l => A2 (ix3 b q l) := by
    funext l
    rw [h2]
    exact read2 A2 t r l b q hb hq
  have e4 : (fun d => x4 (ix2 0 d)) = fun d => A4 (ix2 0 d) := by
    funext d
    rw [h4]
    exact read4 A4 t d
  have e5 : (fun l n => x5 (ix2 l n)) = fun l n => A5 (ix2 l n) := by
    funext l n
    rw [h5]
    exact read5 A5 t l n
  have e6 : (fun k d => x6 (ix2 k d)) = fun k d => A6 (ix2 k d) := by
    funext k d
    rw [h6]
    exact read6 A6 t k d
  have e7 : (fun d n => x7 (ix3 0 d n)) = fun d n => A7 (ix3 0 d n) := by
    funext d n
    rw [h7]
    exact read7 A7 t d n
  have e8 : (fun n e => x8 (ix3 0 n e)) = fun n e => A8 (ix3 0 n e) := by
    funext n e
    rw [h8]
    exact read8 A8 t n e
  unfold arrOut
  by_cases hi : (grid0.coords t 1).val = 0
  · have hlt : q.val < 256 := by omega
    have e3 : (fun n => x3 (ix4 0 0 0 n)) = fun n => A3 (ix4 0 b 0 n) := by
      funext n
      rw [h3]
      exact read3 A3 t n 0 b (by rw [hi]; rfl) hb
    have er : (⟨q.val, hlt⟩ : Fin 256) = r := Fin.ext (by dsimp only; omega)
    rw [dif_pos hlt, out_apply _ x0 x1 x2 x3 x4 x5 x6 x7 x8 r e (fun d => A1 (ix3 b ⟨q.val, hlt⟩ d))
      (fun d => by rw [pick_context _ x0 x1 hi, h1, er]; exact read1 A1 t r d b hb), e2, e3, e4, e5, e6, e7, e8]
  · have hge : ¬ q.val < 256 := by omega
    have e3 : (fun n => x3 (ix4 0 0 0 n)) = fun n => A3 (ix4 1 b 0 n) := by
      funext n
      rw [h3]
      exact read3 A3 t n 1 b (by simp only [Fin.val_one]; omega) hb
    rw [dif_neg hge, out_apply _ x0 x1 x2 x3 x4 x5 x6 x7 x8 r e (fun d => A0 (ix3 b ⟨q.val - 256, by omega⟩ d))
      (fun d => by
        rw [pick_latent _ x0 x1 (by omega), h0]
        exact read0 A0 t r d b _ hb (by dsimp only; omega)), e2, e3, e4, e5, e6, e7, e8]

variable (m : (ℓ : Loc nD τ sig) → Buf (Elt Ideal) ℓ)

/-- The result array after the run. -/
theorem arr_eq (c : Dev nD) (A0 : Vec Ideal S8x4096x1024 .f32) (A1 : Vec Ideal S8x256x1024 .f32)
    (A2 : Vec Ideal S8x4352x1024 .bf16) (A3 : Vec Ideal S2x8x1x6144 .f32) (A4 : Vec Ideal S1x1024 .f32)
    (A5 : Vec Ideal S1024x2048 .bf16) (A6 : Vec Ideal S1024x1024 .bf16) (A7 : Vec Ideal S2x1024x5632 .bf16)
    (A8 : Vec Ideal S2x2816x1024 .bf16)
    (h0 : V m c (Pipeline.arrRef spec0 0) = A0) (h1 : V m c (Pipeline.arrRef spec0 1) = A1)
    (h2 : V m c (Pipeline.arrRef spec0 2) = A2) (h3 : V m c (Pipeline.arrRef spec0 3) = A3)
    (h4 : V m c (Pipeline.arrRef spec0 4) = A4) (h5 : V m c (Pipeline.arrRef spec0 5) = A5)
    (h6 : V m c (Pipeline.arrRef spec0 6) = A6) (h7 : V m c (Pipeline.arrRef spec0 7) = A7)
    (h8 : V m c (Pipeline.arrRef spec0 8) = A8) :
    (dats m 0 c).arrAt 9 cfg0.N
      = fun i : S8x4352x1024.Idx => arrOut A0 A1 A2 A3 A4 A5 A6 A7 A8 (i 0) (i 1) (i 2) := by
  refine (dats m 0 c).arrAt_eq_of_covers 9 _ (by decide +kernel) fun t hf y => ?_
  obtain ⟨-, -, -, -, -, -, -, -, -, e9⟩ := idx t
  blk_simp
  rw [after0_9]
  have hy : y = ix3 (0 : Fin 1) (y 1) (y 2) := by
    funext a
    match a with
    | ⟨0, _⟩ => exact Fin.ext (by have := (y 0).isLt; change (y 0).val < 1 at this; change (y 0).val = 0; omega)
    | ⟨1, _⟩ => rfl
    | ⟨2, _⟩ => rfl
  rw [hy]
  refine block_eq A0 A1 A2 A3 A4 A5 A6 A7 A8 _ _ _ _ _ _ _ _ _ t ?_ ?_ ?_ ?_ ?_ ?_ ?_ ?_ ?_ _ _ _ _ _ ?_ ?_ ?_
  · rw [← h0]; rfl
  · rw [← h1]; rfl
  · rw [← h2]; rfl
  · rw [← h3]; rfl
  · rw [← h4]; rfl
  · rw [← h5]; rfl
  · rw [← h6]; rfl
  · rw [← h7]; rfl
  · rw [← h8]; rfl
  all_goals
    blk_simp [e9]
  all_goals simp

end Cert.Kernel3Ideal.Tail

end
-- ==== Proof.Glu.Host.lean ====
module

public import proofs.«01_k».proof.Proof.Glu.Array
public import Idealize.ShloMosaic.Lib.Tactic.CleanTypes
public import Idealize.ShloMosaic.Lib.StableHlo.RunRead

@[expose] public section

set_option maxRecDepth 16384

noncomputable section

namespace Cert.Kernel3Ideal.Tail

open Cert.Kernel3Ideal Cert.Kernel3Ideal.Gen Idealize.ShloMosaic Idealize.ShloMosaic.TcCoe

/-- The two tables of modulation: the context's one row for all, and the latents' row of each batch. -/
def table (mod : FVec Ideal S8x6144 .f32) (modc : FVec Ideal S1x6144 .f32) : FVec Ideal S2x8x1x6144 .f32 :=
  concatenate S2x8x1x6144 0
    [⟨S1x8x1x6144, broadcastInDim S1x8x1x6144 ![1, 2, 3] bcast_S8x1x6144_S1x8x1x6144_1_2_3
      (broadcastInDim S8x1x6144 ![0, 1, 2] bcast_S1x1x6144_S8x1x6144_0_1_2
        (broadcastInDim S1x1x6144 ![0, 2] bcast_S1x6144_S1x1x6144_0_2 modc))⟩,
     ⟨S1x8x1x6144, broadcastInDim S1x8x1x6144 ![1, 2, 3] bcast_S8x1x6144_S1x8x1x6144_1_2_3
      (broadcastInDim S8x1x6144 ![0, 2] bcast_S8x6144_S8x1x6144_0_2 mod)⟩]
    concatenates_S1x8x1x6144_S1x8x1x6144_S2x8x1x6144_d0

theorem table_latent (mod : FVec Ideal S8x6144 .f32) (modc : FVec Ideal S1x6144 .f32) (b : Fin 8) (n : Fin 6144) :
    table mod modc (ix4 1 b 0 n) = mod (ix2 b n) := by
  pointwise [table]

theorem table_context (mod : FVec Ideal S8x6144 .f32) (modc : FVec Ideal S1x6144 .f32) (b : Fin 8) (n : Fin 6144) :
    table mod modc (ix4 0 b 0 n) = modc (ix2 0 n) := by
  pointwise [table]

variable (m : (ℓ : Loc nD τ sig) → Buf (Elt Ideal) ℓ)

theorem entry0 (c : Dev nD) : (V m c (Pipeline.arrRef spec0 0) : Vec Ideal S8x4096x1024 .f32)
    = m ((c : Thread nD τ).loc main_arg0) := by
  rfl

theorem entry1 (c : Dev nD) : (V m c (Pipeline.arrRef spec0 1) : Vec Ideal S8x256x1024 .f32)
    = m ((c : Thread nD τ).loc main_arg1) := by
  rfl

theorem entry2 (c : Dev nD) : (V m c (Pipeline.arrRef spec0 2) : Vec Ideal S8x4352x1024 .bf16)
    = m ((c : Thread nD τ).loc main_arg2) := by
  rfl

theorem entry3 (c : Dev nD) : (V m c (Pipeline.arrRef spec0 3) : Vec Ideal S2x8x1x6144 .f32)
    = table (m ((c : Thread nD τ).loc main_arg3)) (m ((c : Thread nD τ).loc main_arg4)) := by
  rfl

theorem entry4 (c : Dev nD) : (V m c (Pipeline.arrRef spec0 4) : Vec Ideal S1x1024 .f32)
    = broadcastInDim S1x1024 ![1] bcast_S1024_S1x1024_1 (m ((c : Thread nD τ).loc main_arg5)) := by
  rfl

theorem entry5 (c : Dev nD) : (V m c (Pipeline.arrRef spec0 5) : Vec Ideal S1024x2048 .bf16)
    = truncf (F := Ideal) .bf16 (m ((c : Thread nD τ).loc main_arg6)) bitsLt_bf16_f32 := by
  rfl

theorem entry6 (c : Dev nD) : (V m c (Pipeline.arrRef spec0 6) : Vec Ideal S1024x1024 .bf16)
    = truncf (F := Ideal) .bf16 (m ((c : Thread nD τ).loc main_arg7)) bitsLt_bf16_f32 := by
  rfl

theorem entry7 (c : Dev nD) : (V m c (Pipeline.arrRef spec0 7) : Vec Ideal S2x1024x5632 .bf16)
    = truncf (F := Ideal) .bf16 (m ((c : Thread nD τ).loc main_arg8)) bitsLt_bf16_f32 := by
  rfl

theorem entry8 (c : Dev nD) : (V m c (Pipeline.arrRef spec0 8) : Vec Ideal S2x2816x1024 .bf16)
    = truncf (F := Ideal) .bf16 (m ((c : Thread nD τ).loc main_arg9)) bitsLt_bf16_f32 := by
  rfl

/-- The result from the arguments: the first 256 rows are the context's. -/
def argOut (x : FVec Ideal S8x4096x1024 .f32) (ctx : FVec Ideal S8x256x1024 .f32) (a : FVec Ideal S8x4352x1024 .bf16)
    (mod : FVec Ideal S8x6144 .f32) (modc : FVec Ideal S1x6144 .f32) (g : FVec Ideal S1024 .f32)
    (wg : FVec Ideal S1024x2048 .f32) (wo : FVec Ideal S1024x1024 .f32) (w1 : FVec Ideal S2x1024x5632 .f32)
    (w2 : FVec Ideal S2x2816x1024 .f32) (b : Fin 8) (q : Fin 4352) (e : Fin 1024) : EReal :=
  if h : q.val < 256 then
    Ffn.glued (fun d => ctx (ix3 b ⟨q.val, h⟩ d)) (fun l => a (ix3 b q l)) (fun n => modc (ix2 0 n)) (fun d => g (ix1 d))
      (fun l n => wg (ix2 l n)) (fun k d => wo (ix2 k d)) (fun d n => w1 (ix3 0 d n)) (fun n e => w2 (ix3 0 n e)) e
  else
    Ffn.glued (fun d => x (ix3 b ⟨q.val - 256, by omega⟩ d)) (fun l => a (ix3 b q l)) (fun n => mod (ix2 b n))
      (fun d => g (ix1 d)) (fun l n => wg (ix2 l n)) (fun k d => wo (ix2 k d)) (fun d n => w1 (ix3 0 d n))
      (fun n e => w2 (ix3 0 n e)) e

/-- The two forms of the result agree. -/
theorem arr_arg (x : FVec Ideal S8x4096x1024 .f32) (ctx : FVec Ideal S8x256x1024 .f32) (a : FVec Ideal S8x4352x1024 .bf16)
    (mod : FVec Ideal S8x6144 .f32) (modc : FVec Ideal S1x6144 .f32) (g : FVec Ideal S1024 .f32)
    (wg : FVec Ideal S1024x2048 .f32) (wo : FVec Ideal S1024x1024 .f32) (w1 : FVec Ideal S2x1024x5632 .f32)
    (w2 : FVec Ideal S2x2816x1024 .f32) (b : Fin 8) (q : Fin 4352) (e : Fin 1024) :
    arrOut x ctx a (table mod modc) (broadcastInDim S1x1024 ![1] bcast_S1024_S1x1024_1 g)
        (truncf .bf16 wg bitsLt_bf16_f32) (truncf .bf16 wo bitsLt_bf16_f32) (truncf .bf16 w1 bitsLt_bf16_f32)
        (truncf .bf16 w2 bitsLt_bf16_f32) b q e
      = argOut x ctx a mod modc g wg wo w1 w2 b q e := by
  have hg : ∀ d : Fin 1024, broadcastInDim S1x1024 ![1] bcast_S1024_S1x1024_1 g (ix2 0 d) = g (ix1 d) :=
    fun d => by pointwise
  unfold arrOut argOut
  simp only [table_context, table_latent, hg]
  rfl

/-- The array the kernel leaves, from the arguments. -/
theorem kernel_out (c : Dev nD) : (dats m 0 c).arrAt 9 cfg0.N = fun i : S8x4352x1024.Idx =>
    argOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (i 0) (i 1) (i 2) := by
  refine (arr_eq m c _ _ _ _ _ _ _ _ _ (entry0 m c) (entry1 m c) (entry2 m c) (entry3 m c) (entry4 m c) (entry5 m c)
    (entry6 m c) (entry7 m c) (entry8 m c)).trans ?_
  funext i
  exact arr_arg _ _ _ _ _ _ _ _ _ _ (i 0) (i 1) (i 2)

end Cert.Kernel3Ideal.Tail

end
-- ==== Proof.Glu.Reference.lean ====
module

public import proofs.«01_k».proof.Proof.Mla.Reference
public import proofs.«01_k».proof.Proof.Gen.Reference3Ideal.Run
public import Idealize.ShloMosaic.Lib.Pointwise

@[expose] public section

set_option maxRecDepth 16384

noncomputable section

namespace Cert.Reference3Ideal.Tail

open Cert.Reference3Ideal Cert.Reference3Ideal.Gen Idealize.ShloMosaic Idealize.ShloMosaic.TcCoe

/-! The layer on the context, whose modulation is one row for all batches; on the latents it is the layer the other
tail's reference has. -/

/-- A sixth of the context's modulation, the same for every token. -/
def wide (v : FVec Ideal S1x1024 .f32) : FVec Ideal S8x256x1024 .f32 :=
  broadcastInDim S8x256x1024 ![0, 1, 2] bcast_S1x1x1024_S8x256x1024_0_1_2
    (broadcastInDim S1x1x1024 ![0, 2] bcast_S1x1024_S1x1x1024_0_2 v)

/-- The stream plus the gated `o`. -/
def stream (x o : FVec Ideal S8x256x1024 .f32) (mod : FVec Ideal S1x6144 .f32) : FVec Ideal S8x256x1024 .f32 :=
  addf x (mulf (wide (extractStridedSlice S1x1024 ![0, 2048] mod slices_S1x6144_S1x1024_0_2048)) o)

/-- The modulated norm. -/
def norm (x : FVec Ideal S8x256x1024 .f32) (g : FVec Ideal S1024 .f32) (mod : FVec Ideal S1x6144 .f32) :
    FVec Ideal S8x256x1024 .f32 :=
  addf (mulf (mulf (mulf x
    (broadcastInDim S8x256x1024 ![0, 1, 2] bcast_S8x256x1_S8x256x1024_0_1_2
      (Host.rsqrt (addf (Host.divf (broadcastInDim S8x256x1 ![0, 1] bcast_S8x256_S8x256x1_0_1
        (Host.reduceAdd (mulf x x) (constant S_ .f32 0x00000000#32) reducesTo_S8x256x1024_S8x256_d2 h_S_))
        (broadcastInDim S8x256x1 ![] bcast_S_S8x256x1 (constant S_ .f32 0x44800000#32)))
        (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2 g)))
    (broadcastInDim S8x256x1024 ![0, 1, 2] bcast_S1x1x1024_S8x256x1024_0_1_2
      (addf (broadcastInDim S1x1x1024 ![] bcast_S_S1x1x1024 (constant S_ .f32 0x3F800000#32))
        (broadcastInDim S1x1x1024 ![0, 2] bcast_S1x1024_S1x1x1024_0_2
          (extractStridedSlice S1x1024 ![0, 4096] mod slices_S1x6144_S1x1024_0_4096)))))
    (wide (extractStridedSlice S1x1024 ![0, 3072] mod slices_S1x6144_S1x1024_0_3072))

/-- The first product. -/
def up (h : FVec Ideal S8x256x1024 .f32) (w : FVec Ideal S1024x5632 .f32) : FVec Ideal S8x256x5632 .f32 :=
  Host.dotGeneral dot_S8x256x1024_S1024x5632_S8x256x5632_2_0_01_1_n_n none h w

/-- The hidden units from the first product. -/
def units (z : FVec Ideal S8x256x5632 .f32) : FVec Ideal S8x256x2816 .f32 :=
  mulf (mulf (extractStridedSlice S8x256x2816 ![0, 0, 0] z slices_S8x256x5632_S8x256x2816_0_0_0)
      (Host.divf (broadcastInDim S8x256x2816 ![] bcast_S_S8x256x2816 (constant S_ .f32 0x3F800000#32))
        (addf (broadcastInDim S8x256x2816 ![] bcast_S_S8x256x2816 (constant S_ .f32 0x3F800000#32))
          (Host.exp (Host.negf (extractStridedSlice S8x256x2816 ![0, 0, 0] z slices_S8x256x5632_S8x256x2816_0_0_0))))))
    (extractStridedSlice S8x256x2816 ![0, 0, 2816] z slices_S8x256x5632_S8x256x2816_0_0_2816)

/-- The residual layer: `stream`, plus the gated network of its modulated norm. -/
def layer (x o : FVec Ideal S8x256x1024 .f32) (mod : FVec Ideal S1x6144 .f32) (g : FVec Ideal S1024 .f32)
    (w1 : FVec Ideal S1024x5632 .f32) (w2 : FVec Ideal S2816x1024 .f32) : FVec Ideal S8x256x1024 .f32 :=
  addf (stream x o mod) (mulf (wide (extractStridedSlice S1x1024 ![0, 5120] mod slices_S1x6144_S1x1024_0_5120))
    (Host.dotGeneral dot_S8x256x2816_S2816x1024_S8x256x1024_2_0_01_1_n_n none
      (units (up (norm (stream x o mod) g mod) w1)) w2))

theorem stream_apply (x o : FVec Ideal S8x256x1024 .f32) (mod : FVec Ideal S1x6144 .f32) (b : Fin 8) (q : Fin 256)
    (d : Fin 1024) :
    stream x o mod (ix3 b q d) = x (ix3 b q d) + mod (ix2 0 ⟨2048 + d.val, by omega⟩) * o (ix3 b q d) := by
  pointwise [stream, wide]

theorem norm_apply (x : FVec Ideal S8x256x1024 .f32) (g : FVec Ideal S1024 .f32) (mod : FVec Ideal S1x6144 .f32)
    (b : Fin 8) (q : Fin 256) (d : Fin 1024) :
    norm x g mod (ix3 b q d) = Ffn.normed (fun d => x (ix3 b q d)) (fun d => g (ix1 d))
      (fun d => mod (ix2 0 ⟨3072 + d.val, by omega⟩)) (fun d => mod (ix2 0 ⟨4096 + d.val, by omega⟩)) d := by
  unfold Ffn.normed
  pointwise [norm, wide]

theorem up_apply (h : FVec Ideal S8x256x1024 .f32) (w : FVec Ideal S1024x5632 .f32) (b : Fin 8) (q : Fin 256)
    (n : Fin 5632) : up h w (ix3 b q n) = ∑ d : Fin 1024, h (ix3 b q d) * w (ix2 d n) := by
  pointwise [up]

theorem units_apply (z : FVec Ideal S8x256x5632 .f32) (b : Fin 8) (q : Fin 256) (n : Fin 2816) :
    units z (ix3 b q n) = z (ix3 b q ⟨n.val, by omega⟩) * Ideal.logistic (z (ix3 b q ⟨n.val, by omega⟩))
      * z (ix3 b q ⟨2816 + n.val, by omega⟩) := by
  unfold Ideal.logistic
  pointwise [units]

/-- The layer, row by row. -/
theorem layer_apply (x o : FVec Ideal S8x256x1024 .f32) (mod : FVec Ideal S1x6144 .f32) (g : FVec Ideal S1024 .f32)
    (w1 : FVec Ideal S1024x5632 .f32) (w2 : FVec Ideal S2816x1024 .f32) (b : Fin 8) (q : Fin 256) (e : Fin 1024) :
    layer x o mod g w1 w2 (ix3 b q e)
      = Ffn.row (fun d => x (ix3 b q d) + mod (ix2 0 ⟨2048 + d.val, by omega⟩) * o (ix3 b q d)) (fun d => g (ix1 d))
          (fun d => mod (ix2 0 ⟨3072 + d.val, by omega⟩)) (fun d => mod (ix2 0 ⟨4096 + d.val, by omega⟩))
          (fun d => mod (ix2 0 ⟨5120 + d.val, by omega⟩)) (fun d n => w1 (ix2 d n)) (fun n e => w2 (ix2 n e)) e := by
  unfold layer Ffn.row Ffn.hidden
  simp only [← stream_apply, ← norm_apply, ← up_apply]
  generalize up (norm (stream x o mod) g mod) w1 = z
  simp only [← units_apply]
  generalize units z = u
  generalize stream x o mod = s
  pointwise [wide]

/-- The product the gated linear unit splits, on the context. -/
def zCtx (a : FVec Ideal S8x4352x1024 .bf16) (w : FVec Ideal S1024x2048 .f32) : FVec Ideal S8x256x2048 .f32 :=
  Host.dotGeneral dot_S8x256x1024_S1024x2048_S8x256x2048_2_0_01_1_n_n none
    (extf .f32 (extractStridedSlice S8x256x1024 ![0, 0, 0] a slices_S8x4352x1024_S8x256x1024_0_0_0) bitsLt_bf16_f32) w

/-- The projected gated linear unit, on the context. -/
def oCtx (z : FVec Ideal S8x256x2048 .f32) (w : FVec Ideal S1024x1024 .f32) : FVec Ideal S8x256x1024 .f32 :=
  Host.dotGeneral dot_S8x256x1024_S1024x1024_S8x256x1024_2_0_01_1_n_n none
    (mulf (extractStridedSlice S8x256x1024 ![0, 0, 0] z slices_S8x256x2048_S8x256x1024_0_0_0)
      (Host.divf (broadcastInDim S8x256x1024 ![] bcast_S_S8x256x1024 (constant S_ .f32 0x3F800000#32))
        (addf (broadcastInDim S8x256x1024 ![] bcast_S_S8x256x1024 (constant S_ .f32 0x3F800000#32))
          (Host.exp (Host.negf (extractStridedSlice S8x256x1024 ![0, 0, 1024] z slices_S8x256x2048_S8x256x1024_0_0_1024))))))
    w

/-- The product the gated linear unit splits, on the latents. -/
def zLat (a : FVec Ideal S8x4352x1024 .bf16) (w : FVec Ideal S1024x2048 .f32) : FVec Ideal S8x4096x2048 .f32 :=
  Host.dotGeneral dot_S8x4096x1024_S1024x2048_S8x4096x2048_2_0_01_1_n_n none
    (extf .f32 (extractStridedSlice S8x4096x1024 ![0, 256, 0] a slices_S8x4352x1024_S8x4096x1024_0_256_0) bitsLt_bf16_f32) w

/-- The projected gated linear unit, on the latents. -/
def oLat (z : FVec Ideal S8x4096x2048 .f32) (w : FVec Ideal S1024x1024 .f32) : FVec Ideal S8x4096x1024 .f32 :=
  Host.dotGeneral dot_S8x4096x1024_S1024x1024_S8x4096x1024_2_0_01_1_n_n none
    (mulf (extractStridedSlice S8x4096x1024 ![0, 0, 0] z slices_S8x4096x2048_S8x4096x1024_0_0_0)
      (Host.divf (broadcastInDim S8x4096x1024 ![] bcast_S_S8x4096x1024 (constant S_ .f32 0x3F800000#32))
        (addf (broadcastInDim S8x4096x1024 ![] bcast_S_S8x4096x1024 (constant S_ .f32 0x3F800000#32))
          (Host.exp (Host.negf (extractStridedSlice S8x4096x1024 ![0, 0, 1024] z slices_S8x4096x2048_S8x4096x1024_0_0_1024))))))
    w

theorem zCtx_apply (a : FVec Ideal S8x4352x1024 .bf16) (w : FVec Ideal S1024x2048 .f32) (b : Fin 8) (q : Fin 256)
    (n : Fin 2048) : zCtx a w (ix3 b q n) = ∑ l : Fin 1024, a (ix3 b ⟨q.val, by omega⟩ l) * w (ix2 l n) := by
  pointwise [zCtx]

theorem zLat_apply (a : FVec Ideal S8x4352x1024 .bf16) (w : FVec Ideal S1024x2048 .f32) (b : Fin 8) (q : Fin 4096)
    (n : Fin 2048) : zLat a w (ix3 b q n) = ∑ l : Fin 1024, a (ix3 b ⟨256 + q.val, by omega⟩ l) * w (ix2 l n) := by
  pointwise [zLat]

theorem oCtx_apply (a : FVec Ideal S8x4352x1024 .bf16) (wg : FVec Ideal S1024x2048 .f32) (w : FVec Ideal S1024x1024 .f32)
    (b : Fin 8) (q : Fin 256) (d : Fin 1024) :
    oCtx (zCtx a wg) w (ix3 b q d)
      = ∑ k, Ffn.gluRow (fun l => a (ix3 b ⟨q.val, by omega⟩ l)) (fun l n => wg (ix2 l n)) k * w (ix2 k d) := by
  unfold Ffn.gluRow
  simp only [← zCtx_apply]
  generalize zCtx a wg = z
  unfold Ideal.logistic
  pointwise [oCtx]

theorem oLat_apply (a : FVec Ideal S8x4352x1024 .bf16) (wg : FVec Ideal S1024x2048 .f32) (w : FVec Ideal S1024x1024 .f32)
    (b : Fin 8) (q : Fin 4096) (d : Fin 1024) :
    oLat (zLat a wg) w (ix3 b q d)
      = ∑ k, Ffn.gluRow (fun l => a (ix3 b ⟨256 + q.val, by omega⟩ l)) (fun l n => wg (ix2 l n)) k * w (ix2 k d) := by
  unfold Ffn.gluRow
  simp only [← zLat_apply]
  generalize zLat a wg = z
  unfold Ideal.logistic
  pointwise [oLat]

/-- The first layer's first weights. -/
def first (w1 : FVec Ideal S2x1024x5632 .f32) : FVec Ideal S1024x5632 .f32 :=
  shapeCast S1024x5632 (extractStridedSlice S1x1024x5632 ![0, 0, 0] w1 slices_S2x1024x5632_S1x1024x5632_0_0_0)
    shapeCasts_S1x1024x5632_S1024x5632

/-- The first layer's second weights. -/
def second (w2 : FVec Ideal S2x2816x1024 .f32) : FVec Ideal S2816x1024 .f32 :=
  shapeCast S2816x1024 (extractStridedSlice S1x2816x1024 ![0, 0, 0] w2 slices_S2x2816x1024_S1x2816x1024_0_0_0)
    shapeCasts_S1x2816x1024_S2816x1024

theorem first_apply (w1 : FVec Ideal S2x1024x5632 .f32) (d : Fin 1024) (n : Fin 5632) :
    first w1 (ix2 d n) = w1 (ix3 0 d n) := by
  pointwise [first]

theorem second_apply (w2 : FVec Ideal S2x2816x1024 .f32) (n : Fin 2816) (e : Fin 1024) :
    second w2 (ix2 n e) = w2 (ix3 0 n e) := by
  pointwise [second]

/-- The two streams, the context first. -/
def streams (c : FVec Ideal S8x256x1024 .f32) (x : FVec Ideal S8x4096x1024 .f32) : FVec Ideal S8x4352x1024 .f32 :=
  concatenate S8x4352x1024 1 [⟨S8x256x1024, c⟩, ⟨S8x4096x1024, x⟩] concatenates_S8x256x1024_S8x4096x1024_S8x4352x1024_d1

theorem streams_apply (c : FVec Ideal S8x256x1024 .f32) (x : FVec Ideal S8x4096x1024 .f32) (b : Fin 8) (q : Fin 4352)
    (e : Fin 1024) :
    streams c x (ix3 b q e) = if h : q.val < 256 then c (ix3 b ⟨q.val, h⟩ e) else x (ix3 b ⟨q.val - 256, by omega⟩ e) := by
  pointwise [streams]

variable (m : (ℓ : Loc nD τ sig) → Buf (Elt Ideal) ℓ)

/-- The reference's result is the layer on the two streams. -/
theorem res_eq (c : Dev nD) : Value.res_out0 m c
    = streams
        (layer (m ((c.tc : Thread nD τ).loc main_arg1))
          (oCtx (zCtx (m ((c.tc : Thread nD τ).loc main_arg2)) (m ((c.tc : Thread nD τ).loc main_arg6)))
            (m ((c.tc : Thread nD τ).loc main_arg7)))
          (m ((c.tc : Thread nD τ).loc main_arg4)) (m ((c.tc : Thread nD τ).loc main_arg5))
          (first (m ((c.tc : Thread nD τ).loc main_arg8))) (second (m ((c.tc : Thread nD τ).loc main_arg9))))
        (Reference2Ideal.Tail.layer (m ((c.tc : Thread nD τ).loc main_arg0))
          (oLat (zLat (m ((c.tc : Thread nD τ).loc main_arg2)) (m ((c.tc : Thread nD τ).loc main_arg6)))
            (m ((c.tc : Thread nD τ).loc main_arg7)))
          (m ((c.tc : Thread nD τ).loc main_arg3)) (m ((c.tc : Thread nD τ).loc main_arg5))
          (first (m ((c.tc : Thread nD τ).loc main_arg8))) (second (m ((c.tc : Thread nD τ).loc main_arg9)))) := by
  rfl

end Cert.Reference3Ideal.Tail

end
-- ==== Proof.Glu.Equation.lean ====
module

public import proofs.«01_k».proof.Proof.Glu.Host
public import proofs.«01_k».proof.Proof.Glu.Reference

@[expose] public section

noncomputable section

namespace Cert.Glu

open Idealize.ShloMosaic Cert.Kernel3Ideal Cert.Reference3Ideal.Tail

/-- The reference's result: the layer on both streams. -/
def out (x : FVec Ideal S8x4096x1024 .f32) (ctx : FVec Ideal S8x256x1024 .f32) (a : FVec Ideal S8x4352x1024 .bf16)
    (mod : FVec Ideal S8x6144 .f32) (modc : FVec Ideal S1x6144 .f32) (g : FVec Ideal S1024 .f32)
    (wg : FVec Ideal S1024x2048 .f32) (wo : FVec Ideal S1024x1024 .f32) (w1 : FVec Ideal S2x1024x5632 .f32)
    (w2 : FVec Ideal S2x2816x1024 .f32) : FVec Ideal S8x4352x1024 .f32 :=
  streams (layer ctx (oCtx (zCtx a wg) wo) modc g (first w1) (second w2))
    (Reference2Ideal.Tail.layer x (oLat (zLat a wg) wo) mod g (first w1) (second w2))

/-- The kernel's result and the reference's agree, entry by entry. -/
theorem out_eq (x : FVec Ideal S8x4096x1024 .f32) (ctx : FVec Ideal S8x256x1024 .f32) (a : FVec Ideal S8x4352x1024 .bf16)
    (mod : FVec Ideal S8x6144 .f32) (modc : FVec Ideal S1x6144 .f32) (g : FVec Ideal S1024 .f32)
    (wg : FVec Ideal S1024x2048 .f32) (wo : FVec Ideal S1024x1024 .f32) (w1 : FVec Ideal S2x1024x5632 .f32)
    (w2 : FVec Ideal S2x2816x1024 .f32) (b : Fin 8) (q : Fin 4352) (e : Fin 1024) :
    Kernel3Ideal.Tail.argOut x ctx a mod modc g wg wo w1 w2 b q e = out x ctx a mod modc g wg wo w1 w2 (ix3 b q e) := by
  unfold Kernel3Ideal.Tail.argOut out Ffn.glued
  rw [streams_apply]
  by_cases h : q.val < 256
  · rw [dif_pos h, dif_pos h, layer_apply]
    simp only [oCtx_apply, first_apply, second_apply]
  · have hq : (⟨256 + (q.val - 256), by omega⟩ : Fin 4352) = q := Fin.ext (by simp only; omega)
    rw [dif_neg h, dif_neg h, Reference2Ideal.Tail.layer_apply]
    simp only [oLat_apply, first_apply, second_apply, hq]

/-- The array the kernel leaves is the reference's result at the kernel's arguments. -/
theorem kernel_array (m : (ℓ : Loc nD τ sig) → Buf (Elt Ideal) ℓ) (c : Dev nD) :
    (Gen.dats m 0 c).arrAt 9 cfg0.N
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  refine (Tail.kernel_out m c).trans ?_
  funext i
  exact (out_eq _ _ _ _ _ _ _ _ _ _ (i 0) (i 1) (i 2)).trans (congrArg _ (eq_ix3 i).symm)

end Cert.Glu

end
-- ==== Proof.Proj.Text.lean ====
module

public import proofs.«01_k».proof.Proof.Ffn.Values
public import proofs.«01_k».proof.Proof.Gen.Kernel4Ideal.Frame

@[expose] public section

set_option maxRecDepth 16384

noncomputable section

namespace Cert.Kernel4Ideal.Proj

open Cert.Kernel4Ideal Cert.Kernel4Ideal.Gen Idealize.ShloMosaic Idealize.ShloMosaic.TcCoe

variable {F : FTy → Type} [FloatOps F] [Named F]

/-! The text of the projection's body on a block of 256 tokens, each head written once. -/

/-- The first product. -/
def proj (x0 : Vec F S1x256x1024 .f32) (x1 : Vec F S1x1x1x6144 .f32) (x2 : Vec F S1x1024 .f32)
    (x3 : Vec F S1024x896 .bf16) : FVec F S256x896 .f32 :=
  matmul dot_S256x1024_S1024x896_S256x896_1_0_0_1_n_n none
    (Kernel2Ideal.Tail.norm (shapeCast S256x1024 (View.ld x0 r0_0) shapeCasts_S1x256x1024_S256x1024) (View.ld x2 r0_1)
      (View.ld x1 r0_2) (View.ld x1 r0_3))
    (shapeCast S1024x896 (View.ld x3 r0_4) shapeCasts_S1024x896_S1024x896) (constant S256x896 .f32 0x00000000#32)

/-- The normalised low rank of the queries. -/
def lowQ (p : FVec F S256x896 .f32) (g : Vec F S1x512 .f32) : FVec F S256x512 .bf16 :=
  truncf .bf16 (mulf
    (mulf (extractStridedSlice S256x512 ![0, 0] p slices_S256x896_o0_0_S256x512)
      (broadcastTo S256x512 (rsqrt (addf (divf (shapeCast S256x1
        (multiReduction .add [1] S256
          (mulf (extractStridedSlice S256x512 ![0, 0] p slices_S256x896_o0_0_S256x512)
            (extractStridedSlice S256x512 ![0, 0] p slices_S256x896_o0_0_S256x512)) 0x00000000#32 reduces_S256x512_S256
          (.inl rfl) rfl) shapeCasts_S256_S256x1)
        (broadcast S256x1 (Scalar.ofBits .f32 0x44000000#32))) (broadcast S256x1 (Scalar.ofBits .f32 0x358637BD#32))))
        broadcasts_S256x1_S256x512))
    (broadcastTo S256x512 (shapeCast S1x512 (View.ld g r0_5) shapeCasts_S1x512_S1x512) broadcasts_S1x512_S256x512))
    bitsLt_bf16_f32

/-- The normalised low rank of the keys and values. -/
def lowK (p : FVec F S256x896 .f32) (g : Vec F S1x256 .f32) : FVec F S256x256 .bf16 :=
  truncf .bf16 (mulf
    (mulf (extractStridedSlice S256x256 ![0, 512] p slices_S256x896_o0_512_S256x256)
      (broadcastTo S256x256 (rsqrt (addf (divf (shapeCast S256x1
        (multiReduction .add [1] S256
          (mulf (extractStridedSlice S256x256 ![0, 512] p slices_S256x896_o0_512_S256x256)
            (extractStridedSlice S256x256 ![0, 512] p slices_S256x896_o0_512_S256x256)) 0x00000000#32 reduces_S256x256_S256
          (.inl rfl) rfl) shapeCasts_S256_S256x1)
        (broadcast S256x1 (Scalar.ofBits .f32 0x43800000#32))) (broadcast S256x1 (Scalar.ofBits .f32 0x358637BD#32))))
        broadcasts_S256x1_S256x256))
    (broadcastTo S256x256 (shapeCast S1x256 (View.ld g r0_6) shapeCasts_S1x256_S1x256) broadcasts_S1x256_S256x256))
    bitsLt_bf16_f32

/-- The queries of all heads, tokens last. -/
def queries (q : FVec F S256x512 .bf16) (w : Vec F S2048x512 .bf16) : FVec F S2048x256 .f32 :=
  matmul dot_S2048x512_S256x512_S2048x256_1_1_0_0_n_n none
    (shapeCast S2048x512 (View.ld w r0_7) shapeCasts_S2048x512_S2048x512) q (constant S2048x256 .f32 0x00000000#32)

/-- The keys' unrotated dimensions of all heads. -/
def keys (k : FVec F S256x256 .bf16) (w : Vec F S256x2048 .bf16) : FVec F S256x2048 .f32 :=
  matmul dot_S256x256_S256x2048_S256x2048_1_0_0_1_n_n none k
    (shapeCast S256x2048 (View.ld w r0_8) shapeCasts_S256x2048_S256x2048) (constant S256x2048 .f32 0x00000000#32)

/-- The values of all heads, tokens last. -/
def values (k : FVec F S256x256 .bf16) (w : Vec F S1024x256 .bf16) : FVec F S1x16x64x256 .bf16 :=
  shapeCast S1x16x64x256 (shapeCast S16x64x256 (truncf .bf16
    (matmul dot_S1024x256_S256x256_S1024x256_1_1_0_0_n_n none
      (shapeCast S1024x256 (View.ld w r0_9) shapeCasts_S1024x256_S1024x256) k (constant S1024x256 .f32 0x00000000#32))
    bitsLt_bf16_f32) shapeCasts_S1024x256_S16x64x256) shapeCasts_S16x64x256_S1x16x64x256

/-- A head's 96 lanes of the queries. -/
def seg (o : ℕ) (q : FVec F S2048x256 .f32) (h : S2048x256.Slices ![o, 0] S96x256) : FVec F S96x256 .f32 :=
  extractStridedSlice S96x256 ![o, 0] q h

/-- A head's 128 lanes of the keys' unrotated dimensions. -/
def slot (o : ℕ) (k : FVec F S256x2048 .f32) (h : S256x2048.Slices ![0, o] S256x128) : FVec F S256x128 .f32 :=
  extractStridedSlice S256x128 ![0, o] k h

/-- The reciprocal root mean square of a head's queries. -/
def segNorm (s : FVec F S96x256 .f32) : FVec F S1x256 .f32 :=
  rsqrt (addf (mulf (shapeCast S1x256 (multiReduction .add [0] S256 (mulf s s) 0x00000000#32 reduces_S96x256_S256 (.inl rfl) rfl)
    shapeCasts_S256_S1x256) (broadcast S1x256 (Named.named κ "inv_qk" 0x3C2AAAAB#32)))
    (broadcast S1x256 (Scalar.ofBits .f32 0x358637BD#32)))

/-- A head's queries times one table, the rotated lanes with their partners times the other. -/
def segRot (s gc gs : FVec F S96x256 .f32) : FVec F S96x256 .f32 :=
  concatenate S96x256 0
    [⟨S16x256, addf (extractStridedSlice S16x256 ![0, 0] (mulf s gc) slices_S96x256_o0_0_S16x256)
        (mulf (extractStridedSlice S16x256 ![64, 0] s slices_S96x256_o64_0_S16x256)
          (extractStridedSlice S16x256 ![0, 0] gs slices_S96x256_o0_0_S16x256))⟩,
     ⟨S48x256, extractStridedSlice S48x256 ![16, 0] (mulf s gc) slices_S96x256_o16_0_S48x256⟩,
     ⟨S16x256, addf (extractStridedSlice S16x256 ![64, 0] (mulf s gc) slices_S96x256_o64_0_S16x256)
        (mulf (extractStridedSlice S16x256 ![0, 0] s slices_S96x256_o0_0_S16x256)
          (extractStridedSlice S16x256 ![64, 0] gs slices_S96x256_o64_0_S16x256))⟩,
     ⟨S16x256, extractStridedSlice S16x256 ![80, 0] (mulf s gc) slices_S96x256_o80_0_S16x256⟩]
    concatenates_S16x256_S48x256_S16x256_S16x256_S96x256_d0

/-- What a head stores of the queries. -/
def headRows (s gc gs : FVec F S96x256 .f32) : FVec F S1x128x256 .bf16 :=
  shapeCast S1x128x256 (truncf .bf16 (concatenate S128x256 0
    [⟨S96x256, mulf (segRot s gc gs) (broadcastTo S96x256 (segNorm s) broadcasts_S1x256_S96x256)⟩,
     ⟨S32x256, broadcast S32x256 (Scalar.ofBits .f32 0x00000000#32)⟩] concatenates_S96x256_S32x256_S128x256_d0)
    bitsLt_bf16_f32) shapeCasts_S128x256_S1x128x256

/-- The rotated part of the keys, the same for all heads. -/
def peRot (pe : FVec F S256x128 .f32) (gs : Vec F S256x128 .f32) : FVec F S256x128 .f32 :=
  mulf (dynamicRotate 1 64#32 none pe rotates_S256x128_d1) (shapeCast S256x128 (View.ld gs r0_27) shapeCasts_S256x128_S256x128)

/-- What a head stores of the keys. -/
def headCols (n pe gc rot : FVec F S256x128 .f32) : FVec F S1x256x128 .bf16 :=
  shapeCast S1x256x128 (truncf .bf16
    (mulf (addf (mulf (addf n pe) gc) rot)
      (broadcastTo S256x128 (rsqrt (addf (mulf (shapeCast S256x1
        (multiReduction .add [1] S256 (mulf (addf n pe) (addf n pe)) 0x00000000#32 reduces_S256x128_S256 (.inl rfl) rfl)
        shapeCasts_S256_S256x1) (broadcast S256x1 (Named.named κ "inv_qk" 0x3C2AAAAB#32)))
        (broadcast S256x1 (Scalar.ofBits .f32 0x358637BD#32)))) broadcasts_S256x1_S256x128))
    bitsLt_bf16_f32) shapeCasts_S256x128_S1x256x128

/-- The rotary lanes of the keys. -/
def pe (p : FVec F S256x896 .f32) : FVec F S256x128 .f32 :=
  extractStridedSlice S256x128 ![0, 768] p slices_S256x896_o0_768_S256x128

/-- The queries' sixteen stores. -/
def storesQ (qt : FVec F S2048x256 .f32) (gc gs : FVec F S96x256 .f32) : Vec F S1x2048x256 .bf16 :=
  View.canon
      [⟨r0_26, headRows (seg 1920 qt slices_S2048x256_o1920_0_S96x256) gc gs⟩,
       ⟨r0_25, headRows (seg 1792 qt slices_S2048x256_o1792_0_S96x256) gc gs⟩,
       ⟨r0_24, headRows (seg 1664 qt slices_S2048x256_o1664_0_S96x256) gc gs⟩,
       ⟨r0_23, headRows (seg 1536 qt slices_S2048x256_o1536_0_S96x256) gc gs⟩,
       ⟨r0_22, headRows (seg 1408 qt slices_S2048x256_o1408_0_S96x256) gc gs⟩,
       ⟨r0_21, headRows (seg 1280 qt slices_S2048x256_o1280_0_S96x256) gc gs⟩,
       ⟨r0_20, headRows (seg 1152 qt slices_S2048x256_o1152_0_S96x256) gc gs⟩,
       ⟨r0_19, headRows (seg 1024 qt slices_S2048x256_o1024_0_S96x256) gc gs⟩,
       ⟨r0_18, headRows (seg 896 qt slices_S2048x256_o896_0_S96x256) gc gs⟩,
       ⟨r0_17, headRows (seg 768 qt slices_S2048x256_o768_0_S96x256) gc gs⟩,
       ⟨r0_16, headRows (seg 640 qt slices_S2048x256_o640_0_S96x256) gc gs⟩,
       ⟨r0_15, headRows (seg 512 qt slices_S2048x256_o512_0_S96x256) gc gs⟩,
       ⟨r0_14, headRows (seg 384 qt slices_S2048x256_o384_0_S96x256) gc gs⟩,
       ⟨r0_13, headRows (seg 256 qt slices_S2048x256_o256_0_S96x256) gc gs⟩,
       ⟨r0_12, headRows (seg 128 qt slices_S2048x256_o128_0_S96x256) gc gs⟩,
       ⟨r0_11, headRows (seg 0 qt slices_S2048x256_o0_0_S96x256) gc gs⟩]

/-- The keys' sixteen stores. -/
def storesK (kn : FVec F S256x2048 .f32) (pe gc rot : FVec F S256x128 .f32) : Vec F S1x256x2048 .bf16 :=
  View.canon
      [⟨r0_43, headCols (slot 1920 kn slices_S256x2048_o0_1920_S256x128) pe gc rot⟩,
       ⟨r0_42, headCols (slot 1792 kn slices_S256x2048_o0_1792_S256x128) pe gc rot⟩,
       ⟨r0_41, headCols (slot 1664 kn slices_S256x2048_o0_1664_S256x128) pe gc rot⟩,
       ⟨r0_40, headCols (slot 1536 kn slices_S256x2048_o0_1536_S256x128) pe gc rot⟩,
       ⟨r0_39, headCols (slot 1408 kn slices_S256x2048_o0_1408_S256x128) pe gc rot⟩,
       ⟨r0_38, headCols (slot 1280 kn slices_S256x2048_o0_1280_S256x128) pe gc rot⟩,
       ⟨r0_37, headCols (slot 1152 kn slices_S256x2048_o0_1152_S256x128) pe gc rot⟩,
       ⟨r0_36, headCols (slot 1024 kn slices_S256x2048_o0_1024_S256x128) pe gc rot⟩,
       ⟨r0_35, headCols (slot 896 kn slices_S256x2048_o0_896_S256x128) pe gc rot⟩,
       ⟨r0_34, headCols (slot 768 kn slices_S256x2048_o0_768_S256x128) pe gc rot⟩,
       ⟨r0_33, headCols (slot 640 kn slices_S256x2048_o0_640_S256x128) pe gc rot⟩,
       ⟨r0_32, headCols (slot 512 kn slices_S256x2048_o0_512_S256x128) pe gc rot⟩,
       ⟨r0_31, headCols (slot 384 kn slices_S256x2048_o0_384_S256x128) pe gc rot⟩,
       ⟨r0_30, headCols (slot 256 kn slices_S256x2048_o0_256_S256x128) pe gc rot⟩,
       ⟨r0_29, headCols (slot 128 kn slices_S256x2048_o0_128_S256x128) pe gc rot⟩,
       ⟨r0_28, headCols (slot 0 kn slices_S256x2048_o0_0_S256x128) pe gc rot⟩]

theorem out13_eq (x0 : Vec F S1x256x1024 .f32) (x1 : Vec F S1x1x1x6144 .f32) (x2 : Vec F S1x1024 .f32)
    (x3 : Vec F S1024x896 .bf16) (x4 : Vec F S1x512 .f32) (x5 : Vec F S1x256 .f32) (x6 : Vec F S2048x512 .bf16)
    (x7 : Vec F S256x2048 .bf16) (x8 : Vec F S1024x256 .bf16) (x9 x10 : Vec F S96x256 .f32) (x11 x12 : Vec F S256x128 .f32) :
    out0_13 x0 x1 x2 x3 x4 x5 x6 x7 x8 x9 x10 x11 x12
      = storesQ (queries (lowQ (proj x0 x1 x2 x3) x4) x6)
          (shapeCast S96x256 (View.ld x9 r0_10) shapeCasts_S96x256_S96x256)
          (shapeCast S96x256 (View.ld x10 r0_10) shapeCasts_S96x256_S96x256) := by
  rfl

theorem out14_eq (x0 : Vec F S1x256x1024 .f32) (x1 : Vec F S1x1x1x6144 .f32) (x2 : Vec F S1x1024 .f32)
    (x3 : Vec F S1024x896 .bf16) (x4 : Vec F S1x512 .f32) (x5 : Vec F S1x256 .f32) (x6 : Vec F S2048x512 .bf16)
    (x7 : Vec F S256x2048 .bf16) (x8 : Vec F S1024x256 .bf16) (x9 x10 : Vec F S96x256 .f32) (x11 x12 : Vec F S256x128 .f32) :
    out0_14 x0 x1 x2 x3 x4 x5 x6 x7 x8 x9 x10 x11 x12
      = storesK (keys (lowK (proj x0 x1 x2 x3) x5) x7) (pe (proj x0 x1 x2 x3))
          (shapeCast S256x128 (View.ld x11 r0_27) shapeCasts_S256x128_S256x128) (peRot (pe (proj x0 x1 x2 x3)) x12) := by
  rfl

theorem out15_eq (x0 : Vec F S1x256x1024 .f32) (x1 : Vec F S1x1x1x6144 .f32) (x2 : Vec F S1x1024 .f32)
    (x3 : Vec F S1024x896 .bf16) (x4 : Vec F S1x512 .f32) (x5 : Vec F S1x256 .f32) (x6 : Vec F S2048x512 .bf16)
    (x7 : Vec F S256x2048 .bf16) (x8 : Vec F S1024x256 .bf16) (x9 x10 : Vec F S96x256 .f32) (x11 x12 : Vec F S256x128 .f32) :
    out0_15 x0 x1 x2 x3 x4 x5 x6 x7 x8 x9 x10 x11 x12 = View.canon [⟨r0_44, values (lowK (proj x0 x1 x2 x3) x5) x8⟩] := by
  rfl

end Cert.Kernel4Ideal.Proj

end
-- ==== Proof.Proj.Row.lean ====
module

public import proofs.«01_k».proof.Proof.Ffn.Row

@[expose] public section

noncomputable section

namespace Cert.Proj

open Idealize.ShloMosaic

/-! One token's projections, over plain functions. -/

/-- A row normalised by its root mean square and scaled by `g`; `w` is the word of its length. -/
def rms {n : ℕ} (w : BitVec 32) (x g : Fin n → EReal) (l : Fin n) : EReal :=
  x l * Ideal.rsqrt (Ideal.div (∑ e, x e * x e) (Ideal.ofBits .f32 w) + Ideal.ofBits .f32 0x358637BD#32) * g l

/-- The reciprocal root mean square of 96 numbers, from the sum of their squares. -/
def recip (s : EReal) : EReal := Ideal.rsqrt (s * ((96⁻¹ : ℝ) : EReal) + Ideal.ofBits .f32 0x358637BD#32)

/-- A head's rotated query at a lane, before the normalisation. -/
def rotLane (s gc gs : Fin 96 → EReal) (l : Fin 96) : EReal :=
  if h : l.val < 16 then s l * gc l + s ⟨64 + l.val, by omega⟩ * gs l
  else if l.val < 64 then s l * gc l
  else if h' : l.val < 80 then s l * gc l + s ⟨l.val - 64, by omega⟩ * gs l
  else s l * gc l

/-- What a head stores of a query at a lane. -/
def qLane (s gc gs : Fin 96 → EReal) (l : Fin 128) : EReal :=
  if h : l.val < 96 then rotLane s gc gs ⟨l.val, h⟩ * recip (∑ j, s j * s j) else 0

/-- What a head stores of a key at a lane. -/
def kLane (t pe gc gs : Fin 128 → EReal) (l : Fin 128) : EReal :=
  (t l * gc l + pe ⟨(l.val + 64) % 128, by omega⟩ * gs l) * recip (∑ j, t j * t j)

/-- The first product's row: the normalised and modulated stream against the weights. -/
def projRow (x g : Fin 1024 → EReal) (md : Fin 6144 → EReal) (w : Fin 1024 → Fin 896 → EReal) (n : Fin 896) : EReal :=
  ∑ d, Ffn.normed x g (fun d => md ⟨d.val, by omega⟩) (fun d => md ⟨1024 + d.val, by omega⟩) d * w d n

/-- The row's low rank of the queries, normalised. -/
def lowQRow (p : Fin 896 → EReal) (g : Fin 512 → EReal) (l : Fin 512) : EReal :=
  rms 0x44000000#32 (fun l : Fin 512 => p ⟨l.val, by omega⟩) g l

/-- The row's low rank of the keys and values, normalised. -/
def lowKRow (p : Fin 896 → EReal) (g : Fin 256 → EReal) (c : Fin 256) : EReal :=
  rms 0x43800000#32 (fun c : Fin 256 => p ⟨512 + c.val, by omega⟩) g c

/-- The queries of a row in head slots: head `n / 128`, lane `n % 128`. -/
def projQ (p : Fin 896 → EReal) (g : Fin 512 → EReal) (w : Fin 2048 → Fin 512 → EReal) (gc gs : Fin 96 → EReal)
    (n : Fin 2048) : EReal :=
  qLane (fun j => ∑ l, w ⟨128 * (n.val / 128) + j.val, by omega⟩ l * lowQRow p g l) gc gs ⟨n.val % 128, by omega⟩

/-- The keys of a row in head slots. -/
def projK (p : Fin 896 → EReal) (g : Fin 256 → EReal) (w : Fin 256 → Fin 2048 → EReal) (gc gs : Fin 128 → EReal)
    (n : Fin 2048) : EReal :=
  kLane (fun j => (∑ c, lowKRow p g c * w c ⟨128 * (n.val / 128) + j.val, by omega⟩) + p ⟨768 + j.val, by omega⟩)
    (fun j => p ⟨768 + j.val, by omega⟩) gc gs ⟨n.val % 128, by omega⟩

/-- The values of a row. -/
def projV (p : Fin 896 → EReal) (g : Fin 256 → EReal) (w : Fin 1024 → Fin 256 → EReal) (n : Fin 1024) : EReal :=
  ∑ c, w n c * lowKRow p g c

end Cert.Proj

end
-- ==== Proof.Proj.Values.lean ====
module

public import proofs.«01_k».proof.Proof.Proj.Text
public import proofs.«01_k».proof.Proof.Proj.Row
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Cert.Proj

/-- The first product at a row. -/
theorem proj_apply (x0 : Vec Ideal S1x256x1024 .f32) (x1 : Vec Ideal S1x1x1x6144 .f32) (x2 : Vec Ideal S1x1024 .f32)
    (x3 : Vec Ideal S1024x896 .bf16) (r : Fin 256) (n : Fin 896) :
    proj x0 x1 x2 x3 (ix2 r n)
      = ∑ d : Fin 1024, Ffn.normed (fun d => x0 (ix3 0 r d)) (fun d => x2 (ix2 0 d))
          (fun d => x1 (ix4 0 0 0 ⟨d.val, by omega⟩)) (fun d => x1 (ix4 0 0 0 ⟨1024 + d.val, by omega⟩)) d * x3 (ix2 d n) := by
  have h : ∀ d : Fin 1024, Kernel2Ideal.Tail.norm (shapeCast S256x1024 (View.ld x0 r0_0) shapeCasts_S1x256x1024_S256x1024)
      (View.ld x2 r0_1) (View.ld x1 r0_2) (View.ld x1 r0_3) (ix2 r d)
        = Ffn.normed (fun d => x0 (ix3 0 r d)) (fun d => x2 (ix2 0 d))
          (fun d => x1 (ix4 0 0 0 ⟨d.val, by omega⟩)) (fun d => x1 (ix4 0 0 0 ⟨1024 + d.val, by omega⟩)) d := fun d => by
    rw [Kernel2Ideal.Tail.norm_apply]
    congr 1
    · funext d
      pointwise
    · funext d
      pointwise
    · funext d
      pointwise
    · funext d
      pointwise
  simp only [← h]
  unfold proj
  generalize Kernel2Ideal.Tail.norm (shapeCast S256x1024 (View.ld x0 r0_0) shapeCasts_S1x256x1024_S256x1024)
      (View.ld x2 r0_1) (View.ld x1 r0_2) (View.ld x1 r0_3) = z
  pointwise

theorem lowQ_apply (p : FVec Ideal S256x896 .f32) (g : Vec Ideal S1x512 .f32) (r : Fin 256) (l : Fin 512) :
    lowQ p g (ix2 r l) = rms 0x44000000#32 (fun l : Fin 512 => p (ix2 r ⟨l.val, by omega⟩)) (fun l => g (ix2 0 l)) l := by
  unfold rms
  pointwise [lowQ]

theorem lowK_apply (p : FVec Ideal S256x896 .f32) (g : Vec Ideal S1x256 .f32) (r l : Fin 256) :
    lowK p g (ix2 r l)
      = rms 0x43800000#32 (fun l : Fin 256 => p (ix2 r ⟨512 + l.val, by omega⟩)) (fun l => g (ix2 0 l)) l := by
  unfold rms
  pointwise [lowK]

theorem queries_apply (q : FVec Ideal S256x512 .bf16) (w : Vec Ideal S2048x512 .bf16) (n : Fin 2048) (r : Fin 256) :
    queries q w (ix2 n r) = ∑ l : Fin 512, w (ix2 n l) * q (ix2 r l) := by
  pointwise [queries]

theorem keys_apply (k : FVec Ideal S256x256 .bf16) (w : Vec Ideal S256x2048 .bf16) (r : Fin 256) (n : Fin 2048) :
    keys k w (ix2 r n) = ∑ c : Fin 256, k (ix2 r c) * w (ix2 c n) := by
  pointwise [keys]

theorem values_apply (k : FVec Ideal S256x256 .bf16) (w : Vec Ideal S1024x256 .bf16) (h : Fin 16) (e : Fin 64) (r : Fin 256) :
    values k w (ix4 0 h e r) = ∑ c : Fin 256, w (ix2 ⟨64 * h.val + e.val, by omega⟩ c) * k (ix2 r c) := by
  have h' : (⟨64 * h.val + e.val, by omega⟩ : Fin 1024) = ⟨h.val * 64 + e.val, by omega⟩ := Fin.ext (by simp only; omega)
  rw [h']
  pointwise [values]

theorem pe_apply (p : FVec Ideal S256x896 .f32) (r : Fin 256) (l : Fin 128) :
    pe p (ix2 r l) = p (ix2 r ⟨768 + l.val, by omega⟩) := by
  pointwise [pe]

/-- The named constant is the reciprocal of 96. -/
theorem inv_qk : Named.named (F := Ideal) κ (φ := .f32) "inv_qk" 0x3C2AAAAB#32 = ((96⁻¹ : ℝ) : EReal) :=
  IdealRules.named_const.ideal_named_scalar _ _ _ _ rfl

theorem segNorm_apply (s : FVec Ideal S96x256 .f32) (r : Fin 256) :
    segNorm s (ix2 0 r) = recip (∑ j : Fin 96, s (ix2 j r) * s (ix2 j r)) := by
  unfold segNorm recip
  rw [inv_qk]
  pointwise

theorem segRot_apply (s gc gs : FVec Ideal S96x256 .f32) (l : Fin 96) (r : Fin 256) :
    segRot s gc gs (ix2 l r) = rotLane (fun j => s (ix2 j r)) (fun j => gc (ix2 j r)) (fun j => gs (ix2 j r)) l := by
  unfold rotLane
  pointwise [segRot]
  by_cases h0 : l.val < 16
  · rw [dif_pos h0, dif_pos h0]
  · rw [dif_neg h0, dif_neg h0]
    by_cases h1 : l.val < 64
    · rw [dif_pos (by omega), if_pos h1]
      have e : (⟨16 + (l.val - 16), by omega⟩ : Fin 96) = l := Fin.ext (by simp only; omega)
      rw [e]
    · rw [dif_neg (by omega), if_neg h1]
      by_cases h2 : l.val < 80
      · rw [dif_pos (by omega), dif_pos h2]
        have e : (⟨64 + (l.val - 16 - 48), by omega⟩ : Fin 96) = l := Fin.ext (by simp only; omega)
        have e' : (⟨l.val - 16 - 48, by omega⟩ : Fin 96) = ⟨l.val - 64, by omega⟩ := Fin.ext (by simp only; omega)
        rw [e, e']
      · rw [dif_neg (by omega), dif_neg h2]
        have e : (⟨80 + (l.val - 16 - 48 - 16), by omega⟩ : Fin 96) = l := Fin.ext (by simp only; omega)
        rw [e]

theorem headRows_apply (s gc gs : FVec Ideal S96x256 .f32) (l : Fin 128) (r : Fin 256) :
    headRows s gc gs (ix3 0 l r) = qLane (fun j => s (ix2 j r)) (fun j => gc (ix2 j r)) (fun j => gs (ix2 j r)) l := by
  unfold qLane
  simp only [← segRot_apply, ← segNorm_apply]
  unfold headRows
  generalize segRot s gc gs = u
  generalize segNorm s = v
  pointwise

theorem headCols_apply (n p gc rot : FVec Ideal S256x128 .f32) (r : Fin 256) (l : Fin 128) :
    headCols n p gc rot (ix3 0 r l)
      = ((n (ix2 r l) + p (ix2 r l)) * gc (ix2 r l) + rot (ix2 r l))
          * recip (∑ j : Fin 128, (n (ix2 r j) + p (ix2 r j)) * (n (ix2 r j) + p (ix2 r j))) := by
  unfold headCols recip
  rw [inv_qk]
  pointwise

theorem peRot_apply (p : FVec Ideal S256x128 .f32) (gs : Vec Ideal S256x128 .f32) (r : Fin 256) (l : Fin 128) :
    peRot p gs (ix2 r l) = p (ix2 r ⟨(l.val + 64) % 128, by omega⟩) * gs (ix2 r l) := by
  have h : (⟨(l.val + 64) % 128, by omega⟩ : Fin 128) = ⟨(l.val + 128 - 64) % 128, by omega⟩ := Fin.ext (by simp only; omega)
  rw [h]
  pointwise [peRot]

end Cert.Kernel4Ideal.Proj

end
-- ==== Proof.Proj.Run.lean ====
module

public import proofs.«01_k».proof.Proof.Proj.Values
public import Idealize.ShloMosaic.Lib.Pipeline.Value

@[expose] public section

noncomputable section

namespace Cert.Kernel4Ideal.Proj

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

/-- The frame's run with the three results named and the arguments unchanged. -/
theorem run : θ_run defs (onTc (τ := τ) (main (F := Ideal))) ⟨m, fun _ => 0, ρ⟩ fun r => ∀ c : Dev nD,
      r.2.mem ((c : Thread nD τ).loc main_v133) = Pipeline.afterTail₀ cfgs (dats m) 0 (V0 m) [hostOps1] c main_v133
      ∧ r.2.mem ((c : Thread nD τ).loc main_v146) = Pipeline.afterTail₀ cfgs (dats m) 0 (V0 m) [hostOps1] c main_v146
      ∧ r.2.mem ((c : Thread nD τ).loc main_v148) = Pipeline.afterTail₀ cfgs (dats m) 0 (V0 m) [hostOps1] c main_v148
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (run_main m ρ)
  refine ⟨(h c).2 main_v133 (Pipeline.mem_restRefs_of main_v133 (by decide) (by decide)),
    (h c).2 main_v146 (Pipeline.mem_restRefs_of main_v146 (by decide) (by decide)),
    (h c).2 main_v148 (Pipeline.mem_restRefs_of main_v148 (by decide) (by decide)), ?_, ?_, ?_, ?_, ?_, ?_, ?_, ?_, ?_, ?_, ?_, ?_⟩
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)
  · exact ((h c).2 main_arg5 (Pipeline.mem_restRefs_of main_arg5 (by decide) (by decide))).trans (W_main_arg5 m (dats m) c)
  · exact ((h c).2 main_arg6 (Pipeline.mem_restRefs_of main_arg6 (by decide) (by decide))).trans (W_main_arg6 m (dats m) c)
  · exact ((h c).2 main_arg7 (Pipeline.mem_restRefs_of main_arg7 (by decide) (by decide))).trans (W_main_arg7 m (dats m) c)
  · exact ((h c).2 main_arg8 (Pipeline.mem_restRefs_of main_arg8 (by decide) (by decide))).trans (W_main_arg8 m (dats m) c)
  · exact ((h c).2 main_arg9 (Pipeline.mem_restRefs_of main_arg9 (by decide) (by decide))).trans (W_main_arg9 m (dats m) c)
  · exact ((h c).2 main_arg10 (Pipeline.mem_restRefs_of main_arg10 (by decide) (by decide))).trans (W_main_arg10 m (dats m) c)
  · exact ((h c).2 main_arg11 (Pipeline.mem_restRefs_of main_arg11 (by decide) (by decide))).trans (W_main_arg11 m (dats m) c)

end Cert.Kernel4Ideal.Proj

end
-- ==== Proof.Proj.Scalar.lean ====
module

public import proofs.«01_k».proof.Proof.Proj.Row
public import proofs.«01_k».proof.Proof.Attn.Slots
public import proofs.«01_k».proof.Proof.Attn.Softmax

@[expose] public section

noncomputable section

namespace Cert.Proj

open Idealize.ShloMosaic

/-! The reciprocal root mean square of a head and the scale of the queries are nonnegative numbers, and what that moves. -/

/-- The literal under the root. -/
theorem eps_eq : Ideal.ofBits .f32 0x358637BD#32 = ((8796093 / 8796093022208 : ℝ) : EReal) := by
  simp [Ideal.ofBits, Ideal.ieee, -EReal.coe_mul]; norm_num

/-- The mean of squares over 96, both ways. -/
theorem recip_eq (s : EReal) :
    Ideal.rsqrt (Ideal.div s (Ideal.ofBits .f32 0x42C00000#32) + Ideal.ofBits .f32 0x358637BD#32) = recip s := by
  unfold recip
  rw [KernelIdeal.Attn.ofBits_96, Ideal.div_coe (by norm_num), one_div]

/-- A head normalised, by `recip`. -/
theorem rms_eq (h g : Fin 96 → EReal) (d : Fin 96) :
    rms 0x42C00000#32 h g d = h d * recip (∑ e, h e * h e) * g d := by
  unfold rms
  rw [recip_eq]

theorem recip_bounds (s : EReal) (hs : 0 ≤ s) : 0 ≤ recip s ∧ recip s ≠ ⊤ := by
  unfold recip
  rw [eps_eq]
  induction s using EReal.rec with
  | bot => exact absurd hs (by simp)
  | top =>
    rw [EReal.top_mul_coe_of_pos (by norm_num), EReal.top_add_coe, Ideal.rsqrt_top]
    exact ⟨le_refl _, EReal.zero_ne_top⟩
  | coe r =>
    have hr : 0 ≤ r := EReal.coe_nonneg.mp hs
    have hp : 0 < r * 96⁻¹ + 8796093 / 8796093022208 := by positivity
    rw [← EReal.coe_mul, ← EReal.coe_add, Ideal.rsqrt_coe, if_neg (not_lt.mpr hp.le), if_neg hp.ne']
    exact ⟨EReal.coe_nonneg.mpr (by positivity), EReal.coe_ne_top _⟩

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem squares_nonneg {n : ℕ} (f : Fin n → EReal) : 0 ≤ ∑ j, f j * f j := Finset.sum_nonneg fun j _ => square_nonneg (f j)

/-- The scale of the queries, as a real number. -/
theorem scale_bounds : 0 ≤ Ideal.div 1 (Ideal.sqrt ((96 : ℝ) : EReal) * Ideal.log ((2 : ℝ) : EReal))
    ∧ Ideal.div 1 (Ideal.sqrt ((96 : ℝ) : EReal) * Ideal.log ((2 : ℝ) : EReal)) ≠ ⊤ := by
  rw [Soft.scale_eq]
  exact ⟨EReal.coe_nonneg.mpr (div_nonneg zero_le_one (mul_nonneg (Real.sqrt_nonneg _) (Real.log_pos one_lt_two).le)),
    EReal.coe_ne_top _⟩

/-- Dividing by `√96 · log 2` is multiplying by the scale. -/
theorem div_scale (s : EReal) : Ideal.div s (Ideal.sqrt ((96 : ℝ) : EReal) * Ideal.log ((2 : ℝ) : EReal))
    = s * Ideal.div 1 (Ideal.sqrt ((96 : ℝ) : EReal) * Ideal.log ((2 : ℝ) : EReal)) := by
  have h2 : Real.log 2 ≠ 0 := (Real.log_pos one_lt_two).ne'
  have h9 : Real.sqrt 96 ≠ 0 := (Real.sqrt_pos.mpr (by norm_num)).ne'
  rw [Soft.scale_eq, Ideal.sqrt_coe, if_neg (by norm_num), Ideal.log_coe, if_neg (by norm_num), ← EReal.coe_mul,
    Ideal.div_coe (mul_ne_zero h9 h2)]

/-- A rotated pair: the norm's weights and the scale inside, or outside. -/
theorem mix (h₁ g₁ C h₂ g₂ S r σ : EReal) (hr : 0 ≤ r ∧ r ≠ ⊤) (hσ : 0 ≤ σ ∧ σ ≠ ⊤) :
    (h₁ * (g₁ * σ * C) + h₂ * (g₂ * σ * S)) * r = (h₁ * r * g₁ * C + h₂ * r * g₂ * S) * σ := by
  rw [EReal.right_distrib_of_nonneg_of_ne_top hr.1 hr.2, EReal.right_distrib_of_nonneg_of_ne_top hσ.1 hσ.2]
  congr 1 <;> ac_rfl

theorem mix_neg (h₁ g₁ C h₂ g₂ S r σ : EReal) (hr : 0 ≤ r ∧ r ≠ ⊤) (hσ : 0 ≤ σ ∧ σ ≠ ⊤) :
    (h₁ * (g₁ * σ * C) + h₂ * (g₂ * σ * -S)) * r = (h₁ * r * g₁ * C - h₂ * r * g₂ * S) * σ := by
  rw [mix _ _ _ _ _ _ _ _ hr hσ, mul_neg, sub_eq_add_neg]

theorem one_bounds : (0 : EReal) ≤ 1 ∧ (1 : EReal) ≠ ⊤ := ⟨zero_le_one, EReal.coe_ne_top 1⟩

/-- The literals 0 and 1. -/
theorem ofBits_one : Ideal.ofBits .f32 0x3F800000#32 = 1 := by
  rw [← EReal.coe_one]
  simp [Ideal.ofBits, Ideal.ieee, -EReal.coe_mul, -EReal.coe_one]; norm_num

theorem ofBits_zero : Ideal.ofBits .f32 0x00000000#32 = 0 := by
  simp [Ideal.ofBits, Ideal.ieee, -EReal.coe_mul]

end Cert.Proj

end
-- ==== Proof.Proj.RefRows.lean ====
module

public import proofs.«01_k».proof.Proof.Proj.Row
public import proofs.«01_k».proof.Proof.Gen.Reference4Ideal.Run
public import Idealize.ShloMosaic.Lib.Pointwise

@[expose] public section

set_option maxRecDepth 16384

noncomputable section

namespace Cert.Reference4Ideal.Proj

open Cert.Reference4Ideal Cert.Reference4Ideal.Gen Idealize.ShloMosaic Idealize.ShloMosaic.TcCoe

/-! The reference, up to the heads, entry by entry. -/

/-- The stream normalised and modulated, on the latents. -/
def mod4096 (x : FVec Ideal S8x4096x1024 .f32) (g : FVec Ideal S1024 .f32) (mod : FVec Ideal S8x6144 .f32) :
    FVec Ideal S8x4096x1024 .f32 :=
  addf (mulf (mulf (mulf x
    (broadcastInDim S8x4096x1024 ![0, 1, 2] bcast_S8x4096x1_S8x4096x1024_0_1_2
      (Host.rsqrt (addf (Host.divf (broadcastInDim S8x4096x1 ![0, 1] bcast_S8x4096_S8x4096x1_0_1
        (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g)))
    (broadcastInDim S8x4096x1024 ![0, 1, 2] bcast_S8x1x1024_S8x4096x1024_0_1_2
      (addf (broadcastInDim S8x1x1024 ![] bcast_S_S8x1x1024 (constant S_ .f32 0x3F800000#32))
        (broadcastInDim S8x1x1024 ![0, 2] bcast_S8x1024_S8x1x1024_0_2
          (extractStridedSlice S8x1024 ![0, 1024] mod slices_S8x6144_S8x1024_0_1024)))))
    (broadcastInDim S8x4096x1024 ![0, 1, 2] bcast_S8x1x1024_S8x4096x1024_0_1_2
      (broadcastInDim S8x1x1024 ![0, 2] bcast_S8x1024_S8x1x1024_0_2
        (extractStridedSlice S8x1024 ![0, 0] mod slices_S8x6144_S8x1024_0_0)))

/-- The first product. -/
def proj4096 (h : FVec Ideal S8x4096x1024 .f32) (w : FVec Ideal S1024x800 .f32) : FVec Ideal S8x4096x800 .f32 :=
  Host.dotGeneral dot_S8x4096x1024_S1024x800_S8x4096x800_2_0_01_1_n_n none h w

/-- The low rank of keys and values. -/
def cutKV4096 (p : FVec Ideal S8x4096x800 .f32) : FVec Ideal S8x4096x256 .f32 :=
  extractStridedSlice S8x4096x256 ![0, 0, 512] p slices_S8x4096x800_S8x4096x256_0_0_512

/-- The low rank of keys and values, normalised. -/
def lowKV4096 (z : FVec Ideal S8x4096x256 .f32) (g : FVec Ideal S256 .f32) : FVec Ideal S8x4096x256 .f32 :=
  mulf (mulf z
    (broadcastInDim S8x4096x256 ![0, 1, 2] bcast_S8x4096x1_S8x4096x256_0_1_2
      (Host.rsqrt (addf (Host.divf (broadcastInDim S8x4096x1 ![0, 1] bcast_S8x4096_S8x4096x1_0_1
        (Host.reduceAdd (mulf z z) (constant S_ .f32 0x00000000#32) reducesTo_S8x4096x256_S8x4096_d2 h_S_))
        (broadcastInDim S8x4096x1 ![] bcast_S_S8x4096x1 (constant S_ .f32 0x43800000#32)))
        (broadcastInDim S8x4096x1 ![] bcast_S_S8x4096x1 (constant S_ .f32 0x358637BD#32))))))
    (broadcastInDim S8x4096x256 ![0, 1, 2] bcast_S1x1x256_S8x4096x256_0_1_2
      (broadcastInDim S1x1x256 ![2] bcast_S256_S1x1x256_2 g))

/-- Keys and values by heads, before the heads' norm. -/
def headsKV4096 (z : FVec Ideal S8x4096x256 .f32) (w : FVec Ideal S256x2048 .f32) : FVec Ideal S8x4096x16x128 .f32 :=
  shapeCast S8x4096x16x128 (Host.dotGeneral dot_S8x4096x256_S256x2048_S8x4096x2048_2_0_01_1_n_n none z w)
    shapeCasts_S8x4096x2048_S8x4096x16x128

/-- The keys by heads: a head's 64 and the 32 all heads share. -/
def keys4096 (t : FVec Ideal S8x4096x16x128 .f32) (p : FVec Ideal S8x4096x800 .f32) : FVec Ideal S8x4096x16x96 .f32 :=
  concatenate S8x4096x16x96 3
    [⟨S8x4096x16x64, extractStridedSlice S8x4096x16x64 ![0, 0, 0, 0] t slices_S8x4096x16x128_S8x4096x16x64_0_0_0_0⟩,
     ⟨S8x4096x16x32, broadcastInDim S8x4096x16x32 ![0, 1, 2, 3] bcast_S8x4096x1x32_S8x4096x16x32_0_1_2_3
        (broadcastInDim S8x4096x1x32 ![0, 1, 3] bcast_S8x4096x32_S8x4096x1x32_0_1_3
          (extractStridedSlice S8x4096x32 ![0, 0, 768] p slices_S8x4096x800_S8x4096x32_0_0_768))⟩]
    concatenates_S8x4096x16x64_S8x4096x16x32_S8x4096x16x96_d3

/-- Heads normalised by their root mean squares. -/
def headNorm4096 (t : FVec Ideal S8x4096x16x96 .f32) (g : FVec Ideal S96 .f32) : FVec Ideal S8x4096x16x96 .f32 :=
  mulf (mulf t (broadcastInDim S8x4096x16x96 ![0, 1, 2, 3] bcast_S8x4096x16x1_S8x4096x16x96_0_1_2_3
      (Host.rsqrt (addf (Host.divf (broadcastInDim S8x4096x16x1 ![0, 1, 2] bcast_S8x4096x16_S8x4096x16x1_0_1_2
        (Host.reduceAdd (mulf t t) (constant S_ .f32 0x00000000#32) reducesTo_S8x4096x16x96_S8x4096x16_d3 h_S_))
        (broadcastInDim S8x4096x16x1 ![] bcast_S_S8x4096x16x1 (constant S_ .f32 0x42C00000#32)))
        (broadcastInDim S8x4096x16x1 ![] bcast_S_S8x4096x16x1 (constant S_ .f32 0x358637BD#32))))))
    (broadcastInDim S8x4096x16x96 ![0, 1, 2, 3] bcast_S1x1x1x96_S8x4096x16x96_0_1_2_3
      (broadcastInDim S1x1x1x96 ![3] bcast_S96_S1x1x1x96_3 g))

/-- The values by heads. -/
def vals4096 (t : FVec Ideal S8x4096x16x128 .f32) : FVec Ideal S8x4096x16x64 .f32 :=
  extractStridedSlice S8x4096x16x64 ![0, 0, 0, 64] t slices_S8x4096x16x128_S8x4096x16x64_0_0_0_64

theorem mod4096_apply (x : FVec Ideal S8x4096x1024 .f32) (g : FVec Ideal S1024 .f32) (mod : FVec Ideal S8x6144 .f32)
    (b : Fin 8) (q : Fin 4096) (d : Fin 1024) :
    mod4096 x g mod (ix3 b q d) = Ffn.normed (fun d => x (ix3 b q d)) (fun d => g (ix1 d))
      (fun d => mod (ix2 b ⟨d.val, by omega⟩)) (fun d => mod (ix2 b ⟨1024 + d.val, by omega⟩)) d := by
  unfold Ffn.normed
  pointwise [mod4096]

theorem proj4096_apply (h : FVec Ideal S8x4096x1024 .f32) (w : FVec Ideal S1024x800 .f32) (b : Fin 8) (q : Fin 4096)
    (n : Fin 800) : proj4096 h w (ix3 b q n) = ∑ d : Fin 1024, h (ix3 b q d) * w (ix2 d n) := by
  pointwise [proj4096]

theorem cutKV4096_apply (p : FVec Ideal S8x4096x800 .f32) (b : Fin 8) (q : Fin 4096) (c : Fin 256) :
    cutKV4096 p (ix3 b q c) = p (ix3 b q ⟨512 + c.val, by omega⟩) := by
  pointwise [cutKV4096]

theorem lowKV4096_apply (z : FVec Ideal S8x4096x256 .f32) (g : FVec Ideal S256 .f32) (b : Fin 8) (q : Fin 4096) (c : Fin 256) :
    lowKV4096 z g (ix3 b q c) = Proj.rms 0x43800000#32 (fun c => z (ix3 b q c)) (fun c => g (ix1 c)) c := by
  unfold Proj.rms
  pointwise [lowKV4096]

theorem headsKV4096_apply (z : FVec Ideal S8x4096x256 .f32) (w : FVec Ideal S256x2048 .f32) (b : Fin 8) (q : Fin 4096)
    (h : Fin 16) (e : Fin 128) :
    headsKV4096 z w (ix4 b q h e) = ∑ c : Fin 256, z (ix3 b q c) * w (ix2 c ⟨h.val * 128 + e.val, by omega⟩) := by
  pointwise [headsKV4096]

theorem keys4096_apply (t : FVec Ideal S8x4096x16x128 .f32) (p : FVec Ideal S8x4096x800 .f32) (b : Fin 8) (q : Fin 4096)
    (h : Fin 16) (d : Fin 96) :
    keys4096 t p (ix4 b q h d) = if hd : d.val < 64 then t (ix4 b q h ⟨d.val, by omega⟩)
      else p (ix3 b q ⟨768 + (d.val - 64), by omega⟩) := by
  pointwise [keys4096]

theorem headNorm4096_apply (t : FVec Ideal S8x4096x16x96 .f32) (g : FVec Ideal S96 .f32) (b : Fin 8) (q : Fin 4096)
    (h : Fin 16) (d : Fin 96) :
    headNorm4096 t g (ix4 b q h d) = Proj.rms 0x42C00000#32 (fun d => t (ix4 b q h d)) (fun d => g (ix1 d)) d := by
  unfold Proj.rms
  pointwise [headNorm4096]

theorem vals4096_apply (t : FVec Ideal S8x4096x16x128 .f32) (b : Fin 8) (q : Fin 4096) (h : Fin 16) (e : Fin 64) :
    vals4096 t (ix4 b q h e) = t (ix4 b q h ⟨64 + e.val, by omega⟩) := by
  pointwise [vals4096]

/-- The stream normalised and modulated, on the context. -/
def mod256 (x : FVec Ideal S8x256x1024 .f32) (g : FVec Ideal S1024 .f32) (mod : FVec Ideal S1x6144 .f32) :
    FVec Ideal S8x256x1024 .f32 :=
  addf (mulf (mulf (mulf x
    (broadcastInDim S8x256x1024 ![0, 1, 2] bcast_S8x256x1_S8x256x1024_0_1_2
      (Host.rsqrt (addf (Host.divf (broadcastInDim S8x256x1 ![0, 1] bcast_S8x256_S8x256x1_0_1
        (Host.reduceAdd (mulf x x) (constant S_ .f32 0x00000000#32) reducesTo_S8x256x1024_S8x256_d2 h_S_))
        (broadcastInDim S8x256x1 ![] bcast_S_S8x256x1 (constant S_ .f32 0x44800000#32)))
        (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2 g)))
    (broadcastInDim S8x256x1024 ![0, 1, 2] bcast_S1x1x1024_S8x256x1024_0_1_2
      (addf (broadcastInDim S1x1x1024 ![] bcast_S_S1x1x1024 (constant S_ .f32 0x3F800000#32))
        (broadcastInDim S1x1x1024 ![0, 2] bcast_S1x1024_S1x1x1024_0_2
          (extractStridedSlice S1x1024 ![0, 1024] mod slices_S1x6144_S1x1024_0_1024)))))
    (broadcastInDim S8x256x1024 ![0, 1, 2] bcast_S1x1x1024_S8x256x1024_0_1_2
      (broadcastInDim S1x1x1024 ![0, 2] bcast_S1x1024_S1x1x1024_0_2
        (extractStridedSlice S1x1024 ![0, 0] mod slices_S1x6144_S1x1024_0_0)))

/-- The first product. -/
def proj256 (h : FVec Ideal S8x256x1024 .f32) (w : FVec Ideal S1024x800 .f32) : FVec Ideal S8x256x800 .f32 :=
  Host.dotGeneral dot_S8x256x1024_S1024x800_S8x256x800_2_0_01_1_n_n none h w

/-- The low rank of keys and values. -/
def cutKV256 (p : FVec Ideal S8x256x800 .f32) : FVec Ideal S8x256x256 .f32 :=
  extractStridedSlice S8x256x256 ![0, 0, 512] p slices_S8x256x800_S8x256x256_0_0_512

/-- The low rank of keys and values, normalised. -/
def lowKV256 (z : FVec Ideal S8x256x256 .f32) (g : FVec Ideal S256 .f32) : FVec Ideal S8x256x256 .f32 :=
  mulf (mulf z
    (broadcastInDim S8x256x256 ![0, 1, 2] bcast_S8x256x1_S8x256x256_0_1_2
      (Host.rsqrt (addf (Host.divf (broadcastInDim S8x256x1 ![0, 1] bcast_S8x256_S8x256x1_0_1
        (Host.reduceAdd (mulf z z) (constant S_ .f32 0x00000000#32) reducesTo_S8x256x256_S8x256_d2 h_S_))
        (broadcastInDim S8x256x1 ![] bcast_S_S8x256x1 (constant S_ .f32 0x43800000#32)))
        (broadcastInDim S8x256x1 ![] bcast_S_S8x256x1 (constant S_ .f32 0x358637BD#32))))))
    (broadcastInDim S8x256x256 ![0, 1, 2] bcast_S1x1x256_S8x256x256_0_1_2
      (broadcastInDim S1x1x256 ![2] bcast_S256_S1x1x256_2 g))

/-- Keys and values by heads, before the heads' norm. -/
def headsKV256 (z : FVec Ideal S8x256x256 .f32) (w : FVec Ideal S256x2048 .f32) : FVec Ideal S8x256x16x128 .f32 :=
  shapeCast S8x256x16x128 (Host.dotGeneral dot_S8x256x256_S256x2048_S8x256x2048_2_0_01_1_n_n none z w)
    shapeCasts_S8x256x2048_S8x256x16x128

/-- The keys by heads: a head's 64 and the 32 all heads share. -/
def keys256 (t : FVec Ideal S8x256x16x128 .f32) (p : FVec Ideal S8x256x800 .f32) : FVec Ideal S8x256x16x96 .f32 :=
  concatenate S8x256x16x96 3
    [⟨S8x256x16x64, extractStridedSlice S8x256x16x64 ![0, 0, 0, 0] t slices_S8x256x16x128_S8x256x16x64_0_0_0_0⟩,
     ⟨S8x256x16x32, broadcastInDim S8x256x16x32 ![0, 1, 2, 3] bcast_S8x256x1x32_S8x256x16x32_0_1_2_3
        (broadcastInDim S8x256x1x32 ![0, 1, 3] bcast_S8x256x32_S8x256x1x32_0_1_3
          (extractStridedSlice S8x256x32 ![0, 0, 768] p slices_S8x256x800_S8x256x32_0_0_768))⟩]
    concatenates_S8x256x16x64_S8x256x16x32_S8x256x16x96_d3

/-- Heads normalised by their root mean squares. -/
def headNorm256 (t : FVec Ideal S8x256x16x96 .f32) (g : FVec Ideal S96 .f32) : FVec Ideal S8x256x16x96 .f32 :=
  mulf (mulf t (broadcastInDim S8x256x16x96 ![0, 1, 2, 3] bcast_S8x256x16x1_S8x256x16x96_0_1_2_3
      (Host.rsqrt (addf (Host.divf (broadcastInDim S8x256x16x1 ![0, 1, 2] bcast_S8x256x16_S8x256x16x1_0_1_2
        (Host.reduceAdd (mulf t t) (constant S_ .f32 0x00000000#32) reducesTo_S8x256x16x96_S8x256x16_d3 h_S_))
        (broadcastInDim S8x256x16x1 ![] bcast_S_S8x256x16x1 (constant S_ .f32 0x42C00000#32)))
        (broadcastInDim S8x256x16x1 ![] bcast_S_S8x256x16x1 (constant S_ .f32 0x358637BD#32))))))
    (broadcastInDim S8x256x16x96 ![0, 1, 2, 3] bcast_S1x1x1x96_S8x256x16x96_0_1_2_3
      (broadcastInDim S1x1x1x96 ![3] bcast_S96_S1x1x1x96_3 g))

/-- The values by heads. -/
def vals256 (t : FVec Ideal S8x256x16x128 .f32) : FVec Ideal S8x256x16x64 .f32 :=
  extractStridedSlice S8x256x16x64 ![0, 0, 0, 64] t slices_S8x256x16x128_S8x256x16x64_0_0_0_64

theorem mod256_apply (x : FVec Ideal S8x256x1024 .f32) (g : FVec Ideal S1024 .f32) (mod : FVec Ideal S1x6144 .f32)
    (b : Fin 8) (q : Fin 256) (d : Fin 1024) :
    mod256 x g mod (ix3 b q d) = Ffn.normed (fun d => x (ix3 b q d)) (fun d => g (ix1 d))
      (fun d => mod (ix2 0 ⟨d.val, by omega⟩)) (fun d => mod (ix2 0 ⟨1024 + d.val, by omega⟩)) d := by
  unfold Ffn.normed
  pointwise [mod256]

theorem proj256_apply (h : FVec Ideal S8x256x1024 .f32) (w : FVec Ideal S1024x800 .f32) (b : Fin 8) (q : Fin 256)
    (n : Fin 800) : proj256 h w (ix3 b q n) = ∑ d : Fin 1024, h (ix3 b q d) * w (ix2 d n) := by
  pointwise [proj256]

theorem cutKV256_apply (p : FVec Ideal S8x256x800 .f32) (b : Fin 8) (q : Fin 256) (c : Fin 256) :
    cutKV256 p (ix3 b q c) = p (ix3 b q ⟨512 + c.val, by omega⟩) := by
  pointwise [cutKV256]

theorem lowKV256_apply (z : FVec Ideal S8x256x256 .f32) (g : FVec Ideal S256 .f32) (b : Fin 8) (q : Fin 256) (c : Fin 256) :
    lowKV256 z g (ix3 b q c) = Proj.rms 0x43800000#32 (fun c => z (ix3 b q c)) (fun c => g (ix1 c)) c := by
  unfold Proj.rms
  pointwise [lowKV256]

theorem headsKV256_apply (z : FVec Ideal S8x256x256 .f32) (w : FVec Ideal S256x2048 .f32) (b : Fin 8) (q : Fin 256)
    (h : Fin 16) (e : Fin 128) :
    headsKV256 z w (ix4 b q h e) = ∑ c : Fin 256, z (ix3 b q c) * w (ix2 c ⟨h.val * 128 + e.val, by omega⟩) := by
  pointwise [headsKV256]

theorem keys256_apply (t : FVec Ideal S8x256x16x128 .f32) (p : FVec Ideal S8x256x800 .f32) (b : Fin 8) (q : Fin 256)
    (h : Fin 16) (d : Fin 96) :
    keys256 t p (ix4 b q h d) = if hd : d.val < 64 then t (ix4 b q h ⟨d.val, by omega⟩)
      else p (ix3 b q ⟨768 + (d.val - 64), by omega⟩) := by
  pointwise [keys256]

theorem headNorm256_apply (t : FVec Ideal S8x256x16x96 .f32) (g : FVec Ideal S96 .f32) (b : Fin 8) (q : Fin 256)
    (h : Fin 16) (d : Fin 96) :
    headNorm256 t g (ix4 b q h d) = Proj.rms 0x42C00000#32 (fun d => t (ix4 b q h d)) (fun d => g (ix1 d)) d := by
  unfold Proj.rms
  pointwise [headNorm256]

theorem vals256_apply (t : FVec Ideal S8x256x16x128 .f32) (b : Fin 8) (q : Fin 256) (h : Fin 16) (e : Fin 64) :
    vals256 t (ix4 b q h e) = t (ix4 b q h ⟨64 + e.val, by omega⟩) := by
  pointwise [vals256]

/-- The low rank of the queries. -/
def cutQ (p : FVec Ideal S8x4096x800 .f32) : FVec Ideal S8x4096x512 .f32 :=
  extractStridedSlice S8x4096x512 ![0, 0, 0] p slices_S8x4096x800_S8x4096x512_0_0_0

/-- The low rank of the queries, normalised. -/
def lowQ (z : FVec Ideal S8x4096x512 .f32) (g : FVec Ideal S512 .f32) : FVec Ideal S8x4096x512 .f32 :=
  mulf (mulf z
    (broadcastInDim S8x4096x512 ![0, 1, 2] bcast_S8x4096x1_S8x4096x512_0_1_2
      (Host.rsqrt (addf (Host.divf (broadcastInDim S8x4096x1 ![0, 1] bcast_S8x4096_S8x4096x1_0_1
        (Host.reduceAdd (mulf z z) (constant S_ .f32 0x00000000#32) reducesTo_S8x4096x512_S8x4096_d2 h_S_))
        (broadcastInDim S8x4096x1 ![] bcast_S_S8x4096x1 (constant S_ .f32 0x44000000#32)))
        (broadcastInDim S8x4096x1 ![] bcast_S_S8x4096x1 (constant S_ .f32 0x358637BD#32))))))
    (broadcastInDim S8x4096x512 ![0, 1, 2] bcast_S1x1x512_S8x4096x512_0_1_2
      (broadcastInDim S1x1x512 ![2] bcast_S512_S1x1x512_2 g))

/-- The queries by heads. -/
def headsQ (z : FVec Ideal S8x4096x512 .f32) (w : FVec Ideal S512x1536 .f32) : FVec Ideal S8x4096x16x96 .f32 :=
  shapeCast S8x4096x16x96 (Host.dotGeneral dot_S8x4096x512_S512x1536_S8x4096x1536_2_0_01_1_n_n none z w)
    shapeCasts_S8x4096x1536_S8x4096x16x96

theorem cutQ_apply (p : FVec Ideal S8x4096x800 .f32) (b : Fin 8) (q : Fin 4096) (c : Fin 512) :
    cutQ p (ix3 b q c) = p (ix3 b q ⟨c.val, by omega⟩) := by
  pointwise [cutQ]

theorem lowQ_apply (z : FVec Ideal S8x4096x512 .f32) (g : FVec Ideal S512 .f32) (b : Fin 8) (q : Fin 4096) (c : Fin 512) :
    lowQ z g (ix3 b q c) = Proj.rms 0x44000000#32 (fun c => z (ix3 b q c)) (fun c => g (ix1 c)) c := by
  unfold Proj.rms
  pointwise [lowQ]

theorem headsQ_apply (z : FVec Ideal S8x4096x512 .f32) (w : FVec Ideal S512x1536 .f32) (b : Fin 8) (q : Fin 4096)
    (h : Fin 16) (e : Fin 96) :
    headsQ z w (ix4 b q h e) = ∑ c : Fin 512, z (ix3 b q c) * w (ix2 c ⟨h.val * 96 + e.val, by omega⟩) := by
  pointwise [headsQ]

end Cert.Reference4Ideal.Proj

end
-- ==== Proof.Proj.Block.lean ====
module

public import proofs.«01_k».proof.Proof.Proj.Values

@[expose] public section

set_option maxRecDepth 16384

noncomputable section

namespace Cert.Kernel4Ideal.Proj

open Cert.Kernel4Ideal Cert.Kernel4Ideal.Gen Idealize.ShloMosaic Idealize.ShloMosaic.TcCoe Cert.Proj

/-- A row of the block of queries: head `n / 128`, lane `n % 128`. -/
def rowQ (qt : FVec Ideal S2048x256 .f32) (gc gs : FVec Ideal S96x256 .f32) (n : Fin 2048) (r : Fin 256) : EReal :=
  qLane (fun j => qt (ix2 ⟨128 * (n.val / 128) + j.val, by omega⟩ r)) (fun j => gc (ix2 j r)) (fun j => gs (ix2 j r))
    ⟨n.val % 128, by omega⟩

/-- A column of the block of keys: head `n / 128`, lane `n % 128`. -/
def colK (kn : FVec Ideal S256x2048 .f32) (p gc : FVec Ideal S256x128 .f32) (gs : Vec Ideal S256x128 .f32) (r : Fin 256)
    (n : Fin 2048) : EReal :=
  kLane (fun j => kn (ix2 r ⟨128 * (n.val / 128) + j.val, by omega⟩) + p (ix2 r j)) (fun j => p (ix2 r j))
    (fun j => gc (ix2 r j)) (fun j => gs (ix2 r j)) ⟨n.val % 128, by omega⟩

/-- Head `k`'s store of the queries. -/
theorem head_q (qt : FVec Ideal S2048x256 .f32) (gc gs : FVec Ideal S96x256 .f32) (o k : ℕ) (ho : o = 128 * k) (hk : k < 16)
    (h : S2048x256.Slices ![o, 0] S96x256) (l : Fin 128) (r : Fin 256) (n : Fin 2048) (hn : n.val = o + l.val) :
    headRows (seg o qt h) gc gs (ix3 0 l r) = rowQ qt gc gs n r := by
  subst ho
  have e1 : n.val / 128 = k := by omega
  have e2 : (⟨n.val % 128, by omega⟩ : Fin 128) = l := Fin.ext (by simp only; omega)
  have e3 : ∀ j : Fin 96, seg (128 * k) qt h (ix2 j r) = qt (ix2 ⟨128 * (n.val / 128) + j.val, by omega⟩ r) := fun j => by
    have e : (⟨128 * (n.val / 128) + j.val, by omega⟩ : Fin 2048) = ⟨128 * k + j.val, by omega⟩ := Fin.ext (by simp only; omega)
    rw [e]
    pointwise [seg]
  unfold rowQ
  rw [headRows_apply, e2]
  simp only [e3]

/-- Head `k`'s store of the keys. -/
theorem head_k (kn : FVec Ideal S256x2048 .f32) (p gc : FVec Ideal S256x128 .f32) (gs : Vec Ideal S256x128 .f32) (o k : ℕ)
    (ho : o = 128 * k) (hk : k < 16) (h : S256x2048.Slices ![0, o] S256x128) (r : Fin 256) (l : Fin 128) (n : Fin 2048)
    (hn : n.val = o + l.val) :
    headCols (slot o kn h) p gc (peRot p gs) (ix3 0 r l) = colK kn p gc gs r n := by
  subst ho
  have e1 : n.val / 128 = k := by omega
  have e2 : (⟨n.val % 128, by omega⟩ : Fin 128) = l := Fin.ext (by simp only; omega)
  have e3 : ∀ j : Fin 128, slot (128 * k) kn h (ix2 r j) = kn (ix2 r ⟨128 * (n.val / 128) + j.val, by omega⟩) := fun j => by
    have e : (⟨128 * (n.val / 128) + j.val, by omega⟩ : Fin 2048) = ⟨128 * k + j.val, by omega⟩ := Fin.ext (by simp only; omega)
    rw [e]
    pointwise [slot]
  unfold colK kLane
  rw [headCols_apply, e2, peRot_apply]
  simp only [e3]

theorem storesQ_apply (qt : FVec Ideal S2048x256 .f32) (gc gs : FVec Ideal S96x256 .f32) (n : Fin 2048) (r : Fin 256) :
    storesQ qt gc gs (ix3 0 n r) = rowQ qt gc gs n r := by
  unfold storesQ
  canon_tiles y h
  all_goals
    idx_vars y
    obtain rfl : y0 = 0 := Fin.ext (by omega)
    obtain rfl : y2 = r := Fin.ext (by omega)
  · exact head_q qt gc gs 1920 15 (by omega) (by omega) _ _ _ _ (by omega)
  · exact head_q qt gc gs 1792 14 (by omega) (by omega) _ _ _ _ (by omega)
  · exact head_q qt gc gs 1664 13 (by omega) (by omega) _ _ _ _ (by omega)
  · exact head_q qt gc gs 1536 12 (by omega) (by omega) _ _ _ _ (by omega)
  · exact head_q qt gc gs 1408 11 (by omega) (by omega) _ _ _ _ (by omega)
  · exact head_q qt gc gs 1280 10 (by omega) (by omega) _ _ _ _ (by omega)
  · exact head_q qt gc gs 1152 9 (by omega) (by omega) _ _ _ _ (by omega)
  · exact head_q qt gc gs 1024 8 (by omega) (by omega) _ _ _ _ (by omega)
  · exact head_q qt gc gs 896 7 (by omega) (by omega) _ _ _ _ (by omega)
  · exact head_q qt gc gs 768 6 (by omega) (by omega) _ _ _ _ (by omega)
  · exact head_q qt gc gs 640 5 (by omega) (by omega) _ _ _ _ (by omega)
  · exact head_q qt gc gs 512 4 (by omega) (by omega) _ _ _ _ (by omega)
  · exact head_q qt gc gs 384 3 (by omega) (by omega) _ _ _ _ (by omega)
  · exact head_q qt gc gs 256 2 (by omega) (by omega) _ _ _ _ (by omega)
  · exact head_q qt gc gs 128 1 (by omega) (by omega) _ _ _ _ (by omega)
  · exact head_q qt gc gs 0 0 (by omega) (by omega) _ _ _ _ (by omega)

theorem storesK_apply (kn : FVec Ideal S256x2048 .f32) (p gc : FVec Ideal S256x128 .f32) (gs : Vec Ideal S256x128 .f32)
    (r : Fin 256) (n : Fin 2048) : storesK kn p gc (peRot p gs) (ix3 0 r n) = colK kn p gc gs r n := by
  unfold storesK
  canon_tiles y h
  all_goals
    idx_vars y
    obtain rfl : y0 = 0 := Fin.ext (by omega)
    obtain rfl : y1 = r := Fin.ext (by omega)
  · exact head_k kn p gc gs 1920 15 (by omega) (by omega) _ _ _ _ (by omega)
  · exact head_k kn p gc gs 1792 14 (by omega) (by omega) _ _ _ _ (by omega)
  · exact head_k kn p gc gs 1664 13 (by omega) (by omega) _ _ _ _ (by omega)
  · exact head_k kn p gc gs 1536 12 (by omega) (by omega) _ _ _ _ (by omega)
  · exact head_k kn p gc gs 1408 11 (by omega) (by omega) _ _ _ _ (by omega)
  · exact head_k kn p gc gs 1280 10 (by omega) (by omega) _ _ _ _ (by omega)
  · exact head_k kn p gc gs 1152 9 (by omega) (by omega) _ _ _ _ (by omega)
  · exact head_k kn p gc gs 1024 8 (by omega) (by omega) _ _ _ _ (by omega)
  · exact head_k kn p gc gs 896 7 (by omega) (by omega) _ _ _ _ (by omega)
  · exact head_k kn p gc gs 768 6 (by omega) (by omega) _ _ _ _ (by omega)
  · exact head_k kn p gc gs 640 5 (by omega) (by omega) _ _ _ _ (by omega)
  · exact head_k kn p gc gs 512 4 (by omega) (by omega) _ _ _ _ (by omega)
  · exact head_k kn p gc gs 384 3 (by omega) (by omega) _ _ _ _ (by omega)
  · exact head_k kn p gc gs 256 2 (by omega) (by omega) _ _ _ _ (by omega)
  · exact head_k kn p gc gs 128 1 (by omega) (by omega) _ _ _ _ (by omega)
  · exact head_k kn p gc gs 0 0 (by omega) (by omega) _ _ _ _ (by omega)

/-- The first product's row, from the blocks. -/
def blockRow (x0 : Vec Ideal S1x256x1024 .f32) (x1 : Vec Ideal S1x1x1x6144 .f32) (x2 : Vec Ideal S1x1024 .f32)
    (x3 : Vec Ideal S1024x896 .bf16) (r : Fin 256) (n : Fin 896) : EReal :=
  projRow (fun d => x0 (ix3 0 r d)) (fun d => x2 (ix2 0 d)) (fun n => x1 (ix4 0 0 0 n)) (fun d n => x3 (ix2 d n)) n

/-- What the body stores of the queries. -/
theorem out13_apply (x0 : Vec Ideal S1x256x1024 .f32) (x1 : Vec Ideal S1x1x1x6144 .f32) (x2 : Vec Ideal S1x1024 .f32)
    (x3 : Vec Ideal S1024x896 .bf16) (x4 : Vec Ideal S1x512 .f32) (x5 : Vec Ideal S1x256 .f32) (x6 : Vec Ideal S2048x512 .bf16)
    (x7 : Vec Ideal S256x2048 .bf16) (x8 : Vec Ideal S1024x256 .bf16) (x9 x10 : Vec Ideal S96x256 .f32)
    (x11 x12 : Vec Ideal S256x128 .f32) (n : Fin 2048) (r : Fin 256) :
    out0_13 x0 x1 x2 x3 x4 x5 x6 x7 x8 x9 x10 x11 x12 (ix3 0 n r)
      = projQ (blockRow x0 x1 x2 x3 r) (fun l => x4 (ix2 0 l)) (fun n l => x6 (ix2 n l)) (fun j => x9 (ix2 j r))
          (fun j => x10 (ix2 j r)) n := by
  have e : ∀ x : Vec Ideal S96x256 .f32, ∀ j : Fin 96,
      shapeCast S96x256 (View.ld x r0_10) shapeCasts_S96x256_S96x256 (ix2 j r) = x (ix2 j r) := fun x j => by pointwise
  rw [out13_eq, storesQ_apply]
  unfold rowQ
  simp only [queries_apply, lowQ_apply, proj_apply, e]
  rfl

/-- What the body stores of the keys. -/
theorem out14_apply (x0 : Vec Ideal S1x256x1024 .f32) (x1 : Vec Ideal S1x1x1x6144 .f32) (x2 : Vec Ideal S1x1024 .f32)
    (x3 : Vec Ideal S1024x896 .bf16) (x4 : Vec Ideal S1x512 .f32) (x5 : Vec Ideal S1x256 .f32) (x6 : Vec Ideal S2048x512 .bf16)
    (x7 : Vec Ideal S256x2048 .bf16) (x8 : Vec Ideal S1024x256 .bf16) (x9 x10 : Vec Ideal S96x256 .f32)
    (x11 x12 : Vec Ideal S256x128 .f32) (r : Fin 256) (n : Fin 2048) :
    out0_14 x0 x1 x2 x3 x4 x5 x6 x7 x8 x9 x10 x11 x12 (ix3 0 r n)
      = projK (blockRow x0 x1 x2 x3 r) (fun c => x5 (ix2 0 c)) (fun c n => x7 (ix2 c n)) (fun j => x11 (ix2 r j))
          (fun j => x12 (ix2 r j)) n := by
  have e : ∀ x : Vec Ideal S256x128 .f32, ∀ j : Fin 128,
      shapeCast S256x128 (View.ld x r0_27) shapeCasts_S256x128_S256x128 (ix2 r j) = x (ix2 r j) := fun x j => by pointwise
  rw [out14_eq, storesK_apply]
  unfold colK
  simp only [keys_apply, lowK_apply, pe_apply, proj_apply, e]
  rfl

/-- What the body stores of the values. -/
theorem out15_apply (x0 : Vec Ideal S1x256x1024 .f32) (x1 : Vec Ideal S1x1x1x6144 .f32) (x2 : Vec Ideal S1x1024 .f32)
    (x3 : Vec Ideal S1024x896 .bf16) (x4 : Vec Ideal S1x512 .f32) (x5 : Vec Ideal S1x256 .f32) (x6 : Vec Ideal S2048x512 .bf16)
    (x7 : Vec Ideal S256x2048 .bf16) (x8 : Vec Ideal S1024x256 .bf16) (x9 x10 : Vec Ideal S96x256 .f32)
    (x11 x12 : Vec Ideal S256x128 .f32) (h : Fin 16) (e : Fin 64) (r : Fin 256) :
    out0_15 x0 x1 x2 x3 x4 x5 x6 x7 x8 x9 x10 x11 x12 (ix4 0 h e r)
      = projV (blockRow x0 x1 x2 x3 r) (fun c => x5 (ix2 0 c)) (fun n c => x8 (ix2 n c))
          ⟨64 * h.val + e.val, by omega⟩ := by
  rw [out15_eq]
  canon_tiles y hy
  idx_vars y
  obtain rfl : y0 = 0 := Fin.ext (by omega)
  obtain rfl : y1 = h := Fin.ext (by omega)
  obtain rfl : y2 = e := Fin.ext (by omega)
  obtain rfl : y3 = r := Fin.ext (by omega)
  rw [values_apply]
  simp only [lowK_apply, proj_apply]
  rfl

end Cert.Kernel4Ideal.Proj

end
-- ==== Proof.Proj.Array.lean ====
module

public import proofs.«01_k».proof.Proof.Proj.Block
public import Idealize.ShloMosaic.Lib.Claim
public import Idealize.ShloMosaic.Lib.Pipeline.Value

@[expose] public section

set_option maxRecDepth 16384

noncomputable section

namespace Cert.Kernel4Ideal.Proj

open Cert.Kernel4Ideal Cert.Kernel4Ideal.Gen Idealize.ShloMosaic Idealize.ShloMosaic.TcCoe Cert.Proj

/-- Where the windows' blocks lie: the queries' block and its tables are one behind the grid point. -/
theorem idx : ∀ t : Fin grid0.N,
    win0_0.index t = ![(grid0.coords t 0).val, (grid0.coords t 1).val, 0]
    ∧ win0_1.index t = ![min (grid0.coords t 1).val 1, (grid0.coords t 0).val, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, (grid0.coords t 1).val - 1]
    ∧ win0_10.index t = ![0, (grid0.coords t 1).val - 1]
    ∧ win0_11.index t = ![(grid0.coords t 1).val, 0]
    ∧ win0_12.index t = ![(grid0.coords t 1).val, 0]
    ∧ win0_13.index t = ![(grid0.coords t 0).val, 0, (grid0.coords t 1).val - 1]
    ∧ win0_14.index t = ![(grid0.coords t 0).val, (grid0.coords t 1).val, 0]
    ∧ win0_15.index t = ![(grid0.coords t 0).val, 0, 0, (grid0.coords t 1).val] := by
  decide +kernel

/-- The queries' block is written back at the latents' points only. -/
theorem flush_q : ∀ t : Fin grid0.N, win0_13.flush t = true → 1 ≤ (grid0.coords t 1).val := by
  decide +kernel

theorem read0 (A : Vec Ideal S8x4352x1024 .f32) (t : Fin cfg0.N) (r : Fin 256) (d : Fin 1024) (b : Fin 8) (q : Fin 4352)
    (hb : b.val = (grid0.coords t 0).val) (hq : q.val = (grid0.coords t 1).val * 256 + r.val) :
    (((cfg0.win 0).blk t).view.read (Elt Ideal) A : Vec Ideal S1x256x1024 .f32) (ix3 0 r d) = A (ix3 b q d) := by
  obtain ⟨e, -⟩ := idx t
  blk_ext [e]

theorem read1 (A : Vec Ideal S2x8x1x6144 .f32) (t : Fin cfg0.N) (n : Fin 6144) (p : Fin 2) (b : Fin 8)
    (hp : p.val = min (grid0.coords t 1).val 1) (hb : b.val = (grid0.coords t 0).val) :
    (((cfg0.win 1).blk t).view.read (Elt Ideal) A : Vec Ideal S1x1x1x6144 .f32) (ix4 0 0 0 n) = A (ix4 p b 0 n) := by
  obtain ⟨-, e, -⟩ := idx t
  blk_ext [e]

theorem read2 (A : Vec Ideal S1x1024 .f32) (t : Fin cfg0.N) (d : Fin 1024) :
    (((cfg0.win 2).blk t).view.read (Elt Ideal) A : Vec Ideal S1x1024 .f32) (ix2 0 d) = A (ix2 0 d) := by
  obtain ⟨-, -, e, -⟩ := idx t
  blk_ext [e]

theorem read4 (A : Vec Ideal S1x512 .f32) (t : Fin cfg0.N) (d : Fin 512) :
    (((cfg0.win 4).blk t).view.read (Elt Ideal) A : Vec Ideal S1x512 .f32) (ix2 0 d) = A (ix2 0 d) := by
  obtain ⟨-, -, -, -, e, -⟩ := idx t
  blk_ext [e]

theorem read5 (A : Vec Ideal S1x256 .f32) (t : Fin cfg0.N) (d : Fin 256) :
    (((cfg0.win 5).blk t).view.read (Elt Ideal) A : Vec Ideal S1x256 .f32) (ix2 0 d) = A (ix2 0 d) := by
  obtain ⟨-, -, -, -, -, e, -⟩ := idx t
  blk_ext [e]

theorem read3 (A : Vec Ideal S1024x896 .bf16) (t : Fin cfg0.N) (x : Fin 1024) (y : Fin 896) :
    (((cfg0.win 3).blk t).view.read (Elt Ideal) A : Vec Ideal S1024x896 .bf16) (ix2 x y) = A (ix2 x y) := by
  obtain ⟨-, -, -, e, -⟩ := idx t
  blk_ext [e]

theorem read6 (A : Vec Ideal S2048x512 .bf16) (t : Fin cfg0.N) (x : Fin 2048) (y : Fin 512) :
    (((cfg0.win 6).blk t).view.read (Elt Ideal) A : Vec Ideal S2048x512 .bf16) (ix2 x y) = A (ix2 x y) := by
  obtain ⟨-, -, -, -, -, -, e, -⟩ := idx t
  blk_ext [e]

theorem read7 (A : Vec Ideal S256x2048 .bf16) (t : Fin cfg0.N) (x : Fin 256) (y : Fin 2048) :
    (((cfg0.win 7).blk t).view.read (Elt Ideal) A : Vec Ideal S256x2048 .bf16) (ix2 x y) = A (ix2 x y) := by
  obtain ⟨-, -, -, -, -, -, -, e, -⟩ := idx t
  blk_ext [e]

theorem read8 (A : Vec Ideal S1024x256 .bf16) (t : Fin cfg0.N) (x : Fin 1024) (y : Fin 256) :
    (((cfg0.win 8).blk t).view.read (Elt Ideal) A : Vec Ideal S1024x256 .bf16) (ix2 x y) = A (ix2 x y) := by
  obtain ⟨-, -, -, -, -, -, -, -, e, -⟩ := idx t
  blk_ext [e]

theorem read9 (A : Vec Ideal S96x4096 .f32) (t : Fin cfg0.N) (j : Fin 96) (r : Fin 256) (q : Fin 4096)
    (hq : q.val = ((grid0.coords t 1).val - 1) * 256 + r.val) :
    (((cfg0.win 9).blk t).view.read (Elt Ideal) A : Vec Ideal S96x256 .f32) (ix2 j r) = A (ix2 j q) := by
  obtain ⟨-, -, -, -, -, -, -, -, -, e, -⟩ := idx t
  blk_ext [e]

theorem read10 (A : Vec Ideal S96x4096 .f32) (t : Fin cfg0.N) (j : Fin 96) (r : Fin 256) (q : Fin 4096)
    (hq : q.val = ((grid0.coords t 1).val - 1) * 256 + r.val) :
    (((cfg0.win 10).blk t).view.read (Elt Ideal) A : Vec Ideal S96x256 .f32) (ix2 j r) = A (ix2 j q) := by
  obtain ⟨-, -, -, -, -, -, -, -, -, -, e, -⟩ := idx t
  blk_ext [e]

theorem read11 (A : Vec Ideal S4352x128 .f32) (t : Fin cfg0.N) (r : Fin 256) (j : Fin 128) (q : Fin 4352)
    (hq : q.val = (grid0.coords t 1).val * 256 + r.val) :
    (((cfg0.win 11).blk t).view.read (Elt Ideal) A : Vec Ideal S256x128 .f32) (ix2 r j) = A (ix2 q j) := by
  obtain ⟨-, -, -, -, -, -, -, -, -, -, -, e, -⟩ := idx t
  blk_ext [e]

theorem read12 (A : Vec Ideal S4352x128 .f32) (t : Fin cfg0.N) (r : Fin 256) (j : Fin 128) (q : Fin 4352)
    (hq : q.val = (grid0.coords t 1).val * 256 + r.val) :
    (((cfg0.win 12).blk t).view.read (Elt Ideal) A : Vec Ideal S256x128 .f32) (ix2 r j) = A (ix2 q j) := by
  obtain ⟨-, -, -, -, -, -, -, -, -, -, -, -, e, -⟩ := idx t
  blk_ext [e]

/-- The first product's row of batch `b`'s token `q`: the first 256 tokens are the context. -/
def arrRow (A0 : Vec Ideal S8x4352x1024 .f32) (A1 : Vec Ideal S2x8x1x6144 .f32) (A2 : Vec Ideal S1x1024 .f32) (A3 : Vec Ideal S1024x896 .bf16)
    (b : Fin 8) (q : Fin 4352) : Fin 896 → EReal :=
  projRow (fun d => A0 (ix3 b q d)) (fun d => A2 (ix2 0 d)) (fun n => A1 (ix4 (if q.val < 256 then 0 else 1) b 0 n))
    (fun d n => A3 (ix2 d n))

/-- A point's rows of the first product are rows of the whole. -/
theorem blockRow_eq (A0 : Vec Ideal S8x4352x1024 .f32) (A1 : Vec Ideal S2x8x1x6144 .f32) (A2 : Vec Ideal S1x1024 .f32) (A3 : Vec Ideal S1024x896 .bf16)
    (x0 : Vec Ideal S1x256x1024 .f32) (x1 : Vec Ideal S1x1x1x6144 .f32) (x2 : Vec Ideal S1x1024 .f32) (x3 : Vec Ideal S1024x896 .bf16)
    (t : Fin cfg0.N) (h0 : x0 = ((cfg0.win 0).blk t).view.read (Elt Ideal) A0) (h1 : x1 = ((cfg0.win 1).blk t).view.read (Elt Ideal) A1)
    (h2 : x2 = ((cfg0.win 2).blk t).view.read (Elt Ideal) A2) (h3 : x3 = ((cfg0.win 3).blk t).view.read (Elt Ideal) A3)
    (r : Fin 256) (b : Fin 8) (q : Fin 4352) (hb : b.val = (grid0.coords t 0).val)
    (hq : q.val = (grid0.coords t 1).val * 256 + r.val) : blockRow x0 x1 x2 x3 r = arrRow A0 A1 A2 A3 b q := by
  have e0 : (fun d => x0 (ix3 0 r d)) = fun d => A0 (ix3 b q d) := funext fun d => by
    rw [h0]
    exact read0 A0 t r d b q hb hq
  have e1 : (fun n => x1 (ix4 0 0 0 n)) = fun n => A1 (ix4 (if q.val < 256 then 0 else 1) b 0 n) := funext fun n => by
    rw [h1]
    refine read1 A1 t n _ b ?_ hb
    split
    · have : (grid0.coords t 1).val = 0 := by omega
      rw [this]
      rfl
    · simp only [Fin.val_one]
      omega
  have e2 : (fun d => x2 (ix2 0 d)) = fun d => A2 (ix2 0 d) := funext fun d => by
    rw [h2]
    exact read2 A2 t d
  have e3 : (fun d n => x3 (ix2 d n)) = fun d n => A3 (ix2 d n) := funext fun d => funext fun n => by
    rw [h3]
    exact read3 A3 t d n
  funext n
  unfold blockRow arrRow
  rw [e0, e1, e2, e3]

/-- The queries from the whole arrays. -/
def arrQ (A0 : Vec Ideal S8x4352x1024 .f32) (A1 : Vec Ideal S2x8x1x6144 .f32) (A2 : Vec Ideal S1x1024 .f32) (A3 : Vec Ideal
    S1024x896 .bf16) (A4 : Vec Ideal S1x512 .f32) (A6 : Vec Ideal S2048x512 .bf16) (A9 : Vec Ideal S96x4096 .f32) (A10 :
    Vec Ideal S96x4096 .f32)
    (b : Fin 8) (n : Fin 2048) (q : Fin 4096) : EReal :=
  projQ (arrRow A0 A1 A2 A3 b ⟨256 + q.val, by omega⟩) (fun l => A4 (ix2 0 l)) (fun n l => A6 (ix2 n l))
    (fun j => A9 (ix2 j q)) (fun j => A10 (ix2 j q)) n

/-- The keys from the whole arrays. -/
def arrK (A0 : Vec Ideal S8x4352x1024 .f32) (A1 : Vec Ideal S2x8x1x6144 .f32) (A2 : Vec Ideal S1x1024 .f32) (A3 : Vec Ideal
    S1024x896 .bf16) (A5 : Vec Ideal S1x256 .f32) (A7 : Vec Ideal S256x2048 .bf16) (A11 : Vec Ideal S4352x128 .f32) (A12 :
    Vec Ideal S4352x128 .f32)
    (b : Fin 8) (q : Fin 4352) (n : Fin 2048) : EReal :=
  projK (arrRow A0 A1 A2 A3 b q) (fun c => A5 (ix2 0 c)) (fun c n => A7 (ix2 c n)) (fun j => A11 (ix2 q j))
    (fun j => A12 (ix2 q j)) n

/-- The values from the whole arrays. -/
def arrV (A0 : Vec Ideal S8x4352x1024 .f32) (A1 : Vec Ideal S2x8x1x6144 .f32) (A2 : Vec Ideal S1x1024 .f32) (A3 : Vec Ideal
    S1024x896 .bf16) (A5 : Vec Ideal S1x256 .f32) (A8 : Vec Ideal S1024x256 .bf16)
    (b : Fin 8) (h : Fin 16) (e : Fin 64) (q : Fin 4352) : EReal :=
  projV (arrRow A0 A1 A2 A3 b q) (fun c => A5 (ix2 0 c)) (fun n c => A8 (ix2 n c)) ⟨64 * h.val + e.val, by omega⟩

/-- A point's block of queries is that part of the whole. -/
theorem block_q (A0 : Vec Ideal S8x4352x1024 .f32) (A1 : Vec Ideal S2x8x1x6144 .f32) (A2 : Vec Ideal S1x1024 .f32) (A3 : Vec Ideal
    S1024x896 .bf16) (A4 : Vec Ideal S1x512 .f32) (A6 : Vec Ideal S2048x512 .bf16) (A9 : Vec Ideal S96x4096 .f32) (A10 :
    Vec Ideal S96x4096 .f32)
    (x0 : Vec Ideal S1x256x1024 .f32) (x1 : Vec Ideal S1x1x1x6144 .f32) (x2 : Vec Ideal S1x1024 .f32) (x3 : Vec Ideal
    S1024x896 .bf16) (x4 : Vec Ideal S1x512 .f32) (x5 : Vec Ideal S1x256 .f32) (x6 : Vec Ideal S2048x512 .bf16) (x7 : Vec
    Ideal S256x2048 .bf16) (x8 : Vec Ideal S1024x256 .bf16) (x9 : Vec Ideal S96x256 .f32) (x10 : Vec Ideal S96x256 .f32)
    (x11 : Vec Ideal S256x128 .f32) (x12 : Vec Ideal S256x128 .f32)
    (t : Fin cfg0.N) (h0 : x0 = ((cfg0.win 0).blk t).view.read (Elt Ideal) A0) (h1 : x1 = ((cfg0.win 1).blk t).view.read (Elt Ideal) A1)
    (h2 : x2 = ((cfg0.win 2).blk t).view.read (Elt Ideal) A2) (h3 : x3 = ((cfg0.win 3).blk t).view.read (Elt Ideal) A3)
    (h4 : x4 = ((cfg0.win 4).blk t).view.read (Elt Ideal) A4) (h6 : x6 = ((cfg0.win 6).blk t).view.read (Elt Ideal) A6)
    (h9 : x9 = ((cfg0.win 9).blk t).view.read (Elt Ideal) A9) (h10 : x10 = ((cfg0.win 10).blk t).view.read (Elt Ideal)
    A10)
    (l : Fin 2048) (r : Fin 256) (b : Fin 8) (n : Fin 2048) (q : Fin 4096) (hi : 1 ≤ (grid0.coords t 1).val)
    (hb : b.val = (grid0.coords t 0).val) (hn : n.val = l.val) (hq : q.val = ((grid0.coords t 1).val - 1) * 256 + r.val) :
    out0_13 x0 x1 x2 x3 x4 x5 x6 x7 x8 x9 x10 x11 x12 (ix3 0 l r) = arrQ A0 A1 A2 A3 A4 A6 A9 A10 b n q := by
  obtain rfl : n = l := Fin.ext hn
  have e4 : (fun l => x4 (ix2 0 l)) = fun l => A4 (ix2 0 l) := funext fun l => by
    rw [h4]
    exact read4 A4 t l
  have e6 : (fun n l => x6 (ix2 n l)) = fun n l => A6 (ix2 n l) := funext fun n => funext fun l => by
    rw [h6]
    exact read6 A6 t n l
  have e9 : (fun j => x9 (ix2 j r)) = fun j => A9 (ix2 j q) := funext fun j => by
    rw [h9]
    exact read9 A9 t j r q (by omega)
  have e10 : (fun j => x10 (ix2 j r)) = fun j => A10 (ix2 j q) := funext fun j => by
    rw [h10]
    exact read10 A10 t j r q (by omega)
  unfold arrQ
  rw [out13_apply, blockRow_eq A0 A1 A2 A3 x0 x1 x2 x3 t h0 h1 h2 h3 r b ⟨256 + q.val, by omega⟩ hb (by dsimp only; omega),
    e4, e6, e9, e10]

/-- A point's block of keys is that part of the whole. -/
theorem block_k (A0 : Vec Ideal S8x4352x1024 .f32) (A1 : Vec Ideal S2x8x1x6144 .f32) (A2 : Vec Ideal S1x1024 .f32) (A3 : Vec Ideal
    S1024x896 .bf16) (A5 : Vec Ideal S1x256 .f32) (A7 : Vec Ideal S256x2048 .bf16) (A11 : Vec Ideal S4352x128 .f32) (A12 :
    Vec Ideal S4352x128 .f32)
    (x0 : Vec Ideal S1x256x1024 .f32) (x1 : Vec Ideal S1x1x1x6144 .f32) (x2 : Vec Ideal S1x1024 .f32) (x3 : Vec Ideal
    S1024x896 .bf16) (x4 : Vec Ideal S1x512 .f32) (x5 : Vec Ideal S1x256 .f32) (x6 : Vec Ideal S2048x512 .bf16) (x7 : Vec
    Ideal S256x2048 .bf16) (x8 : Vec Ideal S1024x256 .bf16) (x9 : Vec Ideal S96x256 .f32) (x10 : Vec Ideal S96x256 .f32)
    (x11 : Vec Ideal S256x128 .f32) (x12 : Vec Ideal S256x128 .f32)
    (t : Fin cfg0.N) (h0 : x0 = ((cfg0.win 0).blk t).view.read (Elt Ideal) A0) (h1 : x1 = ((cfg0.win 1).blk t).view.read (Elt Ideal) A1)
    (h2 : x2 = ((cfg0.win 2).blk t).view.read (Elt Ideal) A2) (h3 : x3 = ((cfg0.win 3).blk t).view.read (Elt Ideal) A3)
    (h5 : x5 = ((cfg0.win 5).blk t).view.read (Elt Ideal) A5) (h7 : x7 = ((cfg0.win 7).blk t).view.read (Elt Ideal) A7)
    (h11 : x11 = ((cfg0.win 11).blk t).view.read (Elt Ideal) A11) (h12 : x12 = ((cfg0.win 12).blk t).view.read (Elt Ideal)
    A12)
    (r : Fin 256) (l : Fin 2048) (b : Fin 8) (q : Fin 4352) (n : Fin 2048)
    (hb : b.val = (grid0.coords t 0).val) (hq : q.val = (grid0.coords t 1).val * 256 + r.val) (hn : n.val = l.val) :
    out0_14 x0 x1 x2 x3 x4 x5 x6 x7 x8 x9 x10 x11 x12 (ix3 0 r l) = arrK A0 A1 A2 A3 A5 A7 A11 A12 b q n := by
  obtain rfl : n = l := Fin.ext hn
  have e5 : (fun c => x5 (ix2 0 c)) = fun c => A5 (ix2 0 c) := funext fun c => by
    rw [h5]
    exact read5 A5 t c
  have e7 : (fun c n => x7 (ix2 c n)) = fun c n => A7 (ix2 c n) := funext fun c => funext fun n => by
    rw [h7]
    exact read7 A7 t c n
  have e11 : (fun j => x11 (ix2 r j)) = fun j => A11 (ix2 q j) := funext fun j => by
    rw [h11]
    exact read11 A11 t r j q hq
  have e12 : (fun j => x12 (ix2 r j)) = fun j => A12 (ix2 q j) := funext fun j => by
    rw [h12]
    exact read12 A12 t r j q hq
  unfold arrK
  rw [out14_apply, blockRow_eq A0 A1 A2 A3 x0 x1 x2 x3 t h0 h1 h2 h3 r b q hb hq, e5, e7, e11, e12]

/-- A point's block of values is that part of the whole. -/
theorem block_v (A0 : Vec Ideal S8x4352x1024 .f32) (A1 : Vec Ideal S2x8x1x6144 .f32) (A2 : Vec Ideal S1x1024 .f32) (A3 : Vec Ideal
    S1024x896 .bf16) (A5 : Vec Ideal S1x256 .f32) (A8 : Vec Ideal S1024x256 .bf16)
    (x0 : Vec Ideal S1x256x1024 .f32) (x1 : Vec Ideal S1x1x1x6144 .f32) (x2 : Vec Ideal S1x1024 .f32) (x3 : Vec Ideal
    S1024x896 .bf16) (x4 : Vec Ideal S1x512 .f32) (x5 : Vec Ideal S1x256 .f32) (x6 : Vec Ideal S2048x512 .bf16) (x7 : Vec
    Ideal S256x2048 .bf16) (x8 : Vec Ideal S1024x256 .bf16) (x9 : Vec Ideal S96x256 .f32) (x10 : Vec Ideal S96x256 .f32)
    (x11 : Vec Ideal S256x128 .f32) (x12 : Vec Ideal S256x128 .f32)
    (t : Fin cfg0.N) (h0 : x0 = ((cfg0.win 0).blk t).view.read (Elt Ideal) A0) (h1 : x1 = ((cfg0.win 1).blk t).view.read (Elt Ideal) A1)
    (h2 : x2 = ((cfg0.win 2).blk t).view.read (Elt Ideal) A2) (h3 : x3 = ((cfg0.win 3).blk t).view.read (Elt Ideal) A3)
    (h5 : x5 = ((cfg0.win 5).blk t).view.read (Elt Ideal) A5) (h8 : x8 = ((cfg0.win 8).blk t).view.read (Elt Ideal) A8)
    (k : Fin 16) (d : Fin 64) (r : Fin 256) (b : Fin 8) (h : Fin 16) (e : Fin 64) (q : Fin 4352)
    (hb : b.val = (grid0.coords t 0).val) (hh : h.val = k.val) (he : e.val = d.val)
    (hq : q.val = (grid0.coords t 1).val * 256 + r.val) :
    out0_15 x0 x1 x2 x3 x4 x5 x6 x7 x8 x9 x10 x11 x12 (ix4 0 k d r) = arrV A0 A1 A2 A3 A5 A8 b h e q := by
  obtain rfl : h = k := Fin.ext hh
  obtain rfl : e = d := Fin.ext he
  have e5 : (fun c => x5 (ix2 0 c)) = fun c => A5 (ix2 0 c) := funext fun c => by
    rw [h5]
    exact read5 A5 t c
  have e8 : (fun n c => x8 (ix2 n c)) = fun n c => A8 (ix2 n c) := funext fun n => funext fun c => by
    rw [h8]
    exact read8 A8 t n c
  unfold arrV
  rw [out15_apply, blockRow_eq A0 A1 A2 A3 x0 x1 x2 x3 t h0 h1 h2 h3 r b q hb hq, e5, e8]

variable (m : (ℓ : Loc nD τ sig) → Buf (Elt Ideal) ℓ)

/-- The array of queries after the run. -/
theorem arr_q (c : Dev nD) (A0 : Vec Ideal S8x4352x1024 .f32) (A1 : Vec Ideal S2x8x1x6144 .f32) (A2 : Vec Ideal S1x1024 .f32) (A3 : Vec Ideal
    S1024x896 .bf16) (A4 : Vec Ideal S1x512 .f32) (A6 : Vec Ideal S2048x512 .bf16) (A9 : Vec Ideal S96x4096 .f32) (A10 :
    Vec Ideal S96x4096 .f32)
    (h0 : V m c (Pipeline.arrRef spec0 0) = A0) (h1 : V m c (Pipeline.arrRef spec0 1) = A1) (h2 : V m c (Pipeline.arrRef
    spec0 2) = A2) (h3 : V m c (Pipeline.arrRef spec0 3) = A3) (h4 : V m c (Pipeline.arrRef spec0 4) = A4) (h6 : V m c
    (Pipeline.arrRef spec0 6) = A6) (h9 : V m c (Pipeline.arrRef spec0 9) = A9) (h10 : V m c (Pipeline.arrRef spec0 10) =
    A10) :
    (dats m 0 c).arrAt 13 cfg0.N = fun i : S8x2048x4096.Idx => arrQ A0 A1 A2 A3 A4 A6 A9 A10 (i 0) (i 1) (i 2) := by
  refine (dats m 0 c).arrAt_eq_of_covers 13 _ (by decide +kernel) fun t hf y => ?_
  obtain ⟨-, -, -, -, -, -, -, -, -, -, -, -, -, e, -⟩ := idx t
  blk_simp
  rw [after0_13]
  have hy : y = ix3 (0 : Fin 1) (y 1) (y 2) := by
    funext a
    match a with
    | ⟨0, _⟩ => exact Fin.ext (by have := (y 0).isLt; change (y 0).val < 1 at this; change (y 0).val = 0; omega)
    | ⟨1, _⟩ => rfl
    | ⟨2, _⟩ => rfl
  rw [hy]
  refine block_q A0 A1 A2 A3 A4 A6 A9 A10 _ _ _ _ _ _ _ _ _ _ _ _ _ t ?_ ?_ ?_ ?_ ?_ ?_ ?_ ?_ _ _ _ _ _ (flush_q t hf) ?_ ?_ ?_
  · rw [← h0]; rfl
  · rw [← h1]; rfl
  · rw [← h2]; rfl
  · rw [← h3]; rfl
  · rw [← h4]; rfl
  · rw [← h6]; rfl
  · rw [← h9]; rfl
  · rw [← h10]; rfl
  all_goals
    blk_simp [e]
  all_goals simp

/-- The array of keys after the run. -/
theorem arr_k (c : Dev nD) (A0 : Vec Ideal S8x4352x1024 .f32) (A1 : Vec Ideal S2x8x1x6144 .f32) (A2 : Vec Ideal S1x1024 .f32) (A3 : Vec Ideal
    S1024x896 .bf16) (A5 : Vec Ideal S1x256 .f32) (A7 : Vec Ideal S256x2048 .bf16) (A11 : Vec Ideal S4352x128 .f32) (A12 :
    Vec Ideal S4352x128 .f32)
    (h0 : V m c (Pipeline.arrRef spec0 0) = A0) (h1 : V m c (Pipeline.arrRef spec0 1) = A1) (h2 : V m c (Pipeline.arrRef
    spec0 2) = A2) (h3 : V m c (Pipeline.arrRef spec0 3) = A3) (h5 : V m c (Pipeline.arrRef spec0 5) = A5) (h7 : V m c
    (Pipeline.arrRef spec0 7) = A7) (h11 : V m c (Pipeline.arrRef spec0 11) = A11) (h12 : V m c (Pipeline.arrRef spec0 12)
    = A12) :
    (dats m 0 c).arrAt 14 cfg0.N = fun i : S8x4352x2048.Idx => arrK A0 A1 A2 A3 A5 A7 A11 A12 (i 0) (i 1) (i 2) := by
  refine (dats m 0 c).arrAt_eq_of_covers 14 _ (by decide +kernel) fun t hf y => ?_
  obtain ⟨-, -, -, -, -, -, -, -, -, -, -, -, -, -, e, -⟩ := idx t
  blk_simp
  rw [after0_14]
  have hy : y = ix3 (0 : Fin 1) (y 1) (y 2) := by
    funext a
    match a with
    | ⟨0, _⟩ => exact Fin.ext (by have := (y 0).isLt; change (y 0).val < 1 at this; change (y 0).val = 0; omega)
    | ⟨1, _⟩ => rfl
    | ⟨2, _⟩ => rfl
  rw [hy]
  refine block_k A0 A1 A2 A3 A5 A7 A11 A12 _ _ _ _ _ _ _ _ _ _ _ _ _ t ?_ ?_ ?_ ?_ ?_ ?_ ?_ ?_ _ _ _ _ _ ?_ ?_ ?_
  · rw [← h0]; rfl
  · rw [← h1]; rfl
  · rw [← h2]; rfl
  · rw [← h3]; rfl
  · rw [← h5]; rfl
  · rw [← h7]; rfl
  · rw [← h11]; rfl
  · rw [← h12]; rfl
  all_goals
    blk_simp [e]
  all_goals simp

/-- The array of values after the run. -/
theorem arr_v (c : Dev nD) (A0 : Vec Ideal S8x4352x1024 .f32) (A1 : Vec Ideal S2x8x1x6144 .f32) (A2 : Vec Ideal S1x1024 .f32) (A3 : Vec Ideal
    S1024x896 .bf16) (A5 : Vec Ideal S1x256 .f32) (A8 : Vec Ideal S1024x256 .bf16)
    (h0 : V m c (Pipeline.arrRef spec0 0) = A0) (h1 : V m c (Pipeline.arrRef spec0 1) = A1) (h2 : V m c (Pipeline.arrRef
    spec0 2) = A2) (h3 : V m c (Pipeline.arrRef spec0 3) = A3) (h5 : V m c (Pipeline.arrRef spec0 5) = A5) (h8 : V m c
    (Pipeline.arrRef spec0 8) = A8) :
    (dats m 0 c).arrAt 15 cfg0.N = fun i : S8x16x64x4352.Idx => arrV A0 A1 A2 A3 A5 A8 (i 0) (i 1) (i 2) (i 3) := by
  refine (dats m 0 c).arrAt_eq_of_covers 15 _ (by decide +kernel) fun t hf y => ?_
  obtain ⟨-, -, -, -, -, -, -, -, -, -, -, -, -, -, -, e⟩ := idx t
  blk_simp
  rw [after0_15]
  have hy : y = ix4 (0 : Fin 1) (y 1) (y 2) (y 3) := by
    funext a
    match a with
    | ⟨0, _⟩ => exact Fin.ext (by have := (y 0).isLt; change (y 0).val < 1 at this; change (y 0).val = 0; omega)
    | ⟨1, _⟩ => rfl
    | ⟨2, _⟩ => rfl
    | ⟨3, _⟩ => rfl
  rw [hy]
  refine block_v A0 A1 A2 A3 A5 A8 _ _ _ _ _ _ _ _ _ _ _ _ _ t ?_ ?_ ?_ ?_ ?_ ?_ _ _ _ _ _ _ _ ?_ ?_ ?_ ?_
  · rw [← h0]; rfl
  · rw [← h1]; rfl
  · rw [← h2]; rfl
  · rw [← h3]; rfl
  · rw [← h5]; rfl
  · rw [← h8]; rfl
  all_goals
    blk_simp [e]
  all_goals simp

end Cert.Kernel4Ideal.Proj

end
-- ==== Proof.Proj.Prep.lean ====
module

public import proofs.«01_k».proof.Proof.Proj.Array
public import proofs.«01_k».proof.Proof.Glu.Host
public import proofs.«01_k».proof.Proof.Attn.Slots
public import Idealize.ShloMosaic.Lib.Tactic.CleanTypes
public import Idealize.ShloMosaic.Lib.StableHlo.RunRead

@[expose] public section

set_option maxRecDepth 16384

noncomputable section

namespace Cert.Kernel4Ideal.Proj

open Cert.Kernel4Ideal Cert.Kernel4Ideal.Gen Idealize.ShloMosaic Idealize.ShloMosaic.TcCoe

/-! The arrays the kernel's host text prepares. -/

/-- A table of columns out of `n`, negative entries counted from the end. -/
def cols (L : Fin 128 → BitVec 32) (n : BitVec 32) : IVec S128 32 :=
  select (cmpi .slt (fun i => L (S128.rowMajor i)) (broadcastInDim S128 ![] bcast_S_S128 (constantI S_ 32 0#32)))
    (addi (fun i => L (S128.rowMajor i)) (broadcastInDim S128 ![] bcast_S_S128 (constantI S_ 32 n)))
    (fun i => L (S128.rowMajor i))

/-- The table as a column of start indices. -/
def starts (L : Fin 128 → BitVec 32) (n : BitVec 32) : IVec S128x1 32 :=
  broadcastInDim S128x1 ![0] bcast_S128_S128x1_0 (cols L n)

/-- Which entries of the table name a column, the last being `mx`. -/
def named (L : Fin 128 → BitVec 32) (n mx : BitVec 32) : IVec S128 1 :=
  Host.reduce IntOp.andi
    (andi (cmpi .sge (starts L n) (broadcastInDim S128x1 ![] bcast_S_S128x1 (constantI S_ 32 0#32)))
      (cmpi .sle (starts L n) (broadcastInDim S128x1 ![0, 1] bcast_S1x1_S128x1_0_1
        (broadcastInDim S1x1 ![1] bcast_S1_S1x1_1 (constantI S1 32 mx)))))
    (constantI S_ 1 1#1) reducesTo_S128x1_S128_d1 h_S_

/-- The rotary columns of the first weights, with one more column, of zeros. -/
def inPad (w : FVec Ideal S1024x800 .f32) : FVec Ideal S1024x33 .f32 :=
  concatenate S1024x33 1
    [⟨S1024x32, extractStridedSlice S1024x32 ![0, 768] w slices_S1024x800_S1024x32_0_768⟩,
     ⟨S1024x1, broadcastInDim S1024x1 ![] bcast_S_S1024x1 (constant (F := Ideal) S_ .f32 0x00000000#32)⟩]
    concatenates_S1024x32_S1024x1_S1024x33_d1

/-- The first weights, the rotary columns laid out in a slot. -/
def inPrep (w : FVec Ideal S1024x800 .f32) : FVec Ideal S1024x896 .bf16 :=
  truncf .bf16 (concatenate S1024x896 1
    [⟨S1024x768, extractStridedSlice S1024x768 ![0, 0] w slices_S1024x800_S1024x768_0_0⟩,
     ⟨S1024x128, select (broadcastInDim S1024x128 ![1] bcast_S128_S1024x128_1 (named lit0 33#32 32#32))
        (Host.gather gather_S1024x33_S128x1_S1024x128_0_1_n_n_1_1_10241 (inPad w) (starts lit0 33#32))
        (broadcastInDim S1024x128 ![] bcast_S_S1024x128 (constant (F := Ideal) S_ .f32 0x7FC00000#32))⟩]
    concatenates_S1024x768_S1024x128_S1024x896_d1) bitsLt_bf16_f32

/-- The queries' weights by heads, with one more column, of zeros. -/
def qPad (w : FVec Ideal S512x1536 .f32) : FVec Ideal S512x16x97 .f32 :=
  concatenate S512x16x97 2
    [⟨S512x16x96, shapeCast S512x16x96 w shapeCasts_S512x1536_S512x16x96⟩,
     ⟨S512x16x1, broadcastInDim S512x16x1 ![] bcast_S_S512x16x1 (constant (F := Ideal) S_ .f32 0x00000000#32)⟩]
    concatenates_S512x16x96_S512x16x1_S512x16x97_d2

/-- The queries' weights laid out in slots, transposed. -/
def qPrep (w : FVec Ideal S512x1536 .f32) : FVec Ideal S2048x512 .bf16 :=
  truncf .bf16 (transpose S2048x512 [1, 0] (shapeCast S512x2048
    (select (broadcastInDim S512x16x128 ![2] bcast_S128_S512x16x128_2 (named lit1 97#32 96#32))
      (Host.gather gather_S512x16x97_S128x1_S512x16x128_01_2_n_n_2_1_512161 (qPad w) (starts lit1 97#32))
      (broadcastInDim S512x16x128 ![] bcast_S_S512x16x128 (constant (F := Ideal) S_ .f32 0x7FC00000#32)))
    shapeCasts_S512x16x128_S512x2048) transposes_S512x2048_S2048x512_1_0) bitsLt_bf16_f32

/-- The weights of keys and values by heads. -/
def kvHeads (w : FVec Ideal S256x2048 .f32) : FVec Ideal S256x16x128 .f32 :=
  shapeCast S256x16x128 w shapeCasts_S256x2048_S256x16x128

/-- The keys' weights by heads, with one more column, of zeros. -/
def kPad (w : FVec Ideal S256x2048 .f32) : FVec Ideal S256x16x65 .f32 :=
  concatenate S256x16x65 2
    [⟨S256x16x64, extractStridedSlice S256x16x64 ![0, 0, 0] (kvHeads w) slices_S256x16x128_S256x16x64_0_0_0⟩,
     ⟨S256x16x1, broadcastInDim S256x16x1 ![] bcast_S_S256x16x1 (constant (F := Ideal) S_ .f32 0x00000000#32)⟩]
    concatenates_S256x16x64_S256x16x1_S256x16x65_d2

/-- The keys' weights laid out in slots. -/
def kPrep (w : FVec Ideal S256x2048 .f32) : FVec Ideal S256x2048 .bf16 :=
  truncf .bf16 (shapeCast S256x2048
    (select (broadcastInDim S256x16x128 ![2] bcast_S128_S256x16x128_2 (named lit2 65#32 64#32))
      (Host.gather gather_S256x16x65_S128x1_S256x16x128_01_2_n_n_2_1_256161 (kPad w) (starts lit2 65#32))
      (broadcastInDim S256x16x128 ![] bcast_S_S256x16x128 (constant (F := Ideal) S_ .f32 0x7FC00000#32)))
    shapeCasts_S256x16x128_S256x2048) bitsLt_bf16_f32

/-- The values' weights, transposed. -/
def vPrep (w : FVec Ideal S256x2048 .f32) : FVec Ideal S1024x256 .bf16 :=
  truncf .bf16 (transpose S1024x256 [1, 0] (shapeCast S256x1024
    (extractStridedSlice S256x16x64 ![0, 0, 64] (kvHeads w) slices_S256x16x128_S256x16x64_0_0_64)
    shapeCasts_S256x16x64_S256x1024) transposes_S256x1024_S1024x256_1_0) bitsLt_bf16_f32

/-- The frequencies of the rotary embedding. -/
def freq : FVec Ideal S8 .f32 :=
  Host.powf (broadcastInDim S8 ![] bcast_S_S8 (constant S_ .f32 0x461C4000#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
      (broadcastInDim S8 ![] bcast_S_S8 (constant S_ .f32 0x41800000#32)))

/-- The angles of positions `p` on one axis. -/
def axis (p : FVec Ideal S4096 .f32) : FVec Ideal S4096x1x8 .f32 :=
  broadcastInDim S4096x1x8 ![0, 2] bcast_S4096x8_S4096x1x8_0_2
    (mulf (broadcastInDim S4096x8 ![0, 1] bcast_S4096x1_S4096x8_0_1 (broadcastInDim S4096x1 ![0] bcast_S4096_S4096x1_0 p))
      (broadcastInDim S4096x8 ![0, 1] bcast_S1x8_S4096x8_0_1 (broadcastInDim S1x8 ![1] bcast_S8_S1x8_1 freq)))

/-- The angles of the rotary embedding: the rows' and the columns'. -/
def angles : FVec Ideal S4096x2x8 .f32 :=
  concatenate S4096x2x8 1
    [⟨S4096x1x8, axis (shapeCast S4096 (broadcastInDim S64x64 ![0] bcast_S64_S64x64_0
        (sitofp .f32 (iotaInDim S64 32 0))) shapeCasts_S64x64_S4096)⟩,
     ⟨S4096x1x8, axis (shapeCast S4096 (broadcastInDim S64x64 ![0, 1] bcast_S1x64_S64x64_0_1
        (shapeCast S1x64 (sitofp .f32 (iotaInDim S64 32 0)) shapeCasts_S64_S1x64)) shapeCasts_S64x64_S4096)⟩]
    concatenates_S4096x1x8_S4096x1x8_S4096x2x8_d1

/-- A row of 48 times `4096` entries. -/
def wide48 (w : BitVec 32) : FVec Ideal S4096x48 .f32 :=
  broadcastInDim S4096x48 ![] bcast_S_S4096x48 (constant (F := Ideal) S_ .f32 w)

/-- The cosines in slots, those of the angles `a`, for the latents. -/
def cosSlot (a : FVec Ideal S4096x2x8 .f32) : FVec Ideal S4096x128 .f32 :=
  concatenate S4096x128 1
    [⟨S4096x16, Host.cos (shapeCast S4096x16 a shapeCasts_S4096x2x8_S4096x16)⟩, ⟨S4096x48, wide48 0x3F800000#32⟩,
     ⟨S4096x16, Host.cos (shapeCast S4096x16 a shapeCasts_S4096x2x8_S4096x16)⟩, ⟨S4096x48, wide48 0x3F800000#32⟩]
    concatenates_S4096x16_S4096x48_S4096x16_S4096x48_S4096x128_d1

/-- The sines in slots, for the latents. -/
def sinSlot (a : FVec Ideal S4096x2x8 .f32) : FVec Ideal S4096x128 .f32 :=
  concatenate S4096x128 1
    [⟨S4096x16, Host.sin (shapeCast S4096x16 a shapeCasts_S4096x2x8_S4096x16)⟩,
     ⟨S4096x48, mulf (wide48 0x00000000#32) (wide48 0x3F800000#32)⟩,
     ⟨S4096x16, Host.negf (Host.sin (shapeCast S4096x16 a shapeCasts_S4096x2x8_S4096x16))⟩,
     ⟨S4096x48, mulf (wide48 0x00000000#32) (wide48 0x3F800000#32)⟩]
    concatenates_S4096x16_S4096x48_S4096x16_S4096x48_S4096x128_d1

/-- A table with 256 rows of one constant before it, for the context. -/
def withContext (w : BitVec 32) (t : FVec Ideal S4096x128 .f32) : FVec Ideal S4352x128 .f32 :=
  concatenate S4352x128 0
    [⟨S256x128, broadcastInDim S256x128 ![] bcast_S_S256x128 (constant (F := Ideal) S_ .f32 w)⟩, ⟨S4096x128, t⟩]
    concatenates_S256x128_S4096x128_S4352x128_d0

/-- The weights of a head's norm laid out in a slot. -/
def gSlot (g : FVec Ideal S96 .f32) : FVec Ideal S128 .f32 :=
  select (named lit1 97#32 96#32)
    (Host.gather gather_S97_S128x1_S128_n_0_n_n_0_1_1
      (concatenate S97 0 [⟨S96, g⟩, ⟨S1, broadcastInDim S1 ![] bcast_S_S1 (constant (F := Ideal) S_ .f32 0x00000000#32)⟩]
        concatenates_S96_S1_S97_d0) (starts lit1 97#32))
    (broadcastInDim S128 ![] bcast_S_S128 (constant (F := Ideal) S_ .f32 0x7FC00000#32))

/-- A slot rolled by half its length. -/
def half (g : FVec Ideal S128 .f32) : FVec Ideal S128 .f32 :=
  concatenate S128 0
    [⟨S64, extractStridedSlice S64 ![64] g slices_S128_S64_64⟩, ⟨S64, extractStridedSlice S64 ![0] g slices_S128_S64_0⟩]
    concatenates_S64_S64_S128_d0

/-- A queries' table: the scaled weights times the latents' rows of `t`, tokens last. -/
def qTable (g : FVec Ideal S128 .f32) (t : FVec Ideal S4352x128 .f32) : FVec Ideal S96x4096 .f32 :=
  transpose S96x4096 [1, 0] (extractStridedSlice S4096x96 ![0, 0]
    (mulf (broadcastInDim S4096x128 ![0, 1] bcast_S1x128_S4096x128_0_1 (broadcastInDim S1x128 ![1] bcast_S128_S1x128_1
        (mulf g (broadcastInDim S128 ![] bcast_S_S128 KernelIdeal.Attn.qScale))))
      (extractStridedSlice S4096x128 ![256, 0] t slices_S4352x128_S4096x128_256_0)) slices_S4096x128_S4096x96_0_0)
    transposes_S4096x96_S96x4096_1_0

/-- A keys' table: the weights times the rows of `t`. -/
def kTable (g : FVec Ideal S128 .f32) (t : FVec Ideal S4352x128 .f32) : FVec Ideal S4352x128 .f32 :=
  mulf (broadcastInDim S4352x128 ![0, 1] bcast_S1x128_S4352x128_0_1 (broadcastInDim S1x128 ![1] bcast_S128_S1x128_1 g)) t

/-- The context and the latents in one array. -/
def tokens (x : FVec Ideal S8x4096x1024 .f32) (ctx : FVec Ideal S8x256x1024 .f32) : FVec Ideal S8x4352x1024 .f32 :=
  concatenate S8x4352x1024 1 [⟨S8x256x1024, ctx⟩, ⟨S8x4096x1024, x⟩] concatenates_S8x256x1024_S8x4096x1024_S8x4352x1024_d1

end Cert.Kernel4Ideal.Proj

end
-- ==== Proof.Proj.RefOut.lean ====
module

public import proofs.«01_k».proof.Proof.Proj.RefRows
public import proofs.«01_k».proof.Proof.Proj.Prep
public import Idealize.ShloMosaic.Lib.Pointwise

@[expose] public section

set_option maxRecDepth 16384

noncomputable section

namespace Cert.Reference4Ideal.Proj

open Cert.Reference4Ideal Cert.Reference4Ideal.Gen Idealize.ShloMosaic Idealize.ShloMosaic.TcCoe

/-! The reference, from the heads to the results. -/

/-- The first of each pair of eights. -/
def fst4096 (r : FVec Ideal S8x4096x16x32 .f32) : FVec Ideal S8x4096x16x2x8 .f32 :=
  shapeCast S8x4096x16x2x8 (extractStridedSlice S8x4096x16x2x1x8 ![0, 0, 0, 0, 0, 0]
    (shapeCast S8x4096x16x2x2x8 r shapeCasts_S8x4096x16x32_S8x4096x16x2x2x8) slices_S8x4096x16x2x2x8_S8x4096x16x2x1x8_0_0_0_0_0_0)
    shapeCasts_S8x4096x16x2x1x8_S8x4096x16x2x8

/-- The second of each pair of eights. -/
def snd4096 (r : FVec Ideal S8x4096x16x32 .f32) : FVec Ideal S8x4096x16x2x8 .f32 :=
  shapeCast S8x4096x16x2x8 (extractStridedSlice S8x4096x16x2x1x8 ![0, 0, 0, 0, 1, 0]
    (shapeCast S8x4096x16x2x2x8 r shapeCasts_S8x4096x16x32_S8x4096x16x2x2x8) slices_S8x4096x16x2x2x8_S8x4096x16x2x1x8_0_0_0_0_1_0)
    shapeCasts_S8x4096x16x2x1x8_S8x4096x16x2x8

theorem fst4096_apply (r : FVec Ideal S8x4096x16x32 .f32) (b : Fin 8) (q : Fin 4096) (h : Fin 16) (a : Fin 2) (e : Fin 8) :
    fst4096 r (ix5 b q h a e) = r (ix4 b q h ⟨a.val * 16 + e.val, by omega⟩) := by
  pointwise [fst4096]

theorem snd4096_apply (r : FVec Ideal S8x4096x16x32 .f32) (b : Fin 8) (q : Fin 4096) (h : Fin 16) (a : Fin 2) (e : Fin 8) :
    snd4096 r (ix5 b q h a e) = r (ix4 b q h ⟨a.val * 16 + 8 + e.val, by omega⟩) := by
  pointwise [snd4096]

/-- A table of the rotation for every batch and head. -/
def wide (t : FVec Ideal S4096x2x8 .f32) : FVec Ideal S8x4096x16x2x8 .f32 :=
  broadcastInDim S8x4096x16x2x8 ![0, 1, 2, 3, 4] bcast_S1x4096x1x2x8_S8x4096x16x2x8_0_1_2_3_4
    (broadcastInDim S1x4096x1x2x8 ![1, 3, 4] bcast_S4096x2x8_S1x4096x1x2x8_1_3_4 t)

/-- The heads' last 32 rotated by the angles `a`. -/
def turn (r : FVec Ideal S8x4096x16x32 .f32) (a : FVec Ideal S4096x2x8 .f32) : FVec Ideal S8x4096x16x32 .f32 :=
  shapeCast S8x4096x16x32 (concatenate S8x4096x16x2x2x8 4
    [⟨S8x4096x16x2x1x8, broadcastInDim S8x4096x16x2x1x8 ![0, 1, 2, 3, 5] bcast_S8x4096x16x2x8_S8x4096x16x2x1x8_0_1_2_3_5
        (subf (mulf (fst4096 r) (wide (Host.cos a))) (mulf (snd4096 r) (wide (Host.sin a))))⟩,
     ⟨S8x4096x16x2x1x8, broadcastInDim S8x4096x16x2x1x8 ![0, 1, 2, 3, 5] bcast_S8x4096x16x2x8_S8x4096x16x2x1x8_0_1_2_3_5
        (addf (mulf (snd4096 r) (wide (Host.cos a))) (mulf (fst4096 r) (wide (Host.sin a))))⟩]
    concatenates_S8x4096x16x2x1x8_S8x4096x16x2x1x8_S8x4096x16x2x2x8_d4)
    shapeCasts_S8x4096x16x2x2x8_S8x4096x16x32

/-- Heads whose last 32 are rotated. -/
def rope (t : FVec Ideal S8x4096x16x96 .f32) (a : FVec Ideal S4096x2x8 .f32) : FVec Ideal S8x4096x16x96 .f32 :=
  concatenate S8x4096x16x96 3
    [⟨S8x4096x16x64, extractStridedSlice S8x4096x16x64 ![0, 0, 0, 0] t slices_S8x4096x16x96_S8x4096x16x64_0_0_0_0⟩,
     ⟨S8x4096x16x32, turn (extractStridedSlice S8x4096x16x32 ![0, 0, 0, 64] t slices_S8x4096x16x96_S8x4096x16x32_0_0_0_64) a⟩]
    concatenates_S8x4096x16x64_S8x4096x16x32_S8x4096x16x96_d3

/-- The context's heads and the latents', along the tokens. -/
def both (c : FVec Ideal S8x256x16x96 .f32) (x : FVec Ideal S8x4096x16x96 .f32) : FVec Ideal S8x4352x16x96 .f32 :=
  concatenate S8x4352x16x96 1 [⟨S8x256x16x96, c⟩, ⟨S8x4096x16x96, x⟩] concatenates_S8x256x16x96_S8x4096x16x96_S8x4352x16x96_d1

/-- The context's values and the latents', along the tokens. -/
def bothV (c : FVec Ideal S8x256x16x64 .f32) (x : FVec Ideal S8x4096x16x64 .f32) : FVec Ideal S8x4352x16x64 .f32 :=
  concatenate S8x4352x16x64 1 [⟨S8x256x16x64, c⟩, ⟨S8x4096x16x64, x⟩] concatenates_S8x256x16x64_S8x4096x16x64_S8x4352x16x64_d1

variable (m : (ℓ : Loc nD τ sig) → Buf (Elt Ideal) ℓ)

abbrev px (x : FVec Ideal S8x4096x1024 .f32) (mod : FVec Ideal S8x6144 .f32) (g : FVec Ideal S1024 .f32)
    (w : FVec Ideal S1024x800 .f32) : FVec Ideal S8x4096x800 .f32 := proj4096 (mod4096 x g mod) w

abbrev pc (x : FVec Ideal S8x256x1024 .f32) (mod : FVec Ideal S1x6144 .f32) (g : FVec Ideal S1024 .f32)
    (w : FVec Ideal S1024x800 .f32) : FVec Ideal S8x256x800 .f32 := proj256 (mod256 x g mod) w

/-- The queries from the first product. -/
def queries (p : FVec Ideal S8x4096x800 .f32) (g : FVec Ideal S512 .f32) (w : FVec Ideal S512x1536 .f32)
    (gn : FVec Ideal S96 .f32) : FVec Ideal S8x4096x16x96 .f32 :=
  rope (headNorm4096 (headsQ (lowQ (cutQ p) g) w) gn) Kernel4Ideal.Proj.angles

/-- The keys from the two first products. -/
def keysOf (c : FVec Ideal S8x256x800 .f32) (p : FVec Ideal S8x4096x800 .f32) (g : FVec Ideal S256 .f32)
    (w : FVec Ideal S256x2048 .f32) (gn : FVec Ideal S96 .f32) : FVec Ideal S8x4352x16x96 .f32 :=
  both (headNorm256 (keys256 (headsKV256 (lowKV256 (cutKV256 c) g) w) c) gn)
    (rope (headNorm4096 (keys4096 (headsKV4096 (lowKV4096 (cutKV4096 p) g) w) p) gn) Kernel4Ideal.Proj.angles)

/-- The values from the two first products. -/
def valuesOf (c : FVec Ideal S8x256x800 .f32) (p : FVec Ideal S8x4096x800 .f32) (g : FVec Ideal S256 .f32)
    (w : FVec Ideal S256x2048 .f32) : FVec Ideal S8x4352x16x64 .f32 :=
  bothV (vals256 (headsKV256 (lowKV256 (cutKV256 c) g) w)) (vals4096 (headsKV4096 (lowKV4096 (cutKV4096 p) g) w))

/-- The reference's run: its three results, and its arguments kept. -/
theorem run (ρ : Dev nD → PrngReg) :
    θ_run defs (onTc (τ := τ) (main (F := Ideal))) ⟨m, fun _ => 0, ρ⟩ fun r => ∀ c : Dev nD,
      (r.2.mem ((c.tc : Thread nD τ).loc main_v132) = queries (px (m ((c.tc : Thread nD τ).loc main_arg0)) (m ((c.tc : Thread nD τ).loc main_arg2)) (m ((c.tc : Thread nD τ).loc main_arg4)) (m ((c.tc : Thread nD τ).loc main_arg5)))
          (m ((c.tc : Thread nD τ).loc main_arg6)) (m ((c.tc : Thread nD τ).loc main_arg8)) (m ((c.tc : Thread nD τ).loc main_arg10))
        ∧ r.2.mem ((c.tc : Thread nD τ).loc main_v227) = keysOf (pc (m ((c.tc : Thread nD τ).loc main_arg1)) (m ((c.tc : Thread nD τ).loc main_arg3)) (m ((c.tc : Thread nD τ).loc main_arg4)) (m ((c.tc : Thread nD τ).loc main_arg5)))
          (px (m ((c.tc : Thread nD τ).loc main_arg0)) (m ((c.tc : Thread nD τ).loc main_arg2)) (m ((c.tc : Thread nD τ).loc main_arg4)) (m ((c.tc : Thread nD τ).loc main_arg5))) (m ((c.tc : Thread nD τ).loc main_arg7))
          (m ((c.tc : Thread nD τ).loc main_arg9)) (m ((c.tc : Thread nD τ).loc main_arg11))
        ∧ r.2.mem ((c.tc : Thread nD τ).loc main_v228) = valuesOf (pc (m ((c.tc : Thread nD τ).loc main_arg1)) (m ((c.tc : Thread nD τ).loc main_arg3)) (m ((c.tc : Thread nD τ).loc main_arg4)) (m ((c.tc : Thread nD τ).loc main_arg5)))
          (px (m ((c.tc : Thread nD τ).loc main_arg0)) (m ((c.tc : Thread nD τ).loc main_arg2)) (m ((c.tc : Thread nD τ).loc main_arg4)) (m ((c.tc : Thread nD τ).loc main_arg5))) (m ((c.tc : Thread nD τ).loc main_arg7)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨⟨(h c).1.trans rfl, (h c).2.1.trans rfl, (h c).2.2.1.trans rfl⟩, (h c).2.2.2⟩)
    (Value.run (F := Ideal) m ρ)

end Cert.Reference4Ideal.Proj

end
-- ==== Proof.Proj.Take.lean ====
module

public import proofs.«01_k».proof.Proof.Proj.Prep

@[expose] public section

set_option maxRecDepth 16384

noncomputable section

namespace Cert.Kernel4Ideal.Proj

open Cert.Kernel4Ideal Cert.Kernel4Ideal.Gen Idealize.ShloMosaic Idealize.ShloMosaic.TcCoe

/-! Takes of columns by a table of their numbers. -/

/-- The dimension numbers of a take along the last of one axis. -/
abbrev take1Dims (C n : Nat)
    (wf : GatherDims.WF ⟨1, ![C]⟩ ⟨2, ![n, 1]⟩ ⟨1, ![n]⟩ [] [0] [] [0] [] 1 ![1]) :
    GatherDims ⟨1, ![C]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- A take along the last of one axis, at an index. -/
theorem take1 {α : Type} {C n : Nat} (hC : 0 < C)
    (wf : GatherDims.WF ⟨1, ![C]⟩ ⟨2, ![n, 1]⟩ ⟨1, ![n]⟩ [] [0] [] [0] [] 1 ![1])
    (x : (⟨1, ![C]⟩ : Shape).Idx → α) (idx : IVec ⟨2, ![n, 1]⟩ 32) (l : Fin n) :
    Host.gather (take1Dims C n wf) x idx (ix1 l)
      = x (ix1 ⟨min (idx (ix2 l 0)).toInt.toNat (C - 1), by omega⟩) := by
  unfold Host.gather
  refine congrArg x (funext fun a => Fin.ext ?_)
  show (take1Dims C n wf).start _ idx a + (take1Dims C n wf).batchCoord _ a
    + (take1Dims C n wf).offCoord _ a = _
  rw [GatherDims.batchCoord_eq_zero _ _ _ List.not_mem_nil, Nat.add_zero]
  unfold GatherDims.start GatherDims.offCoord
  match a with
  | ⟨0, hk⟩ =>
    rw [dif_pos (show (⟨0, hk⟩ : Fin 1) ∈ (take1Dims C n wf).startIndexMap from (by decide : (0 : Fin 1) ∈ [(0 : Fin 1)])),
      dif_neg (show (⟨0, hk⟩ : Fin 1) ∉ (take1Dims C n wf).sKept from fun h =>
        ((GatherDims.mem_sKept _ _).1 h).1 (by decide : (0 : Fin 1) ∈ [(0 : Fin 1)])), Nat.add_zero]
    have hsi : (take1Dims C n wf).siIdx (ix1 l) ⟨List.idxOf (0 : Fin 1) [(0 : Fin 1)], (by decide : List.idxOf (0 : Fin 1) [(0 : Fin 1)] < 1)⟩ = ix2 l 0 := by
      funext b'
      match b' with
      | ⟨0, _⟩ => exact Fin.ext rfl
      | ⟨1, _⟩ => exact Fin.ext rfl
    show min (idx ((take1Dims C n wf).siIdx (ix1 l) ⟨List.idxOf (0 : Fin 1) [(0 : Fin 1)], _⟩)).toInt.toNat (C - 1) = _
    rw [hsi]
    rfl

/-- The dimension numbers of a take along the last of two axes. -/
abbrev take2Dims (R C n : Nat)
    (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- A take along the last of two axes, at an index. -/
theorem take2 {α : Type} {R C n : Nat} (hC : 0 < C)
    (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ 32) (r : Fin R) (l : Fin n) :
    Host.gather (take2Dims R C n wf) x idx (ix2 r l)
      = x (ix2 r ⟨min (idx (ix2 l 0)).toInt.toNat (C - 1), by omega⟩) := by
  unfold Host.gather
  refine congrArg x (funext fun a => Fin.ext ?_)
  show (take2Dims R C n wf).start _ idx a + (take2Dims R C n wf).batchCoord _ a
    + (take2Dims R C n wf).offCoord _ a = _
  rw [GatherDims.batchCoord_eq_zero _ _ _ List.not_mem_nil, Nat.add_zero]
  unfold GatherDims.start GatherDims.offCoord
  match a with
  | ⟨0, hk⟩ =>
    rw [dif_neg (show (⟨0, hk⟩ : Fin 2) ∉ (take2Dims R C n wf).startIndexMap from (by decide : (0 : Fin 2) ∉ [(1 : Fin 2)])),
      dif_pos (show (⟨0, hk⟩ : Fin 2) ∈ (take2Dims R C n wf).sKept from (GatherDims.mem_sKept _ _).2
        ⟨(by decide : (0 : Fin 2) ∉ [(1 : Fin 2)]), List.not_mem_nil⟩), Nat.zero_add]
    rfl
  | ⟨1, hk⟩ =>
    rw [dif_pos (show (⟨1, hk⟩ : Fin 2) ∈ (take2Dims R C n wf).startIndexMap from (by decide : (1 : Fin 2) ∈ [(1 : Fin 2)])),
      dif_neg (show (⟨1, hk⟩ : Fin 2) ∉ (take2Dims R C n wf).sKept from fun h =>
        ((GatherDims.mem_sKept _ _).1 h).1 (by decide : (1 : Fin 2) ∈ [(1 : Fin 2)])), Nat.add_zero]
    have hsi : (take2Dims R C n wf).siIdx (ix2 r l) ⟨List.idxOf (1 : Fin 2) [(1 : Fin 2)], (by decide : List.idxOf (1 : Fin 2) [(1 : Fin 2)] < 1)⟩ = ix2 l 0 := by
      funext b'
      match b' with
      | ⟨0, _⟩ => exact Fin.ext rfl
      | ⟨1, _⟩ => exact Fin.ext rfl
    show min (idx ((take2Dims R C n wf).siIdx (ix2 r l) ⟨List.idxOf (1 : Fin 2) [(1 : Fin 2)], _⟩)).toInt.toNat (C - 1) = _
    rw [hsi]
    rfl

/-- The dimension numbers of a take along the last of three axes. -/
abbrev take3Dims (R H C n : Nat)
    (wf : GatherDims.WF ⟨3, ![R, H, C]⟩ ⟨2, ![n, 1]⟩ ⟨3, ![R, H, n]⟩ [0, 1] [2] [] [2] [] 1 ![R, H, 1]) :
    GatherDims ⟨3, ![R, H, C]⟩ ⟨2, ![n, 1]⟩ ⟨3, ![R, H, n]⟩ where
  offsetDims := [0, 1]
  collapsedSliceDims := [2]
  operandBatchingDims := []
  startIndicesBatchingDims := []
  startIndexMap := [2]
  indexVectorDim := 1
  sliceSizes := ![R, H, 1]
  wf := wf

/-- A take along the last of three axes, at an index. -/
theorem take3 {α : Type} {R H C n : Nat} (hC : 0 < C)
    (wf : GatherDims.WF ⟨3, ![R, H, C]⟩ ⟨2, ![n, 1]⟩ ⟨3, ![R, H, n]⟩ [0, 1] [2] [] [2] [] 1 ![R, H, 1])
    (x : (⟨3, ![R, H, C]⟩ : Shape).Idx → α) (idx : IVec ⟨2, ![n, 1]⟩ 32) (r : Fin R) (h : Fin H) (l : Fin n) :
    Host.gather (take3Dims R H C n wf) x idx (ix3 r h l)
      = x (ix3 r h ⟨min (idx (ix2 l 0)).toInt.toNat (C - 1), by omega⟩) := by
  unfold Host.gather
  refine congrArg x (funext fun a => Fin.ext ?_)
  show (take3Dims R H C n wf).start _ idx a + (take3Dims R H C n wf).batchCoord _ a
    + (take3Dims R H C n wf).offCoord _ a = _
  rw [GatherDims.batchCoord_eq_zero _ _ _ List.not_mem_nil, Nat.add_zero]
  unfold GatherDims.start GatherDims.offCoord
  match a with
  | ⟨0, hk⟩ =>
    rw [dif_neg (show (⟨0, hk⟩ : Fin 3) ∉ (take3Dims R H C n wf).startIndexMap from (by decide : (0 : Fin 3) ∉ [(2 : Fin 3)])),
      dif_pos (show (⟨0, hk⟩ : Fin 3) ∈ (take3Dims R H C n wf).sKept from (GatherDims.mem_sKept _ _).2
        ⟨(by decide : (0 : Fin 3) ∉ [(2 : Fin 3)]), List.not_mem_nil⟩), Nat.zero_add]
    rfl
  | ⟨1, hk⟩ =>
    rw [dif_neg (show (⟨1, hk⟩ : Fin 3) ∉ (take3Dims R H C n wf).startIndexMap from (by decide : (1 : Fin 3) ∉ [(2 : Fin 3)])),
      dif_pos (show (⟨1, hk⟩ : Fin 3) ∈ (take3Dims R H C n wf).sKept from (GatherDims.mem_sKept _ _).2
        ⟨(by decide : (1 : Fin 3) ∉ [(2 : Fin 3)]), List.not_mem_nil⟩), Nat.zero_add]
    rfl
  | ⟨2, hk⟩ =>
    rw [dif_pos (show (⟨2, hk⟩ : Fin 3) ∈ (take3Dims R H C n wf).startIndexMap from (by decide : (2 : Fin 3) ∈ [(2 : Fin 3)])),
      dif_neg (show (⟨2, hk⟩ : Fin 3) ∉ (take3Dims R H C n wf).sKept from fun h =>
        ((GatherDims.mem_sKept _ _).1 h).1 (by decide : (2 : Fin 3) ∈ [(2 : Fin 3)])), Nat.add_zero]
    have hsi : (take3Dims R H C n wf).siIdx (ix3 r h l) ⟨List.idxOf (2 : Fin 3) [(2 : Fin 3)], (by decide : List.idxOf (2 : Fin 3) [(2 : Fin 3)] < 1)⟩ = ix2 l 0 := by
      funext b'
      match b' with
      | ⟨0, _⟩ => exact Fin.ext rfl
      | ⟨1, _⟩ => exact Fin.ext rfl
    show min (idx ((take3Dims R H C n wf).siIdx (ix3 r h l) ⟨List.idxOf (2 : Fin 3) [(2 : Fin 3)], _⟩)).toInt.toNat (C - 1) = _
    rw [hsi]
    rfl

end Cert.Kernel4Ideal.Proj

end
-- ==== Proof.Proj.Tables.lean ====
module

public import proofs.«01_k».proof.Proof.Proj.Take

@[expose] public section

set_option maxRecDepth 16384

noncomputable section

namespace Cert.Kernel4Ideal.Proj

open Cert.Kernel4Ideal Cert.Kernel4Ideal.Gen Idealize.ShloMosaic Idealize.ShloMosaic.TcCoe

/-! The arrays prepared before the launch, entry by entry. -/

/-- The column lane `l` of a slot holds, by table 0. -/
def col0 (l : Fin 128) : Fin 33 := ⟨min (lit0 l).toInt.toNat 32, by omega⟩

theorem cols0 (l : Fin 128) : cols lit0 33#32 (ix1 l) = lit0 l := by
  unfold cols
  pointwise
  revert l
  decide +kernel

theorem named0 (l : Fin 128) : named lit0 33#32 32#32 (ix1 l) = 1#1 := by
  unfold named starts
  pointwise
  rw [cols0]
  have h : IntOp.andi (IntOp.cmpi CmpIPredicate.sge (lit0 l) 0#32) (IntOp.cmpi CmpIPredicate.sle (lit0 l) 32#32) = 1#1 := by
    revert l
    decide +kernel
  rw [h]
  decide +kernel

theorem starts0 (l : Fin 128) : starts lit0 33#32 (ix2 l 0) = lit0 l := by
  unfold starts
  pointwise
  rw [cols0]

/-- The column lane `l` of a slot holds, by table 1. -/
def col1 (l : Fin 128) : Fin 97 := ⟨min (lit1 l).toInt.toNat 96, by omega⟩

theorem cols1 (l : Fin 128) : cols lit1 97#32 (ix1 l) = lit1 l := by
  unfold cols
  pointwise
  revert l
  decide +kernel

theorem named1 (l : Fin 128) : named lit1 97#32 96#32 (ix1 l) = 1#1 := by
  unfold named starts
  pointwise
  rw [cols1]
  have h : IntOp.andi (IntOp.cmpi CmpIPredicate.sge (lit1 l) 0#32) (IntOp.cmpi CmpIPredicate.sle (lit1 l) 96#32) = 1#1 := by
    revert l
    decide +kernel
  rw [h]
  decide +kernel

theorem starts1 (l : Fin 128) : starts lit1 97#32 (ix2 l 0) = lit1 l := by
  unfold starts
  pointwise
  rw [cols1]

/-- The column lane `l` of a slot holds, by table 2. -/
def col2 (l : Fin 128) : Fin 65 := ⟨min (lit2 l).toInt.toNat 64, by omega⟩

theorem cols2 (l : Fin 128) : cols lit2 65#32 (ix1 l) = lit2 l := by
  unfold cols
  pointwise
  revert l
  decide +kernel

theorem named2 (l : Fin 128) : named lit2 65#32 64#32 (ix1 l) = 1#1 := by
  unfold named starts
  pointwise
  rw [cols2]
  have h : IntOp.andi (IntOp.cmpi CmpIPredicate.sge (lit2 l) 0#32) (IntOp.cmpi CmpIPredicate.sle (lit2 l) 64#32) = 1#1 := by
    revert l
    decide +kernel
  rw [h]
  decide +kernel

theorem starts2 (l : Fin 128) : starts lit2 65#32 (ix2 l 0) = lit2 l := by
  unfold starts
  pointwise
  rw [cols2]

/-- The first weights outside the slot. -/
theorem inPrep_low (w : FVec Ideal S1024x800 .f32) (d : Fin 1024) (n : Fin 768) :
    inPrep w (ix2 d ⟨n.val, by omega⟩) = w (ix2 d ⟨n.val, by omega⟩) := by
  unfold inPrep
  pointwise

theorem inPad_apply (w : FVec Ideal S1024x800 .f32) (d : Fin 1024) (c : Fin 33) :
    inPad w (ix2 d c) = if h : c.val < 32 then w (ix2 d ⟨768 + c.val, by omega⟩) else 0 := by
  unfold inPad
  pointwise

/-- The first weights in the slot. -/
theorem inPrep_slot (w : FVec Ideal S1024x800 .f32) (d : Fin 1024) (l : Fin 128) :
    inPrep w (ix2 d ⟨768 + l.val, by omega⟩)
      = if h : (col0 l).val < 32 then w (ix2 d ⟨768 + (col0 l).val, by omega⟩) else 0 := by
  rw [← inPad_apply]
  unfold inPrep
  generalize inPad w = z
  pointwise
  rw [named0]
  have h0 := take2 (R := 1024) (C := 33) (n := 128) (by decide)
    gather_S1024x33_S128x1_S1024x128_0_1_n_n_1_1_10241_wf z (starts lit0 33#32) d l
  have hd : gather_S1024x33_S128x1_S1024x128_0_1_n_n_1_1_10241 =
    take2Dims 1024 33 128 gather_S1024x33_S128x1_S1024x128_0_1_n_n_1_1_10241_wf := rfl
  rw [hd]
  refine Eq.trans h0 (congrArg (fun c => z (ix2 d c)) (Fin.ext ?_))
  show min (starts lit0 33#32 (ix2 l 0)).toInt.toNat 32 = _
  rw [starts0]
  rfl

theorem qPad_apply (w : FVec Ideal S512x1536 .f32) (k : Fin 512) (h : Fin 16) (c : Fin 97) :
    qPad w (ix3 k h c) = if hc : c.val < 96 then w (ix2 k ⟨h.val * 96 + c.val, by omega⟩) else 0 := by
  unfold qPad
  pointwise

/-- The queries' weights in slots. -/
theorem qPrep_apply (w : FVec Ideal S512x1536 .f32) (h : Fin 16) (l : Fin 128) (k : Fin 512) :
    qPrep w (ix2 ⟨128 * h.val + l.val, by omega⟩ k)
      = if hc : (col1 l).val < 96 then w (ix2 k ⟨h.val * 96 + (col1 l).val, by omega⟩) else 0 := by
  rw [← qPad_apply]
  unfold qPrep
  generalize qPad w = z
  pointwise
  rw [named1]
  have h0 := take3 (R := 512) (H := 16) (C := 97) (n := 128) (by decide)
    gather_S512x16x97_S128x1_S512x16x128_01_2_n_n_2_1_512161_wf z (starts lit1 97#32) k h l
  have hd : gather_S512x16x97_S128x1_S512x16x128_01_2_n_n_2_1_512161 =
    take3Dims 512 16 97 128 gather_S512x16x97_S128x1_S512x16x128_01_2_n_n_2_1_512161_wf := rfl
  rw [hd]
  refine Eq.trans h0 (congrArg (fun c => z (ix3 k h c)) (Fin.ext ?_))
  show min (starts lit1 97#32 (ix2 l 0)).toInt.toNat 96 = _
  rw [starts1]
  rfl

theorem kPad_apply (w : FVec Ideal S256x2048 .f32) (k : Fin 256) (h : Fin 16) (c : Fin 65) :
    kPad w (ix3 k h c) = if hc : c.val < 64 then w (ix2 k ⟨h.val * 128 + c.val, by omega⟩) else 0 := by
  unfold kPad kvHeads
  pointwise

/-- The keys' weights in slots. -/
theorem kPrep_apply (w : FVec Ideal S256x2048 .f32) (k : Fin 256) (h : Fin 16) (l : Fin 128) :
    kPrep w (ix2 k ⟨128 * h.val + l.val, by omega⟩)
      = if hc : (col2 l).val < 64 then w (ix2 k ⟨h.val * 128 + (col2 l).val, by omega⟩) else 0 := by
  rw [← kPad_apply]
  unfold kPrep
  generalize kPad w = z
  pointwise
  rw [named2]
  have h0 := take3 (R := 256) (H := 16) (C := 65) (n := 128) (by decide)
    gather_S256x16x65_S128x1_S256x16x128_01_2_n_n_2_1_256161_wf z (starts lit2 65#32) k h l
  have hd : gather_S256x16x65_S128x1_S256x16x128_01_2_n_n_2_1_256161 =
    take3Dims 256 16 65 128 gather_S256x16x65_S128x1_S256x16x128_01_2_n_n_2_1_256161_wf := rfl
  rw [hd]
  refine Eq.trans h0 (congrArg (fun c => z (ix3 k h c)) (Fin.ext ?_))
  show min (starts lit2 65#32 (ix2 l 0)).toInt.toNat 64 = _
  rw [starts2]
  rfl

/-- The values' weights. -/
theorem vPrep_apply (w : FVec Ideal S256x2048 .f32) (h : Fin 16) (e : Fin 64) (k : Fin 256) :
    vPrep w (ix2 ⟨64 * h.val + e.val, by omega⟩ k) = w (ix2 k ⟨h.val * 128 + (64 + e.val), by omega⟩) := by
  unfold vPrep kvHeads
  pointwise

/-- A norm's weights with one more entry, zero. -/
def gPad (g : FVec Ideal S96 .f32) : FVec Ideal S97 .f32 :=
  concatenate S97 0 [⟨S96, g⟩, ⟨S1, broadcastInDim S1 ![] bcast_S_S1 (constant (F := Ideal) S_ .f32 0x00000000#32)⟩]
    concatenates_S96_S1_S97_d0

theorem gPad_apply (g : FVec Ideal S96 .f32) (c : Fin 97) :
    gPad g (ix1 c) = if hc : c.val < 96 then g (ix1 ⟨c.val, hc⟩) else 0 := by
  unfold gPad
  pointwise

/-- A norm's weights in a slot. -/
theorem gSlot_apply (g : FVec Ideal S96 .f32) (l : Fin 128) :
    gSlot g (ix1 l) = if hc : (col1 l).val < 96 then g (ix1 ⟨(col1 l).val, hc⟩) else 0 := by
  rw [← gPad_apply]
  unfold gSlot
  rw [← gPad]
  generalize gPad g = z
  pointwise
  rw [named1]
  have h0 := take1 (C := 97) (n := 128) (by decide) gather_S97_S128x1_S128_n_0_n_n_0_1_1_wf z (starts lit1 97#32) l
  have hd : gather_S97_S128x1_S128_n_0_n_n_0_1_1 = take1Dims 97 128 gather_S97_S128x1_S128_n_0_n_n_0_1_1_wf := rfl
  rw [hd]
  refine Eq.trans h0 (congrArg (fun c => z (ix1 c)) (Fin.ext ?_))
  show min (starts lit1 97#32 (ix2 l 0)).toInt.toNat 96 = _
  rw [starts1]
  rfl

/-- A slot rolled by half its length. -/
theorem half_apply (g : FVec Ideal S128 .f32) (l : Fin 128) : half g (ix1 l) = g (ix1 ⟨(l.val + 64) % 128, by omega⟩) := by
  unfold half
  pointwise
  split
  · exact congrArg (fun k => g (ix1 k)) (Fin.ext (by simp only; omega))
  · exact congrArg (fun k => g (ix1 k)) (Fin.ext (by simp only; omega))

theorem withContext_apply (w : BitVec 32) (t : FVec Ideal S4096x128 .f32) (p : Fin 4352) (l : Fin 128) :
    withContext w t (ix2 p l) = if h : p.val < 256 then Ideal.ofBits .f32 w else t (ix2 ⟨p.val - 256, by omega⟩ l) := by
  unfold withContext
  pointwise

theorem kTable_apply (g : FVec Ideal S128 .f32) (t : FVec Ideal S4352x128 .f32) (p : Fin 4352) (l : Fin 128) :
    kTable g t (ix2 p l) = g (ix1 l) * t (ix2 p l) := by
  unfold kTable
  pointwise

/-- The scale of the queries: one over `√96 · log 2`. -/
def scale : EReal := Ideal.div 1 (Ideal.sqrt ((96 : ℝ) : EReal) * Ideal.log ((2 : ℝ) : EReal))

theorem qTable_apply (g : FVec Ideal S128 .f32) (t : FVec Ideal S4352x128 .f32) (l : Fin 96) (q : Fin 4096) :
    qTable g t (ix2 l q) = g (ix1 ⟨l.val, by omega⟩) * scale * t (ix2 ⟨256 + q.val, by omega⟩ ⟨l.val, by omega⟩) := by
  unfold qTable KernelIdeal.Attn.qScale scale
  rw [← KernelIdeal.Attn.ofBits_96, ← KernelIdeal.Attn.ofBits_2]
  pointwise

/-- The cosines in a slot. -/
theorem cosSlot_apply (a : FVec Ideal S4096x2x8 .f32) (q : Fin 4096) (l : Fin 128) :
    cosSlot a (ix2 q l) = if l.val % 64 < 16 then
      Ideal.cos (a (ix3 q ⟨l.val % 64 / 8 % 2, by omega⟩ ⟨l.val % 64 % 8, by omega⟩)) else 1 := by
  unfold cosSlot wide48
  pointwise
  have hv : ∀ (a' b' a'' b'' : ℕ) (h1 : a' < 2) (h2 : b' < 8) (h3 : a'' < 2) (h4 : b'' < 8), a' = a'' → b' = b'' →
      a (ix3 q ⟨a', h1⟩ ⟨b', h2⟩) = a (ix3 q ⟨a'', h3⟩ ⟨b'', h4⟩) := by
    intro _ _ _ _ _ _ _ _ h h'
    subst h h'
    rfl
  by_cases h1 : l.val < 16
  · rw [dif_pos h1]
    exact (congrArg Ideal.cos (hv _ _ _ _ _ _ _ _ (by omega) (by omega))).trans (if_pos (by omega)).symm
  · rw [dif_neg h1]
    by_cases h2 : l.val - 16 < 48
    · rw [dif_pos h2, if_neg (by omega)]
    · rw [dif_neg h2]
      by_cases h3 : l.val - 16 - 48 < 16
      · rw [dif_pos h3]
        exact (congrArg Ideal.cos (hv _ _ _ _ _ _ _ _ (by omega) (by omega))).trans (if_pos (by omega)).symm
      · rw [dif_neg h3, if_neg (by omega)]

/-- The sines in a slot: those of the second half negated. -/
theorem sinSlot_apply (a : FVec Ideal S4096x2x8 .f32) (q : Fin 4096) (l : Fin 128) :
    sinSlot a (ix2 q l) = if l.val % 64 < 16 then
      if l.val < 64 then Ideal.sin (a (ix3 q ⟨l.val % 64 / 8 % 2, by omega⟩ ⟨l.val % 64 % 8, by omega⟩))
      else -Ideal.sin (a (ix3 q ⟨l.val % 64 / 8 % 2, by omega⟩ ⟨l.val % 64 % 8, by omega⟩)) else 0 := by
  unfold sinSlot wide48
  pointwise
  have hv : ∀ (a' b' a'' b'' : ℕ) (h1 : a' < 2) (h2 : b' < 8) (h3 : a'' < 2) (h4 : b'' < 8), a' = a'' → b' = b'' →
      a (ix3 q ⟨a', h1⟩ ⟨b', h2⟩) = a (ix3 q ⟨a'', h3⟩ ⟨b'', h4⟩) := by
    intro _ _ _ _ _ _ _ _ h h'
    subst h h'
    rfl
  by_cases h1 : l.val < 16
  · rw [dif_pos h1]
    exact (congrArg Ideal.sin (hv _ _ _ _ _ _ _ _ (by omega) (by omega))).trans
      ((if_pos (by omega)).trans (if_pos (by omega))).symm
  · rw [dif_neg h1]
    by_cases h2 : l.val - 16 < 48
    · rw [dif_pos h2, if_neg (by omega)]
    · rw [dif_neg h2]
      by_cases h3 : l.val - 16 - 48 < 16
      · rw [dif_pos h3]
        exact (congrArg (fun x => -Ideal.sin x) (hv _ _ _ _ _ _ _ _ (by omega) (by omega))).trans
          ((if_pos (by omega)).trans (if_neg (by omega))).symm
      · rw [dif_neg h3, if_neg (by omega)]

end Cert.Kernel4Ideal.Proj

end
-- ==== Proof.Proj.RefApply.lean ====
module

public import proofs.«01_k».proof.Proof.Proj.RefOut
public import proofs.«01_k».proof.Proof.Proj.Tables
public import Idealize.ShloMosaic.Lib.Pointwise

@[expose] public section

set_option maxRecDepth 16384

noncomputable section

namespace Cert.Reference4Ideal.Proj

open Cert.Reference4Ideal Cert.Reference4Ideal.Gen Idealize.ShloMosaic Idealize.ShloMosaic.TcCoe

/-! The reference, from the heads to the results, entry by entry. -/

/-- A heads' dimension with its rotation: the 64 first as they are, the pairs of eights turned. -/
def rotDim (t : Fin 96 → EReal) (C S : Fin 2 → Fin 8 → EReal) (d : Fin 96) : EReal :=
  if h : d.val < 64 then t d
  else if h' : (d.val - 64) / 8 % 2 = 0 then
    t d * C ⟨(d.val - 64) / 16, by omega⟩ ⟨(d.val - 64) % 8, by omega⟩
      - t ⟨d.val + 8, by omega⟩ * S ⟨(d.val - 64) / 16, by omega⟩ ⟨(d.val - 64) % 8, by omega⟩
  else t d * C ⟨(d.val - 64) / 16, by omega⟩ ⟨(d.val - 64) % 8, by omega⟩
      + t ⟨d.val - 8, by omega⟩ * S ⟨(d.val - 64) / 16, by omega⟩ ⟨(d.val - 64) % 8, by omega⟩

theorem turn_apply (r : FVec Ideal S8x4096x16x32 .f32) (a : FVec Ideal S4096x2x8 .f32) (b : Fin 8) (q : Fin 4096)
    (h : Fin 16) (e : Fin 32) :
    turn r a (ix4 b q h e) = if h' : e.val / 8 % 2 < 1 then
        r (ix4 b q h ⟨e.val / 16 * 16 + e.val % 8, by omega⟩) * Ideal.cos (a (ix3 q ⟨e.val / 16, by omega⟩ ⟨e.val % 8, by omega⟩))
          - r (ix4 b q h ⟨e.val / 16 * 16 + 8 + e.val % 8, by omega⟩) * Ideal.sin (a (ix3 q ⟨e.val / 16, by omega⟩ ⟨e.val % 8, by omega⟩))
      else r (ix4 b q h ⟨e.val / 16 * 16 + 8 + e.val % 8, by omega⟩) * Ideal.cos (a (ix3 q ⟨e.val / 16, by omega⟩ ⟨e.val % 8, by omega⟩))
          + r (ix4 b q h ⟨e.val / 16 * 16 + e.val % 8, by omega⟩) * Ideal.sin (a (ix3 q ⟨e.val / 16, by omega⟩ ⟨e.val % 8, by omega⟩)) := by
  pointwise [turn, wide, fst4096, snd4096]

theorem rope_split (t : FVec Ideal S8x4096x16x96 .f32) (a : FVec Ideal S4096x2x8 .f32) (b : Fin 8) (q : Fin 4096)
    (h : Fin 16) (d : Fin 96) :
    rope t a (ix4 b q h d) = if hd : d.val < 64 then t (ix4 b q h d) else
      turn (extractStridedSlice S8x4096x16x32 ![0, 0, 0, 64] t slices_S8x4096x16x96_S8x4096x16x32_0_0_0_64) a
        (ix4 b q h ⟨d.val - 64, by omega⟩) := by
  unfold rope
  generalize turn (extractStridedSlice S8x4096x16x32 ![0, 0, 0, 64] t slices_S8x4096x16x96_S8x4096x16x32_0_0_0_64) a = z
  pointwise

theorem bothV_apply (c : FVec Ideal S8x256x16x64 .f32) (x : FVec Ideal S8x4096x16x64 .f32) (b : Fin 8) (q : Fin 4352)
    (h : Fin 16) (e : Fin 64) :
    bothV c x (ix4 b q h e) = if hq : q.val < 256 then c (ix4 b ⟨q.val, hq⟩ h e) else x (ix4 b ⟨q.val - 256, by omega⟩ h e) := by
  pointwise [bothV]

theorem both_apply (c : FVec Ideal S8x256x16x96 .f32) (x : FVec Ideal S8x4096x16x96 .f32) (b : Fin 8) (q : Fin 4352)
    (h : Fin 16) (d : Fin 96) :
    both c x (ix4 b q h d) = if hq : q.val < 256 then c (ix4 b ⟨q.val, hq⟩ h d) else x (ix4 b ⟨q.val - 256, by omega⟩ h d) := by
  pointwise [both]

/-- Heads' values at a slot's column: nothing on the last. -/
def pad (h : Fin 96 → EReal) (c : Fin 97) : EReal := if hc : c.val < 96 then h ⟨c.val, hc⟩ else 0

theorem pad_of (h : Fin 96 → EReal) (c : Fin 97) (k : ℕ) (hk : k < 96) (e : c.val = k) : pad h c = h ⟨k, hk⟩ := by
  subst e
  exact dif_pos hk

theorem pad_out (h : Fin 96 → EReal) (c : Fin 97) (e : c.val = 96) : pad h c = 0 := dif_neg (by omega)

theorem late4096 (t : FVec Ideal S8x4096x16x96 .f32) (b : Fin 8) (q : Fin 4096) (h : Fin 16) (e : Fin 32) :
    extractStridedSlice S8x4096x16x32 ![0, 0, 0, 64] t slices_S8x4096x16x96_S8x4096x16x32_0_0_0_64 (ix4 b q h e)
      = t (ix4 b q h ⟨64 + e.val, by omega⟩) := by
  pointwise

/-- The rotated heads. -/
theorem rope_apply (t : FVec Ideal S8x4096x16x96 .f32) (a : FVec Ideal S4096x2x8 .f32) (b : Fin 8) (q : Fin 4096)
    (h : Fin 16) (d : Fin 96) :
    rope t a (ix4 b q h d) = rotDim (fun d => t (ix4 b q h d)) (fun k e => Ideal.cos (a (ix3 q k e)))
      (fun k e => Ideal.sin (a (ix3 q k e))) d := by
  have hv : ∀ (x y : Fin 96), x.val = y.val → t (ix4 b q h x) = t (ix4 b q h y) := fun x y e => by rw [Fin.ext e]
  rw [rope_split]
  unfold rotDim
  by_cases h0 : d.val < 64
  · rw [dif_pos h0, dif_pos h0]
  rw [dif_neg h0, dif_neg h0, turn_apply]
  by_cases h1 : (d.val - 64) / 8 % 2 < 1
  · rw [dif_pos h1, dif_pos (show (d.val - 64) / 8 % 2 = 0 by omega), late4096, late4096]
    refine congrArg₂ (fun u v : EReal => u * _ - v * _) (hv _ d ?_) (hv _ ⟨d.val + 8, by omega⟩ ?_) <;> simp only <;> omega
  · rw [dif_neg h1, dif_neg (show ¬(d.val - 64) / 8 % 2 = 0 by omega), late4096, late4096]
    refine congrArg₂ (fun u v : EReal => u * _ + v * _) (hv _ d ?_) (hv _ ⟨d.val - 8, by omega⟩ ?_) <;> simp only <;> omega

end Cert.Reference4Ideal.Proj

end
-- ==== Proof.Proj.Lanes.lean ====
module

public import proofs.«01_k».proof.Proof.Proj.Scalar
public import proofs.«01_k».proof.Proof.Proj.RefApply

@[expose] public section

noncomputable section

namespace Cert.Proj

open Idealize.ShloMosaic Cert.Reference4Ideal.Proj Cert.Kernel4Ideal.Proj

/-! A head in its slot, both ways, over plain functions. -/

/-- The lanes of a slot: the rotated pairs' second halves, 48 lanes, their first halves, 16 lanes, nothing. -/
def laneA (a : Fin 2) (e : Fin 8) : Fin 128 := ⟨8 * a.val + e.val, by omega⟩
def laneB (k : Fin 48) : Fin 128 := ⟨16 + k.val, by omega⟩
def laneC (a : Fin 2) (e : Fin 8) : Fin 128 := ⟨64 + (8 * a.val + e.val), by omega⟩
def laneD (k : Fin 16) : Fin 128 := ⟨80 + k.val, by omega⟩
def laneE (k : Fin 32) : Fin 128 := ⟨96 + k.val, by omega⟩

theorem lane_cases (P : Fin 128 → Prop) (hA : ∀ a e, P (laneA a e)) (hB : ∀ k, P (laneB k)) (hC : ∀ a e, P (laneC a e))
    (hD : ∀ k, P (laneD k)) (hE : ∀ k, P (laneE k)) (l : Fin 128) : P l := by
  by_cases h0 : l.val < 16
  · have e : l = laneA ⟨l.val / 8, by omega⟩ ⟨l.val % 8, by omega⟩ := Fin.ext (by simp only [laneA]; omega)
    rw [e]; exact hA _ _
  by_cases h1 : l.val < 64
  · have e : l = laneB ⟨l.val - 16, by omega⟩ := Fin.ext (by simp only [laneB]; omega)
    rw [e]; exact hB _
  by_cases h2 : l.val < 80
  · have e : l = laneC ⟨(l.val - 64) / 8, by omega⟩ ⟨l.val % 8, by omega⟩ := Fin.ext (by simp only [laneC]; omega)
    rw [e]; exact hC _ _
  by_cases h3 : l.val < 96
  · have e : l = laneD ⟨l.val - 80, by omega⟩ := Fin.ext (by simp only [laneD]; omega)
    rw [e]; exact hD _
  · have e : l = laneE ⟨l.val - 96, by omega⟩ := Fin.ext (by simp only [laneE]; omega)
    rw [e]; exact hE _

/-- A slot rolled by half. -/
def roll (l : Fin 128) : Fin 128 := ⟨(l.val + 64) % 128, by omega⟩

theorem roll_A (a : Fin 2) (e : Fin 8) : roll (laneA a e) = laneC a e := Fin.ext (by simp only [roll, laneA, laneC]; omega)
theorem roll_C (a : Fin 2) (e : Fin 8) : roll (laneC a e) = laneA a e := Fin.ext (by simp only [roll, laneA, laneC]; omega)

/-- The dimensions of a head the lanes hold. -/
def snd (a : Fin 2) (e : Fin 8) : Fin 96 := ⟨64 + (a.val * 16 + 8 + e.val), by omega⟩
def fst (a : Fin 2) (e : Fin 8) : Fin 96 := ⟨64 + (a.val * 16 + e.val), by omega⟩

theorem pad_A (h : Fin 96 → EReal) (a : Fin 2) (e : Fin 8) : pad h (col1 (laneA a e)) = h (snd a e) :=
  pad_of h _ _ _ (by revert a e; decide +kernel)
theorem pad_B (h : Fin 96 → EReal) (k : Fin 48) : pad h (col1 (laneB k)) = h ⟨k.val, by omega⟩ :=
  pad_of h _ _ _ (by revert k; decide +kernel)
theorem pad_C (h : Fin 96 → EReal) (a : Fin 2) (e : Fin 8) : pad h (col1 (laneC a e)) = h (fst a e) :=
  pad_of h _ _ _ (by revert a e; decide +kernel)
theorem pad_D (h : Fin 96 → EReal) (k : Fin 16) : pad h (col1 (laneD k)) = h ⟨48 + k.val, by omega⟩ :=
  pad_of h _ _ _ (by revert k; decide +kernel)
theorem pad_E (h : Fin 96 → EReal) (k : Fin 32) : pad h (col1 (laneE k)) = 0 :=
  pad_out h _ (by revert k; decide +kernel)

/-- The tables of the rotation in a slot. -/
def cosLane (C : Fin 2 → Fin 8 → EReal) (l : Fin 128) : EReal :=
  if l.val % 64 < 16 then C ⟨l.val % 64 / 8 % 2, by omega⟩ ⟨l.val % 64 % 8, by omega⟩ else 1
def sinLane (S : Fin 2 → Fin 8 → EReal) (l : Fin 128) : EReal :=
  if l.val % 64 < 16 then if l.val < 64 then S ⟨l.val % 64 / 8 % 2, by omega⟩ ⟨l.val % 64 % 8, by omega⟩
    else -S ⟨l.val % 64 / 8 % 2, by omega⟩ ⟨l.val % 64 % 8, by omega⟩ else 0

theorem pick (C : Fin 2 → Fin 8 → EReal) (a : Fin 2) (e : Fin 8) (x y : ℕ) (hx : x < 2) (hy : y < 8) (h : x = a.val)
    (h' : y = e.val) : C ⟨x, hx⟩ ⟨y, hy⟩ = C a e := by
  subst h
  subst h'
  rfl

theorem cos_A (C : Fin 2 → Fin 8 → EReal) (a : Fin 2) (e : Fin 8) : cosLane C (laneA a e) = C a e :=
  (if_pos (by simp only [laneA]; omega)).trans (pick C a e _ _ _ _ (by simp only [laneA]; omega) (by simp only [laneA]; omega))
theorem cos_B (C : Fin 2 → Fin 8 → EReal) (k : Fin 48) : cosLane C (laneB k) = 1 := if_neg (by simp only [laneB]; omega)
theorem cos_C (C : Fin 2 → Fin 8 → EReal) (a : Fin 2) (e : Fin 8) : cosLane C (laneC a e) = C a e :=
  (if_pos (by simp only [laneC]; omega)).trans (pick C a e _ _ _ _ (by simp only [laneC]; omega) (by simp only [laneC]; omega))
theorem cos_D (C : Fin 2 → Fin 8 → EReal) (k : Fin 16) : cosLane C (laneD k) = 1 := if_neg (by simp only [laneD]; omega)
theorem sin_A (S : Fin 2 → Fin 8 → EReal) (a : Fin 2) (e : Fin 8) : sinLane S (laneA a e) = S a e :=
  ((if_pos (by simp only [laneA]; omega)).trans (if_pos (by simp only [laneA]; omega))).trans
    (pick S a e _ _ _ _ (by simp only [laneA]; omega) (by simp only [laneA]; omega))
theorem sin_B (S : Fin 2 → Fin 8 → EReal) (k : Fin 48) : sinLane S (laneB k) = 0 := if_neg (by simp only [laneB]; omega)
theorem sin_C (S : Fin 2 → Fin 8 → EReal) (a : Fin 2) (e : Fin 8) : sinLane S (laneC a e) = -S a e :=
  ((if_pos (by simp only [laneC]; omega)).trans (if_neg (by simp only [laneC]; omega))).trans
    (congrArg (fun x : EReal => -x) (pick S a e _ _ _ _ (by simp only [laneC]; omega) (by simp only [laneC]; omega)))
theorem sin_D (S : Fin 2 → Fin 8 → EReal) (k : Fin 16) : sinLane S (laneD k) = 0 := if_neg (by simp only [laneD]; omega)

/-- The rotation at the dimensions. -/
theorem rot_low (t : Fin 96 → EReal) (C S : Fin 2 → Fin 8 → EReal) (d : Fin 96) (h : d.val < 64) : rotDim t C S d = t d :=
  dif_pos h

theorem rot_fst (t : Fin 96 → EReal) (C S : Fin 2 → Fin 8 → EReal) (a : Fin 2) (e : Fin 8) :
    rotDim t C S (fst a e) = t (fst a e) * C a e - t (snd a e) * S a e := by
  unfold rotDim
  rw [dif_neg (by simp only [fst]; omega), dif_pos (by simp only [fst]; omega)]
  rw [pick C a e _ _ _ _ (by simp only [fst]; omega) (by simp only [fst]; omega),
    pick S a e _ _ _ _ (by simp only [fst]; omega) (by simp only [fst]; omega)]
  exact congrArg (fun x => t (fst a e) * C a e - t x * S a e) (Fin.ext (by simp only [fst, snd]; omega))

theorem rot_snd (t : Fin 96 → EReal) (C S : Fin 2 → Fin 8 → EReal) (a : Fin 2) (e : Fin 8) :
    rotDim t C S (snd a e) = t (snd a e) * C a e + t (fst a e) * S a e := by
  unfold rotDim
  rw [dif_neg (by simp only [snd]; omega), dif_neg (by simp only [snd]; omega)]
  rw [pick C a e _ _ _ _ (by simp only [snd]; omega) (by simp only [snd]; omega),
    pick S a e _ _ _ _ (by simp only [snd]; omega) (by simp only [snd]; omega)]
  exact congrArg (fun x => t (snd a e) * C a e + t x * S a e) (Fin.ext (by simp only [fst, snd]; omega))

/-- The sum of squares over a slot is the sum over the head. -/
theorem sum_k (h : Fin 96 → EReal) : ∑ j : Fin 128, pad h (col1 j) * pad h (col1 j) = ∑ d, h d * h d := by
  have e : ∀ j : Fin 128, col1 j = KernelIdeal.Attn.slotCol j := by decide +kernel
  rw [Finset.sum_congr rfl fun j _ => by rw [e j],
    KernelIdeal.Attn.sum_slot (fun c => pad h c * pad h c) (by simp [Reference4Ideal.Proj.pad])]
  refine Finset.sum_congr rfl fun d _ => ?_
  have hd : pad h d.castSucc = h d := dif_pos d.isLt
  simp only [hd]

/-- The lanes of a slot that hold a head. -/
def early (j : Fin 96) : Fin 128 := ⟨j.val, by omega⟩

theorem sum_q (h : Fin 96 → EReal) : ∑ j : Fin 96, pad h (col1 (early j)) * pad h (col1 (early j)) = ∑ d, h d * h d := by
  rw [← sum_k h]
  refine Eq.trans ?_ (Fin.sum_univ_add (a := 96) (b := 32) fun j : Fin 128 => pad h (col1 j) * pad h (col1 j)).symm
  rw [Finset.sum_eq_zero (s := Finset.univ (α := Fin 32)) fun k _ => ?_, add_zero]
  · rfl
  · have hk : pad h (col1 (Fin.natAdd 96 k)) = 0 := pad_E h k
    rw [hk, zero_mul]

/-- A query's slot. -/
theorem q_lane (h g : Fin 96 → EReal) (C S : Fin 2 → Fin 8 → EReal) (l : Fin 128) :
    qLane (fun j => pad h (col1 (early j))) (fun j => pad g (col1 (early j)) * scale * cosLane C (early j))
      (fun j => pad g (col1 (roll (early j))) * scale * sinLane S (early j)) l
      = pad (fun d => Ideal.div (rotDim (rms 0x42C00000#32 h g) C S d)
          (Ideal.sqrt ((96 : ℝ) : EReal) * Ideal.log ((2 : ℝ) : EReal))) (col1 l) := by
  have hr : 0 ≤ recip (∑ d, h d * h d) ∧ recip (∑ d, h d * h d) ≠ ⊤ := recip_bounds _ (squares_nonneg h)
  have hσ : 0 ≤ scale ∧ scale ≠ ⊤ := scale_bounds
  have hd : ∀ s : EReal, Ideal.div s (Ideal.sqrt ((96 : ℝ) : EReal) * Ideal.log ((2 : ℝ) : EReal)) = s * scale := div_scale
  unfold qLane
  simp only [sum_q, hd]
  revert l
  refine lane_cases _ ?_ ?_ ?_ ?_ ?_
  · intro a e
    have h0 : (laneA a e).val < 16 := by simp only [laneA]; omega
    rw [dif_pos (by omega), pad_A, rot_snd, rms_eq, rms_eq]
    unfold rotLane
    rw [dif_pos h0]
    have e1 : early ⟨(laneA a e).val, by omega⟩ = laneA a e := rfl
    have e2 : early ⟨64 + (laneA a e).val, by omega⟩ = laneC a e := rfl
    simp only [e1, e2, roll_A, pad_A, pad_C, cos_A, sin_A]
    exact mix _ _ _ _ _ _ _ _ hr hσ
  · intro k
    have h0 : ¬(laneB k).val < 16 := by simp only [laneB]; omega
    have h1 : (laneB k).val < 64 := by simp only [laneB]; omega
    rw [dif_pos (by omega), pad_B, rot_low _ _ _ _ (by simp only; omega), rms_eq]
    unfold rotLane
    rw [dif_neg h0, if_pos h1]
    have e1 : early ⟨(laneB k).val, by omega⟩ = laneB k := rfl
    simp only [e1, pad_B, cos_B, mul_one]
    ac_rfl
  · intro a e
    have h0 : ¬(laneC a e).val < 16 := by simp only [laneC]; omega
    have h1 : ¬(laneC a e).val < 64 := by simp only [laneC]; omega
    have h2 : (laneC a e).val < 80 := by simp only [laneC]; omega
    rw [dif_pos (by omega), pad_C, rot_fst, rms_eq, rms_eq]
    unfold rotLane
    rw [dif_neg h0, if_neg h1, dif_pos h2]
    have e1 : early ⟨(laneC a e).val, by omega⟩ = laneC a e := rfl
    have e2 : early ⟨(laneC a e).val - 64, by omega⟩ = laneA a e :=
      Fin.ext (by simp only [early, laneA, laneC]; omega)
    simp only [e1, e2, roll_C, pad_A, pad_C, cos_C, sin_C]
    exact mix_neg _ _ _ _ _ _ _ _ hr hσ
  · intro k
    have h0 : ¬(laneD k).val < 16 := by simp only [laneD]; omega
    have h1 : ¬(laneD k).val < 64 := by simp only [laneD]; omega
    have h2 : ¬(laneD k).val < 80 := by simp only [laneD]; omega
    rw [dif_pos (by simp only [laneD]; omega), pad_D, rot_low _ _ _ _ (by simp only; omega), rms_eq]
    unfold rotLane
    rw [dif_neg h0, if_neg h1, dif_neg h2]
    have e1 : early ⟨(laneD k).val, by simp only [laneD]; omega⟩ = laneD k := rfl
    simp only [e1, pad_D, cos_D, mul_one]
    ac_rfl
  · intro k
    rw [dif_neg (by simp only [laneE]; omega), pad_E]

/-- A latent key's slot. -/
theorem k_lane (h g : Fin 96 → EReal) (pe : Fin 128 → EReal) (C S : Fin 2 → Fin 8 → EReal)
    (hA : ∀ a e, pe (laneA a e) = h (snd a e)) (hC : ∀ a e, pe (laneC a e) = h (fst a e)) (l : Fin 128) :
    kLane (fun j => pad h (col1 j)) pe (fun j => pad g (col1 j) * cosLane C j)
      (fun j => pad g (col1 (roll j)) * sinLane S j) l
      = pad (rotDim (rms 0x42C00000#32 h g) C S) (col1 l) := by
  have hr : 0 ≤ recip (∑ d, h d * h d) ∧ recip (∑ d, h d * h d) ≠ ⊤ := recip_bounds _ (squares_nonneg h)
  unfold kLane
  simp only [sum_k]
  change (pad h (col1 l) * (pad g (col1 l) * cosLane C l) + pe (roll l) * (pad g (col1 (roll l)) * sinLane S l))
    * recip (∑ d, h d * h d) = _
  revert l
  refine lane_cases _ ?_ ?_ ?_ ?_ ?_
  · intro a e
    rw [roll_A, pad_A, pad_A, pad_A, pad_C, cos_A, sin_A, hC, rot_snd, rms_eq, rms_eq]
    have := mix (h (snd a e)) (g (snd a e)) (C a e) (h (fst a e)) (g (fst a e)) (S a e) _ 1 hr one_bounds
    rwa [mul_one, mul_one, mul_one] at this
  · intro k
    rw [pad_B, pad_B, pad_B, cos_B, sin_B, rot_low _ _ _ _ (by simp only; omega), rms_eq, mul_zero, mul_zero, add_zero,
      mul_one]
    ac_rfl
  · intro a e
    rw [roll_C, pad_C, pad_C, pad_C, pad_A, cos_C, sin_C, hA, rot_fst, rms_eq, rms_eq]
    have := mix_neg (h (fst a e)) (g (fst a e)) (C a e) (h (snd a e)) (g (snd a e)) (S a e) _ 1 hr one_bounds
    rwa [mul_one, mul_one, mul_one] at this
  · intro k
    rw [pad_D, pad_D, pad_D, cos_D, sin_D, rot_low _ _ _ _ (by simp only; omega), rms_eq, mul_zero, mul_zero, add_zero,
      mul_one]
    ac_rfl
  · intro k
    have hs : sinLane S (laneE k) = 0 := if_neg (by simp only [laneE]; omega)
    rw [pad_E, pad_E, pad_E, hs, mul_zero, mul_zero, zero_mul, add_zero, zero_mul]

/-- A context key's slot: no rotation. -/
theorem k_lane_context (h g : Fin 96 → EReal) (pe : Fin 128 → EReal) (l : Fin 128) :
    kLane (fun j => pad h (col1 j)) pe (fun j => pad g (col1 j) * 1) (fun j => pad g (col1 (roll j)) * 0) l
      = pad (rms 0x42C00000#32 h g) (col1 l) := by
  unfold kLane
  simp only [sum_k, mul_one, mul_zero, add_zero]
  have e : ∀ c : Fin 97, pad (rms 0x42C00000#32 h g) c = pad h c * recip (∑ d, h d * h d) * pad g c := fun c => by
    unfold Reference4Ideal.Proj.pad
    split
    · exact rms_eq h g _
    · rw [zero_mul, zero_mul]
  rw [e]
  ac_rfl

end Cert.Proj

end
-- ==== Proof.Proj.Rows.lean ====
module

public import proofs.«01_k».proof.Proof.Proj.Lanes
public import proofs.«01_k».proof.Proof.Proj.Array

@[expose] public section

set_option maxRecDepth 16384

noncomputable section

namespace Cert.Proj

open Idealize.ShloMosaic Cert.Kernel4Ideal Cert.Kernel4Ideal.Gen Cert.Kernel4Ideal.Proj

/-! A token's row of the first product, from the reference's weights and from the weights laid out in slots. -/

/-- The reference's row. -/
def rowRef (x g : Fin 1024 → EReal) (md : Fin 6144 → EReal) (W : FVec Ideal S1024x800 .f32) (n : Fin 800) : EReal :=
  ∑ d, Ffn.normed x g (fun d => md ⟨d.val, by omega⟩) (fun d => md ⟨1024 + d.val, by omega⟩) d * W (ix2 d n)

/-- The row `K` is the row `P` with its rotary part in a slot. -/
structure Slotted (K : Fin 896 → EReal) (P : Fin 800 → EReal) : Prop where
  low : ∀ n : Fin 768, K ⟨n.val, by omega⟩ = P ⟨n.val, by omega⟩
  slot : ∀ l : Fin 128, K ⟨768 + l.val, by omega⟩ = if h : (col0 l).val < 32 then P ⟨768 + (col0 l).val, by omega⟩ else 0

theorem slotted (x g : Fin 1024 → EReal) (md : Fin 6144 → EReal) (W : FVec Ideal S1024x800 .f32) :
    Slotted (projRow x g md fun d n => inPrep W (ix2 d n)) (rowRef x g md W) where
  low n := Finset.sum_congr rfl fun d _ => by beta_reduce; rw [inPrep_low]
  slot l := by
    unfold projRow rowRef
    by_cases h : (col0 l).val < 32
    · rw [dif_pos h]
      exact Finset.sum_congr rfl fun d _ => by beta_reduce; rw [inPrep_slot, dif_pos h]
    · rw [dif_neg h]
      exact Finset.sum_eq_zero fun d _ => by beta_reduce; rw [inPrep_slot, dif_neg h, mul_zero]

/-- The low ranks of a row, normalised. -/
def lowQ (P : Fin 800 → EReal) (g : Fin 512 → EReal) : Fin 512 → EReal :=
  rms 0x44000000#32 (fun l : Fin 512 => P ⟨l.val, by omega⟩) g
def lowK (P : Fin 800 → EReal) (g : Fin 256 → EReal) : Fin 256 → EReal :=
  rms 0x43800000#32 (fun c : Fin 256 => P ⟨512 + c.val, by omega⟩) g

theorem lowQ_eq {K : Fin 896 → EReal} {P : Fin 800 → EReal} (s : Slotted K P) (g : Fin 512 → EReal) :
    lowQRow K g = lowQ P g := by
  funext l
  unfold lowQRow lowQ
  have e : (fun l : Fin 512 => K ⟨l.val, by omega⟩) = fun l : Fin 512 => P ⟨l.val, by omega⟩ :=
    funext fun l => s.low ⟨l.val, by omega⟩
  rw [e]

theorem lowK_eq {K : Fin 896 → EReal} {P : Fin 800 → EReal} (s : Slotted K P) (g : Fin 256 → EReal) :
    lowKRow K g = lowK P g := by
  funext l
  unfold lowKRow lowK
  have e : (fun c : Fin 256 => K ⟨512 + c.val, by omega⟩) = fun c : Fin 256 => P ⟨512 + c.val, by omega⟩ :=
    funext fun c => s.low ⟨512 + c.val, by omega⟩
  rw [e]

/-- A head's query, key and value of a row. -/
def headQ (P : Fin 800 → EReal) (g : Fin 512 → EReal) (W : FVec Ideal S512x1536 .f32) (h : Fin 16) (d : Fin 96) : EReal :=
  ∑ l, lowQ P g l * W (ix2 l ⟨h.val * 96 + d.val, by omega⟩)
def headK (P : Fin 800 → EReal) (g : Fin 256 → EReal) (W : FVec Ideal S256x2048 .f32) (h : Fin 16) (d : Fin 96) : EReal :=
  if hd : d.val < 64 then ∑ c, lowK P g c * W (ix2 c ⟨h.val * 128 + d.val, by omega⟩) else P ⟨768 + (d.val - 64), by omega⟩
def headV (P : Fin 800 → EReal) (g : Fin 256 → EReal) (W : FVec Ideal S256x2048 .f32) (h : Fin 16) (e : Fin 64) : EReal :=
  ∑ c, lowK P g c * W (ix2 c ⟨h.val * 128 + (64 + e.val), by omega⟩)

theorem projQ_slot (p : Fin 896 → EReal) (g : Fin 512 → EReal) (w : Fin 2048 → Fin 512 → EReal) (gc gs : Fin 96 → EReal)
    (h : Fin 16) (l : Fin 128) : projQ p g w gc gs ⟨128 * h.val + l.val, by omega⟩
      = qLane (fun j => ∑ k, w ⟨128 * h.val + j.val, by omega⟩ k * lowQRow p g k) gc gs l := by
  have e : (128 * h.val + l.val) / 128 = h.val := by omega
  have e' : (128 * h.val + l.val) % 128 = l.val := by omega
  unfold projQ
  simp only [e, e']

theorem projK_slot (p : Fin 896 → EReal) (g : Fin 256 → EReal) (w : Fin 256 → Fin 2048 → EReal) (gc gs : Fin 128 → EReal)
    (h : Fin 16) (l : Fin 128) : projK p g w gc gs ⟨128 * h.val + l.val, by omega⟩
      = kLane (fun j => (∑ c, lowKRow p g c * w c ⟨128 * h.val + j.val, by omega⟩) + p ⟨768 + j.val, by omega⟩)
          (fun j => p ⟨768 + j.val, by omega⟩) gc gs l := by
  have e : (128 * h.val + l.val) / 128 = h.val := by omega
  have e' : (128 * h.val + l.val) % 128 = l.val := by omega
  unfold projK
  simp only [e, e']

/-- A slot of queries before the norm. -/
theorem slotQ {K : Fin 896 → EReal} {P : Fin 800 → EReal} (s : Slotted K P) (g : Fin 512 → EReal)
    (W : FVec Ideal S512x1536 .f32) (h : Fin 16) :
    (fun j : Fin 96 => ∑ k, qPrep W (ix2 ⟨128 * h.val + j.val, by omega⟩ k) * lowQRow K g k)
      = fun j => Reference4Ideal.Proj.pad (headQ P g W h) (col1 (early j)) := by
  funext j
  rw [lowQ_eq s]
  have e : ∀ k, qPrep W (ix2 ⟨128 * h.val + j.val, by omega⟩ k)
      = if hc : (col1 (early j)).val < 96 then W (ix2 k ⟨h.val * 96 + (col1 (early j)).val, by omega⟩) else 0 :=
    fun k => qPrep_apply W h (early j) k
  unfold Reference4Ideal.Proj.pad headQ
  by_cases hc : (col1 (early j)).val < 96
  · rw [dif_pos hc]
    exact Finset.sum_congr rfl fun k _ => by rw [e, dif_pos hc, mul_comm]
  · rw [dif_neg hc]
    exact Finset.sum_eq_zero fun k _ => by rw [e, dif_neg hc, zero_mul]

theorem kPrep_none (W : FVec Ideal S256x2048 .f32) (k : Fin 256) (h : Fin 16) (l : Fin 128) (hl : (col2 l).val = 64) :
    kPrep W (ix2 k ⟨128 * h.val + l.val, by omega⟩) = 0 := by
  rw [kPrep_apply, dif_neg (by omega)]

theorem kPrep_some (W : FVec Ideal S256x2048 .f32) (k : Fin 256) (h : Fin 16) (l : Fin 128) (d : Fin 64)
    (hl : (col2 l).val = d.val) :
    kPrep W (ix2 k ⟨128 * h.val + l.val, by omega⟩) = W (ix2 k ⟨h.val * 128 + d.val, by omega⟩) := by
  rw [kPrep_apply, dif_pos (by omega)]
  exact congrArg (fun x => W (ix2 k x)) (Fin.ext (by simp only [hl]))

theorem slot_some {K : Fin 896 → EReal} {P : Fin 800 → EReal} (s : Slotted K P) (l : Fin 128) (d : Fin 32)
    (hl : (col0 l).val = d.val) : K ⟨768 + l.val, by omega⟩ = P ⟨768 + d.val, by omega⟩ := by
  rw [s.slot, dif_pos (by omega)]
  exact congrArg P (Fin.ext (by simp only [hl]))

theorem slot_none {K : Fin 896 → EReal} {P : Fin 800 → EReal} (s : Slotted K P) (l : Fin 128) (hl : (col0 l).val = 32) :
    K ⟨768 + l.val, by omega⟩ = 0 := by
  rw [s.slot, dif_neg (by omega)]

/-- The shared part of the keys at the rotated lanes. -/
theorem peA {K : Fin 896 → EReal} {P : Fin 800 → EReal} (s : Slotted K P) (g : Fin 256 → EReal)
    (W : FVec Ideal S256x2048 .f32) (h : Fin 16) (a : Fin 2) (e : Fin 8) :
    K ⟨768 + (laneA a e).val, by omega⟩ = headK P g W h (snd a e) := by
  rw [slot_some s (laneA a e) ⟨a.val * 16 + 8 + e.val, by omega⟩ (by revert a e; decide +kernel)]
  unfold headK
  rw [dif_neg (by simp only [snd]; omega)]
  exact congrArg P (Fin.ext (by simp only [snd]; omega))

theorem peC {K : Fin 896 → EReal} {P : Fin 800 → EReal} (s : Slotted K P) (g : Fin 256 → EReal)
    (W : FVec Ideal S256x2048 .f32) (h : Fin 16) (a : Fin 2) (e : Fin 8) :
    K ⟨768 + (laneC a e).val, by omega⟩ = headK P g W h (fst a e) := by
  rw [slot_some s (laneC a e) ⟨a.val * 16 + e.val, by omega⟩ (by revert a e; decide +kernel)]
  unfold headK
  rw [dif_neg (by simp only [fst]; omega)]
  exact congrArg P (Fin.ext (by simp only [fst]; omega))

/-- A slot of keys before the norm. -/
theorem slotK {K : Fin 896 → EReal} {P : Fin 800 → EReal} (s : Slotted K P) (g : Fin 256 → EReal)
    (W : FVec Ideal S256x2048 .f32) (h : Fin 16) :
    (fun j : Fin 128 => (∑ c, lowKRow K g c * kPrep W (ix2 c ⟨128 * h.val + j.val, by omega⟩)) + K ⟨768 + j.val, by omega⟩)
      = fun j => Reference4Ideal.Proj.pad (headK P g W h) (col1 j) := by
  funext j
  rw [lowK_eq s]
  have zero : ∀ l : Fin 128, (col2 l).val = 64 →
      ∑ c, lowK P g c * kPrep W (ix2 c ⟨128 * h.val + l.val, by omega⟩) = 0 := fun l hl =>
    Finset.sum_eq_zero fun c _ => by rw [kPrep_none W c h l hl, mul_zero]
  have some : ∀ (l : Fin 128) (d : Fin 64), (col2 l).val = d.val →
      ∑ c, lowK P g c * kPrep W (ix2 c ⟨128 * h.val + l.val, by omega⟩) = headK P g W h ⟨d.val, by omega⟩ := fun l d hl => by
    unfold headK
    rw [dif_pos d.isLt]
    exact Finset.sum_congr rfl fun c _ => by rw [kPrep_some W c h l d hl]
  revert j
  refine lane_cases _ ?_ ?_ ?_ ?_ ?_
  · intro a e
    rw [zero _ (by revert a e; decide +kernel), zero_add, pad_A, peA s g W h]
  · intro k
    rw [some _ ⟨k.val, by omega⟩ (by revert k; decide +kernel), slot_none s _ (by revert k; decide +kernel), add_zero, pad_B]
  · intro a e
    rw [zero _ (by revert a e; decide +kernel), zero_add, pad_C, peC s g W h]
  · intro k
    rw [some _ ⟨48 + k.val, by omega⟩ (by revert k; decide +kernel), slot_none s _ (by revert k; decide +kernel), add_zero, pad_D]
  · intro k
    rw [zero _ (by revert k; decide +kernel), zero_add, slot_none s _ (by revert k; decide +kernel), pad_E]

/-- The values of a row. -/
theorem projV_eq {K : Fin 896 → EReal} {P : Fin 800 → EReal} (s : Slotted K P) (g : Fin 256 → EReal)
    (W : FVec Ideal S256x2048 .f32) (h : Fin 16) (e : Fin 64) :
    projV K g (fun n c => vPrep W (ix2 n c)) ⟨64 * h.val + e.val, by omega⟩ = headV P g W h e := by
  unfold projV headV
  rw [lowK_eq s]
  exact Finset.sum_congr rfl fun c _ => by beta_reduce; rw [vPrep_apply, mul_comm]

/-- The tables of the norms and the rotation, at an entry. -/
theorem gSlot_pad (g : FVec Ideal S96 .f32) (l : Fin 128) :
    gSlot g (ix1 l) = Reference4Ideal.Proj.pad (fun d => g (ix1 d)) (col1 l) := gSlot_apply g l

theorem half_pad (g : FVec Ideal S96 .f32) (l : Fin 128) :
    half (gSlot g) (ix1 l) = Reference4Ideal.Proj.pad (fun d => g (ix1 d)) (col1 (roll l)) := by
  rw [half_apply]
  exact gSlot_pad g (roll l)

abbrev cosAt (q : Fin 4096) (k : Fin 2) (e : Fin 8) : EReal := Ideal.cos (angles (ix3 q k e))
abbrev sinAt (q : Fin 4096) (k : Fin 2) (e : Fin 8) : EReal := Ideal.sin (angles (ix3 q k e))

theorem cos_latent (p : Fin 4352) (q : Fin 4096) (hp : p.val = 256 + q.val) (l : Fin 128) :
    withContext 0x3F800000#32 (cosSlot angles) (ix2 p l) = cosLane (cosAt q) l := by
  have e : (⟨p.val - 256, by omega⟩ : Fin 4096) = q := Fin.ext (by simp only; omega)
  rw [withContext_apply, dif_neg (by omega), e]
  exact cosSlot_apply angles q l

theorem sin_latent (p : Fin 4352) (q : Fin 4096) (hp : p.val = 256 + q.val) (l : Fin 128) :
    withContext 0x00000000#32 (sinSlot angles) (ix2 p l) = sinLane (sinAt q) l := by
  have e : (⟨p.val - 256, by omega⟩ : Fin 4096) = q := Fin.ext (by simp only; omega)
  rw [withContext_apply, dif_neg (by omega), e]
  exact sinSlot_apply angles q l

/-- The kernel's row, on the latents and on the context. -/
theorem tokens_apply (x : FVec Ideal S8x4096x1024 .f32) (ctx : FVec Ideal S8x256x1024 .f32) (b : Fin 8) (p : Fin 4352)
    (d : Fin 1024) :
    tokens x ctx (ix3 b p d) = if hp : p.val < 256 then ctx (ix3 b ⟨p.val, hp⟩ d) else x (ix3 b ⟨p.val - 256, by omega⟩ d) := by
  pointwise [tokens]

theorem gain_apply (g : FVec Ideal S1024 .f32) (d : Fin 1024) :
    broadcastInDim S1x1024 ![1] bcast_S1024_S1x1024_1 g (ix2 0 d) = g (ix1 d) := by
  pointwise

theorem gain512_apply (g : FVec Ideal S512 .f32) (d : Fin 512) :
    broadcastInDim S1x512 ![1] bcast_S512_S1x512_1 g (ix2 0 d) = g (ix1 d) := by
  pointwise

theorem gain256_apply (g : FVec Ideal S256 .f32) (d : Fin 256) :
    broadcastInDim S1x256 ![1] bcast_S256_S1x256_1 g (ix2 0 d) = g (ix1 d) := by
  pointwise

variable (x : FVec Ideal S8x4096x1024 .f32) (ctx : FVec Ideal S8x256x1024 .f32) (mod : FVec Ideal S8x6144 .f32)
  (modc : FVec Ideal S1x6144 .f32) (g : FVec Ideal S1024 .f32) (W : FVec Ideal S1024x800 .f32)

abbrev kernelRow (b : Fin 8) (p : Fin 4352) : Fin 896 → EReal :=
  arrRow (tokens x ctx) (Kernel3Ideal.Tail.table mod modc) (broadcastInDim S1x1024 ![1] bcast_S1024_S1x1024_1 g) (inPrep W) b p

theorem row_latent (b : Fin 8) (p : Fin 4352) (q : Fin 4096) (hp : p.val = 256 + q.val) :
    Slotted (kernelRow x ctx mod modc g W b p) (fun n => Reference4Ideal.Proj.px x mod g W (ix3 b q n)) := by
  have e : (⟨p.val - 256, by omega⟩ : Fin 4096) = q := Fin.ext (by simp only; omega)
  have hx : (fun d => tokens x ctx (ix3 b p d)) = fun d => x (ix3 b q d) := funext fun d => by
    rw [tokens_apply, dif_neg (by omega), e]
  have hm : (fun n => Kernel3Ideal.Tail.table mod modc (ix4 (if p.val < 256 then 0 else 1) b 0 n)) = fun n => mod (ix2 b n) :=
    funext fun n => by
      rw [if_neg (by omega)]
      exact Kernel3Ideal.Tail.table_latent mod modc b n
  have hg : (fun d => broadcastInDim S1x1024 ![1] bcast_S1024_S1x1024_1 g (ix2 0 d)) = fun d => g (ix1 d) :=
    funext fun d => gain_apply g d
  have hP : (fun n => Reference4Ideal.Proj.px x mod g W (ix3 b q n))
      = rowRef (fun d => x (ix3 b q d)) (fun d => g (ix1 d)) (fun n => mod (ix2 b n)) W := funext fun n =>
    (Reference4Ideal.Proj.proj4096_apply _ _ b q n).trans
      (Finset.sum_congr rfl fun d _ => congrArg (· * W (ix2 d n)) (Reference4Ideal.Proj.mod4096_apply x g mod b q d))
  rw [hP]
  unfold kernelRow arrRow
  rw [hx, hm, hg]
  exact slotted _ _ _ W

theorem row_context (b : Fin 8) (p : Fin 4352) (q : Fin 256) (hp : p.val = q.val) :
    Slotted (kernelRow x ctx mod modc g W b p) (fun n => Reference4Ideal.Proj.pc ctx modc g W (ix3 b q n)) := by
  have e : (⟨p.val, by omega⟩ : Fin 256) = q := Fin.ext hp
  have hx : (fun d => tokens x ctx (ix3 b p d)) = fun d => ctx (ix3 b q d) := funext fun d => by
    rw [tokens_apply, dif_pos (by omega), e]
  have hm : (fun n => Kernel3Ideal.Tail.table mod modc (ix4 (if p.val < 256 then 0 else 1) b 0 n)) = fun n => modc (ix2 0 n) :=
    funext fun n => by
      rw [if_pos (by omega)]
      exact Kernel3Ideal.Tail.table_context mod modc b n
  have hg : (fun d => broadcastInDim S1x1024 ![1] bcast_S1024_S1x1024_1 g (ix2 0 d)) = fun d => g (ix1 d) :=
    funext fun d => gain_apply g d
  have hP : (fun n => Reference4Ideal.Proj.pc ctx modc g W (ix3 b q n))
      = rowRef (fun d => ctx (ix3 b q d)) (fun d => g (ix1 d)) (fun n => modc (ix2 0 n)) W := funext fun n =>
    (Reference4Ideal.Proj.proj256_apply _ _ b q n).trans
      (Finset.sum_congr rfl fun d _ => congrArg (· * W (ix2 d n)) (Reference4Ideal.Proj.mod256_apply ctx g modc b q d))
  rw [hP]
  unfold kernelRow arrRow
  rw [hx, hm, hg]
  exact slotted _ _ _ W

end Cert.Proj

end
-- ==== Proof.Proj.Entry.lean ====
module

public import proofs.«01_k».proof.Proof.Proj.Prep

@[expose] public section

set_option maxRecDepth 16384

noncomputable section

namespace Cert.Kernel4Ideal.Proj

open Cert.Kernel4Ideal Cert.Kernel4Ideal.Gen Idealize.ShloMosaic Idealize.ShloMosaic.TcCoe

variable (m : (ℓ : Loc nD τ sig) → Buf (Elt Ideal) ℓ)

theorem entry0 (c : Dev nD) : (V m c (Pipeline.arrRef spec0 0) : Vec Ideal S8x4352x1024 .f32)
    = tokens (m ((c : Thread nD τ).loc main_arg0)) (m ((c : Thread nD τ).loc main_arg1)) := by
  rfl

theorem entry1 (c : Dev nD) : (V m c (Pipeline.arrRef spec0 1) : Vec Ideal S2x8x1x6144 .f32)
    = Kernel3Ideal.Tail.table (m ((c : Thread nD τ).loc main_arg2)) (m ((c : Thread nD τ).loc main_arg3)) := by
  rfl

theorem entry2 (c : Dev nD) : (V m c (Pipeline.arrRef spec0 2) : Vec Ideal S1x1024 .f32)
    = broadcastInDim S1x1024 ![1] bcast_S1024_S1x1024_1 (m ((c : Thread nD τ).loc main_arg4)) := by
  rfl

theorem entry3 (c : Dev nD) : (V m c (Pipeline.arrRef spec0 3) : Vec Ideal S1024x896 .bf16)
    = inPrep (m ((c : Thread nD τ).loc main_arg5)) := by
  show V m c main_v108 = _
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.append_nil, List.cons_append, List.nil_append]
  after_results_simp
  after_results_loop
  simp only [StableHlo.TRef.ofBuf_toBuf, StableHlo.TRef.toBuf, StableHlo.TRef.ofBuf, cast_eq, cast_cast]
  rfl

theorem entry4 (c : Dev nD) : (V m c (Pipeline.arrRef spec0 4) : Vec Ideal S1x512 .f32)
    = broadcastInDim S1x512 ![1] bcast_S512_S1x512_1 (m ((c : Thread nD τ).loc main_arg6)) := by
  rfl

theorem entry5 (c : Dev nD) : (V m c (Pipeline.arrRef spec0 5) : Vec Ideal S1x256 .f32)
    = broadcastInDim S1x256 ![1] bcast_S256_S1x256_1 (m ((c : Thread nD τ).loc main_arg7)) := by
  rfl

theorem entry6 (c : Dev nD) : (V m c (Pipeline.arrRef spec0 6) : Vec Ideal S2048x512 .bf16)
    = qPrep (m ((c : Thread nD τ).loc main_arg8)) := by
  show V m c main_v111 = _
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.append_nil, List.cons_append, List.nil_append]
  after_results_simp
  after_results_loop
  simp only [StableHlo.TRef.ofBuf_toBuf, StableHlo.TRef.toBuf, StableHlo.TRef.ofBuf, cast_eq, cast_cast]
  rfl

theorem entry7 (c : Dev nD) : (V m c (Pipeline.arrRef spec0 7) : Vec Ideal S256x2048 .bf16)
    = kPrep (m ((c : Thread nD τ).loc main_arg9)) := by
  show V m c main_v112 = _
  unfold V V0
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.append_nil, List.cons_append, List.nil_append]
  after_results_simp
  after_results_loop
  simp only [StableHlo.TRef.ofBuf_toBuf, StableHlo.TRef.toBuf, StableHlo.TRef.ofBuf, cast_eq, cast_cast]
  rfl

theorem entry8 (c : Dev nD) : (V m c (Pipeline.arrRef spec0 8) : Vec Ideal S1024x256 .bf16)
    = vPrep (m ((c : Thread nD τ).loc main_arg9)) := by
  rfl

/-- The buffers of core `c` when the two norms' weights are laid out in slots, before the tables. -/
abbrev mid (c : Dev nD) : (b : DevRef τ sig) → b.ty.Contents (Elt Ideal) :=
  StableHlo.after (List.flatten [hostOps0, hostOps0_1, hostOps0_2, hostOps0_3, hostOps0_4, hostOps0_5, hostOps0_6,
    hostOps0_7, hostOps0_8, hostOps0_9]) (fun b => m (c, b))

/-- The host's operations after `mid`, from buffers `W`. -/
abbrev late (W : (b : DevRef τ sig) → b.ty.Contents (Elt Ideal)) : (b : DevRef τ sig) → b.ty.Contents (Elt Ideal) :=
  StableHlo.after (List.flatten [hostOps0_10, hostOps0_11, hostOps0_12, hostOps0_13, hostOps0_14]) W

theorem V_late (c : Dev nD) (b : Ref sig .tc) : V m c b = late (mid m c) (Proc.devRef .tc b) :=
  congrFun (StableHlo.after_append (List.flatten [hostOps0, hostOps0_1, hostOps0_2, hostOps0_3, hostOps0_4, hostOps0_5,
    hostOps0_6, hostOps0_7, hostOps0_8, hostOps0_9]) (List.flatten [hostOps0_10, hostOps0_11, hostOps0_12, hostOps0_13,
    hostOps0_14]) (fun b => m (c, b))) (Proc.devRef .tc b)

theorem mid_gq (c : Dev nD) : (mid m c (Proc.devRef .tc main_v72) : FVec Ideal S128 .f32)
    = gSlot (m ((c : Thread nD τ).loc main_arg10)) := by
  unfold mid
  simp only [hostOps0, hostOps0_1, hostOps0_2, hostOps0_3, hostOps0_4, hostOps0_5, hostOps0_6, hostOps0_7, hostOps0_8,
    hostOps0_9, List.flatten_cons, List.flatten_nil,
    List.append_nil, List.cons_append, List.nil_append]
  after_results_simp
  after_results_loop
  simp only [StableHlo.TRef.ofBuf_toBuf, StableHlo.TRef.toBuf, StableHlo.TRef.ofBuf, cast_eq, cast_cast]
  rfl

theorem mid_gk (c : Dev nD) : (mid m c (Proc.devRef .tc main_v75) : FVec Ideal S128 .f32)
    = gSlot (m ((c : Thread nD τ).loc main_arg11)) := by
  unfold mid
  simp only [hostOps0, hostOps0_1, hostOps0_2, hostOps0_3, hostOps0_4, hostOps0_5, hostOps0_6, hostOps0_7, hostOps0_8,
    hostOps0_9, List.flatten_cons, List.flatten_nil,
    List.append_nil, List.cons_append, List.nil_append]
  after_results_simp
  after_results_loop
  simp only [StableHlo.TRef.ofBuf_toBuf, StableHlo.TRef.toBuf, StableHlo.TRef.ofBuf, cast_eq, cast_cast]
  rfl

theorem mid_scale (c : Dev nD) : (mid m c (Proc.devRef .tc main_v69) : FVec Ideal S_ .f32) = KernelIdeal.Attn.qScale := by
  rfl

/-- The host's operations from the angles to the laid-out weights, from buffers `W`. -/
abbrev tables (W : (b : DevRef τ sig) → b.ty.Contents (Elt Ideal)) : (b : DevRef τ sig) → b.ty.Contents (Elt Ideal) :=
  StableHlo.after (List.drop 38 hostOps0_6 ++ List.flatten [hostOps0_7, hostOps0_8, hostOps0_9]) W

/-- The buffers of core `c` when the angles are computed. -/
abbrev early (c : Dev nD) : (b : DevRef τ sig) → b.ty.Contents (Elt Ideal) :=
  StableHlo.after (List.flatten [hostOps0, hostOps0_1, hostOps0_2, hostOps0_3, hostOps0_4, hostOps0_5]
    ++ List.take 38 hostOps0_6) (fun b => m (c, b))

set_option maxHeartbeats 4000000 in
theorem mid_tables (c : Dev nD) (b : DevRef τ sig) : mid m c b = tables (early m c) b :=
  congrFun (StableHlo.after_append (List.flatten [hostOps0, hostOps0_1, hostOps0_2, hostOps0_3, hostOps0_4, hostOps0_5]
    ++ List.take 38 hostOps0_6) (List.drop 38 hostOps0_6 ++ List.flatten [hostOps0_7, hostOps0_8, hostOps0_9])
    (fun b => m (c, b))) b

theorem early_angles (c : Dev nD) : (early m c (Proc.devRef .tc main_v50) : FVec Ideal S4096x2x8 .f32) = angles := by
  rfl

theorem tables_cos (W : (b : DevRef τ sig) → b.ty.Contents (Elt Ideal)) :
    (tables W (Proc.devRef .tc main_v63) : FVec Ideal S4352x128 .f32)
    = withContext 0x3F800000#32 (cosSlot (W (Proc.devRef .tc main_v50))) := by
  rfl

theorem tables_sin (W : (b : DevRef τ sig) → b.ty.Contents (Elt Ideal)) :
    (tables W (Proc.devRef .tc main_v65) : FVec Ideal S4352x128 .f32)
    = withContext 0x00000000#32 (sinSlot (W (Proc.devRef .tc main_v50))) := by
  rfl

theorem mid_cos (c : Dev nD) : (mid m c (Proc.devRef .tc main_v63) : FVec Ideal S4352x128 .f32)
    = withContext 0x3F800000#32 (cosSlot angles) := by
  refine (mid_tables m c _).trans ((tables_cos (early m c)).trans ?_)
  rw [early_angles]

theorem mid_sin (c : Dev nD) : (mid m c (Proc.devRef .tc main_v65) : FVec Ideal S4352x128 .f32)
    = withContext 0x00000000#32 (sinSlot angles) := by
  refine (mid_tables m c _).trans ((tables_sin (early m c)).trans ?_)
  rw [early_angles]

/-- A queries' table of weights `g`, scaled by `s`, and rows `t`. -/
def qTableOf (g : FVec Ideal S128 .f32) (s : FVec Ideal S_ .f32) (t : FVec Ideal S4352x128 .f32) : FVec Ideal S96x4096 .f32 :=
  transpose S96x4096 [1, 0] (extractStridedSlice S4096x96 ![0, 0]
    (mulf (broadcastInDim S4096x128 ![0, 1] bcast_S1x128_S4096x128_0_1 (broadcastInDim S1x128 ![1] bcast_S128_S1x128_1
        (mulf g (broadcastInDim S128 ![] bcast_S_S128 s))))
      (extractStridedSlice S4096x128 ![256, 0] t slices_S4352x128_S4096x128_256_0)) slices_S4096x128_S4096x96_0_0)
    transposes_S4096x96_S96x4096_1_0

theorem late_gcq (W : (b : DevRef τ sig) → b.ty.Contents (Elt Ideal)) : (late W (Proc.devRef .tc main_v83) : FVec Ideal S96x4096 .f32)
    = qTableOf (W (Proc.devRef .tc main_v72)) (W (Proc.devRef .tc main_v69)) (W (Proc.devRef .tc main_v63)) := by
  rfl

theorem late_gsq (W : (b : DevRef τ sig) → b.ty.Contents (Elt Ideal)) : (late W (Proc.devRef .tc main_v92) : FVec Ideal S96x4096 .f32)
    = qTableOf (half (W (Proc.devRef .tc main_v72))) (W (Proc.devRef .tc main_v69)) (W (Proc.devRef .tc main_v65)) := by
  rfl

theorem late_gck (W : (b : DevRef τ sig) → b.ty.Contents (Elt Ideal)) : (late W (Proc.devRef .tc main_v95) : FVec Ideal S4352x128 .f32)
    = kTable (W (Proc.devRef .tc main_v75)) (W (Proc.devRef .tc main_v63)) := by
  rfl

theorem late_gsk (W : (b : DevRef τ sig) → b.ty.Contents (Elt Ideal)) : (late W (Proc.devRef .tc main_v99) : FVec Ideal S4352x128 .f32)
    = kTable (half (W (Proc.devRef .tc main_v75))) (W (Proc.devRef .tc main_v65)) := by
  rfl

theorem entry9 (c : Dev nD) : (V m c (Pipeline.arrRef spec0 9) : Vec Ideal S96x4096 .f32)
    = qTable (gSlot (m ((c : Thread nD τ).loc main_arg10))) (withContext 0x3F800000#32 (cosSlot angles)) := by
  refine (V_late m c main_v83).trans ((late_gcq (mid m c)).trans ?_)
  rw [mid_gq, mid_scale, mid_cos]
  rfl

theorem entry10 (c : Dev nD) : (V m c (Pipeline.arrRef spec0 10) : Vec Ideal S96x4096 .f32)
    = qTable (half (gSlot (m ((c : Thread nD τ).loc main_arg10)))) (withContext 0x00000000#32 (sinSlot angles)) := by
  refine (V_late m c main_v92).trans ((late_gsq (mid m c)).trans ?_)
  rw [mid_gq, mid_scale, mid_sin]
  rfl

theorem entry11 (c : Dev nD) : (V m c (Pipeline.arrRef spec0 11) : Vec Ideal S4352x128 .f32)
    = kTable (gSlot (m ((c : Thread nD τ).loc main_arg11))) (withContext 0x3F800000#32 (cosSlot angles)) := by
  refine (V_late m c main_v95).trans ((late_gck (mid m c)).trans ?_)
  rw [mid_gk, mid_cos]

theorem entry12 (c : Dev nD) : (V m c (Pipeline.arrRef spec0 12) : Vec Ideal S4352x128 .f32)
    = kTable (half (gSlot (m ((c : Thread nD τ).loc main_arg11)))) (withContext 0x00000000#32 (sinSlot angles)) := by
  refine (V_late m c main_v99).trans ((late_gsk (mid m c)).trans ?_)
  rw [mid_gk, mid_sin]

end Cert.Kernel4Ideal.Proj

end
-- ==== Proof.Proj.After.lean ====
module

public import proofs.«01_k».proof.Proof.Proj.Values
public import proofs.«01_k».proof.Proof.Attn.Slots
public import Idealize.ShloMosaic.Lib.Pipeline.Value
public import Idealize.ShloMosaic.Lib.Pointwise

@[expose] public section

set_option maxRecDepth 16384

noncomputable section

namespace Cert.Kernel4Ideal.Proj

open Cert.Kernel4Ideal Cert.Kernel4Ideal.Gen Idealize.ShloMosaic Idealize.ShloMosaic.TcCoe

/-! The host's lines after the call: the heads are read out of their slots. -/

/-- The rotated pairs of a head in its slot. -/
def turned4096 (z : FVec Ideal S8x4096x16x128 .f32) : FVec Ideal S8x4096x16x32 .f32 :=
  shapeCast S8x4096x16x32 (concatenate S8x4096x16x2x2x8 4
    [⟨S8x4096x16x2x1x8, broadcastInDim S8x4096x16x2x1x8 ![0, 1, 2, 3, 5] bcast_S8x4096x16x2x8_S8x4096x16x2x1x8_0_1_2_3_5
        (shapeCast S8x4096x16x2x8 (extractStridedSlice S8x4096x16x16 ![0, 0, 0, 64] z slices_S8x4096x16x128_S8x4096x16x16_0_0_0_64)
          shapeCasts_S8x4096x16x16_S8x4096x16x2x8)⟩,
     ⟨S8x4096x16x2x1x8, broadcastInDim S8x4096x16x2x1x8 ![0, 1, 2, 3, 5] bcast_S8x4096x16x2x8_S8x4096x16x2x1x8_0_1_2_3_5
        (shapeCast S8x4096x16x2x8 (extractStridedSlice S8x4096x16x16 ![0, 0, 0, 0] z slices_S8x4096x16x128_S8x4096x16x16_0_0_0_0)
          shapeCasts_S8x4096x16x16_S8x4096x16x2x8)⟩]
    concatenates_S8x4096x16x2x1x8_S8x4096x16x2x1x8_S8x4096x16x2x2x8_d4)
    shapeCasts_S8x4096x16x2x2x8_S8x4096x16x32

theorem turned4096_apply (z : FVec Ideal S8x4096x16x128 .f32) (b : Fin 8) (q : Fin 4096) (h : Fin 16) (e : Fin 32) :
    turned4096 z (ix4 b q h e) = if h' : e.val / 8 % 2 < 1 then z (ix4 b q h ⟨64 + (e.val / 16 * 8 + e.val % 8), by omega⟩)
      else z (ix4 b q h ⟨e.val / 16 * 8 + e.val % 8, by omega⟩) := by
  pointwise [turned4096]

/-- The heads read out of their slots of 128 lanes: 48 lanes from 16 on, 16 from 80 on, then the rotated pairs, whose first
halves are at 64 and whose second halves are at 0. -/
def heads4096 (t : FVec Ideal S8x4096x2048 .f32) : FVec Ideal S8x4096x16x96 .f32 :=
  concatenate S8x4096x16x96 3
    [⟨S8x4096x16x48, extractStridedSlice S8x4096x16x48 ![0, 0, 0, 16] (shapeCast S8x4096x16x128 t shapeCasts_S8x4096x2048_S8x4096x16x128)
        slices_S8x4096x16x128_S8x4096x16x48_0_0_0_16⟩,
     ⟨S8x4096x16x16, extractStridedSlice S8x4096x16x16 ![0, 0, 0, 80] (shapeCast S8x4096x16x128 t shapeCasts_S8x4096x2048_S8x4096x16x128)
        slices_S8x4096x16x128_S8x4096x16x16_0_0_0_80⟩,
     ⟨S8x4096x16x32, turned4096 (shapeCast S8x4096x16x128 t shapeCasts_S8x4096x2048_S8x4096x16x128)⟩]
    concatenates_S8x4096x16x48_S8x4096x16x16_S8x4096x16x32_S8x4096x16x96_d3

/-- The rotated pairs of a head in its slot. -/
def turned4352 (z : FVec Ideal S8x4352x16x128 .f32) : FVec Ideal S8x4352x16x32 .f32 :=
  shapeCast S8x4352x16x32 (concatenate S8x4352x16x2x2x8 4
    [⟨S8x4352x16x2x1x8, broadcastInDim S8x4352x16x2x1x8 ![0, 1, 2, 3, 5] bcast_S8x4352x16x2x8_S8x4352x16x2x1x8_0_1_2_3_5
        (shapeCast S8x4352x16x2x8 (extractStridedSlice S8x4352x16x16 ![0, 0, 0, 64] z slices_S8x4352x16x128_S8x4352x16x16_0_0_0_64)
          shapeCasts_S8x4352x16x16_S8x4352x16x2x8)⟩,
     ⟨S8x4352x16x2x1x8, broadcastInDim S8x4352x16x2x1x8 ![0, 1, 2, 3, 5] bcast_S8x4352x16x2x8_S8x4352x16x2x1x8_0_1_2_3_5
        (shapeCast S8x4352x16x2x8 (extractStridedSlice S8x4352x16x16 ![0, 0, 0, 0] z slices_S8x4352x16x128_S8x4352x16x16_0_0_0_0)
          shapeCasts_S8x4352x16x16_S8x4352x16x2x8)⟩]
    concatenates_S8x4352x16x2x1x8_S8x4352x16x2x1x8_S8x4352x16x2x2x8_d4)
    shapeCasts_S8x4352x16x2x2x8_S8x4352x16x32

theorem turned4352_apply (z : FVec Ideal S8x4352x16x128 .f32) (b : Fin 8) (q : Fin 4352) (h : Fin 16) (e : Fin 32) :
    turned4352 z (ix4 b q h e) = if h' : e.val / 8 % 2 < 1 then z (ix4 b q h ⟨64 + (e.val / 16 * 8 + e.val % 8), by omega⟩)
      else z (ix4 b q h ⟨e.val / 16 * 8 + e.val % 8, by omega⟩) := by
  pointwise [turned4352]

/-- The heads read out of their slots of 128 lanes: 48 lanes from 16 on, 16 from 80 on, then the rotated pairs, whose first
halves are at 64 and whose second halves are at 0. -/
def heads4352 (t : FVec Ideal S8x4352x2048 .f32) : FVec Ideal S8x4352x16x96 .f32 :=
  concatenate S8x4352x16x96 3
    [⟨S8x4352x16x48, extractStridedSlice S8x4352x16x48 ![0, 0, 0, 16] (shapeCast S8x4352x16x128 t shapeCasts_S8x4352x2048_S8x4352x16x128)
        slices_S8x4352x16x128_S8x4352x16x48_0_0_0_16⟩,
     ⟨S8x4352x16x16, extractStridedSlice S8x4352x16x16 ![0, 0, 0, 80] (shapeCast S8x4352x16x128 t shapeCasts_S8x4352x2048_S8x4352x16x128)
        slices_S8x4352x16x128_S8x4352x16x16_0_0_0_80⟩,
     ⟨S8x4352x16x32, turned4352 (shapeCast S8x4352x16x128 t shapeCasts_S8x4352x2048_S8x4352x16x128)⟩]
    concatenates_S8x4352x16x48_S8x4352x16x16_S8x4352x16x32_S8x4352x16x96_d3

/-- The lane of a head's dimension. -/
def laneOf (d : Fin 96) : Fin 128 :=
  ⟨if d.val < 48 then 16 + d.val else if d.val - 48 < 16 then 80 + (d.val - 48)
    else if (d.val - 48 - 16) / 8 % 2 < 1 then 64 + ((d.val - 48 - 16) / 16 * 8 + (d.val - 48 - 16) % 8)
    else (d.val - 48 - 16) / 16 * 8 + (d.val - 48 - 16) % 8, by split_ifs <;> omega⟩

theorem slots4096_apply (t : FVec Ideal S8x4096x2048 .f32) (b : Fin 8) (q : Fin 4096) (h : Fin 16) (l : Fin 128) :
    shapeCast S8x4096x16x128 t shapeCasts_S8x4096x2048_S8x4096x16x128 (ix4 b q h l) = t (ix3 b q ⟨128 * h.val + l.val, by omega⟩) := by
  pointwise
  exact congrArg (fun n => t (ix3 b q n)) (Fin.ext (by simp only; omega))

theorem parts4096 (A : FVec Ideal S8x4096x16x128 .f32) (C : FVec Ideal S8x4096x16x32 .f32) (b : Fin 8) (q : Fin 4096) (h : Fin 16)
    (d : Fin 96) :
    (concatenate S8x4096x16x96 3
      [⟨S8x4096x16x48, extractStridedSlice S8x4096x16x48 ![0, 0, 0, 16] A slices_S8x4096x16x128_S8x4096x16x48_0_0_0_16⟩,
       ⟨S8x4096x16x16, extractStridedSlice S8x4096x16x16 ![0, 0, 0, 80] A slices_S8x4096x16x128_S8x4096x16x16_0_0_0_80⟩,
       ⟨S8x4096x16x32, C⟩] concatenates_S8x4096x16x48_S8x4096x16x16_S8x4096x16x32_S8x4096x16x96_d3 : FVec Ideal S8x4096x16x96 .f32)
      (ix4 b q h d)
      = if h0 : d.val < 48 then A (ix4 b q h ⟨16 + d.val, by omega⟩)
        else if h1 : d.val - 48 < 16 then A (ix4 b q h ⟨80 + (d.val - 48), by omega⟩)
        else C (ix4 b q h ⟨d.val - 48 - 16, by omega⟩) := by
  pointwise

theorem heads4096_apply (t : FVec Ideal S8x4096x2048 .f32) (b : Fin 8) (q : Fin 4096) (h : Fin 16) (d : Fin 96) :
    heads4096 t (ix4 b q h d) = t (ix3 b q ⟨128 * h.val + (laneOf d).val, by omega⟩) := by
  have hv : ∀ l : Fin 128, l.val = (laneOf d).val →
      shapeCast S8x4096x16x128 t shapeCasts_S8x4096x2048_S8x4096x16x128 (ix4 b q h l)
        = t (ix3 b q ⟨128 * h.val + (laneOf d).val, by omega⟩) :=
    fun l e => by rw [Fin.ext e]; exact slots4096_apply t b q h _
  unfold laneOf at hv
  refine (parts4096 _ _ b q h d).trans ?_
  by_cases h0 : d.val < 48
  · rw [dif_pos h0]
    exact hv _ (by simp only [if_pos h0])
  rw [dif_neg h0]
  by_cases h1 : d.val - 48 < 16
  · rw [dif_pos h1]
    exact hv _ (by simp only [if_neg h0, if_pos h1])
  rw [dif_neg h1]
  refine (turned4096_apply _ b q h _).trans ?_
  by_cases h2 : (d.val - 48 - 16) / 8 % 2 < 1
  · rw [dif_pos h2]
    exact hv _ (by simp only [if_neg h0, if_neg h1, if_pos h2])
  · rw [dif_neg h2]
    exact hv _ (by simp only [if_neg h0, if_neg h1, if_neg h2])

theorem slots4352_apply (t : FVec Ideal S8x4352x2048 .f32) (b : Fin 8) (q : Fin 4352) (h : Fin 16) (l : Fin 128) :
    shapeCast S8x4352x16x128 t shapeCasts_S8x4352x2048_S8x4352x16x128 (ix4 b q h l) = t (ix3 b q ⟨128 * h.val + l.val, by omega⟩) := by
  pointwise
  exact congrArg (fun n => t (ix3 b q n)) (Fin.ext (by simp only; omega))

theorem parts4352 (A : FVec Ideal S8x4352x16x128 .f32) (C : FVec Ideal S8x4352x16x32 .f32) (b : Fin 8) (q : Fin 4352) (h : Fin 16)
    (d : Fin 96) :
    (concatenate S8x4352x16x96 3
      [⟨S8x4352x16x48, extractStridedSlice S8x4352x16x48 ![0, 0, 0, 16] A slices_S8x4352x16x128_S8x4352x16x48_0_0_0_16⟩,
       ⟨S8x4352x16x16, extractStridedSlice S8x4352x16x16 ![0, 0, 0, 80] A slices_S8x4352x16x128_S8x4352x16x16_0_0_0_80⟩,
       ⟨S8x4352x16x32, C⟩] concatenates_S8x4352x16x48_S8x4352x16x16_S8x4352x16x32_S8x4352x16x96_d3 : FVec Ideal S8x4352x16x96 .f32)
      (ix4 b q h d)
      = if h0 : d.val < 48 then A (ix4 b q h ⟨16 + d.val, by omega⟩)
        else if h1 : d.val - 48 < 16 then A (ix4 b q h ⟨80 + (d.val - 48), by omega⟩)
        else C (ix4 b q h ⟨d.val - 48 - 16, by omega⟩) := by
  pointwise

theorem heads4352_apply (t : FVec Ideal S8x4352x2048 .f32) (b : Fin 8) (q : Fin 4352) (h : Fin 16) (d : Fin 96) :
    heads4352 t (ix4 b q h d) = t (ix3 b q ⟨128 * h.val + (laneOf d).val, by omega⟩) := by
  have hv : ∀ l : Fin 128, l.val = (laneOf d).val →
      shapeCast S8x4352x16x128 t shapeCasts_S8x4352x2048_S8x4352x16x128 (ix4 b q h l)
        = t (ix3 b q ⟨128 * h.val + (laneOf d).val, by omega⟩) :=
    fun l e => by rw [Fin.ext e]; exact slots4352_apply t b q h _
  unfold laneOf at hv
  refine (parts4352 _ _ b q h d).trans ?_
  by_cases h0 : d.val < 48
  · rw [dif_pos h0]
    exact hv _ (by simp only [if_pos h0])
  rw [dif_neg h0]
  by_cases h1 : d.val - 48 < 16
  · rw [dif_pos h1]
    exact hv _ (by simp only [if_neg h0, if_pos h1])
  rw [dif_neg h1]
  refine (turned4352_apply _ b q h _).trans ?_
  by_cases h2 : (d.val - 48 - 16) / 8 % 2 < 1
  · rw [dif_pos h2]
    exact hv _ (by simp only [if_neg h0, if_neg h1, if_pos h2])
  · rw [dif_neg h2]
    exact hv _ (by simp only [if_neg h0, if_neg h1, if_neg h2])

/-- The first result: the queries' heads, times `√96 · log 2`. -/
def qOut (a : FVec Ideal S8x2048x4096 .bf16) : FVec Ideal S8x4096x16x96 .f32 :=
  mulf (heads4096 (extf .f32 (transpose S8x4096x2048 [0, 2, 1] a transposes_S8x2048x4096_S8x4096x2048_0_2_1) bitsLt_bf16_f32))
    (broadcastInDim S8x4096x16x96 ![] bcast_S_S8x4096x16x96
      (mulf (Host.sqrt (constant S_ .f32 0x42C00000#32)) (Host.log (constant S_ .f32 0x40000000#32))))

/-- The second result: the keys' heads. -/
def kOut (a : FVec Ideal S8x4352x2048 .bf16) : FVec Ideal S8x4352x16x96 .f32 := heads4352 (extf .f32 a bitsLt_bf16_f32)

/-- The third result: the values, heads after tokens. -/
def vOut (a : FVec Ideal S8x16x64x4352 .bf16) : FVec Ideal S8x4352x16x64 .f32 :=
  extf .f32 (transpose S8x4352x16x64 [0, 3, 1, 2] a transposes_S8x16x64x4352_S8x4352x16x64_0_3_1_2) bitsLt_bf16_f32

theorem turn_back (a : FVec Ideal S8x2048x4096 .bf16) (b : Fin 8) (q : Fin 4096) (n : Fin 2048) :
    (extf .f32 (transpose S8x4096x2048 [0, 2, 1] a transposes_S8x2048x4096_S8x4096x2048_0_2_1) bitsLt_bf16_f32 :
      FVec Ideal S8x4096x2048 .f32) (ix3 b q n) = a (ix3 b n q) := by
  pointwise

theorem times_apply (z : FVec Ideal S8x4096x16x96 .f32) (b : Fin 8) (q : Fin 4096) (h : Fin 16) (d : Fin 96) :
    (mulf z (broadcastInDim S8x4096x16x96 ![] bcast_S_S8x4096x16x96
      (mulf (Host.sqrt (constant (F := Ideal) S_ .f32 0x42C00000#32)) (Host.log (constant (F := Ideal) S_ .f32 0x40000000#32))))
      : FVec Ideal S8x4096x16x96 .f32) (ix4 b q h d)
      = z (ix4 b q h d) * (Ideal.sqrt ((96 : ℝ) : EReal) * Ideal.log ((2 : ℝ) : EReal)) := by
  rw [← KernelIdeal.Attn.ofBits_96, ← KernelIdeal.Attn.ofBits_2]
  pointwise

theorem qOut_apply (a : FVec Ideal S8x2048x4096 .bf16) (b : Fin 8) (q : Fin 4096) (h : Fin 16) (d : Fin 96) :
    qOut a (ix4 b q h d) = a (ix3 b ⟨128 * h.val + (laneOf d).val, by omega⟩ q)
      * (Ideal.sqrt ((96 : ℝ) : EReal) * Ideal.log ((2 : ℝ) : EReal)) :=
  (times_apply _ b q h d).trans
    (congrArg (fun y : EReal => y * _) ((heads4096_apply _ b q h d).trans (turn_back a b q _)))

theorem kOut_apply (a : FVec Ideal S8x4352x2048 .bf16) (b : Fin 8) (q : Fin 4352) (h : Fin 16) (d : Fin 96) :
    kOut a (ix4 b q h d) = a (ix3 b q ⟨128 * h.val + (laneOf d).val, by omega⟩) :=
  heads4352_apply _ b q h d

theorem vOut_apply (a : FVec Ideal S8x16x64x4352 .bf16) (b : Fin 8) (q : Fin 4352) (h : Fin 16) (e : Fin 64) :
    vOut a (ix4 b q h e) = a (ix4 b h e q) := by
  pointwise [vOut]

end Cert.Kernel4Ideal.Proj

end
-- ==== Proof.Proj.Tail.lean ====
module

public import proofs.«01_k».proof.Proof.Proj.After

@[expose] public section

set_option maxRecDepth 16384

noncomputable section

namespace Cert.Kernel4Ideal.Proj

open Cert.Kernel4Ideal Cert.Kernel4Ideal.Gen Idealize.ShloMosaic Idealize.ShloMosaic.TcCoe

/-! The lines after the call, from any buffers and from what the call leaves. -/

/-- The queries in their slots of 128 lanes. -/
def slots4096 (t : FVec Ideal S8x2048x4096 .bf16) : FVec Ideal S8x4096x16x128 .f32 :=
  shapeCast S8x4096x16x128 (extf .f32 (transpose S8x4096x2048 [0, 2, 1] t transposes_S8x2048x4096_S8x4096x2048_0_2_1) bitsLt_bf16_f32) shapeCasts_S8x4096x2048_S8x4096x16x128

/-- The three parts of the queries, one after another. -/
def joined4096 (z : FVec Ideal S8x4096x16x128 .f32) (r : FVec Ideal S8x4096x16x32 .f32) : FVec Ideal S8x4096x16x96 .f32 :=
  concatenate S8x4096x16x96 3
    [⟨S8x4096x16x48, extractStridedSlice S8x4096x16x48 ![0, 0, 0, 16] z slices_S8x4096x16x128_S8x4096x16x48_0_0_0_16⟩,
     ⟨S8x4096x16x16, extractStridedSlice S8x4096x16x16 ![0, 0, 0, 80] z slices_S8x4096x16x128_S8x4096x16x16_0_0_0_80⟩,
     ⟨S8x4096x16x32, r⟩]
    concatenates_S8x4096x16x48_S8x4096x16x16_S8x4096x16x32_S8x4096x16x96_d3

/-- The keys in their slots of 128 lanes. -/
def slots4352 (t : FVec Ideal S8x4352x2048 .bf16) : FVec Ideal S8x4352x16x128 .f32 :=
  shapeCast S8x4352x16x128 (extf .f32 t bitsLt_bf16_f32) shapeCasts_S8x4352x2048_S8x4352x16x128

/-- The three parts of the keys, one after another. -/
def joined4352 (z : FVec Ideal S8x4352x16x128 .f32) (r : FVec Ideal S8x4352x16x32 .f32) : FVec Ideal S8x4352x16x96 .f32 :=
  concatenate S8x4352x16x96 3
    [⟨S8x4352x16x48, extractStridedSlice S8x4352x16x48 ![0, 0, 0, 16] z slices_S8x4352x16x128_S8x4352x16x48_0_0_0_16⟩,
     ⟨S8x4352x16x16, extractStridedSlice S8x4352x16x16 ![0, 0, 0, 80] z slices_S8x4352x16x128_S8x4352x16x16_0_0_0_80⟩,
     ⟨S8x4352x16x32, r⟩]
    concatenates_S8x4352x16x48_S8x4352x16x16_S8x4352x16x32_S8x4352x16x96_d3

/-- The queries times their scale. -/
def scaled (z : FVec Ideal S8x4096x16x96 .f32) : FVec Ideal S8x4096x16x96 .f32 :=
  mulf z (broadcastInDim S8x4096x16x96 ![] bcast_S_S8x4096x16x96
    (mulf (Host.sqrt (constant S_ .f32 0x42C00000#32)) (Host.log (constant S_ .f32 0x40000000#32))))

/-- Sixteen lanes of a slot, as two rows of eight. -/
def half4096 (o : Fin S8x4096x16x128.rank → Nat) (h : Shape.Slices S8x4096x16x128 o S8x4096x16x16) (z : FVec Ideal S8x4096x16x128 .f32) :
    FVec Ideal S8x4096x16x2x8 .f32 :=
  shapeCast S8x4096x16x2x8 (extractStridedSlice S8x4096x16x16 o z h) shapeCasts_S8x4096x16x16_S8x4096x16x2x8

/-- The same with one more axis. -/
def spread4096 (z : FVec Ideal S8x4096x16x2x8 .f32) : FVec Ideal S8x4096x16x2x1x8 .f32 :=
  broadcastInDim S8x4096x16x2x1x8 ![0, 1, 2, 3, 5] bcast_S8x4096x16x2x8_S8x4096x16x2x1x8_0_1_2_3_5 z

/-- The two halves of the pairs, one after another. -/
def paired4096 (x y : FVec Ideal S8x4096x16x2x1x8 .f32) : FVec Ideal S8x4096x16x2x2x8 .f32 :=
  concatenate S8x4096x16x2x2x8 4 [⟨S8x4096x16x2x1x8, x⟩, ⟨S8x4096x16x2x1x8, y⟩]
    concatenates_S8x4096x16x2x1x8_S8x4096x16x2x1x8_S8x4096x16x2x2x8_d4

/-- The pairs on one axis. -/
def flat4096 (z : FVec Ideal S8x4096x16x2x2x8 .f32) : FVec Ideal S8x4096x16x32 .f32 :=
  shapeCast S8x4096x16x32 z shapeCasts_S8x4096x16x2x2x8_S8x4096x16x32

/-- Sixteen lanes of a slot, as two rows of eight. -/
def half4352 (o : Fin S8x4352x16x128.rank → Nat) (h : Shape.Slices S8x4352x16x128 o S8x4352x16x16) (z : FVec Ideal S8x4352x16x128 .f32) :
    FVec Ideal S8x4352x16x2x8 .f32 :=
  shapeCast S8x4352x16x2x8 (extractStridedSlice S8x4352x16x16 o z h) shapeCasts_S8x4352x16x16_S8x4352x16x2x8

/-- The same with one more axis. -/
def spread4352 (z : FVec Ideal S8x4352x16x2x8 .f32) : FVec Ideal S8x4352x16x2x1x8 .f32 :=
  broadcastInDim S8x4352x16x2x1x8 ![0, 1, 2, 3, 5] bcast_S8x4352x16x2x8_S8x4352x16x2x1x8_0_1_2_3_5 z

/-- The two halves of the pairs, one after another. -/
def paired4352 (x y : FVec Ideal S8x4352x16x2x1x8 .f32) : FVec Ideal S8x4352x16x2x2x8 .f32 :=
  concatenate S8x4352x16x2x2x8 4 [⟨S8x4352x16x2x1x8, x⟩, ⟨S8x4352x16x2x1x8, y⟩]
    concatenates_S8x4352x16x2x1x8_S8x4352x16x2x1x8_S8x4352x16x2x2x8_d4

/-- The pairs on one axis. -/
def flat4352 (z : FVec Ideal S8x4352x16x2x2x8 .f32) : FVec Ideal S8x4352x16x32 .f32 :=
  shapeCast S8x4352x16x32 z shapeCasts_S8x4352x16x2x2x8_S8x4352x16x32

/-- The lines of the queries' tokens first. -/
def seg1 (W : (b : DevRef τ sig) → b.ty.Contents (Elt Ideal)) : (b : DevRef τ sig) → b.ty.Contents (Elt Ideal) :=
  StableHlo.after (List.take 3 (List.drop 0 hostOps1)) W

/-- The lines of the queries' rotated pairs. -/
def seg2 (W : (b : DevRef τ sig) → b.ty.Contents (Elt Ideal)) : (b : DevRef τ sig) → b.ty.Contents (Elt Ideal) :=
  StableHlo.after (List.take 8 (List.drop 3 hostOps1)) W

/-- The lines of the queries' heads. -/
def seg3 (W : (b : DevRef τ sig) → b.ty.Contents (Elt Ideal)) : (b : DevRef τ sig) → b.ty.Contents (Elt Ideal) :=
  StableHlo.after (List.take 3 (List.drop 11 hostOps1)) W

/-- The lines of the queries' scale. -/
def seg4 (W : (b : DevRef τ sig) → b.ty.Contents (Elt Ideal)) : (b : DevRef τ sig) → b.ty.Contents (Elt Ideal) :=
  StableHlo.after (List.take 7 (List.drop 14 hostOps1)) W

/-- The lines of the keys' slots. -/
def seg5 (W : (b : DevRef τ sig) → b.ty.Contents (Elt Ideal)) : (b : DevRef τ sig) → b.ty.Contents (Elt Ideal) :=
  StableHlo.after (List.take 2 (List.drop 21 hostOps1)) W

/-- The lines of the keys' rotated pairs. -/
def seg6 (W : (b : DevRef τ sig) → b.ty.Contents (Elt Ideal)) : (b : DevRef τ sig) → b.ty.Contents (Elt Ideal) :=
  StableHlo.after (List.take 8 (List.drop 23 hostOps1)) W

/-- The lines of the keys' heads. -/
def seg7 (W : (b : DevRef τ sig) → b.ty.Contents (Elt Ideal)) : (b : DevRef τ sig) → b.ty.Contents (Elt Ideal) :=
  StableHlo.after (List.take 3 (List.drop 31 hostOps1)) W

/-- The lines of the values. -/
def seg8 (W : (b : DevRef τ sig) → b.ty.Contents (Elt Ideal)) : (b : DevRef τ sig) → b.ty.Contents (Elt Ideal) :=
  StableHlo.after (List.take 2 (List.drop 34 hostOps1)) W

theorem after_split (W : (b : DevRef τ sig) → b.ty.Contents (Elt Ideal)) (b : DevRef τ sig) :
    StableHlo.after (List.flatten [hostOps1]) W b = seg8 (seg7 (seg6 (seg5 (seg4 (seg3 (seg2 (seg1 W))))))) b := by
  have h1 : ∀ U : (b : DevRef τ sig) → b.ty.Contents (Elt Ideal), StableHlo.after (List.flatten [hostOps1]) U
      = StableHlo.after (List.drop 3 hostOps1) (seg1 U) :=
    fun U => StableHlo.after_append (List.take 3 (List.drop 0 hostOps1)) (List.drop 3 hostOps1) U
  have h2 : ∀ U : (b : DevRef τ sig) → b.ty.Contents (Elt Ideal), StableHlo.after (List.drop 3 hostOps1) U
      = StableHlo.after (List.drop 11 hostOps1) (seg2 U) :=
    fun U => StableHlo.after_append (List.take 8 (List.drop 3 hostOps1)) (List.drop 11 hostOps1) U
  have h3 : ∀ U : (b : DevRef τ sig) → b.ty.Contents (Elt Ideal), StableHlo.after (List.drop 11 hostOps1) U
      = StableHlo.after (List.drop 14 hostOps1) (seg3 U) :=
    fun U => StableHlo.after_append (List.take 3 (List.drop 11 hostOps1)) (List.drop 14 hostOps1) U
  have h4 : ∀ U : (b : DevRef τ sig) → b.ty.Contents (Elt Ideal), StableHlo.after (List.drop 14 hostOps1) U
      = StableHlo.after (List.drop 21 hostOps1) (seg4 U) :=
    fun U => StableHlo.after_append (List.take 7 (List.drop 14 hostOps1)) (List.drop 21 hostOps1) U
  have h5 : ∀ U : (b : DevRef τ sig) → b.ty.Contents (Elt Ideal), StableHlo.after (List.drop 21 hostOps1) U
      = StableHlo.after (List.drop 23 hostOps1) (seg5 U) :=
    fun U => StableHlo.after_append (List.take 2 (List.drop 21 hostOps1)) (List.drop 23 hostOps1) U
  have h6 : ∀ U : (b : DevRef τ sig) → b.ty.Contents (Elt Ideal), StableHlo.after (List.drop 23 hostOps1) U
      = StableHlo.after (List.drop 31 hostOps1) (seg6 U) :=
    fun U => StableHlo.after_append (List.take 8 (List.drop 23 hostOps1)) (List.drop 31 hostOps1) U
  have h7 : ∀ U : (b : DevRef τ sig) → b.ty.Contents (Elt Ideal), StableHlo.after (List.drop 31 hostOps1) U
      = StableHlo.after (List.drop 34 hostOps1) (seg7 U) :=
    fun U => StableHlo.after_append (List.take 3 (List.drop 31 hostOps1)) (List.drop 34 hostOps1) U
  rw [h1, h2, h3, h4, h5, h6, h7]
  rfl

theorem seg1_q (W : (b : DevRef τ sig) → b.ty.Contents (Elt Ideal)) : seg1 W (Proc.devRef .tc main_v117) = slots4096 (W (Proc.devRef .tc main_v114_0)) := by
  rfl

/-- The lines of the queries' halves. -/
def seg2a (W : (b : DevRef τ sig) → b.ty.Contents (Elt Ideal)) : (b : DevRef τ sig) → b.ty.Contents (Elt Ideal) :=
  StableHlo.after (List.take 4 (List.drop 3 hostOps1)) W

/-- The lines of the queries' halves, one more axis. -/
def seg2b (W : (b : DevRef τ sig) → b.ty.Contents (Elt Ideal)) : (b : DevRef τ sig) → b.ty.Contents (Elt Ideal) :=
  StableHlo.after (List.take 2 (List.drop 7 hostOps1)) W

/-- The lines of the queries' halves put together. -/
def seg2c (W : (b : DevRef τ sig) → b.ty.Contents (Elt Ideal)) : (b : DevRef τ sig) → b.ty.Contents (Elt Ideal) :=
  StableHlo.after (List.take 1 (List.drop 9 hostOps1)) W

/-- The lines of the queries' pairs. -/
def seg2d (W : (b : DevRef τ sig) → b.ty.Contents (Elt Ideal)) : (b : DevRef τ sig) → b.ty.Contents (Elt Ideal) :=
  StableHlo.after (List.take 1 (List.drop 10 hostOps1)) W

theorem seg2_split (W : (b : DevRef τ sig) → b.ty.Contents (Elt Ideal)) : seg2 W = seg2d (seg2c (seg2b (seg2a W))) :=
  ((StableHlo.after_append (List.take 4 (List.drop 3 hostOps1)) (List.take 4 (List.drop 7 hostOps1)) W).trans
    (StableHlo.after_append (List.take 2 (List.drop 7 hostOps1)) (List.take 2 (List.drop 9 hostOps1)) (seg2a W))).trans
    (StableHlo.after_append (List.take 1 (List.drop 9 hostOps1)) (List.take 1 (List.drop 10 hostOps1)) (seg2b (seg2a W)))

theorem seg2a_1 (W : (b : DevRef τ sig) → b.ty.Contents (Elt Ideal)) : seg2a W (Proc.devRef .tc main_v119) = half4096 ![0, 0, 0, 64] slices_S8x4096x16x128_S8x4096x16x16_0_0_0_64 (W (Proc.devRef .tc main_v117)) := by
  rfl

theorem seg2a_2 (W : (b : DevRef τ sig) → b.ty.Contents (Elt Ideal)) : seg2a W (Proc.devRef .tc main_v121) = half4096 ![0, 0, 0, 0] slices_S8x4096x16x128_S8x4096x16x16_0_0_0_0 (W (Proc.devRef .tc main_v117)) := by
  rfl

theorem seg2b_1 (W : (b : DevRef τ sig) → b.ty.Contents (Elt Ideal)) : seg2b W (Proc.devRef .tc main_v122) = spread4096 (W (Proc.devRef .tc main_v119)) := by
  rfl

theorem seg2b_2 (W : (b : DevRef τ sig) → b.ty.Contents (Elt Ideal)) : seg2b W (Proc.devRef .tc main_v123) = spread4096 (W (Proc.devRef .tc main_v121)) := by
  rfl

theorem seg2c_1 (W : (b : DevRef τ sig) → b.ty.Contents (Elt Ideal)) : seg2c W (Proc.devRef .tc main_v124) = paired4096 (W (Proc.devRef .tc main_v122)) (W (Proc.devRef .tc main_v123)) := by
  rfl

theorem seg2d_1 (W : (b : DevRef τ sig) → b.ty.Contents (Elt Ideal)) : seg2d W (Proc.devRef .tc main_v125) = flat4096 (W (Proc.devRef .tc main_v124)) := by
  rfl

theorem seg2_q (W : (b : DevRef τ sig) → b.ty.Contents (Elt Ideal)) : seg2 W (Proc.devRef .tc main_v125) = turned4096 (W (Proc.devRef .tc main_v117)) := by
  rw [seg2_split, seg2d_1, seg2c_1, seg2b_1, seg2b_2, seg2a_1, seg2a_2]
  rfl

theorem seg3_q (W : (b : DevRef τ sig) → b.ty.Contents (Elt Ideal)) : seg3 W (Proc.devRef .tc main_v128) = joined4096 (W (Proc.devRef .tc main_v117)) (W (Proc.devRef .tc main_v125)) := by
  rfl

theorem seg4_q (W : (b : DevRef τ sig) → b.ty.Contents (Elt Ideal)) : seg4 W (Proc.devRef .tc main_v133) = scaled (W (Proc.devRef .tc main_v128)) := by
  rfl

theorem seg5_k (W : (b : DevRef τ sig) → b.ty.Contents (Elt Ideal)) : seg5 W (Proc.devRef .tc main_v135) = slots4352 (W (Proc.devRef .tc main_v114_1)) := by
  rfl

/-- The lines of the keys' halves. -/
def seg6a (W : (b : DevRef τ sig) → b.ty.Contents (Elt Ideal)) : (b : DevRef τ sig) → b.ty.Contents (Elt Ideal) :=
  StableHlo.after (List.take 4 (List.drop 23 hostOps1)) W

/-- The lines of the keys' halves, one more axis. -/
def seg6b (W : (b : DevRef τ sig) → b.ty.Contents (Elt Ideal)) : (b : DevRef τ sig) → b.ty.Contents (Elt Ideal) :=
  StableHlo.after (List.take 2 (List.drop 27 hostOps1)) W

/-- The lines of the keys' halves put together. -/
def seg6c (W : (b : DevRef τ sig) → b.ty.Contents (Elt Ideal)) : (b : DevRef τ sig) → b.ty.Contents (Elt Ideal) :=
  StableHlo.after (List.take 1 (List.drop 29 hostOps1)) W

/-- The lines of the keys' pairs. -/
def seg6d (W : (b : DevRef τ sig) → b.ty.Contents (Elt Ideal)) : (b : DevRef τ sig) → b.ty.Contents (Elt Ideal) :=
  StableHlo.after (List.take 1 (List.drop 30 hostOps1)) W

theorem seg6_split (W : (b : DevRef τ sig) → b.ty.Contents (Elt Ideal)) : seg6 W = seg6d (seg6c (seg6b (seg6a W))) :=
  ((StableHlo.after_append (List.take 4 (List.drop 23 hostOps1)) (List.take 4 (List.drop 27 hostOps1)) W).trans
    (StableHlo.after_append (List.take 2 (List.drop 27 hostOps1)) (List.take 2 (List.drop 29 hostOps1)) (seg6a W))).trans
    (StableHlo.after_append (List.take 1 (List.drop 29 hostOps1)) (List.take 1 (List.drop 30 hostOps1)) (seg6b (seg6a W)))

theorem seg6a_1 (W : (b : DevRef τ sig) → b.ty.Contents (Elt Ideal)) : seg6a W (Proc.devRef .tc main_v137) = half4352 ![0, 0, 0, 64] slices_S8x4352x16x128_S8x4352x16x16_0_0_0_64 (W (Proc.devRef .tc main_v135)) := by
  rfl

theorem seg6a_2 (W : (b : DevRef τ sig) → b.ty.Contents (Elt Ideal)) : seg6a W (Proc.devRef .tc main_v139) = half4352 ![0, 0, 0, 0] slices_S8x4352x16x128_S8x4352x16x16_0_0_0_0 (W (Proc.devRef .tc main_v135)) := by
  rfl

theorem seg6b_1 (W : (b : DevRef τ sig) → b.ty.Contents (Elt Ideal)) : seg6b W (Proc.devRef .tc main_v140) = spread4352 (W (Proc.devRef .tc main_v137)) := by
  rfl

theorem seg6b_2 (W : (b : DevRef τ sig) → b.ty.Contents (Elt Ideal)) : seg6b W (Proc.devRef .tc main_v141) = spread4352 (W (Proc.devRef .tc main_v139)) := by
  rfl

theorem seg6c_1 (W : (b : DevRef τ sig) → b.ty.Contents (Elt Ideal)) : seg6c W (Proc.devRef .tc main_v142) = paired4352 (W (Proc.devRef .tc main_v140)) (W (Proc.devRef .tc main_v141)) := by
  rfl

theorem seg6d_1 (W : (b : DevRef τ sig) → b.ty.Contents (Elt Ideal)) : seg6d W (Proc.devRef .tc main_v143) = flat4352 (W (Proc.devRef .tc main_v142)) := by
  rfl

theorem seg6_k (W : (b : DevRef τ sig) → b.ty.Contents (Elt Ideal)) : seg6 W (Proc.devRef .tc main_v143) = turned4352 (W (Proc.devRef .tc main_v135)) := by
  rw [seg6_split, seg6d_1, seg6c_1, seg6b_1, seg6b_2, seg6a_1, seg6a_2]
  rfl

theorem seg7_k (W : (b : DevRef τ sig) → b.ty.Contents (Elt Ideal)) : seg7 W (Proc.devRef .tc main_v146) = joined4352 (W (Proc.devRef .tc main_v135)) (W (Proc.devRef .tc main_v143)) := by
  rfl

theorem keep2_v117 (W : (b : DevRef τ sig) → b.ty.Contents (Elt Ideal)) : seg2 W (Proc.devRef .tc main_v117) = W (Proc.devRef .tc main_v117) := by
  rfl

theorem keep5_v133 (W : (b : DevRef τ sig) → b.ty.Contents (Elt Ideal)) : seg5 W (Proc.devRef .tc main_v133) = W (Proc.devRef .tc main_v133) := by
  rfl

theorem keep6_v133 (W : (b : DevRef τ sig) → b.ty.Contents (Elt Ideal)) : seg6 W (Proc.devRef .tc main_v133) = W (Proc.devRef .tc main_v133) := by
  rfl

theorem keep7_v133 (W : (b : DevRef τ sig) → b.ty.Contents (Elt Ideal)) : seg7 W (Proc.devRef .tc main_v133) = W (Proc.devRef .tc main_v133) := by
  rfl

theorem keep8_v133 (W : (b : DevRef τ sig) → b.ty.Contents (Elt Ideal)) : seg8 W (Proc.devRef .tc main_v133) = W (Proc.devRef .tc main_v133) := by
  rfl

theorem keep1_v114_1 (W : (b : DevRef τ sig) → b.ty.Contents (Elt Ideal)) : seg1 W (Proc.devRef .tc main_v114_1) = W (Proc.devRef .tc main_v114_1) := by
  rfl

theorem keep2_v114_1 (W : (b : DevRef τ sig) → b.ty.Contents (Elt Ideal)) : seg2 W (Proc.devRef .tc main_v114_1) = W (Proc.devRef .tc main_v114_1) := by
  rfl

theorem keep3_v114_1 (W : (b : DevRef τ sig) → b.ty.Contents (Elt Ideal)) : seg3 W (Proc.devRef .tc main_v114_1) = W (Proc.devRef .tc main_v114_1) := by
  rfl

theorem keep4_v114_1 (W : (b : DevRef τ sig) → b.ty.Contents (Elt Ideal)) : seg4 W (Proc.devRef .tc main_v114_1) = W (Proc.devRef .tc main_v114_1) := by
  rfl

theorem keep6_v135 (W : (b : DevRef τ sig) → b.ty.Contents (Elt Ideal)) : seg6 W (Proc.devRef .tc main_v135) = W (Proc.devRef .tc main_v135) := by
  rfl

theorem keep8_v146 (W : (b : DevRef τ sig) → b.ty.Contents (Elt Ideal)) : seg8 W (Proc.devRef .tc main_v146) = W (Proc.devRef .tc main_v146) := by
  rfl

theorem after_q (W : (b : DevRef τ sig) → b.ty.Contents (Elt Ideal)) :
    (StableHlo.after (List.flatten [hostOps1]) W (Proc.devRef .tc main_v133) : FVec Ideal S8x4096x16x96 .f32)
      = qOut (W (Proc.devRef .tc main_v114_0)) := by
  refine (after_split W _).trans ?_
  rw [keep8_v133, keep7_v133, keep6_v133, keep5_v133]
  rw [seg4_q, seg3_q, seg2_q, keep2_v117, seg1_q]
  rfl

theorem after_k (W : (b : DevRef τ sig) → b.ty.Contents (Elt Ideal)) :
    (StableHlo.after (List.flatten [hostOps1]) W (Proc.devRef .tc main_v146) : FVec Ideal S8x4352x16x96 .f32)
      = kOut (W (Proc.devRef .tc main_v114_1)) := by
  refine (after_split W _).trans ?_
  rw [keep8_v146]
  rw [seg7_k, seg6_k, keep6_v135, seg5_k, keep4_v114_1, keep3_v114_1, keep2_v114_1, keep1_v114_1]
  rfl

theorem after_v (W : (b : DevRef τ sig) → b.ty.Contents (Elt Ideal)) :
    (StableHlo.after (List.flatten [hostOps1]) W (Proc.devRef .tc main_v148) : FVec Ideal S8x4352x16x64 .f32)
      = vOut (W (Proc.devRef .tc main_v114_2)) := by
  rfl

variable (m : (ℓ : Loc nD τ sig) → Buf (Elt Ideal) ℓ) (c : Dev nD)

theorem tail_q : Pipeline.afterTail₀ cfgs (dats m) 0 (V0 m) [hostOps1] c main_v133
    = qOut ((dats m 0 c).arrAt 13 cfg0.N) :=
  (after_q _).trans (congrArg qOut (Pipeline.withArrays_arr spec0 launch0.win.arr_inj c _ _ 13))

theorem tail_k : Pipeline.afterTail₀ cfgs (dats m) 0 (V0 m) [hostOps1] c main_v146
    = kOut ((dats m 0 c).arrAt 14 cfg0.N) :=
  (after_k _).trans (congrArg kOut (Pipeline.withArrays_arr spec0 launch0.win.arr_inj c _ _ 14))

theorem tail_v : Pipeline.afterTail₀ cfgs (dats m) 0 (V0 m) [hostOps1] c main_v148
    = vOut ((dats m 0 c).arrAt 15 cfg0.N) :=
  (after_v _).trans (congrArg vOut (Pipeline.withArrays_arr spec0 launch0.win.arr_inj c _ _ 15))

end Cert.Kernel4Ideal.Proj

end
-- ==== Proof.Proj.Equation.lean ====
module

public import proofs.«01_k».proof.Proof.Proj.Rows
public import proofs.«01_k».proof.Proof.Proj.Entry
public import proofs.«01_k».proof.Proof.Proj.Tail

@[expose] public section

set_option maxRecDepth 16384

noncomputable section

namespace Cert.Proj

open Idealize.ShloMosaic Idealize.ShloMosaic.TcCoe Cert.Kernel4Ideal Cert.Kernel4Ideal.Gen Cert.Kernel4Ideal.Proj

/-! The kernel's three results are the reference's. -/

/-- The reference's heads, at an entry. -/
theorem refQ (p : FVec Ideal Reference4Ideal.S8x4096x800 .f32) (g : FVec Ideal S512 .f32) (w : FVec Ideal S512x1536 .f32) (b : Fin 8)
    (q : Fin 4096) (h : Fin 16) (d : Fin 96) :
    Reference4Ideal.Proj.headsQ (Reference4Ideal.Proj.lowQ (Reference4Ideal.Proj.cutQ p) g) w (ix4 b q h d)
      = headQ (fun n => p (ix3 b q n)) (fun l => g (ix1 l)) w h d := by
  refine (Reference4Ideal.Proj.headsQ_apply _ _ b q h d).trans (Finset.sum_congr rfl fun l _ => congrArg (· * w _) ?_)
  refine (Reference4Ideal.Proj.lowQ_apply _ g b q l).trans ?_
  unfold lowQ
  exact congrArg (fun f => rms 0x44000000#32 f (fun l => g (ix1 l)) l)
    (funext fun l => Reference4Ideal.Proj.cutQ_apply p b q l)

theorem refLow4096 (p : FVec Ideal Reference4Ideal.S8x4096x800 .f32) (g : FVec Ideal S256 .f32) (b : Fin 8) (q : Fin 4096) (c : Fin 256) :
    Reference4Ideal.Proj.lowKV4096 (Reference4Ideal.Proj.cutKV4096 p) g (ix3 b q c)
      = lowK (fun n => p (ix3 b q n)) (fun c => g (ix1 c)) c := by
  refine (Reference4Ideal.Proj.lowKV4096_apply _ g b q c).trans ?_
  unfold lowK
  exact congrArg (fun f => rms 0x43800000#32 f (fun c => g (ix1 c)) c)
    (funext fun c => Reference4Ideal.Proj.cutKV4096_apply p b q c)

theorem refLow256 (p : FVec Ideal Reference4Ideal.S8x256x800 .f32) (g : FVec Ideal S256 .f32) (b : Fin 8) (q : Fin 256) (c : Fin 256) :
    Reference4Ideal.Proj.lowKV256 (Reference4Ideal.Proj.cutKV256 p) g (ix3 b q c)
      = lowK (fun n => p (ix3 b q n)) (fun c => g (ix1 c)) c := by
  refine (Reference4Ideal.Proj.lowKV256_apply _ g b q c).trans ?_
  unfold lowK
  exact congrArg (fun f => rms 0x43800000#32 f (fun c => g (ix1 c)) c)
    (funext fun c => Reference4Ideal.Proj.cutKV256_apply p b q c)

theorem refK4096 (p : FVec Ideal Reference4Ideal.S8x4096x800 .f32) (g : FVec Ideal S256 .f32) (w : FVec Ideal S256x2048 .f32) (b : Fin 8)
    (q : Fin 4096) (h : Fin 16) (d : Fin 96) :
    Reference4Ideal.Proj.keys4096 (Reference4Ideal.Proj.headsKV4096
        (Reference4Ideal.Proj.lowKV4096 (Reference4Ideal.Proj.cutKV4096 p) g) w) p (ix4 b q h d)
      = headK (fun n => p (ix3 b q n)) (fun c => g (ix1 c)) w h d := by
  refine (Reference4Ideal.Proj.keys4096_apply _ p b q h d).trans ?_
  unfold headK
  by_cases hd : d.val < 64
  · rw [dif_pos hd, dif_pos hd]
    exact (Reference4Ideal.Proj.headsKV4096_apply _ w b q h ⟨d.val, by omega⟩).trans
      (Finset.sum_congr rfl fun c _ => congrArg (· * w _) (refLow4096 p g b q c))
  · rw [dif_neg hd, dif_neg hd]

theorem refK256 (p : FVec Ideal Reference4Ideal.S8x256x800 .f32) (g : FVec Ideal S256 .f32) (w : FVec Ideal S256x2048 .f32) (b : Fin 8)
    (q : Fin 256) (h : Fin 16) (d : Fin 96) :
    Reference4Ideal.Proj.keys256 (Reference4Ideal.Proj.headsKV256
        (Reference4Ideal.Proj.lowKV256 (Reference4Ideal.Proj.cutKV256 p) g) w) p (ix4 b q h d)
      = headK (fun n => p (ix3 b q n)) (fun c => g (ix1 c)) w h d := by
  refine (Reference4Ideal.Proj.keys256_apply _ p b q h d).trans ?_
  unfold headK
  by_cases hd : d.val < 64
  · rw [dif_pos hd, dif_pos hd]
    exact (Reference4Ideal.Proj.headsKV256_apply _ w b q h ⟨d.val, by omega⟩).trans
      (Finset.sum_congr rfl fun c _ => congrArg (· * w _) (refLow256 p g b q c))
  · rw [dif_neg hd, dif_neg hd]

theorem refV4096 (p : FVec Ideal Reference4Ideal.S8x4096x800 .f32) (g : FVec Ideal S256 .f32) (w : FVec Ideal S256x2048 .f32) (b : Fin 8)
    (q : Fin 4096) (h : Fin 16) (e : Fin 64) :
    Reference4Ideal.Proj.vals4096 (Reference4Ideal.Proj.headsKV4096
        (Reference4Ideal.Proj.lowKV4096 (Reference4Ideal.Proj.cutKV4096 p) g) w) (ix4 b q h e)
      = headV (fun n => p (ix3 b q n)) (fun c => g (ix1 c)) w h e :=
  (Reference4Ideal.Proj.vals4096_apply _ b q h e).trans
    ((Reference4Ideal.Proj.headsKV4096_apply _ w b q h ⟨64 + e.val, by omega⟩).trans
      (Finset.sum_congr rfl fun c _ => congrArg (· * w _) (refLow4096 p g b q c)))

theorem refV256 (p : FVec Ideal Reference4Ideal.S8x256x800 .f32) (g : FVec Ideal S256 .f32) (w : FVec Ideal S256x2048 .f32) (b : Fin 8)
    (q : Fin 256) (h : Fin 16) (e : Fin 64) :
    Reference4Ideal.Proj.vals256 (Reference4Ideal.Proj.headsKV256
        (Reference4Ideal.Proj.lowKV256 (Reference4Ideal.Proj.cutKV256 p) g) w) (ix4 b q h e)
      = headV (fun n => p (ix3 b q n)) (fun c => g (ix1 c)) w h e :=
  (Reference4Ideal.Proj.vals256_apply _ b q h e).trans
    ((Reference4Ideal.Proj.headsKV256_apply _ w b q h ⟨64 + e.val, by omega⟩).trans
      (Finset.sum_congr rfl fun c _ => congrArg (· * w _) (refLow256 p g b q c)))

/-- A head of the latents, normalised and rotated. -/
theorem turned (t : FVec Ideal Reference4Ideal.S8x4096x16x96 .f32) (gn : FVec Ideal S96 .f32) (f : Fin 96 → EReal) (b : Fin 8)
    (q : Fin 4096) (h : Fin 16) (hf : ∀ d, t (ix4 b q h d) = f d) (d : Fin 96) :
    Reference4Ideal.Proj.rope (Reference4Ideal.Proj.headNorm4096 t gn) angles (ix4 b q h d)
      = Reference4Ideal.Proj.rotDim (rms 0x42C00000#32 f fun d => gn (ix1 d)) (cosAt q) (sinAt q) d := by
  refine (Reference4Ideal.Proj.rope_apply _ _ b q h d).trans ?_
  refine congrArg (fun f => Reference4Ideal.Proj.rotDim f (cosAt q) (sinAt q) d) (funext fun d => ?_)
  refine (Reference4Ideal.Proj.headNorm4096_apply t gn b q h d).trans ?_
  exact congrArg (fun f => rms 0x42C00000#32 f (fun d => gn (ix1 d)) d) (funext hf)

variable (x : FVec Ideal S8x4096x1024 .f32) (ctx : FVec Ideal S8x256x1024 .f32) (mod : FVec Ideal S8x6144 .f32)
  (modc : FVec Ideal S1x6144 .f32) (g : FVec Ideal S1024 .f32) (W : FVec Ideal S1024x800 .f32)

/-- The queries, in their slots. -/
theorem q_eq (gq : FVec Ideal S512 .f32) (w : FVec Ideal S512x1536 .f32) (gn : FVec Ideal S96 .f32) (b : Fin 8)
    (h : Fin 16) (l : Fin 128) (q : Fin 4096) :
    arrQ (tokens x ctx) (Kernel3Ideal.Tail.table mod modc) (broadcastInDim S1x1024 ![1] bcast_S1024_S1x1024_1 g) (inPrep W)
        (broadcastInDim S1x512 ![1] bcast_S512_S1x512_1 gq) (qPrep w)
        (qTable (gSlot gn) (withContext 0x3F800000#32 (cosSlot angles)))
        (qTable (half (gSlot gn)) (withContext 0x00000000#32 (sinSlot angles))) b ⟨128 * h.val + l.val, by omega⟩ q
      = Reference4Ideal.Proj.pad (fun d => Ideal.div
          (Reference4Ideal.Proj.queries (Reference4Ideal.Proj.px x mod g W) gq w gn (ix4 b q h d))
          (Ideal.sqrt ((96 : ℝ) : EReal) * Ideal.log ((2 : ℝ) : EReal))) (col1 l) := by
  have s := row_latent x ctx mod modc g W b ⟨256 + q.val, by omega⟩ q rfl
  have hg : (fun d => broadcastInDim S1x512 ![1] bcast_S512_S1x512_1 gq (ix2 0 d)) = fun d => gq (ix1 d) :=
    funext fun d => gain512_apply gq d
  have hc : (fun j : Fin 96 => qTable (gSlot gn) (withContext 0x3F800000#32 (cosSlot angles)) (ix2 j q))
      = fun j => Reference4Ideal.Proj.pad (fun d => gn (ix1 d)) (col1 (early j)) * scale * cosLane (cosAt q) (early j) :=
    funext fun j => (qTable_apply _ _ j q).trans
      (congrArg₂ (fun u v : EReal => u * scale * v) (gSlot_pad gn (early j)) (cos_latent _ q rfl (early j)))
  have hs : (fun j : Fin 96 => qTable (half (gSlot gn)) (withContext 0x00000000#32 (sinSlot angles)) (ix2 j q))
      = fun j => Reference4Ideal.Proj.pad (fun d => gn (ix1 d)) (col1 (roll (early j))) * scale * sinLane (sinAt q) (early j) :=
    funext fun j => (qTable_apply _ _ j q).trans
      (congrArg₂ (fun u v : EReal => u * scale * v) (half_pad gn (early j)) (sin_latent _ q rfl (early j)))
  unfold arrQ
  rw [hg, hc, hs, projQ_slot]
  refine (congrArg (fun f => qLane f _ _ l) (slotQ s _ w h)).trans ((q_lane _ _ _ _ l).trans ?_)
  unfold Reference4Ideal.Proj.queries
  refine congrArg (fun f => Reference4Ideal.Proj.pad f (col1 l)) (funext fun d => congrArg (fun y => Ideal.div y _) ?_)
  exact (turned _ gn _ b q h (fun d => refQ _ gq w b q h d) d).symm

/-- The keys, in their slots. -/
theorem k_eq (gk : FVec Ideal S256 .f32) (w : FVec Ideal S256x2048 .f32) (gn : FVec Ideal S96 .f32) (b : Fin 8)
    (p : Fin 4352) (h : Fin 16) (l : Fin 128) :
    arrK (tokens x ctx) (Kernel3Ideal.Tail.table mod modc) (broadcastInDim S1x1024 ![1] bcast_S1024_S1x1024_1 g) (inPrep W)
        (broadcastInDim S1x256 ![1] bcast_S256_S1x256_1 gk) (kPrep w)
        (kTable (gSlot gn) (withContext 0x3F800000#32 (cosSlot angles)))
        (kTable (half (gSlot gn)) (withContext 0x00000000#32 (sinSlot angles))) b p ⟨128 * h.val + l.val, by omega⟩
      = Reference4Ideal.Proj.pad (fun d => Reference4Ideal.Proj.keysOf (Reference4Ideal.Proj.pc ctx modc g W)
          (Reference4Ideal.Proj.px x mod g W) gk w gn (ix4 b p h d)) (col1 l) := by
  have hg : (fun d => broadcastInDim S1x256 ![1] bcast_S256_S1x256_1 gk (ix2 0 d)) = fun d => gk (ix1 d) :=
    funext fun d => gain256_apply gk d
  unfold arrK
  rw [hg, projK_slot]
  unfold Reference4Ideal.Proj.keysOf
  by_cases hp : p.val < 256
  · have s := row_context x ctx mod modc g W b p ⟨p.val, hp⟩ rfl
    have hc : (fun j : Fin 128 => kTable (gSlot gn) (withContext 0x3F800000#32 (cosSlot angles)) (ix2 p j))
        = fun j => Reference4Ideal.Proj.pad (fun d => gn (ix1 d)) (col1 j) * 1 :=
      funext fun j => (kTable_apply _ _ p j).trans (congrArg₂ (· * ·) (gSlot_pad gn j)
        ((withContext_apply _ _ p j).trans ((dif_pos hp).trans ofBits_one)))
    have hs : (fun j : Fin 128 => kTable (half (gSlot gn)) (withContext 0x00000000#32 (sinSlot angles)) (ix2 p j))
        = fun j => Reference4Ideal.Proj.pad (fun d => gn (ix1 d)) (col1 (roll j)) * 0 :=
      funext fun j => (kTable_apply _ _ p j).trans (congrArg₂ (· * ·) (half_pad gn j)
        ((withContext_apply _ _ p j).trans ((dif_pos hp).trans ofBits_zero)))
    rw [hc, hs]
    refine (congrArg (fun f => kLane f _ _ _ l) (slotK s _ w h)).trans ((k_lane_context _ _ _ l).trans ?_)
    refine congrArg (fun f => Reference4Ideal.Proj.pad f (col1 l)) (funext fun d => ?_)
    refine Eq.symm ((Reference4Ideal.Proj.both_apply _ _ b p h d).trans ((dif_pos hp).trans ?_))
    refine (Reference4Ideal.Proj.headNorm256_apply _ gn b _ h d).trans ?_
    exact congrArg (fun f => rms 0x42C00000#32 f (fun d => gn (ix1 d)) d) (funext fun d => refK256 _ gk w b _ h d)
  · have hq : p.val = 256 + (⟨p.val - 256, by omega⟩ : Fin 4096).val := by simp only; omega
    have s := row_latent x ctx mod modc g W b p ⟨p.val - 256, by omega⟩ hq
    have hc : (fun j : Fin 128 => kTable (gSlot gn) (withContext 0x3F800000#32 (cosSlot angles)) (ix2 p j))
        = fun j => Reference4Ideal.Proj.pad (fun d => gn (ix1 d)) (col1 j) * cosLane (cosAt ⟨p.val - 256, by omega⟩) j :=
      funext fun j => (kTable_apply _ _ p j).trans (congrArg₂ (· * ·) (gSlot_pad gn j) (cos_latent p _ hq j))
    have hs : (fun j : Fin 128 => kTable (half (gSlot gn)) (withContext 0x00000000#32 (sinSlot angles)) (ix2 p j))
        = fun j => Reference4Ideal.Proj.pad (fun d => gn (ix1 d)) (col1 (roll j)) * sinLane (sinAt ⟨p.val - 256, by omega⟩) j :=
      funext fun j => (kTable_apply _ _ p j).trans (congrArg₂ (· * ·) (half_pad gn j) (sin_latent p _ hq j))
    rw [hc, hs]
    refine (congrArg (fun f => kLane f _ _ _ l) (slotK s _ w h)).trans
      ((k_lane _ _ _ _ _ (fun a e => peA s _ w h a e) (fun a e => peC s _ w h a e) l).trans ?_)
    refine congrArg (fun f => Reference4Ideal.Proj.pad f (col1 l)) (funext fun d => ?_)
    refine Eq.symm ((Reference4Ideal.Proj.both_apply _ _ b p h d).trans ((dif_neg hp).trans ?_))
    exact turned _ gn _ b _ h (fun d => refK4096 _ gk w b _ h d) d

/-- The values. -/
theorem v_eq (gk : FVec Ideal S256 .f32) (w : FVec Ideal S256x2048 .f32) (b : Fin 8) (h : Fin 16) (e : Fin 64)
    (p : Fin 4352) :
    arrV (tokens x ctx) (Kernel3Ideal.Tail.table mod modc) (broadcastInDim S1x1024 ![1] bcast_S1024_S1x1024_1 g) (inPrep W)
        (broadcastInDim S1x256 ![1] bcast_S256_S1x256_1 gk) (vPrep w) b h e p
      = Reference4Ideal.Proj.valuesOf (Reference4Ideal.Proj.pc ctx modc g W) (Reference4Ideal.Proj.px x mod g W) gk w
          (ix4 b p h e) := by
  have hg : (fun d => broadcastInDim S1x256 ![1] bcast_S256_S1x256_1 gk (ix2 0 d)) = fun d => gk (ix1 d) :=
    funext fun d => gain256_apply gk d
  unfold arrV
  rw [hg]
  unfold Reference4Ideal.Proj.valuesOf
  refine Eq.trans ?_ (Reference4Ideal.Proj.bothV_apply _ _ b p h e).symm
  by_cases hp : p.val < 256
  · rw [dif_pos hp]
    exact (projV_eq (row_context x ctx mod modc g W b p ⟨p.val, hp⟩ rfl) _ w h e).trans (refV256 _ gk w b _ h e).symm
  · rw [dif_neg hp]
    exact (projV_eq (row_latent x ctx mod modc g W b p ⟨p.val - 256, by omega⟩ (by simp only; omega)) _ w h e).trans
      (refV4096 _ gk w b _ h e).symm

variable (m : (ℓ : Loc nD τ sig) → Buf (Elt Ideal) ℓ) (c : Dev nD)

/-- Dividing by `√96 · log 2` and multiplying by it again. -/
theorem scale_back (s : EReal) : Ideal.div s (Ideal.sqrt ((96 : ℝ) : EReal) * Ideal.log ((2 : ℝ) : EReal))
    * (Ideal.sqrt ((96 : ℝ) : EReal) * Ideal.log ((2 : ℝ) : EReal)) = s := by
  have h2 : Real.log 2 ≠ 0 := (Real.log_pos one_lt_two).ne'
  have h9 : Real.sqrt 96 ≠ 0 := (Real.sqrt_pos.mpr (by norm_num)).ne'
  rw [Ideal.sqrt_coe, if_neg (by norm_num), Ideal.log_coe, if_neg (by norm_num), ← EReal.coe_mul,
    Ideal.div_coe (mul_ne_zero h9 h2), mul_assoc, ← EReal.coe_mul, one_div, inv_mul_cancel₀ (mul_ne_zero h9 h2),
    EReal.coe_one, mul_one]

/-- A head's dimension is in its lane. -/
theorem pad_lane (f : Fin 96 → EReal) (d : Fin 96) : Reference4Ideal.Proj.pad f (col1 (laneOf d)) = f d :=
  Reference4Ideal.Proj.pad_of f _ _ d.isLt (by revert d; decide +kernel)

theorem result_q : Pipeline.afterTail₀ cfgs (dats m) 0 (V0 m) [hostOps1] c main_v133
    = Reference4Ideal.Proj.queries (Reference4Ideal.Proj.px (m ((c : Thread nD τ).loc main_arg0))
        (m ((c : Thread nD τ).loc main_arg2)) (m ((c : Thread nD τ).loc main_arg4)) (m ((c : Thread nD τ).loc main_arg5)))
        (m ((c : Thread nD τ).loc main_arg6)) (m ((c : Thread nD τ).loc main_arg8)) (m ((c : Thread nD τ).loc main_arg10)) := by
  refine (tail_q m c).trans ?_
  rw [arr_q m c _ _ _ _ _ _ _ _ (entry0 m c) (entry1 m c) (entry2 m c) (entry3 m c) (entry4 m c) (entry6 m c)
    (entry9 m c) (entry10 m c)]
  funext i
  rw [eq_ix4 i]
  refine (qOut_apply _ (i 0) (i 1) (i 2) (i 3)).trans ?_
  refine (congrArg (· * _) ((q_eq _ _ _ _ _ _ _ _ _ (i 0) (i 2) (laneOf (i 3)) (i 1)).trans (pad_lane _ (i 3)))).trans ?_
  exact scale_back _

theorem result_k : Pipeline.afterTail₀ cfgs (dats m) 0 (V0 m) [hostOps1] c main_v146
    = Reference4Ideal.Proj.keysOf (Reference4Ideal.Proj.pc (m ((c : Thread nD τ).loc main_arg1))
        (m ((c : Thread nD τ).loc main_arg3)) (m ((c : Thread nD τ).loc main_arg4)) (m ((c : Thread nD τ).loc main_arg5)))
        (Reference4Ideal.Proj.px (m ((c : Thread nD τ).loc main_arg0))
        (m ((c : Thread nD τ).loc main_arg2)) (m ((c : Thread nD τ).loc main_arg4)) (m ((c : Thread nD τ).loc main_arg5)))
        (m ((c : Thread nD τ).loc main_arg7)) (m ((c : Thread nD τ).loc main_arg9)) (m ((c : Thread nD τ).loc main_arg11)) := by
  refine (tail_k m c).trans ?_
  rw [arr_k m c _ _ _ _ _ _ _ _ (entry0 m c) (entry1 m c) (entry2 m c) (entry3 m c) (entry5 m c) (entry7 m c)
    (entry11 m c) (entry12 m c)]
  funext i
  rw [eq_ix4 i]
  refine (kOut_apply _ (i 0) (i 1) (i 2) (i 3)).trans ?_
  exact (k_eq _ _ _ _ _ _ _ _ _ (i 0) (i 1) (i 2) (laneOf (i 3))).trans (pad_lane _ (i 3))

theorem result_v : Pipeline.afterTail₀ cfgs (dats m) 0 (V0 m) [hostOps1] c main_v148
    = Reference4Ideal.Proj.valuesOf (Reference4Ideal.Proj.pc (m ((c : Thread nD τ).loc main_arg1))
        (m ((c : Thread nD τ).loc main_arg3)) (m ((c : Thread nD τ).loc main_arg4)) (m ((c : Thread nD τ).loc main_arg5)))
        (Reference4Ideal.Proj.px (m ((c : Thread nD τ).loc main_arg0))
        (m ((c : Thread nD τ).loc main_arg2)) (m ((c : Thread nD τ).loc main_arg4)) (m ((c : Thread nD τ).loc main_arg5)))
        (m ((c : Thread nD τ).loc main_arg7)) (m ((c : Thread nD τ).loc main_arg9)) := by
  refine (tail_v m c).trans ?_
  rw [arr_v m c _ _ _ _ _ _ (entry0 m c) (entry1 m c) (entry2 m c) (entry3 m c) (entry5 m c) (entry8 m c)]
  funext i
  rw [eq_ix4 i]
  refine (vOut_apply _ (i 0) (i 1) (i 2) (i 3)).trans ?_
  exact v_eq _ _ _ _ _ _ _ _ (i 0) (i 2) (i 3) (i 1)

end Cert.Proj

end
-- ==== Proof.lean ====
/-
  The certificate of the attention call, of the two layers' tails and of the attention layer's projections.

  The attention: `Attn/Sub`, `Attn/Values`, `Attn/Block`, `Attn/Array` say what the kernel's result array holds, as a
  function of the arrays the call takes; `Attn/Host` and `Attn/Slots` say what those arrays are, as a function of the
  program's arguments; `Attn/Reference` says what the reference computes; `Attn/Softmax` is the law of the weighted means,
  `Attn/Finite` reads the precondition, and `Attn/Equation` is the equation of the two.

  The tails: `Ffn/Row` is one token's residual layer over the extended reals; `Ffn/Text` and `Ffn/Values` are the kernels'
  text of it on a block of rows. `Mla/Array`, `Mla/Host`, `Mla/Reference`, `Mla/Equation` are the attention layer's tail,
  `Glu/Block`, `Glu/Array`, `Glu/Host`, `Glu/Reference`, `Glu/Equation` the S5 layer's.

  The projections: `Proj/Row` is one token's projections over the extended reals; `Proj/Text`, `Proj/Values`, `Proj/Block`,
  `Proj/Array`, `Proj/Run` say what the call's three result arrays hold; `Proj/After` and `Proj/Tail` say what the host lines
  after the call make of them; `Proj/Prep`, `Proj/Entry`, `Proj/Take`,
  `Proj/Tables` say what the arrays its host text prepares hold; `Proj/RefRows`, `Proj/RefOut`, `Proj/RefApply` say what the
  reference computes; `Proj/Scalar`, `Proj/Lanes`, `Proj/Rows`, `Proj/Equation` are the equation of the two. Here the claims
  are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Attn.Array
public import proofs.«01_k».proof.Proof.Attn.Host
public import proofs.«01_k».proof.Proof.Attn.Finite
public import proofs.«01_k».proof.Proof.Attn.Equation
public import proofs.«01_k».proof.Proof.Mla.Equation
public import proofs.«01_k».proof.Proof.Glu.Equation
public import proofs.«01_k».proof.Proof.Proj.Run
public import proofs.«01_k».proof.Proof.Proj.Equation
public import Idealize.ShloMosaic.Adequacy
public import Idealize.ShloMosaic.Init

@[expose] public section

noncomputable section

namespace Cert.Proof

open Idealize.ShloMosaic Idealize.SL.Sem

/-- The reference has no semaphore, so every counter of its machine is zero. -/
theorem reference_counters (f : GSem ReferenceIdeal.nD ReferenceIdeal.τ ReferenceIdeal.sig → ℤ) : f = fun _ => 0 := by
  funext g
  exact nomatch g.2

/-- The reference's frame: its arguments and its counters end as they began. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2))
        ∧ r.2.sem = fun _ => 0) :=
  (θ_run ReferenceIdeal.defs _ _).mono (fun r h => ⟨fun c => (h c).2, reference_counters r.2.sem⟩)
    (ReferenceIdeal.Attn.run_out m ρ)

/-- What the kernel leaves in its result is what the reference computes of the kernel's arguments, where queries and keys are finite. -/
theorem kernel_array (m : (ℓ : Loc KernelIdeal.nD KernelIdeal.τ KernelIdeal.sig) → Buf (Elt Ideal) ℓ) (c : Dev KernelIdeal.nD)
    (h : Pre_finite.fn (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2)) = fun _ => 1#1) :
    (KernelIdeal.Gen.dats m 0 c).arrAt 3 KernelIdeal.cfg0.N
      = ReferenceIdeal.Attn.out (m ((c.tc : Thread KernelIdeal.nD KernelIdeal.τ).loc KernelIdeal.main_arg0))
          (m ((c.tc : Thread KernelIdeal.nD KernelIdeal.τ).loc KernelIdeal.main_arg1))
          (m ((c.tc : Thread KernelIdeal.nD KernelIdeal.τ).loc KernelIdeal.main_arg2)) := by
  obtain ⟨⟨q', hq⟩, ⟨k', hk⟩⟩ := Pre_finite.reals _ _ _ h
  refine (KernelIdeal.Attn.arr_eq m c _ _ _ (KernelIdeal.Attn.entry_q m c) (KernelIdeal.Attn.entry_k m c) (KernelIdeal.Attn.entry_v m c)).trans ?_
  funext i
  exact (Attn.out_eq _ _ _ q' k' hq hk (i 0) (i 1) (i 2)).trans (congrArg _ (eq_ix3 i).symm)

/-- The kernel and the reference leave the same array, where queries and keys are finite. -/
theorem algebraic : Cert.algebraic_KernelIdeal_ReferenceIdeal_pre_finite := by
  intro m ρ m' ρ' hpre hargs
  refine ⟨fun c => (KernelIdeal.Gen.dats m 0 c).arrAt 3 KernelIdeal.cfg0.N, KernelIdeal.Value.run_blocks m ρ, ?_⟩
  refine (θ_run ReferenceIdeal.defs _ _).mono (fun r h c => ⟨?_, (h c).2⟩) (ReferenceIdeal.Attn.run_out m' ρ')
  refine (h c).1.trans (Eq.trans ?_ (kernel_array m c (hpre c)).symm)
  rw [(hargs c).1, (hargs c).2.1, (hargs c).2.2]

/-- The frame of the reference of the attention layer's tail: its arguments and its counters end as they began. -/
theorem reference_mla_tail_frame (m : (ℓ : Loc Reference2Ideal.nD Reference2Ideal.τ Reference2Ideal.sig) → Buf (Elt Ideal) ℓ)
    (ρ : Dev Reference2Ideal.nD → PrngReg) :
    θ_run (Reference2Ideal.defs (F := Ideal)) (onTc (τ := Reference2Ideal.τ) (Reference2Ideal.main (F := Ideal)))
      ⟨m, fun _ => 0, ρ⟩ (fun r => (∀ c : Dev Reference2Ideal.nD,
        r.2.mem ((c.tc : Thread Reference2Ideal.nD Reference2Ideal.τ).loc Reference2Ideal.main_arg0) = m ((c.tc : Thread Reference2Ideal.nD Reference2Ideal.τ).loc Reference2Ideal.main_arg0)
        ∧ r.2.mem ((c.tc : Thread Reference2Ideal.nD Reference2Ideal.τ).loc Reference2Ideal.main_arg1) = m ((c.tc : Thread Reference2Ideal.nD Reference2Ideal.τ).loc Reference2Ideal.main_arg1)
        ∧ r.2.mem ((c.tc : Thread Reference2Ideal.nD Reference2Ideal.τ).loc Reference2Ideal.main_arg2) = m ((c.tc : Thread Reference2Ideal.nD Reference2Ideal.τ).loc Reference2Ideal.main_arg2)
        ∧ r.2.mem ((c.tc : Thread Reference2Ideal.nD Reference2Ideal.τ).loc Reference2Ideal.main_arg3) = m ((c.tc : Thread Reference2Ideal.nD Reference2Ideal.τ).loc Reference2Ideal.main_arg3)
        ∧ r.2.mem ((c.tc : Thread Reference2Ideal.nD Reference2Ideal.τ).loc Reference2Ideal.main_arg4) = m ((c.tc : Thread Reference2Ideal.nD Reference2Ideal.τ).loc Reference2Ideal.main_arg4)
        ∧ r.2.mem ((c.tc : Thread Reference2Ideal.nD Reference2Ideal.τ).loc Reference2Ideal.main_arg5) = m ((c.tc : Thread Reference2Ideal.nD Reference2Ideal.τ).loc Reference2Ideal.main_arg5)
        ∧ r.2.mem ((c.tc : Thread Reference2Ideal.nD Reference2Ideal.τ).loc Reference2Ideal.main_arg6) = m ((c.tc : Thread Reference2Ideal.nD Reference2Ideal.τ).loc Reference2Ideal.main_arg6)
        ∧ r.2.mem ((c.tc : Thread Reference2Ideal.nD Reference2Ideal.τ).loc Reference2Ideal.main_arg7) = m ((c.tc : Thread Reference2Ideal.nD Reference2Ideal.τ).loc Reference2Ideal.main_arg7)
        ∧ r.2.mem ((c.tc : Thread Reference2Ideal.nD Reference2Ideal.τ).loc Reference2Ideal.main_arg8) = m ((c.tc : Thread Reference2Ideal.nD Reference2Ideal.τ).loc Reference2Ideal.main_arg8))
        ∧ r.2.sem = fun _ => 0) :=
  (θ_run Reference2Ideal.defs _ _).mono (fun r h => ⟨fun c => (h c).2, funext fun g => nomatch g.2⟩)
    (Reference2Ideal.Value.run (F := Ideal) m ρ)

/-- The kernel and the reference of the attention layer's tail leave the same array. -/
theorem algebraic_mla_tail : Cert.algebraic_Kernel2Ideal_Reference2Ideal := by
  intro m ρ m' ρ' _ hargs
  refine ⟨fun c => (Kernel2Ideal.Gen.dats m 0 c).arrAt 7 Kernel2Ideal.cfg0.N, Kernel2Ideal.Value.run_blocks m ρ, ?_⟩
  refine (θ_run Reference2Ideal.defs _ _).mono (fun r h c => ⟨?_, (h c).2⟩) (Reference2Ideal.Value.run (F := Ideal) m' ρ')
  refine (h c).1.trans (Eq.trans ((Reference2Ideal.Tail.res_eq m' c).trans ?_) (Mla.kernel_array m c).symm)
  rw [(hargs c).1, (hargs c).2.2.1, (hargs c).2.2.2.1, (hargs c).2.2.2.2.2.1, (hargs c).2.2.2.2.2.2.1, (hargs c).2.2.2.2.2.2.2.1, (hargs c).2.2.2.2.2.2.2.2]

/-- The frame of the reference of the S5 layer's tail: its arguments and its counters end as they began. -/
theorem reference_s5_tail_frame (m : (ℓ : Loc Reference3Ideal.nD Reference3Ideal.τ Reference3Ideal.sig) → Buf (Elt Ideal) ℓ)
    (ρ : Dev Reference3Ideal.nD → PrngReg) :
    θ_run (Reference3Ideal.defs (F := Ideal)) (onTc (τ := Reference3Ideal.τ) (Reference3Ideal.main (F := Ideal)))
      ⟨m, fun _ => 0, ρ⟩ (fun r => (∀ c : Dev Reference3Ideal.nD,
        r.2.mem ((c.tc : Thread Reference3Ideal.nD Reference3Ideal.τ).loc Reference3Ideal.main_arg0) = m ((c.tc : Thread Reference3Ideal.nD Reference3Ideal.τ).loc Reference3Ideal.main_arg0)
        ∧ r.2.mem ((c.tc : Thread Reference3Ideal.nD Reference3Ideal.τ).loc Reference3Ideal.main_arg1) = m ((c.tc : Thread Reference3Ideal.nD Reference3Ideal.τ).loc Reference3Ideal.main_arg1)
        ∧ r.2.mem ((c.tc : Thread Reference3Ideal.nD Reference3Ideal.τ).loc Reference3Ideal.main_arg2) = m ((c.tc : Thread Reference3Ideal.nD Reference3Ideal.τ).loc Reference3Ideal.main_arg2)
        ∧ r.2.mem ((c.tc : Thread Reference3Ideal.nD Reference3Ideal.τ).loc Reference3Ideal.main_arg3) = m ((c.tc : Thread Reference3Ideal.nD Reference3Ideal.τ).loc Reference3Ideal.main_arg3)
        ∧ r.2.mem ((c.tc : Thread Reference3Ideal.nD Reference3Ideal.τ).loc Reference3Ideal.main_arg4) = m ((c.tc : Thread Reference3Ideal.nD Reference3Ideal.τ).loc Reference3Ideal.main_arg4)
        ∧ r.2.mem ((c.tc : Thread Reference3Ideal.nD Reference3Ideal.τ).loc Reference3Ideal.main_arg5) = m ((c.tc : Thread Reference3Ideal.nD Reference3Ideal.τ).loc Reference3Ideal.main_arg5)
        ∧ r.2.mem ((c.tc : Thread Reference3Ideal.nD Reference3Ideal.τ).loc Reference3Ideal.main_arg6) = m ((c.tc : Thread Reference3Ideal.nD Reference3Ideal.τ).loc Reference3Ideal.main_arg6)
        ∧ r.2.mem ((c.tc : Thread Reference3Ideal.nD Reference3Ideal.τ).loc Reference3Ideal.main_arg7) = m ((c.tc : Thread Reference3Ideal.nD Reference3Ideal.τ).loc Reference3Ideal.main_arg7)
        ∧ r.2.mem ((c.tc : Thread Reference3Ideal.nD Reference3Ideal.τ).loc Reference3Ideal.main_arg8) = m ((c.tc : Thread Reference3Ideal.nD Reference3Ideal.τ).loc Reference3Ideal.main_arg8)
        ∧ r.2.mem ((c.tc : Thread Reference3Ideal.nD Reference3Ideal.τ).loc Reference3Ideal.main_arg9) = m ((c.tc : Thread Reference3Ideal.nD Reference3Ideal.τ).loc Reference3Ideal.main_arg9))
        ∧ r.2.sem = fun _ => 0) :=
  (θ_run Reference3Ideal.defs _ _).mono (fun r h => ⟨fun c => (h c).2, funext fun g => nomatch g.2⟩)
    (Reference3Ideal.Value.run (F := Ideal) m ρ)

/-- The kernel and the reference of the S5 layer's tail leave the same array. -/
theorem algebraic_s5_tail : Cert.algebraic_Kernel3Ideal_Reference3Ideal := by
  intro m ρ m' ρ' _ hargs
  refine ⟨fun c => (Kernel3Ideal.Gen.dats m 0 c).arrAt 9 Kernel3Ideal.cfg0.N, Kernel3Ideal.Value.run_blocks m ρ, ?_⟩
  refine (θ_run Reference3Ideal.defs _ _).mono (fun r h c => ⟨?_, (h c).2⟩) (Reference3Ideal.Value.run (F := Ideal) m' ρ')
  refine (h c).1.trans (Eq.trans ((Reference3Ideal.Tail.res_eq m' c).trans ?_) (Glu.kernel_array m c).symm)
  rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
  rfl

/-- The frame of the reference of the projections: its arguments and its counters end as they began. -/
theorem reference_project_frame (m : (ℓ : Loc Reference4Ideal.nD Reference4Ideal.τ Reference4Ideal.sig) → Buf (Elt Ideal) ℓ)
    (ρ : Dev Reference4Ideal.nD → PrngReg) :
    θ_run (Reference4Ideal.defs (F := Ideal)) (onTc (τ := Reference4Ideal.τ) (Reference4Ideal.main (F := Ideal)))
      ⟨m, fun _ => 0, ρ⟩ (fun r => (∀ c : Dev Reference4Ideal.nD,
        r.2.mem ((c.tc : Thread Reference4Ideal.nD Reference4Ideal.τ).loc Reference4Ideal.main_arg0) = m ((c.tc : Thread Reference4Ideal.nD Reference4Ideal.τ).loc Reference4Ideal.main_arg0)
        ∧ r.2.mem ((c.tc : Thread Reference4Ideal.nD Reference4Ideal.τ).loc Reference4Ideal.main_arg1) = m ((c.tc : Thread Reference4Ideal.nD Reference4Ideal.τ).loc Reference4Ideal.main_arg1)
        ∧ r.2.mem ((c.tc : Thread Reference4Ideal.nD Reference4Ideal.τ).loc Reference4Ideal.main_arg2) = m ((c.tc : Thread Reference4Ideal.nD Reference4Ideal.τ).loc Reference4Ideal.main_arg2)
        ∧ r.2.mem ((c.tc : Thread Reference4Ideal.nD Reference4Ideal.τ).loc Reference4Ideal.main_arg3) = m ((c.tc : Thread Reference4Ideal.nD Reference4Ideal.τ).loc Reference4Ideal.main_arg3)
        ∧ r.2.mem ((c.tc : Thread Reference4Ideal.nD Reference4Ideal.τ).loc Reference4Ideal.main_arg4) = m ((c.tc : Thread Reference4Ideal.nD Reference4Ideal.τ).loc Reference4Ideal.main_arg4)
        ∧ r.2.mem ((c.tc : Thread Reference4Ideal.nD Reference4Ideal.τ).loc Reference4Ideal.main_arg5) = m ((c.tc : Thread Reference4Ideal.nD Reference4Ideal.τ).loc Reference4Ideal.main_arg5)
        ∧ r.2.mem ((c.tc : Thread Reference4Ideal.nD Reference4Ideal.τ).loc Reference4Ideal.main_arg6) = m ((c.tc : Thread Reference4Ideal.nD Reference4Ideal.τ).loc Reference4Ideal.main_arg6)
        ∧ r.2.mem ((c.tc : Thread Reference4Ideal.nD Reference4Ideal.τ).loc Reference4Ideal.main_arg7) = m ((c.tc : Thread Reference4Ideal.nD Reference4Ideal.τ).loc Reference4Ideal.main_arg7)
        ∧ r.2.mem ((c.tc : Thread Reference4Ideal.nD Reference4Ideal.τ).loc Reference4Ideal.main_arg8) = m ((c.tc : Thread Reference4Ideal.nD Reference4Ideal.τ).loc Reference4Ideal.main_arg8)
        ∧ r.2.mem ((c.tc : Thread Reference4Ideal.nD Reference4Ideal.τ).loc Reference4Ideal.main_arg9) = m ((c.tc : Thread Reference4Ideal.nD Reference4Ideal.τ).loc Reference4Ideal.main_arg9)
        ∧ r.2.mem ((c.tc : Thread Reference4Ideal.nD Reference4Ideal.τ).loc Reference4Ideal.main_arg10) = m ((c.tc : Thread Reference4Ideal.nD Reference4Ideal.τ).loc Reference4Ideal.main_arg10)
        ∧ r.2.mem ((c.tc : Thread Reference4Ideal.nD Reference4Ideal.τ).loc Reference4Ideal.main_arg11) = m ((c.tc : Thread Reference4Ideal.nD Reference4Ideal.τ).loc Reference4Ideal.main_arg11))
        ∧ r.2.sem = fun _ => 0) :=
  (θ_run Reference4Ideal.defs _ _).mono (fun r h => ⟨fun c => (h c).2, funext fun g => nomatch g.2⟩)
    (Reference4Ideal.Proj.run m ρ)

/-- The constant the projections' text names is the reciprocal of 96, up to its float. -/
theorem preserves_project : Cert.preserves_Kernel4_Kernel4Ideal :=
  IdealRules.named_const.statement Cert.Kernel4Ideal.κ "inv_qk" .f32 0x3C2AAAAB#32 ((96⁻¹ : ℝ) : EReal) rfl

/-- The kernel and the reference of the projections leave the same three arrays. -/
theorem algebraic_project : Cert.algebraic_Kernel4Ideal_Reference4Ideal := by
  intro m ρ m' ρ' _ hargs
  refine ⟨fun c => Pipeline.afterTail₀ Kernel4Ideal.cfgs (Kernel4Ideal.Gen.dats m) 0 (Kernel4Ideal.Gen.V0 m)
      [Kernel4Ideal.Gen.hostOps1] c Kernel4Ideal.main_v133,
    fun c => Pipeline.afterTail₀ Kernel4Ideal.cfgs (Kernel4Ideal.Gen.dats m) 0 (Kernel4Ideal.Gen.V0 m)
      [Kernel4Ideal.Gen.hostOps1] c Kernel4Ideal.main_v146,
    fun c => Pipeline.afterTail₀ Kernel4Ideal.cfgs (Kernel4Ideal.Gen.dats m) 0 (Kernel4Ideal.Gen.V0 m)
      [Kernel4Ideal.Gen.hostOps1] c Kernel4Ideal.main_v148, Kernel4Ideal.Proj.run m ρ, ?_⟩
  refine (θ_run Reference4Ideal.defs _ _).mono (fun r h c => ?_) (Reference4Ideal.Proj.run m' ρ')
  obtain ⟨h0, h1, h2, h3, h4, h5, h6, h7, h8, h9, h10, h11⟩ := hargs c
  obtain ⟨⟨hq, hk, hv⟩, hrest⟩ := h c
  refine ⟨hq.trans (Eq.trans ?_ (Proj.result_q m c).symm), hk.trans (Eq.trans ?_ (Proj.result_k m c).symm),
    hv.trans (Eq.trans ?_ (Proj.result_v m c).symm), hrest⟩
  · rw [h0, h2, h4, h5, h6, h8, h10]
  · rw [h0, h1, h2, h3, h4, h5, h7, h9, h11]
  · rw [h0, h1, h2, h3, h4, h5, h7, h9]

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, fun m ρ _ => reference_mla_tail_frame m ρ,
  fun m ρ _ => Cert.Kernel3.Gen.frame m ρ, fun m ρ _ => Cert.Kernel3Ideal.Gen.frame m ρ, fun m ρ _ => reference_s5_tail_frame m ρ,
  fun m ρ _ => Cert.Kernel4.Gen.frame m ρ, fun m ρ _ => Cert.Kernel4Ideal.Gen.frame m ρ, fun m ρ _ => reference_project_frame m ρ,
  trivial, algebraic, trivial, algebraic_mla_tail, trivial, algebraic_s5_tail, preserves_project, algebraic_project⟩

end Cert.Proof

end
